-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_finite_weights [hPre_finite_weights : Cert.Pre_finite_weights.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_finite_weights.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6))) = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_finite_weights [hPre_finite_weights : Cert.Pre_finite_weights.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_finite_weights.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2)) (m ((c.tc : Thread Cert.ProjectReferenceIdeal.nD Cert.ProjectReferenceIdeal.τ).loc Cert.ProjectReferenceIdeal.main_arg3)) (m ((c.tc : Thread Cert.ProjectReferenceIdeal.nD Cert.ProjectReferenceIdeal.τ).loc Cert.ProjectReferenceIdeal.main_arg4)) (m ((c.tc : Thread Cert.ProjectReferenceIdeal.nD Cert.ProjectReferenceIdeal.τ).loc Cert.ProjectReferenceIdeal.main_arg5)) (m ((c.tc : Thread Cert.ProjectReferenceIdeal.nD Cert.ProjectReferenceIdeal.τ).loc Cert.ProjectReferenceIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_router [hPre_finite_router : Cert.Pre_finite_router.Facts] (m : (ℓ : Loc Cert.MixIdeal.nD Cert.MixIdeal.τ Cert.MixIdeal.sig) → Buf (Elt Ideal) ℓ) : Prop :=
  ∀ c : Dev Cert.MixIdeal.nD,
    (Cert.Pre_finite_router.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_router [hPre_finite_router : Cert.Pre_finite_router.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_router.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortReferenceIdeal (m : (ℓ : Loc Cert.ShortReferenceIdeal.nD Cert.ShortReferenceIdeal.τ Cert.ShortReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastReferenceIdeal (m : (ℓ : Loc Cert.CastReferenceIdeal.nD Cert.CastReferenceIdeal.τ Cert.CastReferenceIdeal.sig) → Buf (Elt Ideal) ℓ) : Prop :=
  True

def Pre_CastReference (m : (ℓ : Loc Cert.CastReference.nD Cert.CastReference.τ Cert.CastReference.sig) → Buf (Elt Bits) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Spectrum (m : (ℓ : Loc Cert.Spectrum.nD Cert.Spectrum.τ Cert.Spectrum.sig) → Buf (Elt Bits) ℓ) : Prop :=
  True

def Pre_SpectrumIdeal (m : (ℓ : Loc Cert.SpectrumIdeal.nD Cert.SpectrumIdeal.τ Cert.SpectrumIdeal.sig) → Buf (Elt Ideal) ℓ) : Prop :=
  True

def Pre_SpectrumReferenceIdeal (m : (ℓ : Loc Cert.SpectrumReferenceIdeal.nD Cert.SpectrumReferenceIdeal.τ Cert.SpectrumReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectIdeal_pre_finite_weights [hProjectIdeal : Cert.ProjectIdeal.Facts] [hPre_finite_weights : Cert.Pre_finite_weights.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_finite_weights m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def quiescent_ProjectReferenceIdeal_pre_finite_weights [hProjectReferenceIdeal : Cert.ProjectReferenceIdeal.Facts] [hPre_finite_weights : Cert.Pre_finite_weights.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_finite_weights m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixIdeal_pre_finite_router [hMixIdeal : Cert.MixIdeal.Facts] [hPre_finite_router : Cert.Pre_finite_router.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_router m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_MixReferenceIdeal_pre_finite_router [hMixReferenceIdeal : Cert.MixReferenceIdeal.Facts] [hPre_finite_router : Cert.Pre_finite_router.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_router m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ r.2.sem = fun _ => 0)

def quiescent_ShortReferenceIdeal [hShortReferenceIdeal : Cert.ShortReferenceIdeal.Facts] : Prop :=
  ∀ (m : (ℓ : Loc Cert.ShortReferenceIdeal.nD Cert.ShortReferenceIdeal.τ Cert.ShortReferenceIdeal.sig) → Buf (Elt Ideal) ℓ) (g : Dev Cert.ShortReferenceIdeal.nD → PrngReg), Pre_ShortReferenceIdeal m →
    θ_run (Cert.ShortReferenceIdeal.defs (F := Ideal)) (onTc (τ := Cert.ShortReferenceIdeal.τ) (Cert.ShortReferenceIdeal.main (F := Ideal))) ⟨m, fun _ => 0, g⟩ (fun r => (∀ c : Dev Cert.ShortReferenceIdeal.nD,
      r.2.mem ((c.tc : Thread Cert.ShortReferenceIdeal.nD Cert.ShortReferenceIdeal.τ).loc Cert.ShortReferenceIdeal.main_arg0) = m ((c.tc : Thread Cert.ShortReferenceIdeal.nD Cert.ShortReferenceIdeal.τ).loc Cert.ShortReferenceIdeal.main_arg0)
      ∧ r.2.mem ((c.tc : Thread Cert.ShortReferenceIdeal.nD Cert.ShortReferenceIdeal.τ).loc Cert.ShortReferenceIdeal.main_arg1) = m ((c.tc : Thread Cert.ShortReferenceIdeal.nD Cert.ShortReferenceIdeal.τ).loc Cert.ShortReferenceIdeal.main_arg1)
      ∧ r.2.mem ((c.tc : Thread Cert.ShortReferenceIdeal.nD Cert.ShortReferenceIdeal.τ).loc Cert.ShortReferenceIdeal.main_arg2) = m ((c.tc : Thread Cert.ShortReferenceIdeal.nD Cert.ShortReferenceIdeal.τ).loc Cert.ShortReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastReferenceIdeal [hCastReferenceIdeal : Cert.CastReferenceIdeal.Facts] : Prop :=
  ∀ (m : (ℓ : Loc Cert.CastReferenceIdeal.nD Cert.CastReferenceIdeal.τ Cert.CastReferenceIdeal.sig) → Buf (Elt Ideal) ℓ) (g : Dev Cert.CastReferenceIdeal.nD → PrngReg), Pre_CastReferenceIdeal m →
    θ_run (Cert.CastReferenceIdeal.defs (F := Ideal)) (onTc (τ := Cert.CastReferenceIdeal.τ) (Cert.CastReferenceIdeal.main (F := Ideal))) ⟨m, fun _ => 0, g⟩ (fun r => (∀ c : Dev Cert.CastReferenceIdeal.nD,
      r.2.mem ((c.tc : Thread Cert.CastReferenceIdeal.nD Cert.CastReferenceIdeal.τ).loc Cert.CastReferenceIdeal.main_arg0) = m ((c.tc : Thread Cert.CastReferenceIdeal.nD Cert.CastReferenceIdeal.τ).loc Cert.CastReferenceIdeal.main_arg0))
      ∧ r.2.sem = fun _ => 0)

def quiescent_CastReference [hCastReference : Cert.CastReference.Facts] : Prop :=
  ∀ (m : (ℓ : Loc Cert.CastReference.nD Cert.CastReference.τ Cert.CastReference.sig) → Buf (Elt Bits) ℓ) (g : Dev Cert.CastReference.nD → PrngReg), Pre_CastReference m →
    θ_run (Cert.CastReference.defs (F := Bits)) (onTc (τ := Cert.CastReference.τ) (Cert.CastReference.main (F := Bits))) ⟨m, fun _ => 0, g⟩ (fun r => (∀ c : Dev Cert.CastReference.nD,
      r.2.mem ((c.tc : Thread Cert.CastReference.nD Cert.CastReference.τ).loc Cert.CastReference.main_arg0) = m ((c.tc : Thread Cert.CastReference.nD Cert.CastReference.τ).loc Cert.CastReference.main_arg0))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3))
      ∧ r.2.sem = fun _ => 0)

def quiescent_Spectrum [hSpectrum : Cert.Spectrum.Facts] : Prop :=
  ∀ (m : (ℓ : Loc Cert.Spectrum.nD Cert.Spectrum.τ Cert.Spectrum.sig) → Buf (Elt Bits) ℓ) (g : Dev Cert.Spectrum.nD → PrngReg), Pre_Spectrum m →
    θ_run (Cert.Spectrum.defs (F := Bits)) (onTc (τ := Cert.Spectrum.τ) (Cert.Spectrum.main (F := Bits))) ⟨m, fun _ => 0, g⟩ (fun r => (∀ c : Dev Cert.Spectrum.nD,
      r.2.mem ((c.tc : Thread Cert.Spectrum.nD Cert.Spectrum.τ).loc Cert.Spectrum.main_arg0) = m ((c.tc : Thread Cert.Spectrum.nD Cert.Spectrum.τ).loc Cert.Spectrum.main_arg0)
      ∧ r.2.mem ((c.tc : Thread Cert.Spectrum.nD Cert.Spectrum.τ).loc Cert.Spectrum.main_arg1) = m ((c.tc : Thread Cert.Spectrum.nD Cert.Spectrum.τ).loc Cert.Spectrum.main_arg1)
      ∧ r.2.mem ((c.tc : Thread Cert.Spectrum.nD Cert.Spectrum.τ).loc Cert.Spectrum.main_arg2) = m ((c.tc : Thread Cert.Spectrum.nD Cert.Spectrum.τ).loc Cert.Spectrum.main_arg2)
      ∧ r.2.mem ((c.tc : Thread Cert.Spectrum.nD Cert.Spectrum.τ).loc Cert.Spectrum.main_arg3) = m ((c.tc : Thread Cert.Spectrum.nD Cert.Spectrum.τ).loc Cert.Spectrum.main_arg3)
      ∧ r.2.mem ((c.tc : Thread Cert.Spectrum.nD Cert.Spectrum.τ).loc Cert.Spectrum.main_arg4) = m ((c.tc : Thread Cert.Spectrum.nD Cert.Spectrum.τ).loc Cert.Spectrum.main_arg4))
      ∧ r.2.sem = fun _ => 0)

def quiescent_SpectrumIdeal [hSpectrumIdeal : Cert.SpectrumIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg), Pre_SpectrumIdeal m →
    θ_run (Cert.SpectrumIdeal.defs (F := Ideal)) (onTc (τ := Cert.SpectrumIdeal.τ) (Cert.SpectrumIdeal.main (F := Ideal))) ⟨m, fun _ => 0, g⟩ (fun r => (∀ c : Dev Cert.SpectrumIdeal.nD,
      r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
      ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1)
      ∧ r.2.mem ((c.tc : Thread Cert.SpectrumIdeal.nD Cert.SpectrumIdeal.τ).loc Cert.SpectrumIdeal.main_arg2) = m ((c.tc : Thread Cert.SpectrumIdeal.nD Cert.SpectrumIdeal.τ).loc Cert.SpectrumIdeal.main_arg2)
      ∧ r.2.mem ((c.tc : Thread Cert.SpectrumIdeal.nD Cert.SpectrumIdeal.τ).loc Cert.SpectrumIdeal.main_arg3) = m ((c.tc : Thread Cert.SpectrumIdeal.nD Cert.SpectrumIdeal.τ).loc Cert.SpectrumIdeal.main_arg3)
      ∧ r.2.mem ((c.tc : Thread Cert.SpectrumIdeal.nD Cert.SpectrumIdeal.τ).loc Cert.SpectrumIdeal.main_arg4) = m ((c.tc : Thread Cert.SpectrumIdeal.nD Cert.SpectrumIdeal.τ).loc Cert.SpectrumIdeal.main_arg4))
      ∧ r.2.sem = fun _ => 0)

def quiescent_SpectrumReferenceIdeal [hSpectrumReferenceIdeal : Cert.SpectrumReferenceIdeal.Facts] : Prop :=
  ∀ (m : (ℓ : Loc Cert.SpectrumReferenceIdeal.nD Cert.SpectrumReferenceIdeal.τ Cert.SpectrumReferenceIdeal.sig) → Buf (Elt Ideal) ℓ) (g : Dev Cert.SpectrumReferenceIdeal.nD → PrngReg), Pre_SpectrumReferenceIdeal m →
    θ_run (Cert.SpectrumReferenceIdeal.defs (F := Ideal)) (onTc (τ := Cert.SpectrumReferenceIdeal.τ) (Cert.SpectrumReferenceIdeal.main (F := Ideal))) ⟨m, fun _ => 0, g⟩ (fun r => (∀ c : Dev Cert.SpectrumReferenceIdeal.nD,
      r.2.mem ((c.tc : Thread Cert.SpectrumReferenceIdeal.nD Cert.SpectrumReferenceIdeal.τ).loc Cert.SpectrumReferenceIdeal.main_arg0) = m ((c.tc : Thread Cert.SpectrumReferenceIdeal.nD Cert.SpectrumReferenceIdeal.τ).loc Cert.SpectrumReferenceIdeal.main_arg0)
      ∧ r.2.mem ((c.tc : Thread Cert.SpectrumReferenceIdeal.nD Cert.SpectrumReferenceIdeal.τ).loc Cert.SpectrumReferenceIdeal.main_arg1) = m ((c.tc : Thread Cert.SpectrumReferenceIdeal.nD Cert.SpectrumReferenceIdeal.τ).loc Cert.SpectrumReferenceIdeal.main_arg1)
      ∧ r.2.mem ((c.tc : Thread Cert.SpectrumReferenceIdeal.nD Cert.SpectrumReferenceIdeal.τ).loc Cert.SpectrumReferenceIdeal.main_arg2) = m ((c.tc : Thread Cert.SpectrumReferenceIdeal.nD Cert.SpectrumReferenceIdeal.τ).loc Cert.SpectrumReferenceIdeal.main_arg2)
      ∧ r.2.mem ((c.tc : Thread Cert.SpectrumReferenceIdeal.nD Cert.SpectrumReferenceIdeal.τ).loc Cert.SpectrumReferenceIdeal.main_arg3) = m ((c.tc : Thread Cert.SpectrumReferenceIdeal.nD Cert.SpectrumReferenceIdeal.τ).loc Cert.SpectrumReferenceIdeal.main_arg3)
      ∧ r.2.mem ((c.tc : Thread Cert.SpectrumReferenceIdeal.nD Cert.SpectrumReferenceIdeal.τ).loc Cert.SpectrumReferenceIdeal.main_arg4) = m ((c.tc : Thread Cert.SpectrumReferenceIdeal.nD Cert.SpectrumReferenceIdeal.τ).loc Cert.SpectrumReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v1) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v9) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Project_ProjectIdeal : Prop :=
  True

def algebraic_ProjectIdeal_ProjectReferenceIdeal_pre_finite_weights [hProjectIdeal : Cert.ProjectIdeal.Facts] [hProjectReferenceIdeal : Cert.ProjectReferenceIdeal.Facts] [hPre_finite_weights : Cert.Pre_finite_weights.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal_finite_weights m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v22)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v22) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v61) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6))

def preserves_Mix_MixIdeal : Prop :=
  True

def algebraic_MixIdeal_MixReferenceIdeal_pre_finite_router [hMixIdeal : Cert.MixIdeal.Facts] [hMixReferenceIdeal : Cert.MixReferenceIdeal.Facts] [hPre_finite_router : Cert.Pre_finite_router.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_finite_router m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v8_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v34) = v0 c
          ∧ r.2.mem ((c.tc : Thread Cert.MixReferenceIdeal.nD Cert.MixReferenceIdeal.τ).loc Cert.MixReferenceIdeal.main_v68) = v1 c
          ∧ r.2.mem ((c.tc : Thread Cert.MixReferenceIdeal.nD Cert.MixReferenceIdeal.τ).loc Cert.MixReferenceIdeal.main_v67) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Short_ShortIdeal : Prop :=
  True

def algebraic_ShortIdeal_ShortReferenceIdeal [hShortIdeal : Cert.ShortIdeal.Facts] [hShortReferenceIdeal : Cert.ShortReferenceIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortReferenceIdeal.nD Cert.ShortReferenceIdeal.τ Cert.ShortReferenceIdeal.sig) → Buf (Elt Ideal) ℓ) (g' : Dev Cert.ShortReferenceIdeal.nD → PrngReg), Pre_ShortIdeal m →
    (∀ c : Dev Cert.ShortIdeal.nD,
      m' ((c.tc : Thread Cert.ShortReferenceIdeal.nD Cert.ShortReferenceIdeal.τ).loc Cert.ShortReferenceIdeal.main_arg0) = m ((c.tc : Thread Cert.ShortIdeal.nD Cert.ShortIdeal.τ).loc Cert.ShortIdeal.main_arg0)
      ∧ m' ((c.tc : Thread Cert.ShortReferenceIdeal.nD Cert.ShortReferenceIdeal.τ).loc Cert.ShortReferenceIdeal.main_arg1) = m ((c.tc : Thread Cert.ShortIdeal.nD Cert.ShortIdeal.τ).loc Cert.ShortIdeal.main_arg1)
      ∧ m' ((c.tc : Thread Cert.ShortReferenceIdeal.nD Cert.ShortReferenceIdeal.τ).loc Cert.ShortReferenceIdeal.main_arg2) = m ((c.tc : Thread Cert.ShortIdeal.nD Cert.ShortIdeal.τ).loc Cert.ShortIdeal.main_arg2)) →
    ∃ (v0 : (c : Dev Cert.ShortIdeal.nD) → Buf (Elt Ideal) ((c.tc : Thread Cert.ShortIdeal.nD Cert.ShortIdeal.τ).loc Cert.ShortIdeal.main_v2_0)) (v1 : (c : Dev Cert.ShortIdeal.nD) → Buf (Elt Ideal) ((c.tc : Thread Cert.ShortIdeal.nD Cert.ShortIdeal.τ).loc Cert.ShortIdeal.main_v2_1)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v2_0) = v0 c
          ∧ r.2.mem ((c.tc : Thread Cert.ShortIdeal.nD Cert.ShortIdeal.τ).loc Cert.ShortIdeal.main_v2_1) = v1 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ θ_run (Cert.ShortReferenceIdeal.defs (F := Ideal)) (onTc (τ := Cert.ShortReferenceIdeal.τ) (Cert.ShortReferenceIdeal.main (F := Ideal))) ⟨m', fun _ => 0, g'⟩ (fun r => ∀ c : Dev Cert.ShortReferenceIdeal.nD,
          r.2.mem ((c.tc : Thread Cert.ShortReferenceIdeal.nD Cert.ShortReferenceIdeal.τ).loc Cert.ShortReferenceIdeal.main_v30) = v0 c
          ∧ r.2.mem ((c.tc : Thread Cert.ShortReferenceIdeal.nD Cert.ShortReferenceIdeal.τ).loc Cert.ShortReferenceIdeal.main_v31) = v1 c
          ∧ r.2.mem ((c.tc : Thread Cert.ShortReferenceIdeal.nD Cert.ShortReferenceIdeal.τ).loc Cert.ShortReferenceIdeal.main_arg0) = m' ((c.tc : Thread Cert.ShortReferenceIdeal.nD Cert.ShortReferenceIdeal.τ).loc Cert.ShortReferenceIdeal.main_arg0)
          ∧ r.2.mem ((c.tc : Thread Cert.ShortReferenceIdeal.nD Cert.ShortReferenceIdeal.τ).loc Cert.ShortReferenceIdeal.main_arg1) = m' ((c.tc : Thread Cert.ShortReferenceIdeal.nD Cert.ShortReferenceIdeal.τ).loc Cert.ShortReferenceIdeal.main_arg1)
          ∧ r.2.mem ((c.tc : Thread Cert.ShortReferenceIdeal.nD Cert.ShortReferenceIdeal.τ).loc Cert.ShortReferenceIdeal.main_arg2) = m' ((c.tc : Thread Cert.ShortReferenceIdeal.nD Cert.ShortReferenceIdeal.τ).loc Cert.ShortReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v7)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v7) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v12) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Cast_CastIdeal : Prop :=
  True

def algebraic_CastIdeal_CastReferenceIdeal [hCastIdeal : Cert.CastIdeal.Facts] [hCastReferenceIdeal : Cert.CastReferenceIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastReferenceIdeal.nD Cert.CastReferenceIdeal.τ Cert.CastReferenceIdeal.sig) → Buf (Elt Ideal) ℓ) (g' : Dev Cert.CastReferenceIdeal.nD → PrngReg), Pre_CastIdeal m →
    (∀ c : Dev Cert.CastIdeal.nD,
      m' ((c.tc : Thread Cert.CastReferenceIdeal.nD Cert.CastReferenceIdeal.τ).loc Cert.CastReferenceIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastReferenceIdeal.defs (F := Ideal)) (onTc (τ := Cert.CastReferenceIdeal.τ) (Cert.CastReferenceIdeal.main (F := Ideal))) ⟨m', fun _ => 0, g'⟩ (fun r => ∀ c : Dev Cert.CastReferenceIdeal.nD,
          r.2.mem ((c.tc : Thread Cert.CastReferenceIdeal.nD Cert.CastReferenceIdeal.τ).loc Cert.CastReferenceIdeal.main_v0) = v0 c
          ∧ r.2.mem ((c.tc : Thread Cert.CastReferenceIdeal.nD Cert.CastReferenceIdeal.τ).loc Cert.CastReferenceIdeal.main_arg0) = m' ((c.tc : Thread Cert.CastReferenceIdeal.nD Cert.CastReferenceIdeal.τ).loc Cert.CastReferenceIdeal.main_arg0))

def bitexact_Cast_CastReference [hCast : Cert.Cast.Facts] [hCastReference : Cert.CastReference.Facts] : Prop :=
  ∀ (m : (ℓ : Loc Cert.Cast.nD Cert.Cast.τ Cert.Cast.sig) → Buf (Elt Bits) ℓ) (g : Dev Cert.Cast.nD → PrngReg)
    (m' : (ℓ : Loc Cert.CastReference.nD Cert.CastReference.τ Cert.CastReference.sig) → Buf (Elt Bits) ℓ) (g' : Dev Cert.CastReference.nD → PrngReg), Pre_Cast m →
    (∀ c : Dev Cert.Cast.nD,
      m' ((c.tc : Thread Cert.CastReference.nD Cert.CastReference.τ).loc Cert.CastReference.main_arg0) = m ((c.tc : Thread Cert.Cast.nD Cert.Cast.τ).loc Cert.Cast.main_arg0)) →
    ∃ (v0 : (c : Dev Cert.Cast.nD) → Buf (Elt Bits) ((c.tc : Thread Cert.Cast.nD Cert.Cast.τ).loc Cert.Cast.main_v0)),
      θ_run (Cert.Cast.defs (F := Bits)) (onTc (τ := Cert.Cast.τ) (Cert.Cast.main (F := Bits))) ⟨m, fun _ => 0, g⟩ (fun r => ∀ c : Dev Cert.Cast.nD,
          r.2.mem ((c.tc : Thread Cert.Cast.nD Cert.Cast.τ).loc Cert.Cast.main_v0) = v0 c
          ∧ r.2.mem ((c.tc : Thread Cert.Cast.nD Cert.Cast.τ).loc Cert.Cast.main_arg0) = m ((c.tc : Thread Cert.Cast.nD Cert.Cast.τ).loc Cert.Cast.main_arg0))
      ∧ θ_run (Cert.CastReference.defs (F := Bits)) (onTc (τ := Cert.CastReference.τ) (Cert.CastReference.main (F := Bits))) ⟨m', fun _ => 0, g'⟩ (fun r => ∀ c : Dev Cert.CastReference.nD,
          r.2.mem ((c.tc : Thread Cert.CastReference.nD Cert.CastReference.τ).loc Cert.CastReference.main_v0) = v0 c
          ∧ r.2.mem ((c.tc : Thread Cert.CastReference.nD Cert.CastReference.τ).loc Cert.CastReference.main_arg0) = m' ((c.tc : Thread Cert.CastReference.nD Cert.CastReference.τ).loc Cert.CastReference.main_arg0))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v1) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v50) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)) →
    ∃ (v0 : (c : Dev Cert.FirstIdeal.nD) → Buf (Elt Ideal) ((c.tc : Thread Cert.FirstIdeal.nD Cert.FirstIdeal.τ).loc Cert.FirstIdeal.main_v1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v25) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3))

def preserves_Spectrum_SpectrumIdeal : Prop :=
  True

def algebraic_SpectrumIdeal_SpectrumReferenceIdeal [hSpectrumIdeal : Cert.SpectrumIdeal.Facts] [hSpectrumReferenceIdeal : Cert.SpectrumReferenceIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg)
    (m' : (ℓ : Loc Cert.SpectrumReferenceIdeal.nD Cert.SpectrumReferenceIdeal.τ Cert.SpectrumReferenceIdeal.sig) → Buf (Elt Ideal) ℓ) (g' : Dev Cert.SpectrumReferenceIdeal.nD → PrngReg), Pre_SpectrumIdeal m →
    (∀ c : Dev Cert.SpectrumIdeal.nD,
      m' ((c.tc : Thread Cert.SpectrumReferenceIdeal.nD Cert.SpectrumReferenceIdeal.τ).loc Cert.SpectrumReferenceIdeal.main_arg0) = m ((c.tc : Thread Cert.SpectrumIdeal.nD Cert.SpectrumIdeal.τ).loc Cert.SpectrumIdeal.main_arg0)
      ∧ m' ((c.tc : Thread Cert.SpectrumReferenceIdeal.nD Cert.SpectrumReferenceIdeal.τ).loc Cert.SpectrumReferenceIdeal.main_arg1) = m ((c.tc : Thread Cert.SpectrumIdeal.nD Cert.SpectrumIdeal.τ).loc Cert.SpectrumIdeal.main_arg1)
      ∧ m' ((c.tc : Thread Cert.SpectrumReferenceIdeal.nD Cert.SpectrumReferenceIdeal.τ).loc Cert.SpectrumReferenceIdeal.main_arg2) = m ((c.tc : Thread Cert.SpectrumIdeal.nD Cert.SpectrumIdeal.τ).loc Cert.SpectrumIdeal.main_arg2)
      ∧ m' ((c.tc : Thread Cert.SpectrumReferenceIdeal.nD Cert.SpectrumReferenceIdeal.τ).loc Cert.SpectrumReferenceIdeal.main_arg3) = m ((c.tc : Thread Cert.SpectrumIdeal.nD Cert.SpectrumIdeal.τ).loc Cert.SpectrumIdeal.main_arg3)
      ∧ m' ((c.tc : Thread Cert.SpectrumReferenceIdeal.nD Cert.SpectrumReferenceIdeal.τ).loc Cert.SpectrumReferenceIdeal.main_arg4) = m ((c.tc : Thread Cert.SpectrumIdeal.nD Cert.SpectrumIdeal.τ).loc Cert.SpectrumIdeal.main_arg4)) →
    ∃ (v0 : (c : Dev Cert.SpectrumIdeal.nD) → Buf (Elt Ideal) ((c.tc : Thread Cert.SpectrumIdeal.nD Cert.SpectrumIdeal.τ).loc Cert.SpectrumIdeal.main_v3)),
      θ_run (Cert.SpectrumIdeal.defs (F := Ideal)) (onTc (τ := Cert.SpectrumIdeal.τ) (Cert.SpectrumIdeal.main (F := Ideal))) ⟨m, fun _ => 0, g⟩ (fun r => ∀ c : Dev Cert.SpectrumIdeal.nD,
          r.2.mem ((c.tc : Thread Cert.SpectrumIdeal.nD Cert.SpectrumIdeal.τ).loc Cert.SpectrumIdeal.main_v3) = v0 c
          ∧ r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
          ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1)
          ∧ r.2.mem ((c.tc : Thread Cert.SpectrumIdeal.nD Cert.SpectrumIdeal.τ).loc Cert.SpectrumIdeal.main_arg2) = m ((c.tc : Thread Cert.SpectrumIdeal.nD Cert.SpectrumIdeal.τ).loc Cert.SpectrumIdeal.main_arg2)
          ∧ r.2.mem ((c.tc : Thread Cert.SpectrumIdeal.nD Cert.SpectrumIdeal.τ).loc Cert.SpectrumIdeal.main_arg3) = m ((c.tc : Thread Cert.SpectrumIdeal.nD Cert.SpectrumIdeal.τ).loc Cert.SpectrumIdeal.main_arg3)
          ∧ r.2.mem ((c.tc : Thread Cert.SpectrumIdeal.nD Cert.SpectrumIdeal.τ).loc Cert.SpectrumIdeal.main_arg4) = m ((c.tc : Thread Cert.SpectrumIdeal.nD Cert.SpectrumIdeal.τ).loc Cert.SpectrumIdeal.main_arg4))
      ∧ θ_run (Cert.SpectrumReferenceIdeal.defs (F := Ideal)) (onTc (τ := Cert.SpectrumReferenceIdeal.τ) (Cert.SpectrumReferenceIdeal.main (F := Ideal))) ⟨m', fun _ => 0, g'⟩ (fun r => ∀ c : Dev Cert.SpectrumReferenceIdeal.nD,
          r.2.mem ((c.tc : Thread Cert.SpectrumReferenceIdeal.nD Cert.SpectrumReferenceIdeal.τ).loc Cert.SpectrumReferenceIdeal.main_v38) = v0 c
          ∧ r.2.mem ((c.tc : Thread Cert.SpectrumReferenceIdeal.nD Cert.SpectrumReferenceIdeal.τ).loc Cert.SpectrumReferenceIdeal.main_arg0) = m' ((c.tc : Thread Cert.SpectrumReferenceIdeal.nD Cert.SpectrumReferenceIdeal.τ).loc Cert.SpectrumReferenceIdeal.main_arg0)
          ∧ r.2.mem ((c.tc : Thread Cert.SpectrumReferenceIdeal.nD Cert.SpectrumReferenceIdeal.τ).loc Cert.SpectrumReferenceIdeal.main_arg1) = m' ((c.tc : Thread Cert.SpectrumReferenceIdeal.nD Cert.SpectrumReferenceIdeal.τ).loc Cert.SpectrumReferenceIdeal.main_arg1)
          ∧ r.2.mem ((c.tc : Thread Cert.SpectrumReferenceIdeal.nD Cert.SpectrumReferenceIdeal.τ).loc Cert.SpectrumReferenceIdeal.main_arg2) = m' ((c.tc : Thread Cert.SpectrumReferenceIdeal.nD Cert.SpectrumReferenceIdeal.τ).loc Cert.SpectrumReferenceIdeal.main_arg2)
          ∧ r.2.mem ((c.tc : Thread Cert.SpectrumReferenceIdeal.nD Cert.SpectrumReferenceIdeal.τ).loc Cert.SpectrumReferenceIdeal.main_arg3) = m' ((c.tc : Thread Cert.SpectrumReferenceIdeal.nD Cert.SpectrumReferenceIdeal.τ).loc Cert.SpectrumReferenceIdeal.main_arg3)
          ∧ r.2.mem ((c.tc : Thread Cert.SpectrumReferenceIdeal.nD Cert.SpectrumReferenceIdeal.τ).loc Cert.SpectrumReferenceIdeal.main_arg4) = m' ((c.tc : Thread Cert.SpectrumReferenceIdeal.nD Cert.SpectrumReferenceIdeal.τ).loc Cert.SpectrumReferenceIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProject : Cert.Project.Facts) (hProjectIdeal : Cert.ProjectIdeal.Facts) (hProjectReferenceIdeal : Cert.ProjectReferenceIdeal.Facts) (hMix : Cert.Mix.Facts) (hMixIdeal : Cert.MixIdeal.Facts) (hMixReferenceIdeal : Cert.MixReferenceIdeal.Facts) (hAda : Cert.Ada.Facts) (hAdaIdeal : Cert.AdaIdeal.Facts) (hAdaReferenceIdeal : Cert.AdaReferenceIdeal.Facts) (hShort : Cert.Short.Facts) (hShortIdeal : Cert.ShortIdeal.Facts) (hShortReferenceIdeal : Cert.ShortReferenceIdeal.Facts) (hGate : Cert.Gate.Facts) (hGateIdeal : Cert.GateIdeal.Facts) (hGateReferenceIdeal : Cert.GateReferenceIdeal.Facts) (hCast : Cert.Cast.Facts) (hCastIdeal : Cert.CastIdeal.Facts) (hCastReferenceIdeal : Cert.CastReferenceIdeal.Facts) (hCastReference : Cert.CastReference.Facts) (hMid : Cert.Mid.Facts) (hMidIdeal : Cert.MidIdeal.Facts) (hMidReferenceIdeal : Cert.MidReferenceIdeal.Facts) (hFirst : Cert.First.Facts) (hFirstIdeal : Cert.FirstIdeal.Facts) (hFirstReferenceIdeal : Cert.FirstReferenceIdeal.Facts) (hSpectrum : Cert.Spectrum.Facts) (hSpectrumIdeal : Cert.SpectrumIdeal.Facts) (hSpectrumReferenceIdeal : Cert.SpectrumReferenceIdeal.Facts) (hPre_finite_inputs : Cert.Pre_finite_inputs.Facts) (hPre_finite_weights : Cert.Pre_finite_weights.Facts) (hPre_finite_router : Cert.Pre_finite_router.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Project (hProject := hProject)
    ∧ quiescent_ProjectIdeal (hProjectIdeal := hProjectIdeal)
    ∧ quiescent_ProjectIdeal_pre_finite_weights (hProjectIdeal := hProjectIdeal) (hPre_finite_weights := hPre_finite_weights)
    ∧ quiescent_ProjectReferenceIdeal (hProjectReferenceIdeal := hProjectReferenceIdeal)
    ∧ quiescent_ProjectReferenceIdeal_pre_finite_weights (hProjectReferenceIdeal := hProjectReferenceIdeal) (hPre_finite_weights := hPre_finite_weights)
    ∧ quiescent_Mix (hMix := hMix)
    ∧ quiescent_MixIdeal (hMixIdeal := hMixIdeal)
    ∧ quiescent_MixIdeal_pre_finite_router (hMixIdeal := hMixIdeal) (hPre_finite_router := hPre_finite_router)
    ∧ quiescent_MixReferenceIdeal (hMixReferenceIdeal := hMixReferenceIdeal)
    ∧ quiescent_MixReferenceIdeal_pre_finite_router (hMixReferenceIdeal := hMixReferenceIdeal) (hPre_finite_router := hPre_finite_router)
    ∧ quiescent_Ada (hAda := hAda)
    ∧ quiescent_AdaIdeal (hAdaIdeal := hAdaIdeal)
    ∧ quiescent_AdaReferenceIdeal (hAdaReferenceIdeal := hAdaReferenceIdeal)
    ∧ quiescent_Short (hShort := hShort)
    ∧ quiescent_ShortIdeal (hShortIdeal := hShortIdeal)
    ∧ quiescent_ShortReferenceIdeal (hShortReferenceIdeal := hShortReferenceIdeal)
    ∧ quiescent_Gate (hGate := hGate)
    ∧ quiescent_GateIdeal (hGateIdeal := hGateIdeal)
    ∧ quiescent_GateReferenceIdeal (hGateReferenceIdeal := hGateReferenceIdeal)
    ∧ quiescent_Cast (hCast := hCast)
    ∧ quiescent_CastIdeal (hCastIdeal := hCastIdeal)
    ∧ quiescent_CastReferenceIdeal (hCastReferenceIdeal := hCastReferenceIdeal)
    ∧ quiescent_CastReference (hCastReference := hCastReference)
    ∧ quiescent_Mid (hMid := hMid)
    ∧ quiescent_MidIdeal (hMidIdeal := hMidIdeal)
    ∧ quiescent_MidReferenceIdeal (hMidReferenceIdeal := hMidReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Spectrum (hSpectrum := hSpectrum)
    ∧ quiescent_SpectrumIdeal (hSpectrumIdeal := hSpectrumIdeal)
    ∧ quiescent_SpectrumReferenceIdeal (hSpectrumReferenceIdeal := hSpectrumReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Experts_ExpertsIdeal
    ∧ algebraic_ExpertsIdeal_ExpertsReferenceIdeal (hExpertsIdeal := hExpertsIdeal) (hExpertsReferenceIdeal := hExpertsReferenceIdeal)
    ∧ preserves_Project_ProjectIdeal
    ∧ algebraic_ProjectIdeal_ProjectReferenceIdeal_pre_finite_weights (hProjectIdeal := hProjectIdeal) (hProjectReferenceIdeal := hProjectReferenceIdeal) (hPre_finite_weights := hPre_finite_weights)
    ∧ preserves_Mix_MixIdeal
    ∧ algebraic_MixIdeal_MixReferenceIdeal_pre_finite_router (hMixIdeal := hMixIdeal) (hMixReferenceIdeal := hMixReferenceIdeal) (hPre_finite_router := hPre_finite_router)
    ∧ preserves_Ada_AdaIdeal
    ∧ algebraic_AdaIdeal_AdaReferenceIdeal (hAdaIdeal := hAdaIdeal) (hAdaReferenceIdeal := hAdaReferenceIdeal)
    ∧ preserves_Short_ShortIdeal
    ∧ algebraic_ShortIdeal_ShortReferenceIdeal (hShortIdeal := hShortIdeal) (hShortReferenceIdeal := hShortReferenceIdeal)
    ∧ preserves_Gate_GateIdeal
    ∧ algebraic_GateIdeal_GateReferenceIdeal (hGateIdeal := hGateIdeal) (hGateReferenceIdeal := hGateReferenceIdeal)
    ∧ preserves_Cast_CastIdeal
    ∧ algebraic_CastIdeal_CastReferenceIdeal (hCastIdeal := hCastIdeal) (hCastReferenceIdeal := hCastReferenceIdeal)
    ∧ bitexact_Cast_CastReference (hCast := hCast) (hCastReference := hCastReference)
    ∧ preserves_Mid_MidIdeal
    ∧ algebraic_MidIdeal_MidReferenceIdeal (hMidIdeal := hMidIdeal) (hMidReferenceIdeal := hMidReferenceIdeal)
    ∧ preserves_First_FirstIdeal
    ∧ algebraic_FirstIdeal_FirstReferenceIdeal (hFirstIdeal := hFirstIdeal) (hFirstReferenceIdeal := hFirstReferenceIdeal)
    ∧ preserves_Spectrum_SpectrumIdeal
    ∧ algebraic_SpectrumIdeal_SpectrumReferenceIdeal (hSpectrumIdeal := hSpectrumIdeal) (hSpectrumReferenceIdeal := hSpectrumReferenceIdeal)
-- ==== Pre_finite_inputs.lean ====
abbrev S2x16384x6144 : Shape := ⟨3, ![2, 16384, 6144]⟩
abbrev S16x15x31 : Shape := ⟨3, ![16, 15, 31]⟩
abbrev S_ : Shape := ⟨0, ![]⟩

class Facts : Prop where
  bcast_S_S2x16384x6144 : S_.BroadcastsInDim S2x16384x6144 (![] : Fin 0 → Fin S2x16384x6144.rank)
  reducesTo_S2x16384x6144_S_d0_1_2 : S2x16384x6144.ReducesTo [0, 1, 2] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S2x16384x6144 .bf16) (main_arg1 : FVec F S16x15x31 .f32) : IVec S_ 1 :=
  let main_v0 : FVec F S2x16384x6144 .bf16 := Host.absf main_arg0
  let main_cst : FVec F S_ .bf16 := constant S_ .bf16 0x7F80#16
  let main_v1 : FVec F S2x16384x6144 .bf16 := broadcastInDim S2x16384x6144 ![] bcast_S_S2x16384x6144 main_cst
  let main_v2 : IVec S2x16384x6144 1 := cmpf .olt main_v0 main_v1
  let main_c : IVec S_ 1 := constantI S_ 1 1#1
  let main_v3 : IVec S_ 1 := (fun x v => Host.reduce IntOp.andi x v reducesTo_S2x16384x6144_S_d0_1_2 h_S_) main_v2 main_c
  let main_v4 : FVec F S16x15x31 .f32 := Host.absf main_arg1
  let main_cst_0 : FVec F S_ .f32 := constant S_ .f32 0x7F800000#32
  let main_v5 : FVec F S16x15x31 .f32 := broadcastInDim S16x15x31 ![] bcast_S_S16x15x31 main_cst_0
  let main_v6 : IVec S16x15x31 1 := cmpf .olt main_v4 main_v5
  let main_c_1 : IVec S_ 1 := constantI S_ 1 1#1
  let main_v7 : IVec S_ 1 := (fun x v => Host.reduce IntOp.andi x v reducesTo_S16x15x31_S_d0_1_2 h_S_) main_v6 main_c_1
  let main_v8 : IVec S_ 1 := andi main_v3 main_v7
  main_v8
-- ==== Pre_finite_router.lean ====
abbrev S2x16384x1024 : Shape := ⟨3, ![2, 16384, 1024]⟩
abbrev S2x16384x2048 : Shape := ⟨3, ![2, 16384, 2048]⟩
abbrev S1024 : Shape := ⟨1, ![1024]⟩
abbrev S2048x2048 : Shape := ⟨2, ![2048, 2048]⟩
abbrev S2x2048 : Shape := ⟨2, ![2, 2048]⟩
abbrev S2048 : Shape := ⟨1, ![2048]⟩
abbrev S2048x16 : Shape := ⟨2, ![2048, 16]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2x2048 : S_.BroadcastsInDim S2x2048 (![] : Fin 0 → Fin S2x2048.rank)
  reducesTo_S2x2048_S_d0_1 : S2x2048.ReducesTo [0, 1] S_
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  main_v18

def fn {F : FTy → Type} [FloatOps F] (main_arg0 : FVec F S2x16384x1024 .bf16) (main_arg1 : FVec F S2x16384x1024 .bf16) (main_arg2 : FVec F S2x16384x2048 .f32) (main_arg3 : FVec F S1024 .f32) (main_arg4 : FVec F S1024 .f32) (main_arg5 : FVec F S2048x2048 .bf16) (main_arg6 : FVec F S2x2048 .f32) (main_arg7 : FVec F S2048 .f32) (main_arg8 : FVec F S2x2048 .f32) (main_arg9 : FVec F S2x2048 .f32) (main_arg10 : FVec F S2048x16 .f32) : IVec S_ 1 :=
  let main_v0 : FVec F S2048 .f32 := Host.absf main_arg7
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2x2048 .f32 := Host.absf main_arg8
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  let main_v9 : FVec F S2x2048 .f32 := Host.absf main_arg9
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  let main_c_3 : IVec S_ 1 := constantI S_ 1 1#1
  let main_v12 : IVec S_ 1 := (fun x v => Host.reduce IntOp.andi x v reducesTo_S2x2048_S_d0_1 h_S_) main_v11 main_c_3
  let main_v13 : IVec S_ 1 := andi main_v8 main_v12
  let main_v14 : FVec F S2048x16 .f32 := Host.absf main_arg10
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_v13 main_v16
-- ==== Pre_finite_weights.lean ====
abbrev S2x16384x2048 : Shape := ⟨3, ![2, 16384, 2048]⟩
abbrev S2048 : Shape := ⟨1, ![2048]⟩
abbrev S2x2048 : Shape := ⟨2, ![2, 2048]⟩
abbrev S2048x6144 : Shape := ⟨2, ![2048, 6144]⟩
abbrev S64 : Shape := ⟨1, ![64]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2x2048 : S_.BroadcastsInDim S2x2048 (![] : Fin 0 → Fin S2x2048.rank)
  reducesTo_S2x2048_S_d0_1 : S2x2048.ReducesTo [0, 1] S_
  bcast_S_S2048x6144 : S_.BroadcastsInDim S2048x6144 (![] : Fin 0 → Fin S2048x6144.rank)
  reducesTo_S2048x6144_S_d0_1 : S2048x6144.ReducesTo [0, 1] S_

variable [Facts]

def fn_part1 {F : FTy → Type} [FloatOps F] (main_v13 : IVec S_ 1) (main_v16 : IVec S2048x6144 1) : IVec S_ 1 :=
  let main_c_5 : IVec S_ 1 := constantI S_ 1 1#1
  let main_v17 : IVec S_ 1 := (fun x v => Host.reduce IntOp.andi x v reducesTo_S2048x6144_S_d0_1 h_S_) main_v16 main_c_5
  let main_v18 : IVec S_ 1 := andi main_v13 main_v17
  main_v18

def fn {F : FTy → Type} [FloatOps F] (main_arg0 : FVec F S2x16384x2048 .f32) (main_arg1 : FVec F S2048 .f32) (main_arg2 : FVec F S2x2048 .f32) (main_arg3 : FVec F S2x2048 .f32) (main_arg4 : FVec F S2048x6144 .bf16) (main_arg5 : FVec F S64 .f32) (main_arg6 : FVec F S64 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2x2048 .f32 := Host.absf main_arg2
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  let main_v9 : FVec F S2x2048 .f32 := Host.absf main_arg3
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  let main_c_3 : IVec S_ 1 := constantI S_ 1 1#1
  let main_v12 : IVec S_ 1 := (fun x v => Host.reduce IntOp.andi x v reducesTo_S2x2048_S_d0_1 h_S_) main_v11 main_c_3
  let main_v13 : IVec S_ 1 := andi main_v8 main_v12
  let main_v14 : FVec F S2048x6144 .bf16 := Host.absf main_arg4
  let main_cst_4 : FVec F S_ .bf16 := constant S_ .bf16 0x7F80#16
  let main_v15 : FVec F S2048x6144 .bf16 := broadcastInDim S2048x6144 ![] bcast_S_S2048x6144 main_cst_4
  let main_v16 : IVec S2048x6144 1 := cmpf .olt main_v14 main_v15
  fn_part1 (F := F) main_v13 main_v16
-- ==== Kernel.lean ====
abbrev S2x16384x6144 : Shape := ⟨3, ![2, 16384, 6144]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1 : Shape := ⟨3, ![8, 8, 1]⟩
abbrev S16x8x8x64x64 : Shape := ⟨5, ![16, 8, 8, 64, 64]⟩
abbrev S1x1x1x64x64 : Shape := ⟨5, ![1, 1, 1, 64, 64]⟩
abbrev S16x8x64x8x64 : Shape := ⟨5, ![16, 8, 64, 8, 64]⟩
abbrev S4x4x8x64x512 : Shape := ⟨5, ![4, 4, 8, 64, 512]⟩
abbrev S2x16384x1024 : Shape := ⟨3, ![2, 16384, 1024]⟩
abbrev S1x512x256 : Shape := ⟨3, ![1, 512, 256]⟩
abbrev S1x4x8x64x512 : Shape := ⟨5, ![1, 4, 8, 64, 512]⟩
abbrev S1x256 : Shape := ⟨2, ![1, 256]⟩
abbrev S512x256 : Shape := ⟨2, ![512, 256]⟩
abbrev S1x64x256 : Shape := ⟨3, ![1, 64, 256]⟩
abbrev S64x256 : Shape := ⟨2, ![64, 256]⟩
abbrev S256x256 : Shape := ⟨2, ![256, 256]⟩
abbrev S256x512 : Shape := ⟨2, ![256, 512]⟩
abbrev S1x1x1x64x512 : Shape := ⟨5, ![1, 1, 1, 64, 512]⟩
abbrev S64x512 : Shape := ⟨2, ![64, 512]⟩
abbrev S256 : Shape := ⟨1, ![256]⟩
abbrev S256x1 : Shape := ⟨2, ![256, 1]⟩
abbrev S1x448x256 : Shape := ⟨3, ![1, 448, 256]⟩
abbrev S448x256 : Shape := ⟨2, ![448, 256]⟩
abbrev S1x384x256 : Shape := ⟨3, ![1, 384, 256]⟩
abbrev S384x256 : Shape := ⟨2, ![384, 256]⟩
abbrev S1x128x256 : Shape := ⟨3, ![1, 128, 256]⟩
abbrev S128x256 : Shape := ⟨2, ![128, 256]⟩
abbrev S1x320x256 : Shape := ⟨3, ![1, 320, 256]⟩
abbrev S320x256 : Shape := ⟨2, ![320, 256]⟩
abbrev S1x192x256 : Shape := ⟨3, ![1, 192, 256]⟩
abbrev S192x256 : Shape := ⟨2, ![192, 256]⟩
abbrev S1x256x256 : Shape := ⟨3, ![1, 256, 256]⟩

abbrev nBuf : Space → Nat
  | .hbm => 81
  | .vmem => 18
  | .smem => 0
  | _ => 0

abbrev bufTy : (tb : Table) → Fin (tcTables nBuf tb) → BufTy
  | .hbm, ⟨0, _⟩ => ⟨S2x16384x6144, .bf16⟩
  | .hbm, ⟨1, _⟩ => ⟨S16x15x31, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S1x64, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S1x64, .i32⟩
  | .hbm, ⟨20, _⟩ => ⟨S64x1, .i32⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S_, .i32⟩
  | .hbm, ⟨48, _⟩ => ⟨S64x64, .i32⟩
  | .hbm, ⟨49, _⟩ => ⟨S64x64, .i1⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S64x64, .i32⟩
  | .hbm, ⟨54, _⟩ => ⟨S64x64x1, .i32⟩
  | .hbm, ⟨55, _⟩ => ⟨S16x15x64x64, .f32⟩
  | .hbm, ⟨56, _⟩ => ⟨S8, .i32⟩
  | .hbm, ⟨57, _⟩ => ⟨S8x1, .i32⟩
  | .hbm, ⟨58, _⟩ => ⟨S8, .i32⟩
  | .hbm, ⟨59, _⟩ => ⟨S1x8, .i32⟩
  | .hbm, ⟨60, _⟩ => ⟨S8x8, .i32⟩
  | .hbm, ⟨61, _⟩ => ⟨S8x8, .i32⟩
  | .hbm, ⟨62, _⟩ => ⟨S8x8, .i32⟩
  | .hbm, ⟨63, _⟩ => ⟨S_, .i32⟩
  | .hbm, ⟨64, _⟩ => ⟨S8x8, .i32⟩
  | .hbm, ⟨65, _⟩ => ⟨S8x8, .i1⟩
  | .hbm, ⟨66, _⟩ => ⟨S_, .i32⟩
  | .hbm, ⟨67, _⟩ => ⟨S8x8, .i32⟩
  | .hbm, ⟨68, _⟩ => ⟨S8x8, .i32⟩
  | .hbm, ⟨69, _⟩ => ⟨S8x8, .i32⟩
  | .hbm, ⟨70, _⟩ => ⟨S8x8x1, .i32⟩
  | .hbm, ⟨71, _⟩ => ⟨S16x8x8x64x64, .f32⟩
  | .hbm, ⟨72, _⟩ => ⟨S1x1x1x64x64, .i1⟩
  | .hbm, ⟨73, _⟩ => ⟨S_, .f32⟩
  | .hbm, ⟨74, _⟩ => ⟨S_, .f32⟩
  | .hbm, ⟨75, _⟩ => ⟨S16x8x8x64x64, .i1⟩
  | .hbm, ⟨76, _⟩ => ⟨S16x8x8x64x64, .f32⟩
  | .hbm, ⟨77, _⟩ => ⟨S16x8x8x64x64, .f32⟩
  | .hbm, ⟨78, _⟩ => ⟨S16x8x64x8x64, .f32⟩
  | .hbm, ⟨79, _⟩ => ⟨S4x4x8x64x512, .f32⟩
  | .hbm, ⟨80, _⟩ => ⟨S2x16384x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x4x8x64x512, .f32⟩
  | .local _ .vmem, ⟨15, _⟩ => ⟨S1x4x8x64x512, .f32⟩
  | .local _ .vmem, ⟨16, _⟩ => ⟨S1x512x256, .bf16⟩
  | .local _ .vmem, ⟨17, _⟩ => ⟨S1x512x256, .bf16⟩
  | _, _ => ⟨S2x16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 32], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v5 : BitVec 32 := Scalar.extui v0
  let c0_i32_2 : BitVec 32 := 0#32
  let v6 : BitVec 1 := Scalar.cmpi .ne v5 c0_i32_2
  v6

def k0_cond2 (i : grid0.Coords) : BitVec 1 :=
  let arg2 : BitVec 32 := BitVec.ofNat 32 (i 2).val
  let c31_i32 : BitVec 32 := 31#32
  let v1 : BitVec 1 := Scalar.cmpi .eq arg2 c31_i32
  let v7 : BitVec 32 := Scalar.extui v1
  let c0_i32_3 : BitVec 32 := 0#32
  let v8 : BitVec 1 := Scalar.cmpi .ne v7 c0_i32_3
  v8

def k0_cond3 (i : grid0.Coords) : BitVec 1 :=
  let arg2 : BitVec 32 := BitVec.ofNat 32 (i 2).val
  let c0_i32_0 : BitVec 32 := 0#32
  let v2 : BitVec 1 := Scalar.cmpi .sgt arg2 c0_i32_0
  let c31_i32_1 : BitVec 32 := 31#32
  let v3 : BitVec 1 := Scalar.cmpi .slt arg2 c31_i32_1
  let v4 : BitVec 1 := Scalar.andi v2 v3
  let v9 : BitVec 32 := Scalar.extui v4
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c31_i32 : BitVec 32 := 31#32
  let v1 : BitVec 32 := Scalar.maxsi c0_i32_0 v0
  let v2 : BitVec 32 := Scalar.minsi c31_i32 v1
  let c12_i32 : BitVec 32 := 12#32
  let v3 : BitVec 32 := Scalar.addi c12_i32 arg1
  let c0_i32_1 : BitVec 32 := 0#32
  ![arg0.toNat, v2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c_m1_i32 : BitVec 32 := 4294967295#32
  let v0 : BitVec 32 := Scalar.addi arg2 c_m1_i32
  let c0_i32 : BitVec 32 := 0#32
  let c31_i32 : BitVec 32 := 31#32
  let v1 : BitVec 32 := Scalar.maxsi c0_i32 v0
  let v2 : BitVec 32 := Scalar.minsi c31_i32 v1
  let c16_i32 : BitVec 32 := 16#32
  let v3 : BitVec 32 := Scalar.addi c16_i32 arg1
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c31_i32 : BitVec 32 := 31#32
  let v1 : BitVec 32 := Scalar.maxsi c0_i32_0 v0
  let v2 : BitVec 32 := Scalar.minsi c31_i32 v1
  let c16_i32 : BitVec 32 := 16#32
  let v3 : BitVec 32 := Scalar.addi c16_i32 arg1
  let c0_i32_1 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c31_i32 : BitVec 32 := 31#32
  let v1 : BitVec 32 := Scalar.maxsi c0_i32 v0
  let v2 : BitVec 32 := Scalar.minsi c31_i32 v1
  let c16_i32 : BitVec 32 := 16#32
  let v3 : BitVec 32 := Scalar.addi c16_i32 arg1
  let c0_i32_0 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c_m1_i32 : BitVec 32 := 4294967295#32
  let v0 : BitVec 32 := Scalar.addi arg2 c_m1_i32
  let c0_i32 : BitVec 32 := 0#32
  let c31_i32 : BitVec 32 := 31#32
  let v1 : BitVec 32 := Scalar.maxsi c0_i32 v0
  let v2 : BitVec 32 := Scalar.minsi c31_i32 v1
  let c20_i32 : BitVec 32 := 20#32
  let v3 : BitVec 32 := Scalar.addi c20_i32 arg1
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c31_i32 : BitVec 32 := 31#32
  let v1 : BitVec 32 := Scalar.maxsi c0_i32_0 v0
  let v2 : BitVec 32 := Scalar.minsi c31_i32 v1
  let c20_i32 : BitVec 32 := 20#32
  let v3 : BitVec 32 := Scalar.addi c20_i32 arg1
  let c0_i32_1 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c31_i32 : BitVec 32 := 31#32
  let v1 : BitVec 32 := Scalar.maxsi c0_i32 v0
  let v2 : BitVec 32 := Scalar.minsi c31_i32 v1
  let c20_i32 : BitVec 32 := 20#32
  let v3 : BitVec 32 := Scalar.addi c20_i32 arg1
  let c0_i32_0 : BitVec 32 := 0#32
  ![arg0.toNat, v2.toNat, v3.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x8x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x16384x6144 : Shape := ⟨3, ![2, 16384, 6144]⟩
abbrev S16x15x31 : Shape := ⟨3, ![16, 15, 31]⟩
abbrev S2x16384x1024 : Shape := ⟨3, ![2, 16384, 1024]⟩
abbrev S2x256x64x16x64 : Shape := ⟨5, ![2, 256, 64, 16, 64]⟩
abbrev S2x256x64x1024 : Shape := ⟨4, ![2, 256, 64, 1024]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S2x256x8x64x1024 : Shape := ⟨5, ![2, 256, 8, 64, 1024]⟩
abbrev S2x256x512x16x64 : Shape := ⟨5, ![2, 256, 512, 16, 64]⟩
abbrev S2x256x16x64x512 : Shape := ⟨5, ![2, 256, 16, 64, 512]⟩
abbrev S16x256x8x64x64 : Shape := ⟨5, ![16, 256, 8, 64, 64]⟩
abbrev S256x16x64x8x64 : Shape := ⟨5, ![256, 16, 64, 8, 64]⟩
abbrev S256x16x64x512 : Shape := ⟨4, ![256, 16, 64, 512]⟩
abbrev S1x256x16x64x512 : Shape := ⟨5, ![1, 256, 16, 64, 512]⟩
abbrev S1x64x1x64 : Shape := ⟨4, ![1, 64, 1, 64]⟩
abbrev S1x64x8x64 : Shape := ⟨4, ![1, 64, 8, 64]⟩
abbrev S64x512 : Shape := ⟨2, ![64, 512]⟩
abbrev S2x256x16x64 : Shape := ⟨4, ![2, 256, 16, 64]⟩
abbrev S2x256x16x64x1 : Shape := ⟨5, ![2, 256, 16, 64, 1]⟩
abbrev S2x256x16x64x64 : Shape := ⟨5, ![2, 256, 16, 64, 64]⟩

abbrev nBuf : Space → Nat
  | .hbm => 151
  | .vmem => 0
  | .smem => 0
  | _ => 0

abbrev hbmTy0_0 (i : Nat) : BufTy := match i % 128 with
  | 0 => ⟨S2x16384x6144, .bf16⟩
  | 1 => ⟨S16x15x31, .f32⟩
  | 2 => ⟨S2x16384x1024, .bf16⟩
  | 3 => ⟨S2x256x64x16x64, .bf16⟩
  | 4 => ⟨S2x16384x1024, .bf16⟩
  | 5 => ⟨S2x256x64x1024, .bf16⟩
  | 6 => ⟨S2x16384x1024, .bf16⟩
  | 7 => ⟨S2x256x64x1024, .bf16⟩
  | 8 => ⟨S64, .i32⟩
  | 9 => ⟨S_, .i32⟩
  | 10 => ⟨S64, .i32⟩
  | 11 => ⟨S64, .i32⟩
  | 12 => ⟨S_, .i32⟩
  | 13 => ⟨S_, .i32⟩
  | 14 => ⟨S_, .i32⟩
  | 15 => ⟨S64, .i32⟩
  | 16 => ⟨S64, .i32⟩
  | 17 => ⟨S_, .i32⟩
  | 18 => ⟨S64, .i32⟩
  | 19 => ⟨S64, .i32⟩
  | 20 => ⟨S1x64, .i32⟩
  | 21 => ⟨S64x1, .i32⟩
  | 22 => ⟨S64x64, .i32⟩
  | 23 => ⟨S64x64, .i32⟩
  | 24 => ⟨S64x64, .i1⟩
  | 25 => ⟨S1x64, .i32⟩
  | 26 => ⟨S64x1, .i32⟩
  | 27 => ⟨S_, .i32⟩
  | 28 => ⟨S64x1, .i32⟩
  | 29 => ⟨S64x1, .i32⟩
  | 30 => ⟨S64x64, .i32⟩
  | 31 => ⟨S64x64, .i32⟩
  | 32 => ⟨S64x64, .i1⟩
  | 33 => ⟨S64x64, .i1⟩
  | 34 => ⟨S1x64, .i32⟩
  | 35 => ⟨S64x1, .i32⟩
  | 36 => ⟨S64x64, .i32⟩
  | 37 => ⟨S64x64, .i32⟩
  | 38 => ⟨S64x64, .i32⟩
  | 39 => ⟨S_, .i32⟩
  | 40 => ⟨S_, .i32⟩
  | 41 => ⟨S_, .i32⟩
  | 42 => ⟨S64x64, .i32⟩
  | 43 => ⟨S64x64, .i32⟩
  | 44 => ⟨S_, .i32⟩
  | 45 => ⟨S64x64, .i32⟩
  | 46 => ⟨S64x64, .i32⟩
  | 47 => ⟨S_, .i32⟩
  | 48 => ⟨S64x64, .i32⟩
  | 49 => ⟨S64x64, .i32⟩
  | 50 => ⟨S_, .i32⟩
  | 51 => ⟨S64x64, .i32⟩
  | 52 => ⟨S64x64, .i32⟩
  | 53 => ⟨S_, .i32⟩
  | 54 => ⟨S64x64, .i32⟩
  | 55 => ⟨S64x64, .i1⟩
  | 56 => ⟨S_, .i32⟩
  | 57 => ⟨S64x64, .i32⟩
  | 58 => ⟨S64x64, .i32⟩
  | 59 => ⟨S64x64, .i32⟩
  | 60 => ⟨S64x64x1, .i32⟩
  | 61 => ⟨S16x15x64x64, .f32⟩
  | 62 => ⟨S256, .i32⟩
  | 63 => ⟨S_, .i32⟩
  | 64 => ⟨S256, .i32⟩
  | 65 => ⟨S256, .i32⟩
  | 66 => ⟨S_, .i32⟩
  | 67 => ⟨S_, .i32⟩
  | 68 => ⟨S_, .i32⟩
  | 69 => ⟨S256, .i32⟩
  | 70 => ⟨S256, .i32⟩
  | 71 => ⟨S_, .i32⟩
  | 72 => ⟨S256, .i32⟩
  | 73 => ⟨S256, .i32⟩
  | 74 => ⟨S256x1, .i32⟩
  | 75 => ⟨S8, .i32⟩
  | 76 => ⟨S1x8, .i32⟩
  | 77 => ⟨S256x8, .i32⟩
  | 78 => ⟨S256x8, .i32⟩
  | 79 => ⟨S256x8, .i32⟩
  | 80 => ⟨S_, .i32⟩
  | 81 => ⟨S256x8, .i32⟩
  | 82 => ⟨S256x8, .i1⟩
  | 83 => ⟨S_, .i32⟩
  | 84 => ⟨S256x8, .i32⟩
  | 85 => ⟨S256x8, .i32⟩
  | 86 => ⟨S256x8, .i32⟩
  | 87 => ⟨S256x8x1, .i32⟩
  | 88 => ⟨S2x256x8x64x1024, .bf16⟩
  | 89 => ⟨S2x256x512x16x64, .bf16⟩
  | 90 => ⟨S_, .i32⟩
  | 91 => ⟨S256x8, .i32⟩
  | 92 => ⟨S256x8, .i1⟩
  | 93 => ⟨S_, .i32⟩
  | 94 => ⟨S256x8, .i32⟩
  | 95 => ⟨S256x8, .i32⟩
  | 96 => ⟨S256x8, .i32⟩
  | 97 => ⟨S256x8x1, .i32⟩
  | 98 => ⟨S2x256x8x64x1024, .bf16⟩
  | 99 => ⟨S2x256x512x16x64, .bf16⟩
  | 100 => ⟨S2x256x16x64x512, .f32⟩
  | 101 => ⟨S256x1, .i32⟩
  | 102 => ⟨S256x8, .i32⟩
  | 103 => ⟨S256x8, .i32⟩
  | 104 => ⟨S_, .i32⟩
  | 105 => ⟨S256x8, .i32⟩
  | 106 => ⟨S256x8, .i32⟩
  | 107 => ⟨S_, .i32⟩
  | 108 => ⟨S256x8, .i32⟩
  | 109 => ⟨S256x8, .i32⟩
  | 110 => ⟨S_, .i32⟩
  | 111 => ⟨S256x8, .i32⟩
  | 112 => ⟨S256x8, .i1⟩
  | 113 => ⟨S_, .i32⟩
  | 114 => ⟨S256x8, .i32⟩
  | 115 => ⟨S256x8, .i32⟩
  | 116 => ⟨S256x8, .i32⟩
  | 117 => ⟨S256x8x1, .i32⟩
  | 118 => ⟨S16x256x8x64x64, .f32⟩
  | 119 => ⟨S256x16x64x8x64, .f32⟩
  | 120 => ⟨S256x16x64x512, .f32⟩
  | 121 => ⟨S1x256x16x64x512, .f32⟩
  | 122 => ⟨S2x256x16x64x512, .f32⟩
  | 123 => ⟨S2x256x16x64x512, .f32⟩
  | 124 => ⟨S1x64x1x64, .i1⟩
  | 125 => ⟨S1x64x8x64, .i1⟩
  | 126 => ⟨S64x512, .i1⟩
  | 127 => ⟨S_, .f32⟩
  | _ => ⟨S2x16384x6144, .bf16⟩

abbrev hbmTy0_1 (i : Nat) : BufTy := match i % 128 with
  | 0 => ⟨S_, .f32⟩
  | 1 => ⟨S2x256x16x64x512, .i1⟩
  | 2 => ⟨S2x256x16x64x512, .f32⟩
  | 3 => ⟨S2x256x16x64x512, .f32⟩
  | 4 => ⟨S_, .f32⟩
  | 5 => ⟨S2x256x16x64, .f32⟩
  | 6 => ⟨S_, .f32⟩
  | 7 => ⟨S2x256x16x64, .f32⟩
  | 8 => ⟨S2x256x16x64, .f32⟩
  | 9 => ⟨S2x256x16x64x1, .f32⟩
  | 10 => ⟨S2x256x16x64x512, .f32⟩
  | 11 => ⟨S2x256x16x64x512, .f32⟩
  | 12 => ⟨S2x256x16x64x512, .f32⟩
  | 13 => ⟨S_, .f32⟩
  | 14 => ⟨S2x256x16x64, .f32⟩
  | 15 => ⟨S2x256x16x64x1, .f32⟩
  | 16 => ⟨S2x256x16x64x512, .f32⟩
  | 17 => ⟨S2x256x16x64x512, .f32⟩
  | 18 => ⟨S2x256x16x64x512, .bf16⟩
  | 19 => ⟨S2x256x16x64x64, .f32⟩
  | 20 => ⟨S2x256x64x16x64, .f32⟩
  | 21 => ⟨S2x16384x1024, .f32⟩
  | 22 => ⟨S2x16384x1024, .bf16⟩
  | _ => ⟨S2x16384x6144, .bf16⟩

abbrev hbmTy (i : Nat) : BufTy := match i / 128 with
  | 0 => hbmTy0_0 i
  | 1 => hbmTy0_1 i
  | _ => ⟨S2x16384x6144, .bf16⟩

abbrev bufTy : (tb : Table) → Fin (tcTables nBuf tb) → BufTy
  | .hbm, ⟨i, _⟩ => hbmTy i
  | _, _ => ⟨S2x16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_c_11 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_12 : Ref sig .tc := ⟨.hbm, 80, rfl⟩
abbrev main_v50 : Ref sig .tc := ⟨.hbm, 81, rfl⟩
abbrev main_v51 : Ref sig .tc := ⟨.hbm, 82, rfl⟩
abbrev main_c_13 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_v58 : Ref sig .tc := ⟨.hbm, 91, rfl⟩
abbrev main_v59 : Ref sig .tc := ⟨.hbm, 92, rfl⟩
abbrev main_c_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_c_19 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v89 : Ref sig .tc := ⟨.hbm, 131, rfl⟩
abbrev main_cst_20 : Ref sig .tc := ⟨.hbm, 132, rfl⟩
abbrev main_v90 : Ref sig .tc := ⟨.hbm, 133, rfl⟩
abbrev main_cst_21 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_22 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩

abbrev nD : Nat := 1
abbrev τ : Topo := Topo.v7x

variable {F : FTy → Type} [FloatOps F]
-- ==== Experts.lean ====
abbrev S16x4096x2048 : Shape := ⟨3, ![16, 4096, 2048]⟩
abbrev S16x2048x5504 : Shape := ⟨3, ![16, 2048, 5504]⟩
abbrev S16x5504x2048 : Shape := ⟨3, ![16, 5504, 2048]⟩
abbrev S16x4096 : Shape := ⟨2, ![16, 4096]⟩
abbrev S16x4096x1 : Shape := ⟨3, ![16, 4096, 1]⟩
abbrev S1x1024x2048 : Shape := ⟨3, ![1, 1024, 2048]⟩
abbrev S1x2048x512 : Shape := ⟨3, ![1, 2048, 512]⟩
abbrev S1x5504x512 : Shape := ⟨3, ![1, 5504, 512]⟩
abbrev S1x1024x1 : Shape := ⟨3, ![1, 1024, 1]⟩
abbrev S1x1024x512 : Shape := ⟨3, ![1, 1024, 512]⟩
abbrev S1024x5632 : Shape := ⟨2, ![1024, 5632]⟩
abbrev S1024x2048 : Shape := ⟨2, ![1024, 2048]⟩
abbrev S2048x512 : Shape := ⟨2, ![2048, 512]⟩
abbrev S1024x512 : Shape := ⟨2, ![1024, 512]⟩
abbrev S1024x5504 : Shape := ⟨2, ![1024, 5504]⟩
abbrev S5504x512 : Shape := ⟨2, ![5504, 512]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S16x4096x2048, .bf16⟩
  | .hbm, ⟨1, _⟩ => ⟨S16x2048x5504, .bf16⟩
  | .hbm, ⟨2, _⟩ => ⟨S16x2048x5504, .bf16⟩
  | .hbm, ⟨3, _⟩ => ⟨S16x5504x2048, .bf16⟩
  | .hbm, ⟨4, _⟩ => ⟨S16x4096, .f32⟩
  | .hbm, ⟨5, _⟩ => ⟨S16x4096x1, .f32⟩
  | .hbm, ⟨6, _⟩ => ⟨S16x4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x5504x512, .bf16⟩
  | .local _ .vmem, ⟨7, _⟩ => ⟨S1x5504x512, .bf16⟩
  | .local _ .vmem, ⟨8, _⟩ => ⟨S1x1024x1, .f32⟩
  | .local _ .vmem, ⟨9, _⟩ => ⟨S1x1024x1, .f32⟩
  | .local _ .vmem, ⟨10, _⟩ => ⟨S1x1024x512, .bf16⟩
  | .local _ .vmem, ⟨11, _⟩ => ⟨S1x1024x512, .bf16⟩
  | .local _ .vmem, ⟨12, _⟩ => ⟨S1024x5632, .bf16⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 15], ![false, false, false]⟩

def k0_cond1 (i : grid0.Coords) : BitVec 1 :=
  let arg2 : BitVec 32 := BitVec.ofNat 32 (i 2).val
  let c11_i32 : BitVec 32 := 11#32
  let v0 : BitVec 1 := Scalar.cmpi .slt arg2 c11_i32
  let v1 : BitVec 32 := Scalar.extui v0
  let c0_i32 : BitVec 32 := 0#32
  let v2 : BitVec 1 := Scalar.cmpi .ne v1 c0_i32
  v2

def k0_mult1 (i : grid0.Coords) : BitVec 32 :=
  let arg2 : BitVec 32 := BitVec.ofNat 32 (i 2).val
  let c512_i32 : BitVec 32 := 512#32
  let v18 : BitVec 32 := Scalar.muli arg2 c512_i32
  v18
def k0_off1 (i : grid0.Coords) : Fin 2 → Nat :=
  let c0_11 : Index := 0#32
  let arg2 : BitVec 32 := BitVec.ofNat 32 (i 2).val
  let c512_i32 : BitVec 32 := 512#32
  let v18 : BitVec 32 := Scalar.muli arg2 c512_i32
  let v19 : BitVec 32 := v18
  let v20 : Index := Scalar.indexCast v19
  ![0, v20.toNat]
def k0_cond2 (i : grid0.Coords) : BitVec 1 :=
  let arg2 : BitVec 32 := BitVec.ofNat 32 (i 2).val
  let c11_i32_0 : BitVec 32 := 11#32
  let v3 : BitVec 1 := Scalar.cmpi .sge arg2 c11_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.subi arg2 c11_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.subi arg2 c11_i32
  let c0_i32 : BitVec 32 := 0#32
  let v1 : BitVec 32 := Scalar.maxsi v0 c0_i32
  let c0_i32_0 : BitVec 32 := 0#32
  ![arg0.toNat, arg1.toNat, v1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x5504x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ExpertsReferenceIdeal.lean ====
abbrev S16x4096x2048 : Shape := ⟨3, ![16, 4096, 2048]⟩
abbrev S16x2048x5504 : Shape := ⟨3, ![16, 2048, 5504]⟩
abbrev S16x5504x2048 : Shape := ⟨3, ![16, 5504, 2048]⟩
abbrev S16x4096 : Shape := ⟨2, ![16, 4096]⟩
abbrev S16x4096x5504 : Shape := ⟨3, ![16, 4096, 5504]⟩
abbrev S_ : Shape := ⟨0, ![]⟩
abbrev S16x4096x1 : Shape := ⟨3, ![16, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x4096x2048, .bf16⟩
  | .hbm, ⟨1, _⟩ => ⟨S16x2048x5504, .bf16⟩
  | .hbm, ⟨2, _⟩ => ⟨S16x2048x5504, .bf16⟩
  | .hbm, ⟨3, _⟩ => ⟨S16x5504x2048, .bf16⟩
  | .hbm, ⟨4, _⟩ => ⟨S16x4096, .f32⟩
  | .hbm, ⟨5, _⟩ => ⟨S16x4096x5504, .f32⟩
  | .hbm, ⟨6, _⟩ => ⟨S16x4096x5504, .f32⟩
  | .hbm, ⟨7, _⟩ => ⟨S16x4096x5504, .f32⟩
  | .hbm, ⟨8, _⟩ => ⟨S16x4096x5504, .f32⟩
  | .hbm, ⟨9, _⟩ => ⟨S_, .f32⟩
  | .hbm, ⟨10, _⟩ => ⟨S16x4096x5504, .f32⟩
  | .hbm, ⟨11, _⟩ => ⟨S16x4096x5504, .f32⟩
  | .hbm, ⟨12, _⟩ => ⟨S_, .f32⟩
  | .hbm, ⟨13, _⟩ => ⟨S16x4096x5504, .f32⟩
  | .hbm, ⟨14, _⟩ => ⟨S16x4096x5504, .f32⟩
  | .hbm, ⟨15, _⟩ => ⟨S16x4096x5504, .f32⟩
  | .hbm, ⟨16, _⟩ => ⟨S16x4096x5504, .f32⟩
  | .hbm, ⟨17, _⟩ => ⟨S16x4096x5504, .bf16⟩
  | .hbm, ⟨18, _⟩ => ⟨S16x4096x2048, .f32⟩
  | .hbm, ⟨19, _⟩ => ⟨S16x4096x1, .f32⟩
  | .hbm, ⟨20, _⟩ => ⟨S16x4096x2048, .f32⟩
  | .hbm, ⟨21, _⟩ => ⟨S16x4096x2048, .f32⟩
  | .hbm, ⟨22, _⟩ => ⟨S16x4096x2048, .bf16⟩
  | _, _ => ⟨S16x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Project.lean ====
abbrev S2x16384x2048 : Shape := ⟨3, ![2, 16384, 2048]⟩
abbrev S2048 : Shape := ⟨1, ![2048]⟩
abbrev S2x2048 : Shape := ⟨2, ![2, 2048]⟩
abbrev S2048x6144 : Shape := ⟨2, ![2048, 6144]⟩
abbrev S64 : Shape := ⟨1, ![64]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x2048 : Shape := ⟨2, ![1, 2048]⟩
abbrev S2x1x2048 : Shape := ⟨3, ![2, 1, 2048]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S2x16384x6144 : Shape := ⟨3, ![2, 16384, 6144]⟩
abbrev S1x1024x2048 : Shape := ⟨3, ![1, 1024, 2048]⟩
abbrev S1x1x2048 : Shape := ⟨3, ![1, 1, 2048]⟩
abbrev S2048x1024 : Shape := ⟨2, ![2048, 1024]⟩
abbrev S1x1024x1024 : Shape := ⟨3, ![1, 1024, 1024]⟩
abbrev S1024x2048 : Shape := ⟨2, ![1024, 2048]⟩
abbrev S1024x1 : Shape := ⟨2, ![1024, 1]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 65
  | .vmem => 15
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x6144, .bf16⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S128, .i32⟩
  | .hbm, ⟨11, _⟩ => ⟨S128x1, .i32⟩
  | .hbm, ⟨12, _⟩ => ⟨S_, .i32⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S128x1, .i32⟩
  | .hbm, ⟨17, _⟩ => ⟨S_, .i32⟩
  | .hbm, ⟨18, _⟩ => ⟨S128x1, .i32⟩
  | .hbm, ⟨19, _⟩ => ⟨S128x1, .i1⟩
  | .hbm, ⟨20, _⟩ => ⟨S128x1, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x1, .i1⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x1, .i32⟩
  | .hbm, ⟨30, _⟩ => ⟨S1x128, .i32⟩
  | .hbm, ⟨31, _⟩ => ⟨S_, .i32⟩
  | .hbm, ⟨32, _⟩ => ⟨S_, .i32⟩
  | .hbm, ⟨33, _⟩ => ⟨S1x128, .i32⟩
  | .hbm, ⟨34, _⟩ => ⟨S1x128, .i32⟩
  | .hbm, ⟨35, _⟩ => ⟨S1x128, .i32⟩
  | .hbm, ⟨36, _⟩ => ⟨S_, .i32⟩
  | .hbm, ⟨37, _⟩ => ⟨S1x128, .i32⟩
  | .hbm, ⟨38, _⟩ => ⟨S1x128, .i1⟩
  | .hbm, ⟨39, _⟩ => ⟨S1x128, .i32⟩
  | .hbm, ⟨40, _⟩ => ⟨S1x128, .i32⟩
  | .hbm, ⟨41, _⟩ => ⟨S_, .i32⟩
  | .hbm, ⟨42, _⟩ => ⟨S1x128, .i32⟩
  | .hbm, ⟨43, _⟩ => ⟨S1x128, .i1⟩
  | .hbm, ⟨44, _⟩ => ⟨S1x128, .i1⟩
  | .hbm, ⟨45, _⟩ => ⟨S_, .i32⟩
  | .hbm, ⟨46, _⟩ => ⟨S1x128, .i32⟩
  | .hbm, ⟨47, _⟩ => ⟨S1x128, .i32⟩
  | .hbm, ⟨48, _⟩ => ⟨S1x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .bf16⟩
  | .hbm, ⟨53, _⟩ => ⟨S1x2048, .f32⟩
  | .hbm, ⟨54, _⟩ => ⟨S2x1x2048, .f32⟩
  | .hbm, ⟨55, _⟩ => ⟨S2x1x2048, .f32⟩
  | .hbm, ⟨56, _⟩ => ⟨S1x64, .f32⟩
  | .hbm, ⟨57, _⟩ => ⟨S16x64, .f32⟩
  | .hbm, ⟨58, _⟩ => ⟨S1024, .f32⟩
  | .hbm, ⟨59, _⟩ => ⟨S1x1024, .f32⟩
  | .hbm, ⟨60, _⟩ => ⟨S1x64, .f32⟩
  | .hbm, ⟨61, _⟩ => ⟨S16x64, .f32⟩
  | .hbm, ⟨62, _⟩ => ⟨S1024, .f32⟩
  | .hbm, ⟨63, _⟩ => ⟨S1x1024, .f32⟩
  | .hbm, ⟨64, _⟩ => ⟨S2x16384x6144, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S128x128, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![2, 16, 6], ![false, false, false]⟩

def k0_cond2 (i : grid0.Coords) : BitVec 1 :=
  let arg2 : BitVec 32 := BitVec.ofNat 32 (i 2).val
  let c1024_i32 : BitVec 32 := 1024#32
  let v3 : BitVec 32 := Scalar.muli arg2 c1024_i32
  let c3072_i32 : BitVec 32 := 3072#32
  let v4 : BitVec 1 := Scalar.cmpi .sge v3 c3072_i32
  let c4096_i32 : BitVec 32 := 4096#32
  let v5 : BitVec 1 := Scalar.cmpi .slt v3 c4096_i32
  let v6 : BitVec 1 := Scalar.andi v4 v5
  let c4096_i32_1 : BitVec 32 := 4096#32
  let v7 : BitVec 1 := Scalar.cmpi .sge v3 c4096_i32_1
  let c5120_i32 : BitVec 32 := 5120#32
  let v8 : BitVec 1 := Scalar.cmpi .slt v3 c5120_i32
  let v9 : BitVec 1 := Scalar.andi v7 v8
  let v10 : BitVec 1 := Scalar.ori v6 v9
  let v_true : BitVec 1 := 1#1
  let v11 : BitVec 1 := Scalar.xori v10 v_true
  let v12 : BitVec 32 := Scalar.extui v11
  let c0_i32_2 : BitVec 32 := 0#32
  let v13 : BitVec 1 := Scalar.cmpi .ne v12 c0_i32_2
  v13

def k0_cond3 (i : grid0.Coords) : BitVec 1 :=
  let arg2 : BitVec 32 := BitVec.ofNat 32 (i 2).val
  let c1024_i32 : BitVec 32 := 1024#32
  let v3 : BitVec 32 := Scalar.muli arg2 c1024_i32
  let c3072_i32 : BitVec 32 := 3072#32
  let v4 : BitVec 1 := Scalar.cmpi .sge v3 c3072_i32
  let c4096_i32 : BitVec 32 := 4096#32
  let v5 : BitVec 1 := Scalar.cmpi .slt v3 c4096_i32
  let v6 : BitVec 1 := Scalar.andi v4 v5
  let c4096_i32_1 : BitVec 32 := 4096#32
  let v7 : BitVec 1 := Scalar.cmpi .sge v3 c4096_i32_1
  let c5120_i32 : BitVec 32 := 5120#32
  let v8 : BitVec 1 := Scalar.cmpi .slt v3 c5120_i32
  let v9 : BitVec 1 := Scalar.andi v7 v8
  let v10 : BitVec 1 := Scalar.ori v6 v9
  let v14 : BitVec 32 := Scalar.extui v10
  let c0_i32_3 : BitVec 32 := 0#32
  let v15 : BitVec 1 := Scalar.cmpi .ne v14 c0_i32_3
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ProjectReferenceIdeal.lean ====
abbrev S2x16384x2048 : Shape := ⟨3, ![2, 16384, 2048]⟩
abbrev S2048 : Shape := ⟨1, ![2048]⟩
abbrev S2x2048 : Shape := ⟨2, ![2, 2048]⟩
abbrev S2048x6144 : Shape := ⟨2, ![2048, 6144]⟩
abbrev S64 : Shape := ⟨1, ![64]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x16384x6144 : Shape := ⟨3, ![2, 16384, 6144]⟩
abbrev S2x16384x3072 : Shape := ⟨3, ![2, 16384, 3072]⟩
abbrev S2x16384x1024 : Shape := ⟨3, ![2, 16384, 1024]⟩
abbrev S2x16384x16x64 : Shape := ⟨4, ![2, 16384, 16, 64]⟩
abbrev S2x16384x16 : Shape := ⟨3, ![2, 16384, 16]⟩
abbrev S2x16384x16x1 : Shape := ⟨4, ![2, 16384, 16, 1]⟩
abbrev S1x1x1x64 : Shape := ⟨4, ![1, 1, 1, 64]⟩

abbrev nBuf : Space → Nat
  | .hbm => 80
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x6144, .bf16⟩
  | .hbm, ⟨5, _⟩ => ⟨S64, .f32⟩
  | .hbm, ⟨6, _⟩ => ⟨S64, .f32⟩
  | .hbm, ⟨7, _⟩ => ⟨S2x16384x2048, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x2048, .f32⟩
  | .hbm, ⟨19, _⟩ => ⟨S2x16384x2048, .f32⟩
  | .hbm, ⟨20, _⟩ => ⟨S1x1x2048, .f32⟩
  | .hbm, ⟨21, _⟩ => ⟨S2x16384x2048, .f32⟩
  | .hbm, ⟨22, _⟩ => ⟨S2x16384x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x16384x2048, .f32⟩
  | .hbm, ⟨28, _⟩ => ⟨S2x16384x2048, .f32⟩
  | .hbm, ⟨29, _⟩ => ⟨S2x1x2048, .f32⟩
  | .hbm, ⟨30, _⟩ => ⟨S2x16384x2048, .f32⟩
  | .hbm, ⟨31, _⟩ => ⟨S2x16384x2048, .f32⟩
  | .hbm, ⟨32, _⟩ => ⟨S2x16384x2048, .bf16⟩
  | .hbm, ⟨33, _⟩ => ⟨S2x16384x6144, .f32⟩
  | .hbm, ⟨34, _⟩ => ⟨S2x16384x3072, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x16x64, .f32⟩
  | .hbm, ⟨39, _⟩ => ⟨S2x16384x16x64, .f32⟩
  | .hbm, ⟨40, _⟩ => ⟨S_, .f32⟩
  | .hbm, ⟨41, _⟩ => ⟨S2x16384x16, .f32⟩
  | .hbm, ⟨42, _⟩ => ⟨S2x16384x16x1, .f32⟩
  | .hbm, ⟨43, _⟩ => ⟨S_, .f32⟩
  | .hbm, ⟨44, _⟩ => ⟨S2x16384x16x1, .f32⟩
  | .hbm, ⟨45, _⟩ => ⟨S2x16384x16x1, .f32⟩
  | .hbm, ⟨46, _⟩ => ⟨S_, .f32⟩
  | .hbm, ⟨47, _⟩ => ⟨S2x16384x16x1, .f32⟩
  | .hbm, ⟨48, _⟩ => ⟨S2x16384x16x1, .f32⟩
  | .hbm, ⟨49, _⟩ => ⟨S2x16384x16x1, .f32⟩
  | .hbm, ⟨50, _⟩ => ⟨S2x16384x16x64, .f32⟩
  | .hbm, ⟨51, _⟩ => ⟨S2x16384x16x64, .f32⟩
  | .hbm, ⟨52, _⟩ => ⟨S1x1x1x64, .f32⟩
  | .hbm, ⟨53, _⟩ => ⟨S2x16384x16x64, .f32⟩
  | .hbm, ⟨54, _⟩ => ⟨S2x16384x16x64, .f32⟩
  | .hbm, ⟨55, _⟩ => ⟨S_, .f32⟩
  | .hbm, ⟨56, _⟩ => ⟨S2x16384x16x64, .f32⟩
  | .hbm, ⟨57, _⟩ => ⟨S2x16384x16x64, .f32⟩
  | .hbm, ⟨58, _⟩ => ⟨S2x16384x16x64, .f32⟩
  | .hbm, ⟨59, _⟩ => ⟨S2x16384x16x64, .f32⟩
  | .hbm, ⟨60, _⟩ => ⟨S_, .f32⟩
  | .hbm, ⟨61, _⟩ => ⟨S2x16384x16, .f32⟩
  | .hbm, ⟨62, _⟩ => ⟨S2x16384x16x1, .f32⟩
  | .hbm, ⟨63, _⟩ => ⟨S_, .f32⟩
  | .hbm, ⟨64, _⟩ => ⟨S2x16384x16x1, .f32⟩
  | .hbm, ⟨65, _⟩ => ⟨S2x16384x16x1, .f32⟩
  | .hbm, ⟨66, _⟩ => ⟨S_, .f32⟩
  | .hbm, ⟨67, _⟩ => ⟨S2x16384x16x1, .f32⟩
  | .hbm, ⟨68, _⟩ => ⟨S2x16384x16x1, .f32⟩
  | .hbm, ⟨69, _⟩ => ⟨S2x16384x16x1, .f32⟩
  | .hbm, ⟨70, _⟩ => ⟨S2x16384x16x64, .f32⟩
  | .hbm, ⟨71, _⟩ => ⟨S2x16384x16x64, .f32⟩
  | .hbm, ⟨72, _⟩ => ⟨S1x1x1x64, .f32⟩
  | .hbm, ⟨73, _⟩ => ⟨S2x16384x16x64, .f32⟩
  | .hbm, ⟨74, _⟩ => ⟨S2x16384x16x64, .f32⟩
  | .hbm, ⟨75, _⟩ => ⟨S2x16384x3072, .f32⟩
  | .hbm, ⟨76, _⟩ => ⟨S2x16384x1024, .f32⟩
  | .hbm, ⟨77, _⟩ => ⟨S2x16384x1024, .f32⟩
  | .hbm, ⟨78, _⟩ => ⟨S2x16384x6144, .f32⟩
  | .hbm, ⟨79, _⟩ => ⟨S2x16384x6144, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Mix.lean ====
abbrev S2x16384x1024 : Shape := ⟨3, ![2, 16384, 1024]⟩
abbrev S2x16384x2048 : Shape := ⟨3, ![2, 16384, 2048]⟩
abbrev S1024 : Shape := ⟨1, ![1024]⟩
abbrev S2048x2048 : Shape := ⟨2, ![2048, 2048]⟩
abbrev S2x2048 : Shape := ⟨2, ![2, 2048]⟩
abbrev S2048 : Shape := ⟨1, ![2048]⟩
abbrev S2048x16 : Shape := ⟨2, ![2048, 16]⟩
abbrev S1x1024 : Shape := ⟨2, ![1, 1024]⟩
abbrev S1024x2048 : Shape := ⟨2, ![1024, 2048]⟩
abbrev S2x1x2048 : Shape := ⟨3, ![2, 1, 2048]⟩
abbrev S1x2048 : Shape := ⟨2, ![1, 2048]⟩
abbrev S2x16384x16 : Shape := ⟨3, ![2, 16384, 16]⟩
abbrev S1x512x1024 : Shape := ⟨3, ![1, 512, 1024]⟩
abbrev S1x512x2048 : Shape := ⟨3, ![1, 512, 2048]⟩
abbrev S1x1x2048 : Shape := ⟨3, ![1, 1, 2048]⟩
abbrev S1x512x16 : Shape := ⟨3, ![1, 512, 16]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S2048x32 : Shape := ⟨2, ![2048, 32]⟩
abbrev S512x32 : Shape := ⟨2, ![512, 32]⟩
abbrev S512x16 : Shape := ⟨2, ![512, 16]⟩

abbrev nBuf : Space → Nat
  | .hbm => 22
  | .vmem => 24
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x2048, .f32⟩
  | .hbm, ⟨3, _⟩ => ⟨S1024, .f32⟩
  | .hbm, ⟨4, _⟩ => ⟨S1024, .f32⟩
  | .hbm, ⟨5, _⟩ => ⟨S2048x2048, .bf16⟩
  | .hbm, ⟨6, _⟩ => ⟨S2x2048, .f32⟩
  | .hbm, ⟨7, _⟩ => ⟨S2048, .f32⟩
  | .hbm, ⟨8, _⟩ => ⟨S2x2048, .f32⟩
  | .hbm, ⟨9, _⟩ => ⟨S2x2048, .f32⟩
  | .hbm, ⟨10, _⟩ => ⟨S2048x16, .f32⟩
  | .hbm, ⟨11, _⟩ => ⟨S1x1024, .f32⟩
  | .hbm, ⟨12, _⟩ => ⟨S1x1024, .f32⟩
  | .hbm, ⟨13, _⟩ => ⟨S1024x2048, .bf16⟩
  | .hbm, ⟨14, _⟩ => ⟨S1024x2048, .bf16⟩
  | .hbm, ⟨15, _⟩ => ⟨S2x1x2048, .f32⟩
  | .hbm, ⟨16, _⟩ => ⟨S1x2048, .f32⟩
  | .hbm, ⟨17, _⟩ => ⟨S2x1x2048, .f32⟩
  | .hbm, ⟨18, _⟩ => ⟨S2x1x2048, .f32⟩
  | .hbm, ⟨19, _⟩ => ⟨S2x16384x2048, .f32⟩
  | .hbm, ⟨20, _⟩ => ⟨S2x16384x2048, .bf16⟩
  | .hbm, ⟨21, _⟩ => ⟨S2x16384x16, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S1024x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S2048x16, .f32⟩
  | .local _ .vmem, ⟨18, _⟩ => ⟨S1x512x2048, .f32⟩
  | .local _ .vmem, ⟨19, _⟩ => ⟨S1x512x2048, .f32⟩
  | .local _ .vmem, ⟨20, _⟩ => ⟨S1x512x2048, .bf16⟩
  | .local _ .vmem, ⟨21, _⟩ => ⟨S1x512x2048, .bf16⟩
  | .local _ .vmem, ⟨22, _⟩ => ⟨S1x512x16, .f32⟩
  | .local _ .vmem, ⟨23, _⟩ => ⟨S1x512x16, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2048x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixReferenceIdeal.lean ====
abbrev S2x16384x1024 : Shape := ⟨3, ![2, 16384, 1024]⟩
abbrev S2x16384x2048 : Shape := ⟨3, ![2, 16384, 2048]⟩
abbrev S1024 : Shape := ⟨1, ![1024]⟩
abbrev S2048x2048 : Shape := ⟨2, ![2048, 2048]⟩
abbrev S2x2048 : Shape := ⟨2, ![2, 2048]⟩
abbrev S2048 : Shape := ⟨1, ![2048]⟩
abbrev S2048x16 : Shape := ⟨2, ![2048, 16]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x2048 : Shape := ⟨3, ![2, 1, 2048]⟩
abbrev S1x1x2048 : Shape := ⟨3, ![1, 1, 2048]⟩
abbrev S2x16384x16 : Shape := ⟨3, ![2, 16384, 16]⟩

abbrev nBuf : Space → Nat
  | .hbm => 93
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x2048, .f32⟩
  | .hbm, ⟨3, _⟩ => ⟨S1024, .f32⟩
  | .hbm, ⟨4, _⟩ => ⟨S1024, .f32⟩
  | .hbm, ⟨5, _⟩ => ⟨S2048x2048, .bf16⟩
  | .hbm, ⟨6, _⟩ => ⟨S2x2048, .f32⟩
  | .hbm, ⟨7, _⟩ => ⟨S2048, .f32⟩
  | .hbm, ⟨8, _⟩ => ⟨S2x2048, .f32⟩
  | .hbm, ⟨9, _⟩ => ⟨S2x2048, .f32⟩
  | .hbm, ⟨10, _⟩ => ⟨S2048x16, .f32⟩
  | .hbm, ⟨11, _⟩ => ⟨S2x16384x1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S_, .f32⟩
  | .hbm, ⟨31, _⟩ => ⟨S2x16384, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S_, .f32⟩
  | .hbm, ⟨37, _⟩ => ⟨S2x16384x1, .f32⟩
  | .hbm, ⟨38, _⟩ => ⟨S2x16384x1, .f32⟩
  | .hbm, ⟨39, _⟩ => ⟨S2x16384x1, .f32⟩
  | .hbm, ⟨40, _⟩ => ⟨S2x16384x1024, .f32⟩
  | .hbm, ⟨41, _⟩ => ⟨S2x16384x1024, .f32⟩
  | .hbm, ⟨42, _⟩ => ⟨S1x1x1024, .f32⟩
  | .hbm, ⟨43, _⟩ => ⟨S2x16384x1024, .f32⟩
  | .hbm, ⟨44, _⟩ => ⟨S2x16384x1024, .f32⟩
  | .hbm, ⟨45, _⟩ => ⟨S2x16384x2048, .f32⟩
  | .hbm, ⟨46, _⟩ => ⟨S2x16384x2048, .bf16⟩
  | .hbm, ⟨47, _⟩ => ⟨S2x16384x2048, .f32⟩
  | .hbm, ⟨48, _⟩ => ⟨S2x1x2048, .f32⟩
  | .hbm, ⟨49, _⟩ => ⟨S2x16384x2048, .f32⟩
  | .hbm, ⟨50, _⟩ => ⟨S2x16384x2048, .f32⟩
  | .hbm, ⟨51, _⟩ => ⟨S2x16384x2048, .f32⟩
  | .hbm, ⟨52, _⟩ => ⟨S2x16384x2048, .f32⟩
  | .hbm, ⟨53, _⟩ => ⟨S_, .f32⟩
  | .hbm, ⟨54, _⟩ => ⟨S2x16384, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S_, .f32⟩
  | .hbm, ⟨60, _⟩ => ⟨S2x16384x1, .f32⟩
  | .hbm, ⟨61, _⟩ => ⟨S2x16384x1, .f32⟩
  | .hbm, ⟨62, _⟩ => ⟨S2x16384x1, .f32⟩
  | .hbm, ⟨63, _⟩ => ⟨S2x16384x2048, .f32⟩
  | .hbm, ⟨64, _⟩ => ⟨S2x16384x2048, .f32⟩
  | .hbm, ⟨65, _⟩ => ⟨S1x1x2048, .f32⟩
  | .hbm, ⟨66, _⟩ => ⟨S2x16384x2048, .f32⟩
  | .hbm, ⟨67, _⟩ => ⟨S2x16384x2048, .f32⟩
  | .hbm, ⟨68, _⟩ => ⟨S2x1x2048, .f32⟩
  | .hbm, ⟨69, _⟩ => ⟨S_, .f32⟩
  | .hbm, ⟨70, _⟩ => ⟨S2x1x2048, .f32⟩
  | .hbm, ⟨71, _⟩ => ⟨S2x1x2048, .f32⟩
  | .hbm, ⟨72, _⟩ => ⟨S2x16384x2048, .f32⟩
  | .hbm, ⟨73, _⟩ => ⟨S2x16384x2048, .f32⟩
  | .hbm, ⟨74, _⟩ => ⟨S2x1x2048, .f32⟩
  | .hbm, ⟨75, _⟩ => ⟨S2x16384x2048, .f32⟩
  | .hbm, ⟨76, _⟩ => ⟨S2x16384x2048, .f32⟩
  | .hbm, ⟨77, _⟩ => ⟨S2x16384x16, .f32⟩
  | .hbm, ⟨78, _⟩ => ⟨S_, .f32⟩
  | .hbm, ⟨79, _⟩ => ⟨S2x16384, .f32⟩
  | .hbm, ⟨80, _⟩ => ⟨S_, .f32⟩
  | .hbm, ⟨81, _⟩ => ⟨S2x16384, .f32⟩
  | .hbm, ⟨82, _⟩ => ⟨S2x16384, .f32⟩
  | .hbm, ⟨83, _⟩ => ⟨S2x16384x1, .f32⟩
  | .hbm, ⟨84, _⟩ => ⟨S2x16384x16, .f32⟩
  | .hbm, ⟨85, _⟩ => ⟨S2x16384x16, .f32⟩
  | .hbm, ⟨86, _⟩ => ⟨S2x16384x16, .f32⟩
  | .hbm, ⟨87, _⟩ => ⟨S_, .f32⟩
  | .hbm, ⟨88, _⟩ => ⟨S2x16384, .f32⟩
  | .hbm, ⟨89, _⟩ => ⟨S2x16384x1, .f32⟩
  | .hbm, ⟨90, _⟩ => ⟨S2x16384x16, .f32⟩
  | .hbm, ⟨91, _⟩ => ⟨S2x16384x16, .f32⟩
  | .hbm, ⟨92, _⟩ => ⟨S2x16384x2048, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Ada.lean ====
abbrev S3x2048 : Shape := ⟨2, ![3, 2048]⟩
abbrev S2048x12288 : Shape := ⟨2, ![2048, 12288]⟩
abbrev S12288 : Shape := ⟨1, ![12288]⟩
abbrev S2048x3 : Shape := ⟨2, ![2048, 3]⟩
abbrev S1x12288 : Shape := ⟨2, ![1, 12288]⟩
abbrev S3x12288 : Shape := ⟨2, ![3, 12288]⟩
abbrev S2048x1024 : Shape := ⟨2, ![2048, 1024]⟩
abbrev S1x1024 : Shape := ⟨2, ![1, 1024]⟩
abbrev S3x1024 : Shape := ⟨2, ![3, 1024]⟩
abbrev S2048x1 : Shape := ⟨2, ![2048, 1]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S3x2048, .f32⟩
  | .hbm, ⟨1, _⟩ => ⟨S2048x12288, .f32⟩
  | .hbm, ⟨2, _⟩ => ⟨S12288, .f32⟩
  | .hbm, ⟨3, _⟩ => ⟨S2048x3, .f32⟩
  | .hbm, ⟨4, _⟩ => ⟨S1x12288, .f32⟩
  | .hbm, ⟨5, _⟩ => ⟨S3x12288, .f32⟩
  | .local _ .vmem, ⟨0, _⟩ => ⟨S2048x3, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S3x1024, .f32⟩
  | .local _ .vmem, ⟨6, _⟩ => ⟨S3x1024, .f32⟩
  | _, _ => ⟨S3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S3x2048 : Shape := ⟨2, ![3, 2048]⟩
abbrev S2048x12288 : Shape := ⟨2, ![2048, 12288]⟩
abbrev S12288 : Shape := ⟨1, ![12288]⟩
abbrev S_ : Shape := ⟨0, ![]⟩
abbrev S3x12288 : Shape := ⟨2, ![3, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S3x2048, .f32⟩
  | .hbm, ⟨1, _⟩ => ⟨S2048x12288, .f32⟩
  | .hbm, ⟨2, _⟩ => ⟨S12288, .f32⟩
  | .hbm, ⟨3, _⟩ => ⟨S3x2048, .f32⟩
  | .hbm, ⟨4, _⟩ => ⟨S3x2048, .f32⟩
  | .hbm, ⟨5, _⟩ => ⟨S_, .f32⟩
  | .hbm, ⟨6, _⟩ => ⟨S3x2048, .f32⟩
  | .hbm, ⟨7, _⟩ => ⟨S3x2048, .f32⟩
  | .hbm, ⟨8, _⟩ => ⟨S_, .f32⟩
  | .hbm, ⟨9, _⟩ => ⟨S3x2048, .f32⟩
  | .hbm, ⟨10, _⟩ => ⟨S3x2048, .f32⟩
  | .hbm, ⟨11, _⟩ => ⟨S3x2048, .f32⟩
  | .hbm, ⟨12, _⟩ => ⟨S3x12288, .f32⟩
  | .hbm, ⟨13, _⟩ => ⟨S1x12288, .f32⟩
  | .hbm, ⟨14, _⟩ => ⟨S3x12288, .f32⟩
  | .hbm, ⟨15, _⟩ => ⟨S3x12288, .f32⟩
  | _, _ => ⟨S3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Short.lean ====
abbrev S2x16384x6144 : Shape := ⟨3, ![2, 16384, 6144]⟩
abbrev S3x3072 : Shape := ⟨2, ![3, 3072]⟩
abbrev S3072 : Shape := ⟨1, ![3072]⟩
abbrev S3x3x1024 : Shape := ⟨3, ![3, 3, 1024]⟩
abbrev S3x1024 : Shape := ⟨2, ![3, 1024]⟩
abbrev S2x16384x1024 : Shape := ⟨3, ![2, 16384, 1024]⟩
abbrev S1x1024x512 : Shape := ⟨3, ![1, 1024, 512]⟩
abbrev S1x16x512 : Shape := ⟨3, ![1, 16, 512]⟩
abbrev S3x3x512 : Shape := ⟨3, ![3, 3, 512]⟩
abbrev S3x512 : Shape := ⟨2, ![3, 512]⟩
abbrev S1024x1 : Shape := ⟨2, ![1024, 1]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 26
  | .smem => 0
  | _ => 0

abbrev bufTy : (tb : Table) → Fin (tcTables nBuf tb) → BufTy
  | .hbm, ⟨0, _⟩ => ⟨S2x16384x6144, .bf16⟩
  | .hbm, ⟨1, _⟩ => ⟨S3x3072, .f32⟩
  | .hbm, ⟨2, _⟩ => ⟨S3072, .f32⟩
  | .hbm, ⟨3, _⟩ => ⟨S3x3x1024, .f32⟩
  | .hbm, ⟨4, _⟩ => ⟨S3x1024, .f32⟩
  | .hbm, ⟨5, _⟩ => ⟨S2x16384x1024, .bf16⟩
  | .hbm, ⟨6, _⟩ => ⟨S2x16384x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x512, .bf16⟩
  | .local _ .vmem, ⟨5, _⟩ => ⟨S1x16x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x16x512, .bf16⟩
  | .local _ .vmem, ⟨15, _⟩ => ⟨S1x16x512, .bf16⟩
  | .local _ .vmem, ⟨16, _⟩ => ⟨S1x16x512, .bf16⟩
  | .local _ .vmem, ⟨17, _⟩ => ⟨S1x16x512, .bf16⟩
  | .local _ .vmem, ⟨18, _⟩ => ⟨S3x3x512, .f32⟩
  | .local _ .vmem, ⟨19, _⟩ => ⟨S3x3x512, .f32⟩
  | .local _ .vmem, ⟨20, _⟩ => ⟨S3x512, .f32⟩
  | .local _ .vmem, ⟨21, _⟩ => ⟨S3x512, .f32⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | _, _ => ⟨S2x16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg2
  let c0_i32_1 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let v3 : BitVec 32 := Scalar.addi c0_i32 arg2
  let c0_i32_0 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg2
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c2_i32 : BitVec 32 := 2#32
  let v3 : BitVec 32 := Scalar.addi c2_i32 arg2
  let c0_i32 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg2
  let c0_i32_0 : BitVec 32 := 0#32
  ![arg0.toNat, v2.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c4_i32 : BitVec 32 := 4#32
  let v3 : BitVec 32 := Scalar.addi c4_i32 arg2
  let c0_i32 : BitVec 32 := 0#32
  ![arg0.toNat, v2.toNat, v3.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S3x3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== ShortReferenceIdeal.lean ====
abbrev S2x16384x6144 : Shape := ⟨3, ![2, 16384, 6144]⟩
abbrev S3x3072 : Shape := ⟨2, ![3, 3072]⟩
abbrev S3072 : Shape := ⟨1, ![3072]⟩
abbrev S2x16384x3072 : Shape := ⟨3, ![2, 16384, 3072]⟩
abbrev S_ : Shape := ⟨0, ![]⟩
abbrev S2x16386x3072 : Shape := ⟨3, ![2, 16386, 3072]⟩
abbrev S1x3072 : Shape := ⟨2, ![1, 3072]⟩
abbrev S1x1x3072 : Shape := ⟨3, ![1, 1, 3072]⟩
abbrev S2x16384x1024 : Shape := ⟨3, ![2, 16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x6144, .bf16⟩
  | .hbm, ⟨1, _⟩ => ⟨S3x3072, .f32⟩
  | .hbm, ⟨2, _⟩ => ⟨S3072, .f32⟩
  | .hbm, ⟨3, _⟩ => ⟨S2x16384x3072, .bf16⟩
  | .hbm, ⟨4, _⟩ => ⟨S2x16384x3072, .f32⟩
  | .hbm, ⟨5, _⟩ => ⟨S_, .i32⟩
  | .hbm, ⟨6, _⟩ => ⟨S_, .f32⟩
  | .hbm, ⟨7, _⟩ => ⟨S2x16386x3072, .f32⟩
  | .hbm, ⟨8, _⟩ => ⟨S1x3072, .f32⟩
  | .hbm, ⟨9, _⟩ => ⟨S3072, .f32⟩
  | .hbm, ⟨10, _⟩ => ⟨S2x16384x3072, .f32⟩
  | .hbm, ⟨11, _⟩ => ⟨S1x1x3072, .f32⟩
  | .hbm, ⟨12, _⟩ => ⟨S2x16384x3072, .f32⟩
  | .hbm, ⟨13, _⟩ => ⟨S2x16384x3072, .f32⟩
  | .hbm, ⟨14, _⟩ => ⟨S1x3072, .f32⟩
  | .hbm, ⟨15, _⟩ => ⟨S3072, .f32⟩
  | .hbm, ⟨16, _⟩ => ⟨S2x16384x3072, .f32⟩
  | .hbm, ⟨17, _⟩ => ⟨S1x1x3072, .f32⟩
  | .hbm, ⟨18, _⟩ => ⟨S2x16384x3072, .f32⟩
  | .hbm, ⟨19, _⟩ => ⟨S2x16384x3072, .f32⟩
  | .hbm, ⟨20, _⟩ => ⟨S2x16384x3072, .f32⟩
  | .hbm, ⟨21, _⟩ => ⟨S1x3072, .f32⟩
  | .hbm, ⟨22, _⟩ => ⟨S3072, .f32⟩
  | .hbm, ⟨23, _⟩ => ⟨S2x16384x3072, .f32⟩
  | .hbm, ⟨24, _⟩ => ⟨S1x1x3072, .f32⟩
  | .hbm, ⟨25, _⟩ => ⟨S2x16384x3072, .f32⟩
  | .hbm, ⟨26, _⟩ => ⟨S2x16384x3072, .f32⟩
  | .hbm, ⟨27, _⟩ => ⟨S2x16384x3072, .f32⟩
  | .hbm, ⟨28, _⟩ => ⟨S1x1x3072, .f32⟩
  | .hbm, ⟨29, _⟩ => ⟨S2x16384x3072, .f32⟩
  | .hbm, ⟨30, _⟩ => ⟨S2x16384x3072, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .bf16⟩
  | .hbm, ⟨36, _⟩ => ⟨S2x16384x1024, .bf16⟩
  | _, _ => ⟨S2x16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Gate.lean ====
abbrev S2x2x256x128x1024 : Shape := ⟨5, ![2, 2, 256, 128, 1024]⟩
abbrev S128x512 : Shape := ⟨2, ![128, 512]⟩
abbrev S2x16384x1024 : Shape := ⟨3, ![2, 16384, 1024]⟩
abbrev S1024 : Shape := ⟨1, ![1024]⟩
abbrev S2x512x131072 : Shape := ⟨3, ![2, 512, 131072]⟩
abbrev S2x128x131072 : Shape := ⟨3, ![2, 128, 131072]⟩
abbrev S1x1024 : Shape := ⟨2, ![1, 1024]⟩
abbrev S4x1024 : Shape := ⟨2, ![4, 1024]⟩
abbrev S4096 : Shape := ⟨1, ![4096]⟩
abbrev S1x4096 : Shape := ⟨2, ![1, 4096]⟩
abbrev S1x512x4096 : Shape := ⟨3, ![1, 512, 4096]⟩
abbrev S1x128x4096 : Shape := ⟨3, ![1, 128, 4096]⟩
abbrev S512x4096 : Shape := ⟨2, ![512, 4096]⟩
abbrev S128x4096 : Shape := ⟨2, ![128, 4096]⟩

abbrev nBuf : Space → Nat
  | .hbm => 13
  | .vmem => 10
  | .smem => 0
  | _ => 0

abbrev bufTy : (tb : Table) → Fin (tcTables nBuf tb) → BufTy
  | .hbm, ⟨0, _⟩ => ⟨S2x2x256x128x1024, .bf16⟩
  | .hbm, ⟨1, _⟩ => ⟨S128x512, .bf16⟩
  | .hbm, ⟨2, _⟩ => ⟨S2x16384x1024, .bf16⟩
  | .hbm, ⟨3, _⟩ => ⟨S2x16384x1024, .bf16⟩
  | .hbm, ⟨4, _⟩ => ⟨S1024, .f32⟩
  | .hbm, ⟨5, _⟩ => ⟨S2x512x131072, .bf16⟩
  | .hbm, ⟨6, _⟩ => ⟨S2x128x131072, .bf16⟩
  | .hbm, ⟨7, _⟩ => ⟨S2x128x131072, .bf16⟩
  | .hbm, ⟨8, _⟩ => ⟨S1x1024, .f32⟩
  | .hbm, ⟨9, _⟩ => ⟨S4x1024, .f32⟩
  | .hbm, ⟨10, _⟩ => ⟨S4096, .f32⟩
  | .hbm, ⟨11, _⟩ => ⟨S1x4096, .f32⟩
  | .hbm, ⟨12, _⟩ => ⟨S2x128x131072, .bf16⟩
  | .local _ .vmem, ⟨0, _⟩ => ⟨S1x512x4096, .bf16⟩
  | .local _ .vmem, ⟨1, _⟩ => ⟨S1x512x4096, .bf16⟩
  | .local _ .vmem, ⟨2, _⟩ => ⟨S128x512, .bf16⟩
  | .local _ .vmem, ⟨3, _⟩ => ⟨S1x128x4096, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x128x4096, .bf16⟩
  | .local _ .vmem, ⟨7, _⟩ => ⟨S1x4096, .f32⟩
  | .local _ .vmem, ⟨8, _⟩ => ⟨S1x128x4096, .bf16⟩
  | .local _ .vmem, ⟨9, _⟩ => ⟨S1x128x4096, .bf16⟩
  | _, _ => ⟨S2x2x256x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateReferenceIdeal.lean ====
abbrev S2x2x256x128x1024 : Shape := ⟨5, ![2, 2, 256, 128, 1024]⟩
abbrev S128x512 : Shape := ⟨2, ![128, 512]⟩
abbrev S2x16384x1024 : Shape := ⟨3, ![2, 16384, 1024]⟩
abbrev S1024 : Shape := ⟨1, ![1024]⟩
abbrev S2x512x128x1024 : Shape := ⟨4, ![2, 512, 128, 1024]⟩
abbrev S2x128x1024x128 : Shape := ⟨4, ![2, 128, 1024, 128]⟩
abbrev S2x128x128x1024 : Shape := ⟨4, ![2, 128, 128, 1024]⟩
abbrev S1x1x1024 : Shape := ⟨3, ![1, 1, 1024]⟩
abbrev S2x128x131072 : Shape := ⟨3, ![2, 128, 131072]⟩

abbrev nBuf : Space → Nat
  | .hbm => 18
  | .vmem => 0
  | .smem => 0
  | _ => 0

abbrev bufTy : (tb : Table) → Fin (tcTables nBuf tb) → BufTy
  | .hbm, ⟨0, _⟩ => ⟨S2x2x256x128x1024, .bf16⟩
  | .hbm, ⟨1, _⟩ => ⟨S128x512, .bf16⟩
  | .hbm, ⟨2, _⟩ => ⟨S2x16384x1024, .bf16⟩
  | .hbm, ⟨3, _⟩ => ⟨S2x16384x1024, .bf16⟩
  | .hbm, ⟨4, _⟩ => ⟨S1024, .f32⟩
  | .hbm, ⟨5, _⟩ => ⟨S2x512x128x1024, .bf16⟩
  | .hbm, ⟨6, _⟩ => ⟨S2x128x1024x128, .f32⟩
  | .hbm, ⟨7, _⟩ => ⟨S2x128x128x1024, .f32⟩
  | .hbm, ⟨8, _⟩ => ⟨S2x16384x1024, .f32⟩
  | .hbm, ⟨9, _⟩ => ⟨S2x16384x1024, .f32⟩
  | .hbm, ⟨10, _⟩ => ⟨S1x1x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S2x16384x1024, .f32⟩
  | .hbm, ⟨16, _⟩ => ⟨S2x16384x1024, .bf16⟩
  | .hbm, ⟨17, _⟩ => ⟨S2x128x131072, .bf16⟩
  | _, _ => ⟨S2x2x256x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Cast.lean ====
abbrev S16x2048x5504 : Shape := ⟨3, ![16, 2048, 5504]⟩
abbrev S1x256x5504 : Shape := ⟨3, ![1, 256, 5504]⟩

abbrev nBuf : Space → Nat
  | .hbm => 2
  | .vmem => 4
  | .smem => 0
  | _ => 0

abbrev bufTy : (tb : Table) → Fin (tcTables nBuf tb) → BufTy
  | .hbm, ⟨0, _⟩ => ⟨S16x2048x5504, .f32⟩
  | .hbm, ⟨1, _⟩ => ⟨S16x2048x5504, .bf16⟩
  | .local _ .vmem, ⟨0, _⟩ => ⟨S1x256x5504, .f32⟩
  | .local _ .vmem, ⟨1, _⟩ => ⟨S1x256x5504, .f32⟩
  | .local _ .vmem, ⟨2, _⟩ => ⟨S1x256x5504, .bf16⟩
  | .local _ .vmem, ⟨3, _⟩ => ⟨S1x256x5504, .bf16⟩
  | _, _ => ⟨S16x2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastReference.lean ====
abbrev S16x2048x5504 : Shape := ⟨3, ![16, 2048, 5504]⟩

abbrev nBuf : Space → Nat
  | .hbm => 2
  | .vmem => 0
  | .smem => 0
  | _ => 0

abbrev bufTy : (tb : Table) → Fin (tcTables nBuf tb) → BufTy
  | .hbm, ⟨0, _⟩ => ⟨S16x2048x5504, .f32⟩
  | .hbm, ⟨1, _⟩ => ⟨S16x2048x5504, .bf16⟩
  | _, _ => ⟨S16x2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Mid.lean ====
abbrev S2x2x256x131072 : Shape := ⟨4, ![2, 2, 256, 131072]⟩
abbrev S2x256x128x1024 : Shape := ⟨4, ![2, 256, 128, 1024]⟩
abbrev S256x256 : Shape := ⟨2, ![256, 256]⟩
abbrev S256x128x1 : Shape := ⟨3, ![256, 128, 1]⟩
abbrev S2x2x256x128x1024 : Shape := ⟨5, ![2, 2, 256, 128, 1024]⟩
abbrev S1x2x16x128x256 : Shape := ⟨5, ![1, 2, 16, 128, 256]⟩
abbrev S2x16x128x256 : Shape := ⟨4, ![2, 16, 128, 256]⟩
abbrev S16x128x1 : Shape := ⟨3, ![16, 128, 1]⟩
abbrev S1x1x1x128x256 : Shape := ⟨5, ![1, 1, 1, 128, 256]⟩
abbrev S128x256 : Shape := ⟨2, ![128, 256]⟩
abbrev S1x1x128x256 : Shape := ⟨4, ![1, 1, 128, 256]⟩
abbrev S1x128x1 : Shape := ⟨3, ![1, 128, 1]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S2x2x256x131072, .bf16⟩
  | .hbm, ⟨1, _⟩ => ⟨S2x256x128x1024, .bf16⟩
  | .hbm, ⟨2, _⟩ => ⟨S256x256, .bf16⟩
  | .hbm, ⟨3, _⟩ => ⟨S256x256, .bf16⟩
  | .hbm, ⟨4, _⟩ => ⟨S256x128x1, .f32⟩
  | .hbm, ⟨5, _⟩ => ⟨S256x128x1, .f32⟩
  | .hbm, ⟨6, _⟩ => ⟨S2x2x256x128x1024, .bf16⟩
  | .hbm, ⟨7, _⟩ => ⟨S2x2x256x128x1024, .bf16⟩
  | .local _ .vmem, ⟨0, _⟩ => ⟨S1x2x16x128x256, .bf16⟩
  | .local _ .vmem, ⟨1, _⟩ => ⟨S1x2x16x128x256, .bf16⟩
  | .local _ .vmem, ⟨2, _⟩ => ⟨S2x16x128x256, .bf16⟩
  | .local _ .vmem, ⟨3, _⟩ => ⟨S2x16x128x256, .bf16⟩
  | .local _ .vmem, ⟨4, _⟩ => ⟨S256x256, .bf16⟩
  | .local _ .vmem, ⟨5, _⟩ => ⟨S256x256, .bf16⟩
  | .local _ .vmem, ⟨6, _⟩ => ⟨S16x128x1, .f32⟩
  | .local _ .vmem, ⟨7, _⟩ => ⟨S16x128x1, .f32⟩
  | .local _ .vmem, ⟨8, _⟩ => ⟨S16x128x1, .f32⟩
  | .local _ .vmem, ⟨9, _⟩ => ⟨S16x128x1, .f32⟩
  | .local _ .vmem, ⟨10, _⟩ => ⟨S1x2x16x128x256, .bf16⟩
  | .local _ .vmem, ⟨11, _⟩ => ⟨S1x2x16x128x256, .bf16⟩
  | _, _ => ⟨S2x2x256x131072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat, arg0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat, arg0.toNat]

abbrev stage0_0 : Fin 2 → Memref sig .tc .vmem S1x2x16x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x16x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S16x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S16x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x2x16x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== MidReferenceIdeal.lean ====
abbrev S2x2x256x131072 : Shape := ⟨4, ![2, 2, 256, 131072]⟩
abbrev S2x256x128x1024 : Shape := ⟨4, ![2, 256, 128, 1024]⟩
abbrev S256x256 : Shape := ⟨2, ![256, 256]⟩
abbrev S256x128x1 : Shape := ⟨3, ![256, 128, 1]⟩
abbrev S2x2x256x128x1024 : Shape := ⟨5, ![2, 2, 256, 128, 1024]⟩
abbrev S2x256x2x128x1024 : Shape := ⟨5, ![2, 256, 2, 128, 1024]⟩
abbrev S2x256x256x1024 : Shape := ⟨4, ![2, 256, 256, 1024]⟩
abbrev S2x256x1024x256 : Shape := ⟨4, ![2, 256, 1024, 256]⟩
abbrev S1x256x128x1024 : Shape := ⟨4, ![1, 256, 128, 1024]⟩
abbrev S256x128x1024 : Shape := ⟨3, ![256, 128, 1024]⟩
abbrev S1x256x128x1 : Shape := ⟨4, ![1, 256, 128, 1]⟩
abbrev S2x1x256x128x1024 : Shape := ⟨5, ![2, 1, 256, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2x256x131072, .bf16⟩
  | .hbm, ⟨1, _⟩ => ⟨S2x256x128x1024, .bf16⟩
  | .hbm, ⟨2, _⟩ => ⟨S256x256, .bf16⟩
  | .hbm, ⟨3, _⟩ => ⟨S256x256, .bf16⟩
  | .hbm, ⟨4, _⟩ => ⟨S256x128x1, .f32⟩
  | .hbm, ⟨5, _⟩ => ⟨S256x128x1, .f32⟩
  | .hbm, ⟨6, _⟩ => ⟨S2x2x256x128x1024, .bf16⟩
  | .hbm, ⟨7, _⟩ => ⟨S2x256x2x128x1024, .bf16⟩
  | .hbm, ⟨8, _⟩ => ⟨S2x256x256x1024, .bf16⟩
  | .hbm, ⟨9, _⟩ => ⟨S2x256x1024x256, .f32⟩
  | .hbm, ⟨10, _⟩ => ⟨S2x256x256x1024, .f32⟩
  | .hbm, ⟨11, _⟩ => ⟨S2x256x128x1024, .f32⟩
  | .hbm, ⟨12, _⟩ => ⟨S2x256x128x1024, .f32⟩
  | .hbm, ⟨13, _⟩ => ⟨S1x256x128x1024, .bf16⟩
  | .hbm, ⟨14, _⟩ => ⟨S256x128x1024, .bf16⟩
  | .hbm, ⟨15, _⟩ => ⟨S256x128x1024, .f32⟩
  | .hbm, ⟨16, _⟩ => ⟨S1x256x128x1024, .bf16⟩
  | .hbm, ⟨17, _⟩ => ⟨S256x128x1024, .bf16⟩
  | .hbm, ⟨18, _⟩ => ⟨S256x128x1024, .f32⟩
  | .hbm, ⟨19, _⟩ => ⟨S1x256x128x1024, .f32⟩
  | .hbm, ⟨20, _⟩ => ⟨S2x256x128x1024, .f32⟩
  | .hbm, ⟨21, _⟩ => ⟨S2x256x128x1024, .f32⟩
  | .hbm, ⟨22, _⟩ => ⟨S1x256x128x1024, .f32⟩
  | .hbm, ⟨23, _⟩ => ⟨S2x256x128x1024, .f32⟩
  | .hbm, ⟨24, _⟩ => ⟨S2x256x128x1024, .f32⟩
  | .hbm, ⟨25, _⟩ => ⟨S2x256x128x1024, .f32⟩
  | .hbm, ⟨26, _⟩ => ⟨S1x256x128x1024, .f32⟩
  | .hbm, ⟨27, _⟩ => ⟨S2x256x128x1024, .f32⟩
  | .hbm, ⟨28, _⟩ => ⟨S2x256x128x1024, .f32⟩
  | .hbm, ⟨29, _⟩ => ⟨S1x256x128x1024, .f32⟩
  | .hbm, ⟨30, _⟩ => ⟨S2x256x128x1024, .f32⟩
  | .hbm, ⟨31, _⟩ => ⟨S2x256x128x1024, .f32⟩
  | .hbm, ⟨32, _⟩ => ⟨S2x256x128x1024, .f32⟩
  | .hbm, ⟨33, _⟩ => ⟨S2x256x256x1024, .f32⟩
  | .hbm, ⟨34, _⟩ => ⟨S2x256x256x1024, .bf16⟩
  | .hbm, ⟨35, _⟩ => ⟨S2x256x1024x256, .f32⟩
  | .hbm, ⟨36, _⟩ => ⟨S2x256x256x1024, .f32⟩
  | .hbm, ⟨37, _⟩ => ⟨S2x256x128x1024, .f32⟩
  | .hbm, ⟨38, _⟩ => ⟨S2x256x128x1024, .f32⟩
  | .hbm, ⟨39, _⟩ => ⟨S1x256x128x1, .f32⟩
  | .hbm, ⟨40, _⟩ => ⟨S2x256x128x1024, .f32⟩
  | .hbm, ⟨41, _⟩ => ⟨S2x256x128x1024, .f32⟩
  | .hbm, ⟨42, _⟩ => ⟨S1x256x128x1, .f32⟩
  | .hbm, ⟨43, _⟩ => ⟨S2x256x128x1024, .f32⟩
  | .hbm, ⟨44, _⟩ => ⟨S2x256x128x1024, .f32⟩
  | .hbm, ⟨45, _⟩ => ⟨S2x256x128x1024, .f32⟩
  | .hbm, ⟨46, _⟩ => ⟨S1x256x128x1, .f32⟩
  | .hbm, ⟨47, _⟩ => ⟨S2x256x128x1024, .f32⟩
  | .hbm, ⟨48, _⟩ => ⟨S2x256x128x1024, .f32⟩
  | .hbm, ⟨49, _⟩ => ⟨S1x256x128x1, .f32⟩
  | .hbm, ⟨50, _⟩ => ⟨S2x256x128x1024, .f32⟩
  | .hbm, ⟨51, _⟩ => ⟨S2x256x128x1024, .f32⟩
  | .hbm, ⟨52, _⟩ => ⟨S2x256x128x1024, .f32⟩
  | .hbm, ⟨53, _⟩ => ⟨S2x1x256x128x1024, .f32⟩
  | .hbm, ⟨54, _⟩ => ⟨S2x1x256x128x1024, .f32⟩
  | .hbm, ⟨55, _⟩ => ⟨S2x2x256x128x1024, .f32⟩
  | .hbm, ⟨56, _⟩ => ⟨S2x2x256x128x1024, .bf16⟩
  | _, _ => ⟨S2x2x256x131072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩

abbrev nD : Nat := 1
abbrev τ : Topo := Topo.v7x

variable {F : FTy → Type} [FloatOps F]
-- ==== First.lean ====
abbrev S2x16384x1024 : Shape := ⟨3, ![2, 16384, 1024]⟩
abbrev S512x128 : Shape := ⟨2, ![512, 128]⟩
abbrev S128x256x1 : Shape := ⟨3, ![128, 256, 1]⟩
abbrev S2x128x131072 : Shape := ⟨3, ![2, 128, 131072]⟩
abbrev S2x2x256x131072 : Shape := ⟨4, ![2, 2, 256, 131072]⟩
abbrev S1x128x4096 : Shape := ⟨3, ![1, 128, 4096]⟩
abbrev S4x256x1 : Shape := ⟨3, ![4, 256, 1]⟩
abbrev S1x2x256x4096 : Shape := ⟨4, ![1, 2, 256, 4096]⟩
abbrev S128x4096 : Shape := ⟨2, ![128, 4096]⟩
abbrev S512x4096 : Shape := ⟨2, ![512, 4096]⟩
abbrev S256x1024 : Shape := ⟨2, ![256, 1024]⟩
abbrev S1x256x1 : Shape := ⟨3, ![1, 256, 1]⟩
abbrev S256x1 : Shape := ⟨2, ![256, 1]⟩
abbrev S1x1x256x1024 : Shape := ⟨4, ![1, 1, 256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x16384x1024, .bf16⟩
  | .hbm, ⟨1, _⟩ => ⟨S512x128, .bf16⟩
  | .hbm, ⟨2, _⟩ => ⟨S128x256x1, .f32⟩
  | .hbm, ⟨3, _⟩ => ⟨S128x256x1, .f32⟩
  | .hbm, ⟨4, _⟩ => ⟨S2x128x131072, .bf16⟩
  | .hbm, ⟨5, _⟩ => ⟨S2x2x256x131072, .bf16⟩
  | .local _ .vmem, ⟨0, _⟩ => ⟨S1x128x4096, .bf16⟩
  | .local _ .vmem, ⟨1, _⟩ => ⟨S1x128x4096, .bf16⟩
  | .local _ .vmem, ⟨2, _⟩ => ⟨S512x128, .bf16⟩
  | .local _ .vmem, ⟨3, _⟩ => ⟨S4x256x1, .f32⟩
  | .local _ .vmem, ⟨4, _⟩ => ⟨S4x256x1, .f32⟩
  | .local _ .vmem, ⟨5, _⟩ => ⟨S4x256x1, .f32⟩
  | .local _ .vmem, ⟨6, _⟩ => ⟨S4x256x1, .f32⟩
  | .local _ .vmem, ⟨7, _⟩ => ⟨S1x2x256x4096, .bf16⟩
  | .local _ .vmem, ⟨8, _⟩ => ⟨S1x2x256x4096, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FirstReferenceIdeal.lean ====
abbrev S2x16384x1024 : Shape := ⟨3, ![2, 16384, 1024]⟩
abbrev S512x128 : Shape := ⟨2, ![512, 128]⟩
abbrev S128x256x1 : Shape := ⟨3, ![128, 256, 1]⟩
abbrev S2x128x128x1024 : Shape := ⟨4, ![2, 128, 128, 1024]⟩
abbrev S2x128x1024x512 : Shape := ⟨4, ![2, 128, 1024, 512]⟩
abbrev S2x512x128x1024 : Shape := ⟨4, ![2, 512, 128, 1024]⟩
abbrev S2x256x128x1024 : Shape := ⟨4, ![2, 256, 128, 1024]⟩
abbrev S256x128x1 : Shape := ⟨3, ![256, 128, 1]⟩
abbrev S1x256x128x1 : Shape := ⟨4, ![1, 256, 128, 1]⟩
abbrev S2x1x256x128x1024 : Shape := ⟨5, ![2, 1, 256, 128, 1024]⟩
abbrev S2x2x256x128x1024 : Shape := ⟨5, ![2, 2, 256, 128, 1024]⟩
abbrev S2x2x256x131072 : Shape := ⟨4, ![2, 2, 256, 131072]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S512x128, .bf16⟩
  | .hbm, ⟨2, _⟩ => ⟨S128x256x1, .f32⟩
  | .hbm, ⟨3, _⟩ => ⟨S128x256x1, .f32⟩
  | .hbm, ⟨4, _⟩ => ⟨S2x128x128x1024, .bf16⟩
  | .hbm, ⟨5, _⟩ => ⟨S2x128x1024x512, .f32⟩
  | .hbm, ⟨6, _⟩ => ⟨S2x512x128x1024, .f32⟩
  | .hbm, ⟨7, _⟩ => ⟨S2x256x128x1024, .f32⟩
  | .hbm, ⟨8, _⟩ => ⟨S2x256x128x1024, .f32⟩
  | .hbm, ⟨9, _⟩ => ⟨S256x128x1, .f32⟩
  | .hbm, ⟨10, _⟩ => ⟨S256x128x1, .f32⟩
  | .hbm, ⟨11, _⟩ => ⟨S1x256x128x1, .f32⟩
  | .hbm, ⟨12, _⟩ => ⟨S2x256x128x1024, .f32⟩
  | .hbm, ⟨13, _⟩ => ⟨S2x256x128x1024, .f32⟩
  | .hbm, ⟨14, _⟩ => ⟨S1x256x128x1, .f32⟩
  | .hbm, ⟨15, _⟩ => ⟨S2x256x128x1024, .f32⟩
  | .hbm, ⟨16, _⟩ => ⟨S2x256x128x1024, .f32⟩
  | .hbm, ⟨17, _⟩ => ⟨S2x256x128x1024, .f32⟩
  | .hbm, ⟨18, _⟩ => ⟨S1x256x128x1, .f32⟩
  | .hbm, ⟨19, _⟩ => ⟨S2x256x128x1024, .f32⟩
  | .hbm, ⟨20, _⟩ => ⟨S2x256x128x1024, .f32⟩
  | .hbm, ⟨21, _⟩ => ⟨S1x256x128x1, .f32⟩
  | .hbm, ⟨22, _⟩ => ⟨S2x256x128x1024, .f32⟩
  | .hbm, ⟨23, _⟩ => ⟨S2x256x128x1024, .f32⟩
  | .hbm, ⟨24, _⟩ => ⟨S2x256x128x1024, .f32⟩
  | .hbm, ⟨25, _⟩ => ⟨S2x1x256x128x1024, .f32⟩
  | .hbm, ⟨26, _⟩ => ⟨S2x1x256x128x1024, .f32⟩
  | .hbm, ⟨27, _⟩ => ⟨S2x2x256x128x1024, .f32⟩
  | .hbm, ⟨28, _⟩ => ⟨S2x2x256x128x1024, .bf16⟩
  | .hbm, ⟨29, _⟩ => ⟨S2x2x256x131072, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Spectrum.lean ====
abbrev S2x16384x1024 : Shape := ⟨3, ![2, 16384, 1024]⟩
abbrev S512x128 : Shape := ⟨2, ![512, 128]⟩
abbrev S128x256x1 : Shape := ⟨3, ![128, 256, 1]⟩
abbrev S256x256 : Shape := ⟨2, ![256, 256]⟩
abbrev S2x128x131072 : Shape := ⟨3, ![2, 128, 131072]⟩
abbrev S2x2x256x131072 : Shape := ⟨4, ![2, 2, 256, 131072]⟩
abbrev S1x128x4096 : Shape := ⟨3, ![1, 128, 4096]⟩
abbrev S4x256x1 : Shape := ⟨3, ![4, 256, 1]⟩
abbrev S1x2x256x4096 : Shape := ⟨4, ![1, 2, 256, 4096]⟩
abbrev S128x4096 : Shape := ⟨2, ![128, 4096]⟩
abbrev S512x4096 : Shape := ⟨2, ![512, 4096]⟩
abbrev S256x1024 : Shape := ⟨2, ![256, 1024]⟩
abbrev S1x256x1 : Shape := ⟨3, ![1, 256, 1]⟩
abbrev S256x1 : Shape := ⟨2, ![256, 1]⟩
abbrev S1x1x256x1024 : Shape := ⟨4, ![1, 1, 256, 1024]⟩
abbrev S2x2x256x128x1024 : Shape := ⟨5, ![2, 2, 256, 128, 1024]⟩
abbrev S2x256x128x1024 : Shape := ⟨4, ![2, 256, 128, 1024]⟩
abbrev S2x2x16x128x256 : Shape := ⟨5, ![2, 2, 16, 128, 256]⟩
abbrev S2x16x128x256 : Shape := ⟨4, ![2, 16, 128, 256]⟩
abbrev S1x1x1x128x256 : Shape := ⟨5, ![1, 1, 1, 128, 256]⟩
abbrev S128x256 : Shape := ⟨2, ![128, 256]⟩
abbrev S256x512 : Shape := ⟨2, ![256, 512]⟩
abbrev S1x1x128x256 : Shape := ⟨4, ![1, 1, 128, 256]⟩

abbrev nBuf : Space → Nat
  | .hbm => 9
  | .vmem => 14
  | .smem => 0
  | _ => 0

abbrev bufTy : (tb : Table) → Fin (tcTables nBuf tb) → BufTy
  | .hbm, ⟨0, _⟩ => ⟨S2x16384x1024, .bf16⟩
  | .hbm, ⟨1, _⟩ => ⟨S512x128, .bf16⟩
  | .hbm, ⟨2, _⟩ => ⟨S128x256x1, .f32⟩
  | .hbm, ⟨3, _⟩ => ⟨S128x256x1, .f32⟩
  | .hbm, ⟨4, _⟩ => ⟨S256x256, .bf16⟩
  | .hbm, ⟨5, _⟩ => ⟨S2x128x131072, .bf16⟩
  | .hbm, ⟨6, _⟩ => ⟨S2x2x256x131072, .bf16⟩
  | .hbm, ⟨7, _⟩ => ⟨S2x2x256x128x1024, .bf16⟩
  | .hbm, ⟨8, _⟩ => ⟨S2x256x128x1024, .bf16⟩
  | .local _ .vmem, ⟨0, _⟩ => ⟨S1x128x4096, .bf16⟩
  | .local _ .vmem, ⟨1, _⟩ => ⟨S1x128x4096, .bf16⟩
  | .local _ .vmem, ⟨2, _⟩ => ⟨S512x128, .bf16⟩
  | .local _ .vmem, ⟨3, _⟩ => ⟨S4x256x1, .f32⟩
  | .local _ .vmem, ⟨4, _⟩ => ⟨S4x256x1, .f32⟩
  | .local _ .vmem, ⟨5, _⟩ => ⟨S4x256x1, .f32⟩
  | .local _ .vmem, ⟨6, _⟩ => ⟨S4x256x1, .f32⟩
  | .local _ .vmem, ⟨7, _⟩ => ⟨S1x2x256x4096, .bf16⟩
  | .local _ .vmem, ⟨8, _⟩ => ⟨S1x2x256x4096, .bf16⟩
  | .local _ .vmem, ⟨9, _⟩ => ⟨S2x2x16x128x256, .bf16⟩
  | .local _ .vmem, ⟨10, _⟩ => ⟨S2x2x16x128x256, .bf16⟩
  | .local _ .vmem, ⟨11, _⟩ => ⟨S256x256, .bf16⟩
  | .local _ .vmem, ⟨12, _⟩ => ⟨S2x16x128x256, .bf16⟩
  | .local _ .vmem, ⟨13, _⟩ => ⟨S2x16x128x256, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 16], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

abbrev stage1_0 : Fin 2 → Memref sig .tc .vmem S2x2x16x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2x16x128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== SpectrumReferenceIdeal.lean ====
abbrev S2x16384x1024 : Shape := ⟨3, ![2, 16384, 1024]⟩
abbrev S512x128 : Shape := ⟨2, ![512, 128]⟩
abbrev S128x256x1 : Shape := ⟨3, ![128, 256, 1]⟩
abbrev S256x256 : Shape := ⟨2, ![256, 256]⟩
abbrev S2x128x128x1024 : Shape := ⟨4, ![2, 128, 128, 1024]⟩
abbrev S2x128x1024x512 : Shape := ⟨4, ![2, 128, 1024, 512]⟩
abbrev S2x512x128x1024 : Shape := ⟨4, ![2, 512, 128, 1024]⟩
abbrev S2x256x128x1024 : Shape := ⟨4, ![2, 256, 128, 1024]⟩
abbrev S256x128x1 : Shape := ⟨3, ![256, 128, 1]⟩
abbrev S1x256x128x1 : Shape := ⟨4, ![1, 256, 128, 1]⟩
abbrev S2x256x256x1024 : Shape := ⟨4, ![2, 256, 256, 1024]⟩
abbrev S2x256x1024x256 : Shape := ⟨4, ![2, 256, 1024, 256]⟩
abbrev S1x256x128x1024 : Shape := ⟨4, ![1, 256, 128, 1024]⟩
abbrev S256x128x1024 : Shape := ⟨3, ![256, 128, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S512x128, .bf16⟩
  | .hbm, ⟨2, _⟩ => ⟨S128x256x1, .f32⟩
  | .hbm, ⟨3, _⟩ => ⟨S128x256x1, .f32⟩
  | .hbm, ⟨4, _⟩ => ⟨S256x256, .bf16⟩
  | .hbm, ⟨5, _⟩ => ⟨S2x128x128x1024, .bf16⟩
  | .hbm, ⟨6, _⟩ => ⟨S2x128x1024x512, .f32⟩
  | .hbm, ⟨7, _⟩ => ⟨S2x512x128x1024, .f32⟩
  | .hbm, ⟨8, _⟩ => ⟨S2x256x128x1024, .f32⟩
  | .hbm, ⟨9, _⟩ => ⟨S2x256x128x1024, .f32⟩
  | .hbm, ⟨10, _⟩ => ⟨S256x128x1, .f32⟩
  | .hbm, ⟨11, _⟩ => ⟨S256x128x1, .f32⟩
  | .hbm, ⟨12, _⟩ => ⟨S1x256x128x1, .f32⟩
  | .hbm, ⟨13, _⟩ => ⟨S2x256x128x1024, .f32⟩
  | .hbm, ⟨14, _⟩ => ⟨S2x256x128x1024, .f32⟩
  | .hbm, ⟨15, _⟩ => ⟨S1x256x128x1, .f32⟩
  | .hbm, ⟨16, _⟩ => ⟨S2x256x128x1024, .f32⟩
  | .hbm, ⟨17, _⟩ => ⟨S2x256x128x1024, .f32⟩
  | .hbm, ⟨18, _⟩ => ⟨S2x256x128x1024, .f32⟩
  | .hbm, ⟨19, _⟩ => ⟨S1x256x128x1, .f32⟩
  | .hbm, ⟨20, _⟩ => ⟨S2x256x128x1024, .f32⟩
  | .hbm, ⟨21, _⟩ => ⟨S2x256x128x1024, .f32⟩
  | .hbm, ⟨22, _⟩ => ⟨S1x256x128x1, .f32⟩
  | .hbm, ⟨23, _⟩ => ⟨S2x256x128x1024, .f32⟩
  | .hbm, ⟨24, _⟩ => ⟨S2x256x128x1024, .f32⟩
  | .hbm, ⟨25, _⟩ => ⟨S2x256x128x1024, .f32⟩
  | .hbm, ⟨26, _⟩ => ⟨S2x256x256x1024, .f32⟩
  | .hbm, ⟨27, _⟩ => ⟨S2x256x256x1024, .bf16⟩
  | .hbm, ⟨28, _⟩ => ⟨S2x256x1024x256, .f32⟩
  | .hbm, ⟨29, _⟩ => ⟨S2x256x256x1024, .f32⟩
  | .hbm, ⟨30, _⟩ => ⟨S1x256x128x1024, .f32⟩
  | .hbm, ⟨31, _⟩ => ⟨S256x128x1024, .f32⟩
  | .hbm, ⟨32, _⟩ => ⟨S1x256x128x1024, .f32⟩
  | .hbm, ⟨33, _⟩ => ⟨S256x128x1024, .f32⟩
  | .hbm, ⟨34, _⟩ => ⟨S256x128x1024, .f32⟩
  | .hbm, ⟨35, _⟩ => ⟨S1x256x128x1024, .f32⟩
  | .hbm, ⟨36, _⟩ => ⟨S256x128x1024, .f32⟩
  | .hbm, ⟨37, _⟩ => ⟨S1x256x128x1024, .f32⟩
  | .hbm, ⟨38, _⟩ => ⟨S256x128x1024, .f32⟩
  | .hbm, ⟨39, _⟩ => ⟨S256x128x1024, .f32⟩
  | .hbm, ⟨40, _⟩ => ⟨S1x256x128x1024, .f32⟩
  | .hbm, ⟨41, _⟩ => ⟨S1x256x128x1024, .f32⟩
  | .hbm, ⟨42, _⟩ => ⟨S2x256x128x1024, .f32⟩
  | .hbm, ⟨43, _⟩ => ⟨S2x256x128x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== Proof.Own.KernelIdeal.RunB.lean ====
/- The run of the kernel body over the inner grid points, as the generated module states it; the parts of the body are
   rewritten to their skeletons one equation after another. -/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 taken: points 1, 2, … 254: 240 of 256), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : ¬cond0_0 i) (hc1 : ¬cond0_1 i) (hc2 : cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) :
    { L8 : List (View.Piece (Elt F) S1x512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8)) -∗ K ⟨⟩))
          ⊢ wp frame (wpE (defs₀ (F := F)) Variants.none c none) E (cc0_natten i arg3 harg3 arg4 harg4 arg5 harg5 arg6 harg6 arg7 harg7 arg8 harg8 arg9 harg9 arg10 harg10 arg11 harg11) K } := by
  refine ⟨?_, fun E K => ?run⟩
  case run =>
    simp only [cc0_natten_eq_skeleton]; unfold cc0_natten_skel
    rw [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact H8

end Cert.KernelIdeal.Gen

end
-- ==== Proof.Own.KernelIdeal.RunC.lean ====
/- The run of the kernel body over the last grid point of each column block, as the generated module states it; the parts of
   the body are rewritten to their skeletons one equation after another. -/
module

public import proofs.«01_k».proof.Proof.Own.KernelIdeal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken: points 31, 63, … 255: 8 of 256), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : ¬cond0_0 i) (hc1 : cond0_1 i) (hc2 : ¬cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) :
    { L8 : List (View.Piece (Elt F) S1x512x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8)) -∗ K ⟨⟩))
          ⊢ wp frame (wpE (defs₀ (F := F)) Variants.none c none) E (cc0_natten i arg3 harg3 arg4 harg4 arg5 harg5 arg6 harg6 arg7 harg7 arg8 harg8 arg9 harg9 arg10 harg10 arg11 harg11) K } := by
  refine ⟨?_, fun E K => ?run⟩
  case run =>
    simp only [cc0_natten_eq_skeleton]; unfold cc0_natten_skel
    rw [k0_part35_eq_skeleton]; unfold k0_part35_skel
    rw [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact H8

end Cert.KernelIdeal.Gen

end
-- ==== Proof.Own.KernelIdeal.Frame.lean ====
/- The frame of the launch, over the body runs of this directory: as the generated module states it. -/
module

public import proofs.«01_k».proof.Proof.Own.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (8 stores of `S1x64x256`, checked by the kernel's evaluation: Lib/Ring.lean `Piece.tiledL`, linear in the pieces, through a loop's `@[irreducible]` trip theorem too), so they cover it. -/
theorem cover0_A_8 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : cond0_0 i) (hc1 : ¬cond0_1 i) (hc2 : ¬cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) (y : S1x512x256.Idx) :
    ∃ pc ∈ (kernelRun0_A c i arg3 harg3 arg4 harg4 arg5 harg5 arg6 harg6 arg7 harg7 arg8 harg8 arg9 harg9 arg10 harg10 arg11 harg11 hc0 hc1 hc2 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 hc0 hc1 hc2 x0 x1 x2 x3 x4 x5 x6 x7).1 S1x64x256.size (by sl_kernel_rfl) y

/-- What case A leaves in output 8's staging buffer: its pieces read back over junk. -/
def out0_A_8 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : cond0_0 i) (hc1 : ¬cond0_1 i) (hc2 : ¬cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) : Vec F S1x512x256 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 hc0 hc1 hc2 x0 x1 x2 x3 x4 x5 x6 x7).1)

/-- Case B's pieces for output 8 tile its block (8 stores of `S1x64x256`, checked by the kernel's evaluation: Lib/Ring.lean `Piece.tiledL`, linear in the pieces, through a loop's `@[irreducible]` trip theorem too), so they cover it. -/
theorem cover0_B_8 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : ¬cond0_0 i) (hc1 : ¬cond0_1 i) (hc2 : cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) (y : S1x512x256.Idx) :
    ∃ pc ∈ (kernelRun0_B c i arg3 harg3 arg4 harg4 arg5 harg5 arg6 harg6 arg7 harg7 arg8 harg8 arg9 harg9 arg10 harg10 arg11 harg11 hc0 hc1 hc2 x0 x1 x2 x3 x4 x5 x6 x7).1, y ∈ pc.1.set :=
  View.cover_of_tiledL (kernelRun0_B c i arg3 harg3 arg4 harg4 arg5 harg5 arg6 harg6 arg7 harg7 arg8 harg8 arg9 harg9 arg10 harg10 arg11 harg11 hc0 hc1 hc2 x0 x1 x2 x3 x4 x5 x6 x7).1 S1x64x256.size (by sl_kernel_rfl) y

/-- What case B leaves in output 8's staging buffer: its pieces read back over junk. -/
def out0_B_8 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : ¬cond0_0 i) (hc1 : ¬cond0_1 i) (hc2 : cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) : Vec F S1x512x256 .bf16 :=
  VO0_8.read (Elt F) (VO0_8.writes (Elt F) VO0_8.junk (kernelRun0_B c i arg3 harg3 arg4 harg4 arg5 harg5 arg6 harg6 arg7 harg7 arg8 harg8 arg9 harg9 arg10 harg10 arg11 harg11 hc0 hc1 hc2 x0 x1 x2 x3 x4 x5 x6 x7).1)

/-- Case C's pieces for output 8 tile its block (8 stores of `S1x64x256`, checked by the kernel's evaluation: Lib/Ring.lean `Piece.tiledL`, linear in the pieces, through a loop's `@[irreducible]` trip theorem too), so they cover it. -/
theorem cover0_C_8 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : ¬cond0_0 i) (hc1 : cond0_1 i) (hc2 : ¬cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) (y : S1x512x256.Idx) :
    ∃ pc ∈ (kernelRun0_C c i arg3 harg3 arg4 harg4 arg5 harg5 arg6 harg6 arg7 harg7 arg8 harg8 arg9 harg9 arg10 harg10 arg11 harg11 hc0 hc1 hc2 x0 x1 x2 x3 x4 x5 x6 x7).1, y ∈ pc.1.set :=
  View.cover_of_tiledL (kernelRun0_C c i arg3 harg3 arg4 harg4 arg5 harg5 arg6 harg6 arg7 harg7 arg8 harg8 arg9 harg9 arg10 harg10 arg11 harg11 hc0 hc1 hc2 x0 x1 x2 x3 x4 x5 x6 x7).1 S1x64x256.size (by sl_kernel_rfl) y

/-- What case C leaves in output 8's staging buffer: its pieces read back over junk. -/
def out0_C_8 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : ¬cond0_0 i) (hc1 : cond0_1 i) (hc2 : ¬cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) : Vec F S1x512x256 .bf16 :=
  VO0_8.read (Elt F) (VO0_8.writes (Elt F) VO0_8.junk (kernelRun0_C c i arg3 harg3 arg4 harg4 arg5 harg5 arg6 harg6 arg7 harg7 arg8 harg8 arg9 harg9 arg10 harg10 arg11 harg11 hc0 hc1 hc2 x0 x1 x2 x3 x4 x5 x6 x7).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x256 .bf16
  | 0, hn => out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 32 = 0 then
      if h1 : (n + 1) % 32 = 31 then
        False.elim (by have hN : n + 1 < 256 := lt_of_lt_of_eq hn (show cfg0.N = 256 from N_0); omega)
      else
        if h2 : (1 ≤ (n + 1) % 32 ∧ (n + 1) % 32 ≤ 30) then
          False.elim (by have hN : n + 1 < 256 := lt_of_lt_of_eq hn (show cfg0.N = 256 from N_0); omega)
        else
          out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
    else
      if h1 : (n + 1) % 32 = 31 then
        if h2 : (1 ≤ (n + 1) % 32 ∧ (n + 1) % 32 ≤ 30) then
          False.elim (by have hN : n + 1 < 256 := lt_of_lt_of_eq hn (show cfg0.N = 256 from N_0); omega)
        else
          out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      else
        if h2 : (1 ≤ (n + 1) % 32 ∧ (n + 1) % 32 ≤ 30) then
          out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
        else
          False.elim (by have hN : n + 1 < 256 := lt_of_lt_of_eq hn (show cfg0.N = 256 from N_0); omega)

/-- `outsAt0` at a point of case A: that case's contents. -/
theorem outsAt0_A (c : Dev nD) (t : Fin cfg0.N) (h0 : t.val % 32 = 0) (h1 : ¬t.val % 32 = 31) (h2 : ¬(1 ≤ t.val % 32 ∧ t.val % 32 ≤ 30)) :
    outsAt0 m c t.val t.isLt = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans ((dif_neg h1).trans ((dif_neg h2).trans rfl))

/-- `outsAt0` at a point of case B: that case's contents. -/
theorem outsAt0_B (c : Dev nD) (t : Fin cfg0.N) (h0 : ¬t.val % 32 = 0) (h1 : ¬t.val % 32 = 31) (h2 : (1 ≤ t.val % 32 ∧ t.val % 32 ≤ 30)) :
    outsAt0 m c t.val t.isLt = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents. -/
theorem outsAt0_C (c : Dev nD) (t : Fin cfg0.N) (h0 : ¬t.val % 32 = 0) (h1 : t.val % 32 = 31) (h2 : ¬(1 ≤ t.val % 32 ∧ t.val % 32 ≤ 30)) :
    outsAt0 m c t.val t.isLt = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 256 := lt_of_lt_of_eq t.isLt (show cfg0.N = 256 from N_0)
  by_cases h0 : t.val % 32 = 0
  · by_cases h1 : t.val % 32 = 31
    · exfalso; omega
    · by_cases h2 : (1 ≤ t.val % 32 ∧ t.val % 32 ≤ 30)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h)) (fun h => h2 ((hcond0_2 t).mp h))], after0_8]
        rw [outsAt0_A m c t h0 h1 h2]
        unfold out0_A_8
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iintro ⟨H0, H1, H2, H3, H4, H5, H6, H7, ⟨%e8, H8⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _)
  · by_cases h1 : t.val % 32 = 31
    · by_cases h2 : (1 ≤ t.val % 32 ∧ t.val % 32 ≤ 30)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1) (fun h => h2 ((hcond0_2 t).mp h))], after0_8]
        rw [outsAt0_C m c t h0 h1 h2]
        unfold out0_C_8
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iintro ⟨H0, H1, H2, H3, H4, H5, H6, H7, ⟨%e8, H8⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _)
    · by_cases h2 : (1 ≤ t.val % 32 ∧ t.val % 32 ≤ 30)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_B t (fun h => h0 ((hcond0_0 t).mp h)) (fun h => h1 ((hcond0_1 t).mp h)) ((hcond0_2 t).mpr h2)], after0_8]
        rw [outsAt0_B m c t h0 h1 h2]
        unfold out0_B_8
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iintro ⟨H0, H1, H2, H3, H4, H5, H6, H7, ⟨%e8, H8⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.Own.KernelIdeal.Value.lean ====
/- What the launch leaves in its output array, over the frame of this directory: as the generated module states it. -/
module

public import proofs.«01_k».proof.Proof.Own.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`), read through the window's block. -/
theorem flushed8 (c : Dev nD) (t : Fin cfg0.N) :
    (dats m 0 c).flushed 8 t = (cfg0.win 8).cut (grid0.coords t) (outsAt0 m c t.val t.isLt) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 32 = 0) (h1 : ¬t.val % 32 = 31) (h2 : ¬(1 ≤ t.val % 32 ∧ t.val % 32 ≤ 30)) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t)) := by
  simp only [flushed8, outsAt0_A m c t h0 h1 h2]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 32 = 0) (h1 : ¬t.val % 32 = 31) (h2 : (1 ≤ t.val % 32 ∧ t.val % 32 ≤ 30)) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t)) := by
  simp only [flushed8, outsAt0_B m c t h0 h1 h2]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 32 = 0) (h1 : t.val % 32 = 31) (h2 : ¬(1 ≤ t.val % 32 ∧ t.val % 32 ≤ 30)) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)) := by
  simp only [flushed8, outsAt0_C m c t h0 h1 h2]

-- no `blocks8`: window 8's index map is injective over its 256 points, but past 200 points that is decided here only for a window whose block index on one axis is the point's position;
-- the final array is still the frame's `arrAt`, to read with Lib/Pipeline/Value.lean's lemmas by hand

/-- An index that no flushing point's block covers keeps output window 8's array contents at region entry. -/
theorem entry8 (c : Dev nD) (i : S2x16384x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v52) = (dats m 0 c).arrAt 8 cfg0.N :=
  (h c).1 8

/-- After the frame run, argument `main_arg0` is as launched: input window 6 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 6).trans (((dats m 0 c).arrAt_in 6 rfl _).trans ((A_eq m c 6).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v52) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post8 m r h c,
      kept_main_arg0 m r h c,
      kept_main_arg1 m r h c⟩)
    (run_main m ρ)

end Cert.KernelIdeal.Value

end
-- ==== Proof.Softmax.lean ====
/- The one algebraic step of the neighbourhood attention: a softmax row whose scores are no `+∞` and not all `−∞`
   may be divided before or after its weighted sum. -/
module

public import Idealize.ShloMosaic.PureOps.Ideal.Laws

@[expose] public section

noncomputable section

namespace Cert.Natten

open Idealize.ShloMosaic

variable {n : ℕ}

/-- The greatest score of a row. -/
def rowMax (s : Fin n → EReal) : EReal := (Finset.univ : Finset (Fin n)).fold max ⊥ s

/-- A row's weights before they are divided by their sum. -/
def rowExp (s : Fin n → EReal) (j : Fin n) : EReal := Ideal.exp (s j - rowMax s)

/-- A row of attention: the weighted sum of the values, divided by the sum of the weights. -/
def attn (s v : Fin n → EReal) : EReal := Ideal.div (∑ j, rowExp s j * v j) (∑ j, rowExp s j)

theorem fold_max_le (t : Finset (Fin n)) (s : Fin n → EReal) (j : Fin n) (hj : j ∈ t) : s j ≤ t.fold max ⊥ s :=
  (Finset.le_fold_max (s j)).mpr (Or.inr ⟨j, hj, le_rfl⟩)

theorem fold_max_attained (t : Finset (Fin n)) (s : Fin n → EReal) (h : t.fold max ⊥ s ≠ ⊥) :
    ∃ j ∈ t, s j = t.fold max ⊥ s := by
  induction t using Finset.induction_on with
  | empty => exact absurd Finset.fold_empty h
  | insert a t ha ih =>
    rw [Finset.fold_insert ha] at h ⊢
    rcases le_total (t.fold max ⊥ s) (s a) with hle | hle
    · exact ⟨a, Finset.mem_insert_self a t, (max_eq_left hle).symm⟩
    · rw [max_eq_right hle] at h ⊢
      obtain ⟨j, hj, e⟩ := ih h
      exact ⟨j, Finset.mem_insert_of_mem hj, e⟩

/-- A weight lies between zero and one: the score is at most the real maximum. -/
theorem exp_sub_bounds {x m : EReal} (hm : m ≠ ⊥) (hm' : m ≠ ⊤) (hx : x ≤ m) :
    0 ≤ Ideal.exp (x - m) ∧ Ideal.exp (x - m) ≤ 1 := by
  lift m to ℝ using ⟨hm', hm⟩
  induction x using EReal.rec with
  | bot =>
    rw [EReal.bot_sub]
    exact ⟨le_rfl, zero_le_one⟩
  | top => exact absurd (top_le_iff.mp hx) (EReal.coe_ne_top m)
  | coe x =>
    have hx' : x ≤ m := EReal.coe_le_coe_iff.mp hx
    rw [← EReal.coe_sub, Ideal.exp_coe]
    refine ⟨by exact_mod_cast (Real.exp_pos _).le, ?_⟩
    have : Real.exp (x - m) ≤ 1 := Real.exp_le_one_iff.mpr (by linarith)
    exact_mod_cast this

theorem sum_mul_real {ι : Type} (t : Finset ι) (f : ι → EReal) {c : EReal} (h0 : 0 ≤ c) (h1 : c ≠ ⊤) :
    (∑ j ∈ t, f j) * c = ∑ j ∈ t, f j * c := by
  classical
  induction t using Finset.induction_on with
  | empty => simp
  | insert a t ha ih =>
    rw [Finset.sum_insert ha, Finset.sum_insert ha, EReal.right_distrib_of_nonneg_of_ne_top h0 h1, ih]

theorem sum_ne_top {ι : Type} (t : Finset ι) (f : ι → EReal) (h : ∀ j ∈ t, 0 ≤ f j ∧ f j ≤ 1) :
    0 ≤ ∑ j ∈ t, f j ∧ ∑ j ∈ t, f j ≠ ⊤ := by
  classical
  induction t using Finset.induction_on with
  | empty => simp
  | insert a t ha ih =>
    obtain ⟨i0, i1⟩ := ih fun j hj => h j (Finset.mem_insert_of_mem hj)
    obtain ⟨a0, a1⟩ := h a (Finset.mem_insert_self a t)
    rw [Finset.sum_insert ha]
    refine ⟨add_nonneg a0 i0, (EReal.add_lt_top ?_ i1).ne⟩
    exact (lt_of_le_of_lt a1 (by exact_mod_cast EReal.coe_lt_top 1)).ne

/-- **Dividing each weight by the sum first gives the same row.** -/
theorem sum_div_eq_attn (s v : Fin n → EReal) (h : ∀ j, s j ≠ ⊤) (hx : ∃ j, s j ≠ ⊥) :
    ∑ j, Ideal.div (rowExp s j) (∑ k, rowExp s k) * v j = attn s v := by
  obtain ⟨j₀, hj₀⟩ := hx
  have hle : ∀ j, s j ≤ rowMax s := fun j => fold_max_le _ s j (Finset.mem_univ j)
  have hb : rowMax s ≠ ⊥ := fun e => hj₀ (le_bot_iff.mp (e ▸ hle j₀))
  obtain ⟨jm, -, hjm⟩ := fold_max_attained Finset.univ s hb
  have ht : rowMax s ≠ ⊤ := fun e => h jm (hjm.trans e)
  have hp : ∀ j ∈ (Finset.univ : Finset (Fin n)), 0 ≤ rowExp s j ∧ rowExp s j ≤ 1 := fun j _ => exp_sub_bounds hb ht (hle j)
  obtain ⟨L0, L1⟩ := sum_ne_top Finset.univ (rowExp s) hp
  have hpm : rowExp s jm = 1 := by
    have e : s jm = rowMax s := hjm
    unfold rowExp
    rw [e]
    generalize rowMax s = m at hb ht
    lift m to ℝ using ⟨ht, hb⟩
    rw [← EReal.coe_sub, sub_self, Ideal.exp_coe, Real.exp_zero, EReal.coe_one]
  have L2 : (1 : EReal) ≤ ∑ k, rowExp s k := by
    rw [← hpm]
    exact Finset.single_le_sum (fun j hj => (hp j hj).1) (Finset.mem_univ jm)
  unfold attn
  generalize (∑ k, rowExp s k) = L at L0 L1 L2
  have Lb : L ≠ ⊥ := fun e => by rw [e] at L0; exact absurd L0 (by simp)
  lift L to ℝ using ⟨L1, Lb⟩
  have Lp : (1 : ℝ) ≤ L := by exact_mod_cast L2
  have Lne : L ≠ 0 := by linarith
  rw [Ideal.div_coe Lne]
  have c0 : (0 : EReal) ≤ ((1 / L : ℝ) : EReal) := by
    have : (0 : ℝ) ≤ 1 / L := by positivity
    exact_mod_cast this
  rw [sum_mul_real _ _ c0 (EReal.coe_ne_top _)]
  refine Finset.sum_congr rfl fun j _ => ?_
  rw [Ideal.div_coe Lne, mul_right_comm]

end Cert.Natten

end
-- ==== Proof.Row.lean ====
module

public import proofs.«01_k».proof.Proof.Gen.KernelIdeal.Skeleton
public import proofs.«01_k».proof.Proof.Softmax
public import Idealize.ShloMosaic.Lib.Pointwise

@[expose] public section

set_option maxRecDepth 16384

noncomputable section

namespace Cert.Natten

open Cert.KernelIdeal Cert.KernelIdeal.Gen Idealize.ShloMosaic Idealize.ShloMosaic.TcCoe Idealize.ShloMosaic.Pointwise

/-- The lane's head within the block of four heads. -/
theorem laneHead_apply : ∀ l : Fin 256, k0_pay4 (ix2 0 l) = BitVec.ofNat 32 (l.val / 64) := by
  decide +kernel

section Generic
variable {F : FTy → Type} [FloatOps F]

/-- One row of queries as the kernel computes it, from its loaded row of queries, its window of keys and of values, and the bias of its four heads. -/
def ROW (q : Vec F S1x64x256 .bf16) (kw vw : FVec F S512x256 .bf16) (b0 b1 b2 b3 : Vec F S1x1x1x64x512 .f32) : FVec F S1x64x256 .bf16 :=
  k0_pay12 k0_pay4 vw
    (k0_pay10 k0_pay4 kw (k0_pay7 q) (k0_pay8 q) (Scalar.ofBits .bf16 0x0000#16) k0_pay9 b0 b1 b2 b3)
    (k0_pay11 k0_pay4 kw (k0_pay7 q) (k0_pay8 q) (Scalar.ofBits .bf16 0x0000#16) k0_pay9 b0 b1 b2 b3)
end Generic

theorem select_head {α : Type} (d : Fin 256) (h : ℕ) (hh : h < 4) (a b : α) :
    Scalar.select (IntOp.cmpi CmpIPredicate.eq (k0_pay4 (ix2 0 d)) (BitVec.ofNat 32 h)) a b = if d.val / 64 = h then a else b := by
  rw [laneHead_apply]
  have hd : d.val / 64 < 4 := by omega
  by_cases e : d.val / 64 = h
  · rw [if_pos e, e]
    simp [IntOp.cmpi, Scalar.select]
  · rw [if_neg e]
    have : BitVec.ofNat 32 (d.val / 64) ≠ BitVec.ofNat 32 h := fun he => e (by
      have := congrArg BitVec.toNat he
      simp only [BitVec.toNat_ofNat] at this
      omega)
    have hb : (BitVec.ofNat 32 (d.val / 64) == BitVec.ofNat 32 h) = false := beq_eq_false_iff_ne.mpr this
    simp [IntOp.cmpi, Scalar.select, hb]

/-- A sum over the lanes of four heads in which one head's lanes count. -/
theorem sum_head (h : ℕ) (hh : h < 4) (f g : Fin 256 → EReal) :
    ∑ d : Fin 256, (if d.val / 64 = h then f d else 0) * g d
      = ∑ e : Fin 64, f ⟨64 * h + e.val, by omega⟩ * g ⟨64 * h + e.val, by omega⟩ := by
  rw [← Equiv.sum_comp (finProdFinEquiv (m := 4) (n := 64)), Fintype.sum_prod_type, Finset.sum_eq_single (⟨h, hh⟩ : Fin 4)]
  · refine Finset.sum_congr rfl fun e _ => ?_
    have hv : ((finProdFinEquiv ((⟨h, hh⟩ : Fin 4), e) : Fin (4 * 64))) = (⟨64 * h + e.val, by omega⟩ : Fin 256) :=
      Fin.ext (by simp [finProdFinEquiv]; omega)
    rw [hv, if_pos (by show (64 * h + e.val) / 64 = h; omega)]
  · intro k _ hk
    refine Finset.sum_eq_zero fun e _ => ?_
    have hv : ((finProdFinEquiv (k, e) : Fin (4 * 64))).val = e.val + 64 * k.val := rfl
    rw [if_neg, zero_mul]
    intro he
    apply hk
    apply Fin.ext
    have : (e.val + 64 * k.val) / 64 = h := he
    show k.val = h
    omega
  · intro hn
    exact absurd (Finset.mem_univ _) hn

theorem sum_head' (h : ℕ) (hh : h < 4) (f : Fin 256 → EReal) :
    ∑ d : Fin 256, (if d.val / 64 = h then f d else 0) = ∑ e : Fin 64, f ⟨64 * h + e.val, by omega⟩ := by
  have := sum_head h hh f (fun _ => 1)
  simpa only [mul_one] using this

theorem neg_infinity : Ideal.ofBits FTy.f32 0xFF800000#32 = ⊥ := by
  simp [Ideal.ofBits, Ideal.ieee]

variable (q : Vec Ideal S1x64x256 .bf16) (kw vw : FVec Ideal S512x256 .bf16) (b0 b1 b2 b3 : Vec Ideal S1x1x1x64x512 .f32)

/-- The scores of one query of one head against its window. -/
def blockScore (h : Fin 4) (qi : Fin 64) (j : Fin 512) : EReal :=
  (∑ e : Fin 64, q (ix3 0 qi ⟨64 * h.val + e.val, by omega⟩) * kw (ix2 j ⟨64 * h.val + e.val, by omega⟩))
    + (![b0, b1, b2, b3] h) (ix5 0 0 0 qi j)

theorem pay10_apply (h : Fin 4) (qi : Fin 64) (j : Fin 512) :
    (k0_pay10 k0_pay4 kw (k0_pay7 q) (k0_pay8 q) (Scalar.ofBits .bf16 0x0000#16) k0_pay9 b0 b1 b2 b3)
        (ix2 ⟨64 * h.val + qi.val, by omega⟩ j)
      = rowExp (blockScore q kw b0 b1 b2 b3 h qi) j := by
  have hq := qi.isLt
  have h2 : ∀ p, (⟨128 + qi.val - 64 - 64, p⟩ : Fin 64) = qi := fun p => Fin.ext (by show 128 + qi.val - 64 - 64 = qi.val; omega)
  have h3 : ∀ p, (⟨192 + qi.val - 64 - 64 - 64, p⟩ : Fin 64) = qi := fun p => Fin.ext (by show 192 + qi.val - 64 - 64 - 64 = qi.val; omega)
  unfold rowExp rowMax blockScore
  rcases h with ⟨h, hh⟩
  interval_cases h
  all_goals
    pointwise [k0_pay10, k0_pay7, k0_pay8, k0_pay9]
    simp (disch := omega) only [select_head, sum_head, sum_head', h2, h3, dif_pos, dif_neg, neg_infinity, Nat.add_sub_cancel_left, zero_add]
    try rfl

theorem pay12_apply (vw : FVec Ideal S512x256 .bf16) (p : FVec Ideal S256x512 .f32) (s : FVec Ideal S256 .f32)
    (qi : Fin 64) (l : Fin 256) (h : ℕ) (hl : h < 4) (hh : l.val / 64 = h) :
    k0_pay12 k0_pay4 vw p s (ix3 0 qi l)
      = Ideal.div (∑ j, p (ix2 ⟨64 * h + qi.val, by omega⟩ j) * vw (ix2 j l)) (s (ix1 ⟨64 * h + qi.val, by omega⟩)) := by
  pointwise [k0_pay12]
  simp (disch := omega) only [select_head]
  rw [hh]
  interval_cases h
  · rw [if_neg (by decide), if_neg (by decide), if_neg (by decide)]; simp only [Nat.mul_zero, Nat.zero_add]
  · rw [if_neg (by decide), if_neg (by decide), if_pos rfl]
  · rw [if_neg (by decide), if_pos rfl]
  · rw [if_pos rfl]

/-- **What one row of queries comes to.** -/
theorem ROW_apply (qi : Fin 64) (l : Fin 256) :
    ROW q kw vw b0 b1 b2 b3 (ix3 0 qi l)
      = attn (blockScore q kw b0 b1 b2 b3 ⟨l.val / 64, by omega⟩ qi) (fun j => vw (ix2 j l)) := by
  have hs : ∀ r : Fin 256, k0_pay11 k0_pay4 kw (k0_pay7 q) (k0_pay8 q) (Scalar.ofBits .bf16 0x0000#16) k0_pay9 b0 b1 b2 b3 (ix1 r)
      = ∑ j, k0_pay10 k0_pay4 kw (k0_pay7 q) (k0_pay8 q) (Scalar.ofBits .bf16 0x0000#16) k0_pay9 b0 b1 b2 b3 (ix2 r j) := by
    intro r
    pointwise [k0_pay11]
  unfold ROW attn
  rw [pay12_apply vw _ _ qi l (l.val / 64) (by omega) rfl, hs]
  have hp := fun j => pay10_apply q kw b0 b1 b2 b3 ⟨l.val / 64, by omega⟩ qi j
  simp only [hp]

end Cert.Natten

end
-- ==== Proof.Pieces.lean ====
/- What one grid step of the kernel stores: eight rows of queries, each the row of `Row` from its window of keys and values. -/
module

public import proofs.«01_k».proof.Proof.Own.KernelIdeal.Value
public import proofs.«01_k».proof.Proof.Row

@[expose] public section

set_option maxRecDepth 16384

noncomputable section

namespace Cert.Natten

open Cert.KernelIdeal Cert.KernelIdeal.Gen Idealize.ShloMosaic Idealize.ShloMosaic.TcCoe Idealize.SL.Sem

section Generic
variable {F : FTy → Type} [FloatOps F]

/-- The queries of row `rr` of a block of eight rows. -/
def qAt (x : Vec F S1x512x256 .bf16) (rr : Fin 8) : Vec F S1x64x256 .bf16 :=
  View.ld x (Rect.unit (s := S1x512x256) ![0, 64 * rr.val, 0] ![1, 64, 256] (by revert rr; decide))

/-- The bias of one head, where the window starts `start` rows above the table's middle. -/
def bAt (x : Vec F S1x4x8x64x512 .f32) (start : Fin 8) (h : Fin 4) : Vec F S1x1x1x64x512 .f32 :=
  View.ld x (Rect.unit (s := S1x4x8x64x512) ![0, h.val, start.val, 0, 0] ![1, 1, 1, 64, 512] (by revert start h; decide))

/-- The rows of a block from `off` on, `n` tokens of them. -/
abbrev cut (x : Vec F S1x512x256 .bf16) (off n : ℕ) (h : ∀ a, (![0, off, 0] : Fin 3 → ℕ) a + (![1, n, 256] : Fin 3 → ℕ) a ≤ S1x512x256.size a) :=
  View.ld x (Rect.unit (s := S1x512x256) ![0, off, 0] ![1, n, 256] h)

/-- The window of eight rows that starts at row `row` of three stacked blocks of eight. -/
def win (x1 x2 x3 : Vec F S1x512x256 .bf16) (row : ℕ) : FVec F S512x256 .bf16 :=
  match row with
  | 4 => k0_pay129 (cut x1 256 256 (by decide)) (cut x2 0 256 (by decide))
  | 5 => k0_pay137 (cut x1 320 192 (by decide)) (cut x2 0 320 (by decide))
  | 6 => k0_pay143 (cut x1 384 128 (by decide)) (cut x2 0 384 (by decide))
  | 7 => k0_pay154 (cut x1 448 64 (by decide)) (cut x2 0 448 (by decide))
  | 9 => k0_pay169 (cut x2 64 448 (by decide)) (cut x3 0 64 (by decide))
  | 10 => k0_pay176 (cut x2 128 384 (by decide)) (cut x3 0 128 (by decide))
  | 11 => k0_pay182 (cut x2 192 320 (by decide)) (cut x3 0 192 (by decide))
  | 12 => k0_pay129 (cut x2 256 256 (by decide)) (cut x3 0 256 (by decide))
  | _ => k0_pay5 (cut x2 0 512 (by decide))

/-- Row `rr` of a grid step, its window starting at row `row`. -/
def stepRow (x0 x1 x2 x3 x4 x5 x6 : Vec F S1x512x256 .bf16) (x7 : Vec F S1x4x8x64x512 .f32) (rr : Fin 8) (row : ℕ) (start : Fin 8) :
    FVec F S1x64x256 .bf16 :=
  ROW (qAt x0 rr) (win x1 x2 x3 row) (win x4 x5 x6 row) (bAt x7 start 0) (bAt x7 start 1) (bAt x7 start 2) (bAt x7 start 3)

/-- Eight rows stored one after the other, the last first. -/
def stored (P : Fin 8 → FVec F S1x64x256 .bf16) : List (View.Piece (Elt F) S1x512x256 .bf16) :=
  [⟨Rect.unit ![0, 448, 0] ![1, 64, 256] inb_S1x512x256_S1x64x256_0_448_0, P 7⟩,
   ⟨Rect.unit ![0, 384, 0] ![1, 64, 256] inb_S1x512x256_S1x64x256_0_384_0, P 6⟩,
   ⟨Rect.unit ![0, 320, 0] ![1, 64, 256] inb_S1x512x256_S1x64x256_0_320_0, P 5⟩,
   ⟨Rect.unit ![0, 256, 0] ![1, 64, 256] inb_S1x512x256_S1x64x256_0_256_0, P 4⟩,
   ⟨Rect.unit ![0, 192, 0] ![1, 64, 256] inb_S1x512x256_S1x64x256_0_192_0, P 3⟩,
   ⟨Rect.unit ![0, 128, 0] ![1, 64, 256] inb_S1x512x256_S1x64x256_0_128_0, P 2⟩,
   ⟨Rect.unit ![0, 64, 0] ![1, 64, 256] inb_S1x512x256_S1x64x256_0_64_0, P 1⟩,
   ⟨Rect.unit ![0, 0, 0] ![1, 64, 256] inb_S1x512x256_S1x64x256_0_0_0, P 0⟩]

/-- Where the windows of the rows of the first block start, in the stack of three blocks. -/
def rowsA : Fin 8 → ℕ := ![8, 8, 8, 8, 8, 9, 10, 11]
/-- The same of a block in the middle. -/
def rowsB : Fin 8 → ℕ := ![4, 5, 6, 7, 8, 9, 10, 11]
/-- The same of the last block. -/
def rowsC : Fin 8 → ℕ := ![4, 5, 6, 7, 8, 8, 8, 8]
/-- Where the bias table is entered, for the rows of the first block. -/
def startsA : Fin 8 → Fin 8 := ![7, 6, 5, 4, 3, 3, 3, 3]
/-- The same of a block in the middle. -/
def startsB : Fin 8 → Fin 8 := ![3, 3, 3, 3, 3, 3, 3, 3]
/-- The same of the last block. -/
def startsC : Fin 8 → Fin 8 := ![3, 3, 3, 3, 3, 2, 1, 0]

/-- What a step of the first block leaves in its output. -/
theorem out_A (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : cond0_0 i) (hc1 : ¬cond0_1 i) (hc2 : ¬cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) :
    out0_A_8 c i arg3 harg3 arg4 harg4 arg5 harg5 arg6 harg6 arg7 harg7 arg8 harg8 arg9 harg9 arg10 harg10 arg11 harg11 hc0 hc1 hc2 x0 x1 x2 x3 x4 x5 x6 x7 = View.canon (stored fun rr => stepRow x0 x1 x2 x3 x4 x5 x6 x7 rr (rowsA rr) (startsA rr)) := by
  unfold out0_A_8
  rw [View.read_writes_eq_canon _ _ _ (cover0_A_8 c i arg3 harg3 arg4 harg4 arg5 harg5 arg6 harg6 arg7 harg7 arg8 harg8 arg9 harg9 arg10 harg10 arg11 harg11 hc0 hc1 hc2 x0 x1 x2 x3 x4 x5 x6 x7)]
  unfold kernelRun0_A
  dsimp only
  sl_unfold_words
  simp only [View.readAt_eq_ld, harg3.read_unread, harg4.read_unread, harg5.read_unread, harg6.read_unread, harg7.read_unread, harg8.read_unread, harg9.read_unread, harg10.read_unread]
  rfl

/-- What a step of the middle block leaves in its output. -/
theorem out_B (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : ¬cond0_0 i) (hc1 : ¬cond0_1 i) (hc2 : cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) :
    out0_B_8 c i arg3 harg3 arg4 harg4 arg5 harg5 arg6 harg6 arg7 harg7 arg8 harg8 arg9 harg9 arg10 harg10 arg11 harg11 hc0 hc1 hc2 x0 x1 x2 x3 x4 x5 x6 x7 = View.canon (stored fun rr => stepRow x0 x1 x2 x3 x4 x5 x6 x7 rr (rowsB rr) (startsB rr)) := by
  unfold out0_B_8
  rw [View.read_writes_eq_canon _ _ _ (cover0_B_8 c i arg3 harg3 arg4 harg4 arg5 harg5 arg6 harg6 arg7 harg7 arg8 harg8 arg9 harg9 arg10 harg10 arg11 harg11 hc0 hc1 hc2 x0 x1 x2 x3 x4 x5 x6 x7)]
  unfold kernelRun0_B
  dsimp only
  sl_unfold_words
  simp only [View.readAt_eq_ld, harg3.read_unread, harg4.read_unread, harg5.read_unread, harg6.read_unread, harg7.read_unread, harg8.read_unread, harg9.read_unread, harg10.read_unread]
  rfl

/-- What a step of the last block leaves in its output. -/
theorem out_C (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x4x8x64x512 .f32) (harg10 : arg10.IsWhole) (arg11 : Memref sig .tc .vmem S1x512x256 .bf16) (harg11 : arg11.IsWhole) (hc0 : ¬cond0_0 i) (hc1 : cond0_1 i) (hc2 : ¬cond0_2 i)
    (x0 : Vec F S1x512x256 .bf16) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x4x8x64x512 .f32) :
    out0_C_8 c i arg3 harg3 arg4 harg4 arg5 harg5 arg6 harg6 arg7 harg7 arg8 harg8 arg9 harg9 arg10 harg10 arg11 harg11 hc0 hc1 hc2 x0 x1 x2 x3 x4 x5 x6 x7 = View.canon (stored fun rr => stepRow x0 x1 x2 x3 x4 x5 x6 x7 rr (rowsC rr) (startsC rr)) := by
  unfold out0_C_8
  rw [View.read_writes_eq_canon _ _ _ (cover0_C_8 c i arg3 harg3 arg4 harg4 arg5 harg5 arg6 harg6 arg7 harg7 arg8 harg8 arg9 harg9 arg10 harg10 arg11 harg11 hc0 hc1 hc2 x0 x1 x2 x3 x4 x5 x6 x7)]
  unfold kernelRun0_C
  dsimp only
  sl_unfold_words
  simp only [View.readAt_eq_ld, harg3.read_unread, harg4.read_unread, harg5.read_unread, harg6.read_unread, harg7.read_unread, harg8.read_unread, harg9.read_unread, harg10.read_unread]
  rfl

end Generic

end Cert.Natten

end
-- ==== Proof.Step.lean ====
/- One grid step of the kernel at an entry: the eight stored rows, and the window of keys and values each of them reads. -/
module

public import proofs.«01_k».proof.Proof.Pieces
public import Idealize.ShloMosaic.Lib.Pipeline.ValueKit

@[expose] public section

set_option maxRecDepth 16384

noncomputable section

namespace Cert.Natten

open Cert.KernelIdeal Cert.KernelIdeal.Gen Idealize.ShloMosaic Idealize.ShloMosaic.TcCoe Idealize.ShloMosaic.Pointwise

section Generic
variable {F : FTy → Type} [FloatOps F]

/-- The eight stored rows, read at an entry. -/
theorem stored_apply (P : Fin 8 → FVec F S1x64x256 .bf16) (y : S1x512x256.Idx) (rr : Fin 8) (qi : Fin 64) (l : Fin 256)
    (hy1 : (y 1).val = 64 * rr.val + qi.val) (hy2 : (y 2).val = l.val) : View.canon (stored P) y = P rr (ix3 0 qi l) := by
  have hx : ∀ (k : Fin 8) (x : S1x64x256.Idx), (y 1).val = 64 * k.val + (x 1).val → (y 2).val = (x 2).val →
      P k x = P rr (ix3 0 qi l) := by
    intro k x e1 e2
    have x1_lt : (x 1).val < 64 := (x 1).isLt
    have x0_lt : (x 0).val < 1 := (x 0).isLt
    have hk : k = rr := Fin.ext (by omega)
    subst hk
    congr 1
    funext a
    refine Fin.ext ?_
    match a with
    | ⟨0, _⟩ => show (x 0).val = 0; omega
    | ⟨1, _⟩ => show (x 1).val = qi.val; omega
    | ⟨2, _⟩ => show (x 2).val = l.val; omega
  unfold stored
  canon_tiles x h using View.cover_of_tiled_head _ _ _ (by rfl) y
  all_goals exact hx _ x (by first | exact h1 | (rw [h1]; simp)) h2

/-- Three blocks of eight rows, one after the other. -/
def stack (x1 x2 x3 : Vec F S1x512x256 .bf16) (n : ℕ) (l : Fin 256) : Elt F .bf16 :=
  if h : n < 512 then x1 (ix3 0 ⟨n, h⟩ l)
  else if h' : n < 1024 then x2 (ix3 0 ⟨n - 512, by omega⟩ l)
  else x3 (ix3 0 ⟨(n - 1024) % 512, by omega⟩ l)

theorem cut_apply (x : Vec F S1x512x256 .bf16) (off n : ℕ) (h) (k : Fin n) (l : Fin 256) (p : Fin 512) (hp : p.val = off + k.val) :
    cut x off n h (ix3 0 k l) = x (ix3 0 p l) :=
  View.ld_unit_apply_of x _ _ _ (ix3 0 k l) (ix3 0 p l) fun a => match a with
    | ⟨0, _⟩ => rfl
    | ⟨1, _⟩ => hp
    | ⟨2, _⟩ => (Nat.zero_add _).symm

theorem stack_fst (x1 x2 x3 : Vec F S1x512x256 .bf16) (n : ℕ) (l : Fin 256) (k : Fin 512) (h : n = k.val) :
    stack x1 x2 x3 n l = x1 (ix3 0 k l) := by
  subst h
  exact dif_pos k.isLt

theorem stack_snd (x1 x2 x3 : Vec F S1x512x256 .bf16) (n : ℕ) (l : Fin 256) (k : Fin 512) (h : n = 512 + k.val) :
    stack x1 x2 x3 n l = x2 (ix3 0 k l) := by
  subst h
  have hk := k.isLt
  refine (dif_neg (by omega)).trans ((dif_pos (by omega)).trans ?_)
  exact congrArg (fun n => x2 (ix3 0 n l)) (Fin.ext (Nat.add_sub_cancel_left 512 k.val))

theorem stack_trd (x1 x2 x3 : Vec F S1x512x256 .bf16) (n : ℕ) (l : Fin 256) (k : Fin 512) (h : n = 1024 + k.val) :
    stack x1 x2 x3 n l = x3 (ix3 0 k l) := by
  subst h
  have hk := k.isLt
  refine (dif_neg (by omega)).trans ((dif_neg (by omega)).trans ?_)
  exact congrArg (fun n => x3 (ix3 0 n l)) (Fin.ext (by show (1024 + k.val - 1024) % 512 = k.val; omega))

/-- A window is a run of eight rows of the stack. -/
theorem win_apply (x1 x2 x3 : Vec F S1x512x256 .bf16) (row : ℕ) (h4 : 4 ≤ row) (h12 : row ≤ 12) (j : Fin 512) (l : Fin 256) :
    win x1 x2 x3 row (ix2 j l) = stack x1 x2 x3 (64 * row + j.val) l := by
  have hj := j.isLt
  have h1 : ∀ (off n : ℕ) (h) (k : ℕ) (hk : k < n), 64 * row + j.val = off + k →
      cut x1 off n h (ix3 0 ⟨k, hk⟩ l) = stack x1 x2 x3 (64 * row + j.val) l := fun off n h k hk e => by
    have hh := h 1
    have hb : off + n ≤ 512 := hh
    exact (cut_apply x1 off n h ⟨k, hk⟩ l ⟨off + k, by omega⟩ rfl).trans (stack_fst x1 x2 x3 _ l _ e).symm
  have h2 : ∀ (off n : ℕ) (h) (k : ℕ) (hk : k < n), 64 * row + j.val = 512 + (off + k) →
      cut x2 off n h (ix3 0 ⟨k, hk⟩ l) = stack x1 x2 x3 (64 * row + j.val) l := fun off n h k hk e => by
    have hh := h 1
    have hb : off + n ≤ 512 := hh
    exact (cut_apply x2 off n h ⟨k, hk⟩ l ⟨off + k, by omega⟩ rfl).trans (stack_snd x1 x2 x3 _ l _ e).symm
  have h3 : ∀ (off n : ℕ) (h) (k : ℕ) (hk : k < n), 64 * row + j.val = 1024 + (off + k) →
      cut x3 off n h (ix3 0 ⟨k, hk⟩ l) = stack x1 x2 x3 (64 * row + j.val) l := fun off n h k hk e => by
    have hh := h 1
    have hb : off + n ≤ 512 := hh
    exact (cut_apply x3 off n h ⟨k, hk⟩ l ⟨off + k, by omega⟩ rfl).trans (stack_trd x1 x2 x3 _ l _ e).symm
  generalize hR : stack x1 x2 x3 (64 * row + j.val) l = R at h1 h2 h3 ⊢
  clear hR
  interval_cases row <;> unfold win <;>
    pointwise [k0_pay129, k0_pay137, k0_pay143, k0_pay154, k0_pay169, k0_pay176, k0_pay182, k0_pay5]
  all_goals try split_ifs
  all_goals first
    | (refine h1 _ _ _ _ _ ?_; omega)
    | (refine h2 _ _ _ _ _ ?_; omega)
    | (refine h3 _ _ _ _ _ ?_; omega)

theorem qAt_apply (x : Vec F S1x512x256 .bf16) (rr : Fin 8) (qi : Fin 64) (l : Fin 256) :
    qAt x rr (ix3 0 qi l) = x (ix3 0 ⟨64 * rr.val + qi.val, by omega⟩ l) :=
  cut_apply x (64 * rr.val) 64 _ qi l _ rfl

theorem bAt_apply (x : Vec F S1x4x8x64x512 .f32) (start : Fin 8) (h : Fin 4) (qi : Fin 64) (j : Fin 512) :
    bAt x start h (ix5 0 0 0 qi j) = x (ix5 0 h start qi j) :=
  View.ld_unit_apply_of x _ _ _ (ix5 0 0 0 qi j) (ix5 0 h start qi j) fun a => match a with
    | ⟨0, _⟩ => rfl
    | ⟨1, _⟩ => rfl
    | ⟨2, _⟩ => rfl
    | ⟨3, _⟩ => (Nat.zero_add _).symm
    | ⟨4, _⟩ => (Nat.zero_add _).symm

end Generic

/-- **What one stored row comes to.** -/
theorem stepRow_apply (x0 x1 x2 x3 x4 x5 x6 : Vec Ideal S1x512x256 .bf16) (x7 : Vec Ideal S1x4x8x64x512 .f32) (rr : Fin 8)
    (row : ℕ) (h4 : 4 ≤ row) (h12 : row ≤ 12) (start : Fin 8) (qi : Fin 64) (l : Fin 256) :
    stepRow x0 x1 x2 x3 x4 x5 x6 x7 rr row start (ix3 0 qi l)
      = attn (fun j => (∑ e : Fin 64, x0 (ix3 0 ⟨64 * rr.val + qi.val, by omega⟩ ⟨64 * (l.val / 64) + e.val, by omega⟩)
            * stack x1 x2 x3 (64 * row + j.val) ⟨64 * (l.val / 64) + e.val, by omega⟩)
          + x7 (ix5 0 ⟨l.val / 64, by omega⟩ start qi j))
        (fun j => stack x4 x5 x6 (64 * row + j.val) l) := by
  unfold stepRow
  rw [ROW_apply]
  congr 1
  · funext j
    unfold blockScore
    congr 1
    · refine Finset.sum_congr rfl fun e _ => ?_
      rw [qAt_apply, win_apply _ _ _ _ h4 h12]
    · have hb : ∀ h : Fin 4, (![bAt x7 start 0, bAt x7 start 1, bAt x7 start 2, bAt x7 start 3] h) = bAt x7 start h := by
        intro h; fin_cases h <;> rfl
      rw [hb, bAt_apply]
  · funext j
    rw [win_apply _ _ _ _ h4 h12]

end Cert.Natten

end
-- ==== Proof.Spec.lean ====
/- The neighbourhood attention as a function of its two arguments, over the extended reals: what both programs compute. -/
module

public import proofs.«01_k».proof.Proof.Softmax
public import proofs.«01_k».proof.ReferenceIdeal
public import Idealize.ShloMosaic.Lib.Pointwise

@[expose] public section

noncomputable section

namespace Cert.Natten

open Idealize.ShloMosaic Idealize.ShloMosaic.Pointwise

abbrev Proj : Shape := ⟨3, ![2, 16384, 6144]⟩
abbrev Rpb : Shape := ⟨3, ![16, 15, 31]⟩
abbrev Out : Shape := ⟨3, ![2, 16384, 1024]⟩

/-- The first column a query in column `q` sees. -/
def firstCol (q : Fin 64) : ℕ := min (q.val - 8) 48

/-- Whether a query in column `q` sees the keys in column `w`. -/
def sees (q w : Fin 64) : Prop := firstCol q ≤ w.val ∧ w.val < firstCol q + 16

instance (q w : Fin 64) : Decidable (sees q w) := by unfold sees; infer_instance

/-- The column of the bias table for a query in column `q` and a key in column `w`. -/
def biasCol (q w : Fin 64) : Fin 31 := ⟨min (w.val + 15 - q.val) 30, by omega⟩

/-- The first row of the grid that the queries of row `r` see. -/
def firstRow (r : Fin 256) : ℕ := min (r.val - 4) 248

theorem firstRow_le (r : Fin 256) : firstRow r ≤ 248 := Nat.min_le_right _ _

/-- The row of the bias table for queries of row `r` and the `i`-th row they see. -/
def biasRow (r : Fin 256) (i : ℕ) : Fin 15 := ⟨min (firstRow r + i + 7 - r.val) 14, by omega⟩

/-- The `j`-th token of the window of row `r`. -/
def token (r : Fin 256) (j : Fin 512) : Fin 16384 := ⟨64 * firstRow r + j.val, by have := firstRow_le r; omega⟩

/-- The place of the query in row `r` and column `q`. -/
def place (r : Fin 256) (q : Fin 64) : Fin 16384 := ⟨64 * r.val + q.val, by omega⟩

variable (P : Proj.Idx → EReal) (R : Rpb.Idx → EReal)

/-- The query's product with the `j`-th key of its window. -/
def dots (b : Fin 2) (r : Fin 256) (h : Fin 16) (q : Fin 64) (j : Fin 512) : EReal :=
  ∑ e : Fin 64, P (ix3 b (place r q) ⟨3072 + (64 * h.val + e.val), by omega⟩)
    * P (ix3 b (token r j) ⟨4096 + (64 * h.val + e.val), by omega⟩)

/-- The bias of the `j`-th key of the window. -/
def biasOf (r : Fin 256) (h : Fin 16) (q : Fin 64) (j : Fin 512) : EReal :=
  R (ix3 h (biasRow r (j.val / 64)) (biasCol q ⟨j.val % 64, by omega⟩))

/-- The scores of a query: `−∞` at the keys of its window whose column it does not see. -/
def score (b : Fin 2) (r : Fin 256) (h : Fin 16) (q : Fin 64) (j : Fin 512) : EReal :=
  if sees q ⟨j.val % 64, by omega⟩ then dots P b r h q j + biasOf R r h q j else ⊥

/-- The `j`-th value of the window, at lane `l`. -/
def vals (b : Fin 2) (r : Fin 256) (l : Fin 1024) (j : Fin 512) : EReal :=
  P (ix3 b (token r j) ⟨5120 + l.val, by omega⟩)

/-- One entry of the layer's attention. -/
def entry (b : Fin 2) (r : Fin 256) (q : Fin 64) (l : Fin 1024) : EReal :=
  attn (score P R b r ⟨l.val / 64, by omega⟩ q) (vals P b r l)

/-- **The neighbourhood attention.** -/
def natten : Out.Idx → EReal := fun i =>
  entry P R ⟨(i 0).val, (i 0).isLt⟩ ⟨(i 1).val / 64, by have h : (i 1).val < 16384 := (i 1).isLt; omega⟩
    ⟨(i 1).val % 64, by omega⟩ ⟨(i 2).val, (i 2).isLt⟩

/-- Every query sees some key. -/
theorem sees_some (q : Fin 64) : ∃ j : Fin 512, sees q ⟨j.val % 64, by omega⟩ := by
  refine ⟨⟨firstCol q, by unfold firstCol; omega⟩, ?_⟩
  have h : firstCol q < 64 := by unfold firstCol; omega
  unfold sees
  show firstCol q ≤ firstCol q % 64 ∧ firstCol q % 64 < firstCol q + 16
  omega

theorem real_sum {ι : Type} (s : Finset ι) (f : ι → EReal) (h : ∀ i, ∃ x : ℝ, f i = x) : ∃ x : ℝ, ∑ i ∈ s, f i = x := by
  classical
  induction s using Finset.induction_on with
  | empty => exact ⟨0, by simp⟩
  | insert a s ha ih =>
    obtain ⟨x, hx⟩ := ih
    obtain ⟨y, hy⟩ := h a
    exact ⟨y + x, by rw [Finset.sum_insert ha, hx, hy, EReal.coe_add]⟩

theorem real_dots (hP : ∀ i, ∃ x : ℝ, P i = x) (b : Fin 2) (r : Fin 256) (h : Fin 16) (q : Fin 64) (j : Fin 512) :
    ∃ x : ℝ, dots P b r h q j = x := by
  refine real_sum _ _ fun e => ?_
  obtain ⟨x, hx⟩ := hP (ix3 b (place r q) ⟨3072 + (64 * h.val + e.val), by omega⟩)
  obtain ⟨y, hy⟩ := hP (ix3 b (token r j) ⟨4096 + (64 * h.val + e.val), by omega⟩)
  exact ⟨x * y, by rw [hx, hy, EReal.coe_mul]⟩

theorem score_ne_top (hP : ∀ i, ∃ x : ℝ, P i = x) (hR : ∀ i, ∃ x : ℝ, R i = x) (b : Fin 2) (r : Fin 256) (h : Fin 16)
    (q : Fin 64) (j : Fin 512) : score P R b r h q j ≠ ⊤ := by
  obtain ⟨x, hx⟩ := real_dots P hP b r h q j
  obtain ⟨y, hy⟩ := hR (ix3 h (biasRow r (j.val / 64)) (biasCol q ⟨j.val % 64, by omega⟩))
  unfold score biasOf
  rw [hx, hy]
  split_ifs
  · rw [← EReal.coe_add]; exact EReal.coe_ne_top _
  · exact bot_ne_top

theorem score_ne_bot (hP : ∀ i, ∃ x : ℝ, P i = x) (hR : ∀ i, ∃ x : ℝ, R i = x) (b : Fin 2) (r : Fin 256) (h : Fin 16)
    (q : Fin 64) : ∃ j, score P R b r h q j ≠ ⊥ := by
  obtain ⟨j, hj⟩ := sees_some q
  refine ⟨j, ?_⟩
  obtain ⟨x, hx⟩ := real_dots P hP b r h q j
  obtain ⟨y, hy⟩ := hR (ix3 h (biasRow r (j.val / 64)) (biasCol q ⟨j.val % 64, by omega⟩))
  unfold score biasOf
  rw [if_pos hj, hx, hy, ← EReal.coe_add]
  exact EReal.coe_ne_bot _

end Cert.Natten

end
-- ==== Proof.RefTables.lean ====
/- The integer tables of the reference (the columns a query sees, the rows of the window, the places in the bias table),
   and its four gathers read at an index. -/
module

public import proofs.«01_k».proof.Proof.Spec
public import proofs.«01_k».proof.Proof.Gen.ReferenceIdeal.Read

@[expose] public section

set_option maxRecDepth 16384

noncomputable section

namespace Cert.Natten.Ref

open Cert.ReferenceIdeal Cert.ReferenceIdeal.Gen Cert.ReferenceIdeal.Read Idealize.ShloMosaic Idealize.ShloMosaic.Pointwise

theorem biasCol_table : ∀ q w : Fin 64, min (val_main_v38 (F := Ideal) (ix3 q w 0)).toInt.toNat 30 = (biasCol q w).val := by
  decide +kernel

theorem sees_table : ∀ q w : Fin 64, val_main_v22 (F := Ideal) (ix2 q w) = if sees q w then 1#1 else 0#1 := by
  decide +kernel

theorem window_table : ∀ (r : Fin 256) (i : Fin 8), min (val_main_v55 (F := Ideal) (ix3 r i 0)).toInt.toNat 255 = firstRow r + i.val := by
  decide +kernel

theorem window_table' : ∀ (r : Fin 256) (i : Fin 8), min (val_main_v63 (F := Ideal) (ix3 r i 0)).toInt.toNat 255 = firstRow r + i.val := by
  decide +kernel

theorem biasRow_table : ∀ (r : Fin 256) (i : Fin 8), min (val_main_v79 (F := Ideal) (ix3 r i 0)).toInt.toNat 14 = (biasRow r i.val).val := by
  decide +kernel

end Cert.Natten.Ref

end
-- ==== Proof.RefValue.lean ====
/- What the reference computes: the neighbourhood attention of `Spec`, where the arguments are real numbers. -/
module

public import proofs.«01_k».proof.Proof.RefTables
public import Idealize.ShloMosaic.Lib.KernelVsHost

@[expose] public section

set_option maxRecDepth 16384

noncomputable section

namespace Cert.Natten.Ref

open Cert.ReferenceIdeal Cert.ReferenceIdeal.Gen Cert.ReferenceIdeal.Read Idealize.ShloMosaic Idealize.ShloMosaic.Pointwise

section Gathers
variable {α : Type}

/-- The gather of the bias table's columns, read at an index. -/
theorem gather_cols (x : S16x15x31.Idx → α) (idx : IVec S64x64x1 32) (h : Fin 16) (t : Fin 15) (q w : Fin 64) :
    Host.gather gather_S16x15x31_S64x64x1_S16x15x64x64_01_2_n_n_2_2_16151 x idx (ix4 h t q w)
      = x (ix3 h t ⟨min (idx (ix3 q w 0)).toInt.toNat 30, by omega⟩) := by
  unfold Host.gather
  congr 1
  funext a
  refine Fin.ext ?_
  let d := gather_S16x15x31_S64x64x1_S16x15x64x64_01_2_n_n_2_2_16151
  show d.start (ix4 h t q w) idx a + d.batchCoord (ix4 h t q w) a + d.offCoord (ix4 h t q w) a = _
  have hsi : ∀ k, d.siIdx (ix4 h t q w) k = ix3 q w 0 := fun k => by
    funext b; refine Fin.ext ?_
    match b with
    | ⟨0, _⟩ => rfl
    | ⟨1, _⟩ => rfl
    | ⟨2, _⟩ => have := k.isLt; have h1 : d.startIndexMap.length = 1 := rfl; show k.val = 0; omega
  match a with
  | ⟨0, _⟩ =>
    have e1 : d.start (ix4 h t q w) idx (0 : Fin 3) = 0 := rfl
    have e2 : d.batchCoord (ix4 h t q w) (0 : Fin 3) = 0 := rfl
    have e3 : d.offCoord (ix4 h t q w) (0 : Fin 3) = h.val := rfl
    show d.start (ix4 h t q w) idx (0 : Fin 3) + d.batchCoord (ix4 h t q w) (0 : Fin 3) + d.offCoord (ix4 h t q w) (0 : Fin 3) = h.val
    omega
  | ⟨1, _⟩ =>
    have e1 : d.start (ix4 h t q w) idx (1 : Fin 3) = 0 := rfl
    have e2 : d.batchCoord (ix4 h t q w) (1 : Fin 3) = 0 := rfl
    have e3 : d.offCoord (ix4 h t q w) (1 : Fin 3) = t.val := rfl
    show d.start (ix4 h t q w) idx (1 : Fin 3) + d.batchCoord (ix4 h t q w) (1 : Fin 3) + d.offCoord (ix4 h t q w) (1 : Fin 3) = t.val
    omega
  | ⟨2, _⟩ =>
    have e1 : d.start (ix4 h t q w) idx (2 : Fin 3) = min (idx (d.siIdx (ix4 h t q w) ⟨0, by decide⟩)).toInt.toNat 30 := rfl
    have e2 : d.batchCoord (ix4 h t q w) (2 : Fin 3) = 0 := rfl
    have e3 : d.offCoord (ix4 h t q w) (2 : Fin 3) = 0 := rfl
    rw [hsi] at e1
    show d.start (ix4 h t q w) idx (2 : Fin 3) + d.batchCoord (ix4 h t q w) (2 : Fin 3) + d.offCoord (ix4 h t q w) (2 : Fin 3) = min (idx (ix3 q w 0)).toInt.toNat 30
    omega

/-- The gather of the window's rows of tokens, read at an index. -/
theorem gather_tokens (x : S2x256x64x1024.Idx → α) (idx : IVec S256x8x1 32) (b : Fin 2) (r : Fin 256) (i : Fin 8) (w : Fin 64) (l : Fin 1024) :
    Host.gather gather_S2x256x64x1024_S256x8x1_S2x256x8x64x1024_034_1_n_n_1_2_21641024 x idx (ix5 b r i w l)
      = x (ix4 b ⟨min (idx (ix3 r i 0)).toInt.toNat 255, by omega⟩ w l) := by
  unfold Host.gather
  congr 1
  funext a
  refine Fin.ext ?_
  let d := gather_S2x256x64x1024_S256x8x1_S2x256x8x64x1024_034_1_n_n_1_2_21641024
  show d.start (ix5 b r i w l) idx a + d.batchCoord (ix5 b r i w l) a + d.offCoord (ix5 b r i w l) a = _
  have hsi : ∀ k, d.siIdx (ix5 b r i w l) k = ix3 r i 0 := fun k => by
    funext b; refine Fin.ext ?_
    match b with
    | ⟨0, _⟩ => rfl
    | ⟨1, _⟩ => rfl
    | ⟨2, _⟩ => have := k.isLt; have h1 : d.startIndexMap.length = 1 := rfl; show k.val = 0; omega
  match a with
  | ⟨0, _⟩ =>
    have e1 : d.start (ix5 b r i w l) idx (0 : Fin 4) = 0 := rfl
    have e2 : d.batchCoord (ix5 b r i w l) (0 : Fin 4) = 0 := rfl
    have e3 : d.offCoord (ix5 b r i w l) (0 : Fin 4) = b.val := rfl
    show d.start (ix5 b r i w l) idx (0 : Fin 4) + d.batchCoord (ix5 b r i w l) (0 : Fin 4) + d.offCoord (ix5 b r i w l) (0 : Fin 4) = b.val
    omega
  | ⟨1, _⟩ =>
    have e1 : d.start (ix5 b r i w l) idx (1 : Fin 4) = min (idx (d.siIdx (ix5 b r i w l) ⟨0, by decide⟩)).toInt.toNat 255 := rfl
    have e2 : d.batchCoord (ix5 b r i w l) (1 : Fin 4) = 0 := rfl
    have e3 : d.offCoord (ix5 b r i w l) (1 : Fin 4) = 0 := rfl
    rw [hsi] at e1
    show d.start (ix5 b r i w l) idx (1 : Fin 4) + d.batchCoord (ix5 b r i w l) (1 : Fin 4) + d.offCoord (ix5 b r i w l) (1 : Fin 4) = min (idx (ix3 r i 0)).toInt.toNat 255
    omega
  | ⟨2, _⟩ =>
    have e1 : d.start (ix5 b r i w l) idx (2 : Fin 4) = 0 := rfl
    have e2 : d.batchCoord (ix5 b r i w l) (2 : Fin 4) = 0 := rfl
    have e3 : d.offCoord (ix5 b r i w l) (2 : Fin 4) = w.val := rfl
    show d.start (ix5 b r i w l) idx (2 : Fin 4) + d.batchCoord (ix5 b r i w l) (2 : Fin 4) + d.offCoord (ix5 b r i w l) (2 : Fin 4) = w.val
    omega
  | ⟨3, _⟩ =>
    have e1 : d.start (ix5 b r i w l) idx (3 : Fin 4) = 0 := rfl
    have e2 : d.batchCoord (ix5 b r i w l) (3 : Fin 4) = 0 := rfl
    have e3 : d.offCoord (ix5 b r i w l) (3 : Fin 4) = l.val := rfl
    show d.start (ix5 b r i w l) idx (3 : Fin 4) + d.batchCoord (ix5 b r i w l) (3 : Fin 4) + d.offCoord (ix5 b r i w l) (3 : Fin 4) = l.val
    omega

/-- The gather of the bias table's rows, read at an index. -/
theorem gather_biasRows (x : S16x15x64x64.Idx → α) (idx : IVec S256x8x1 32) (h : Fin 16) (r : Fin 256) (i : Fin 8) (q w : Fin 64) :
    Host.gather gather_S16x15x64x64_S256x8x1_S16x256x8x64x64_034_1_n_n_1_2_1616464 x idx (ix5 h r i q w)
      = x (ix4 h ⟨min (idx (ix3 r i 0)).toInt.toNat 14, by omega⟩ q w) := by
  unfold Host.gather
  congr 1
  funext a
  refine Fin.ext ?_
  let d := gather_S16x15x64x64_S256x8x1_S16x256x8x64x64_034_1_n_n_1_2_1616464
  show d.start (ix5 h r i q w) idx a + d.batchCoord (ix5 h r i q w) a + d.offCoord (ix5 h r i q w) a = _
  have hsi : ∀ k, d.siIdx (ix5 h r i q w) k = ix3 r i 0 := fun k => by
    funext b; refine Fin.ext ?_
    match b with
    | ⟨0, _⟩ => rfl
    | ⟨1, _⟩ => rfl
    | ⟨2, _⟩ => have := k.isLt; have h1 : d.startIndexMap.length = 1 := rfl; show k.val = 0; omega
  match a with
  | ⟨0, _⟩ =>
    have e1 : d.start (ix5 h r i q w) idx (0 : Fin 4) = 0 := rfl
    have e2 : d.batchCoord (ix5 h r i q w) (0 : Fin 4) = 0 := rfl
    have e3 : d.offCoord (ix5 h r i q w) (0 : Fin 4) = h.val := rfl
    show d.start (ix5 h r i q w) idx (0 : Fin 4) + d.batchCoord (ix5 h r i q w) (0 : Fin 4) + d.offCoord (ix5 h r i q w) (0 : Fin 4) = h.val
    omega
  | ⟨1, _⟩ =>
    have e1 : d.start (ix5 h r i q w) idx (1 : Fin 4) = min (idx (d.siIdx (ix5 h r i q w) ⟨0, by decide⟩)).toInt.toNat 14 := rfl
    have e2 : d.batchCoord (ix5 h r i q w) (1 : Fin 4) = 0 := rfl
    have e3 : d.offCoord (ix5 h r i q w) (1 : Fin 4) = 0 := rfl
    rw [hsi] at e1
    show d.start (ix5 h r i q w) idx (1 : Fin 4) + d.batchCoord (ix5 h r i q w) (1 : Fin 4) + d.offCoord (ix5 h r i q w) (1 : Fin 4) = min (idx (ix3 r i 0)).toInt.toNat 14
    omega
  | ⟨2, _⟩ =>
    have e1 : d.start (ix5 h r i q w) idx (2 : Fin 4) = 0 := rfl
    have e2 : d.batchCoord (ix5 h r i q w) (2 : Fin 4) = 0 := rfl
    have e3 : d.offCoord (ix5 h r i q w) (2 : Fin 4) = q.val := rfl
    show d.start (ix5 h r i q w) idx (2 : Fin 4) + d.batchCoord (ix5 h r i q w) (2 : Fin 4) + d.offCoord (ix5 h r i q w) (2 : Fin 4) = q.val
    omega
  | ⟨3, _⟩ =>
    have e1 : d.start (ix5 h r i q w) idx (3 : Fin 4) = 0 := rfl
    have e2 : d.batchCoord (ix5 h r i q w) (3 : Fin 4) = 0 := rfl
    have e3 : d.offCoord (ix5 h r i q w) (3 : Fin 4) = w.val := rfl
    show d.start (ix5 h r i q w) idx (3 : Fin 4) + d.batchCoord (ix5 h r i q w) (3 : Fin 4) + d.offCoord (ix5 h r i q w) (3 : Fin 4) = w.val
    omega

end Gathers

variable (P : S2x16384x6144.Idx → EReal) (R : S16x15x31.Idx → EReal)

theorem split_window (b : Fin 2) (r : Fin 256) (n : Fin 512) (h : Fin 16) (e : Fin 64) :
    idx_main_v57 (ix5 b r n h e)
      = ix5 b r (⟨n.val / 64, by omega⟩ : Fin 8) (⟨n.val % 64, by omega⟩ : Fin 64) (⟨64 * h.val + e.val, by omega⟩ : Fin 1024) := by
  have hb := b.isLt; have hr := r.isLt; have hn := n.isLt; have hh := h.isLt; have he := e.isLt
  funext a
  refine Fin.ext ?_
  match a with
  | ⟨0, _⟩ => show ((((b.val * 256 + r.val) * 512 + n.val) * 16 + h.val) * 64 + e.val) / 134217728 = b.val; omega
  | ⟨1, _⟩ => show ((((b.val * 256 + r.val) * 512 + n.val) * 16 + h.val) * 64 + e.val) / 524288 % 256 = r.val; omega
  | ⟨2, _⟩ => show ((((b.val * 256 + r.val) * 512 + n.val) * 16 + h.val) * 64 + e.val) / 65536 % 8 = n.val / 64; omega
  | ⟨3, _⟩ => show ((((b.val * 256 + r.val) * 512 + n.val) * 16 + h.val) * 64 + e.val) / 1024 % 64 = n.val % 64; omega
  | ⟨4, _⟩ => show ((((b.val * 256 + r.val) * 512 + n.val) * 16 + h.val) * 64 + e.val) % 1024 = 64 * h.val + e.val; omega

theorem query_apply (b : Fin 2) (r : Fin 256) (q : Fin 64) (h : Fin 16) (e : Fin 64) :
    val_main_v1 (F := Ideal) P (ix5 b r q h e) = P (ix3 b (place r q) ⟨3072 + (64 * h.val + e.val), by omega⟩) := by
  have hb := b.isLt; have hr := r.isLt; have hq := q.isLt; have hh := h.isLt; have he := e.isLt
  rw [val_main_v1_apply, val_main_v0_apply]
  refine congrArg P (funext fun a => Fin.ext ?_)
  match a with
  | ⟨0, _⟩ => show ((((b.val * 256 + r.val) * 64 + q.val) * 16 + h.val) * 64 + e.val) / 16777216 = b.val; omega
  | ⟨1, _⟩ => show ((((b.val * 256 + r.val) * 64 + q.val) * 16 + h.val) * 64 + e.val) / 1024 % 16384 = 64 * r.val + q.val; omega
  | ⟨2, _⟩ => show 3072 + ((((b.val * 256 + r.val) * 64 + q.val) * 16 + h.val) * 64 + e.val) % 1024 = 3072 + (64 * h.val + e.val); omega

theorem key_apply (b : Fin 2) (r : Fin 256) (n : Fin 512) (h : Fin 16) (e : Fin 64) :
    val_main_v57 (F := Ideal) P (ix5 b r n h e) = P (ix3 b (token r n) ⟨4096 + (64 * h.val + e.val), by omega⟩) := by
  have hb := b.isLt; have hr := r.isLt; have hn := n.isLt; have hh := h.isLt; have he := e.isLt; have hf := firstRow_le r
  rw [val_main_v57_apply, split_window]
  unfold val_main_v56
  rw [gather_tokens, val_main_v3_apply, val_main_v2_apply]
  have key : ∀ (k : ℕ) (hk : k < 256), k = firstRow r + n.val / 64 →
      P (idx_main_v2 (idx_main_v3 (ix4 b ⟨k, hk⟩ (⟨n.val % 64, by omega⟩ : Fin 64) (⟨64 * h.val + e.val, by omega⟩ : Fin 1024))))
        = P (ix3 b (token r n) ⟨4096 + (64 * h.val + e.val), by omega⟩) := by
    intro k hk ht
    refine congrArg P (funext fun a => Fin.ext ?_)
    match a with
    | ⟨0, _⟩ => show (((b.val * 256 + k) * 64 + n.val % 64) * 1024 + (64 * h.val + e.val)) / 16777216 = b.val; omega
    | ⟨1, _⟩ => show (((b.val * 256 + k) * 64 + n.val % 64) * 1024 + (64 * h.val + e.val)) / 1024 % 16384 = 64 * firstRow r + n.val; omega
    | ⟨2, _⟩ => show 4096 + (((b.val * 256 + k) * 64 + n.val % 64) * 1024 + (64 * h.val + e.val)) % 1024 = 4096 + (64 * h.val + e.val); omega
  exact key _ _ (window_table r ⟨n.val / 64, by omega⟩)

theorem value_apply (b : Fin 2) (r : Fin 256) (n : Fin 512) (h : Fin 16) (e : Fin 64) :
    val_main_v65 (F := Ideal) P (ix5 b r n h e) = vals P b r ⟨64 * h.val + e.val, by omega⟩ n := by
  have hb := b.isLt; have hr := r.isLt; have hn := n.isLt; have hh := h.isLt; have he := e.isLt; have hf := firstRow_le r
  rw [val_main_v65_apply, show idx_main_v65 (ix5 b r n h e) = idx_main_v57 (ix5 b r n h e) from rfl, split_window]
  unfold val_main_v64
  rw [gather_tokens, val_main_v5_apply, val_main_v4_apply]
  have key : ∀ (k : ℕ) (hk : k < 256), k = firstRow r + n.val / 64 →
      P (idx_main_v4 (idx_main_v5 (ix4 b ⟨k, hk⟩ (⟨n.val % 64, by omega⟩ : Fin 64) (⟨64 * h.val + e.val, by omega⟩ : Fin 1024))))
        = P (ix3 b (token r n) ⟨5120 + (64 * h.val + e.val), by omega⟩) := by
    intro k hk ht
    refine congrArg P (funext fun a => Fin.ext ?_)
    match a with
    | ⟨0, _⟩ => show (((b.val * 256 + k) * 64 + n.val % 64) * 1024 + (64 * h.val + e.val)) / 16777216 = b.val; omega
    | ⟨1, _⟩ => show (((b.val * 256 + k) * 64 + n.val % 64) * 1024 + (64 * h.val + e.val)) / 1024 % 16384 = 64 * firstRow r + n.val; omega
    | ⟨2, _⟩ => show 5120 + (((b.val * 256 + k) * 64 + n.val % 64) * 1024 + (64 * h.val + e.val)) % 1024 = 5120 + (64 * h.val + e.val); omega
  exact key _ _ (window_table' r ⟨n.val / 64, by omega⟩)

theorem bias_apply (b : Fin 2) (r : Fin 256) (h : Fin 16) (q : Fin 64) (n : Fin 512) :
    val_main_v84 (F := Ideal) R (ix5 b r h q n) = biasOf R r h q n := by
  have hr := r.isLt; have hn := n.isLt; have hh := h.isLt; have hq := q.isLt
  rw [val_main_v84_apply, val_main_v83_apply, val_main_v82_apply, val_main_v81_apply]
  have hi : idx_main_v81 (idx_main_v82 (idx_main_v83 (idx_main_v84 (ix5 b r h q n))))
      = ix5 h r (⟨n.val / 64, by omega⟩ : Fin 8) q (⟨n.val % 64, by omega⟩ : Fin 64) := by
    funext a
    refine Fin.ext ?_
    match a with
    | ⟨0, _⟩ => show (((r.val * 16 + h.val) * 64 + q.val) * 512 + n.val) / 32768 % 16 = h.val; omega
    | ⟨1, _⟩ => show (((r.val * 16 + h.val) * 64 + q.val) * 512 + n.val) / 524288 = r.val; omega
    | ⟨2, _⟩ => show (((r.val * 16 + h.val) * 64 + q.val) * 512 + n.val) / 64 % 8 = n.val / 64; omega
    | ⟨3, _⟩ => show (((r.val * 16 + h.val) * 64 + q.val) * 512 + n.val) / 512 % 64 = q.val; omega
    | ⟨4, _⟩ => show (((r.val * 16 + h.val) * 64 + q.val) * 512 + n.val) % 64 = n.val % 64; omega
  rw [hi]
  unfold val_main_v80
  rw [gather_biasRows]
  unfold val_main_v39
  rw [gather_cols]
  unfold biasOf
  have key : ∀ (k : ℕ) (hk : k < 15) (l : ℕ) (hl : l < 31), k = (biasRow r (n.val / 64)).val → l = (biasCol q ⟨n.val % 64, by omega⟩).val →
      R (ix3 h (⟨k, hk⟩ : Fin 15) (⟨l, hl⟩ : Fin 31)) = R (ix3 h (biasRow r (n.val / 64)) (biasCol q ⟨n.val % 64, by omega⟩)) := by
    intro k hk l hl h1 h2
    exact congrArg R (congrArg₂ (ix3 h) (Fin.ext h1) (Fin.ext h2))
  exact key _ _ _ _ (biasRow_table r ⟨n.val / 64, by omega⟩) (biasCol_table q ⟨n.val % 64, by omega⟩)

theorem mask_apply (b : Fin 2) (r : Fin 256) (h : Fin 16) (q : Fin 64) (n : Fin 512) :
    val_main_call3_v1 (F := Ideal) (ix5 b r h q n) = if sees q ⟨n.val % 64, by omega⟩ then 1#1 else 0#1 := by
  have hn := n.isLt; have hq := q.isLt
  rw [val_main_call3_v1_apply, val_main_v88_apply, val_main_v87_apply, val_main_v86_apply, ← sees_table]
  refine congrArg (val_main_v22 (F := Ideal)) (funext fun a => Fin.ext ?_)
  match a with
  | ⟨0, _⟩ => show (((0 * 64 + (q.val * 512 + n.val) / 512 % 64) * 1 + 0) * 64 + (q.val * 512 + n.val) % 64) / 64 = q.val; omega
  | ⟨1, _⟩ => show (((0 * 64 + (q.val * 512 + n.val) / 512 % 64) * 1 + 0) * 64 + (q.val * 512 + n.val) % 64) % 64 = n.val % 64; omega

theorem score_apply (b : Fin 2) (r : Fin 256) (h : Fin 16) (q : Fin 64) (n : Fin 512) :
    val_main_v89 (F := Ideal) P R (ix5 b r h q n) = score P R b r h q n := by
  rw [val_main_v89_apply, mask_apply, val_main_v85_apply, bias_apply, val_main_v66_apply]
  have hs : ∑ k : Fin 64, val_main_v1 (F := Ideal) P (lidx_main_v66 (ix5 b r h q n) k) * val_main_v57 (F := Ideal) P (ridx_main_v66 (ix5 b r h q n) k)
      = dots P b r h q n := by
    unfold dots
    refine Finset.sum_congr rfl fun e _ => ?_
    rw [← query_apply P b r q h e, ← key_apply P b r n h e]
    refine congr (congrArg _ (congrArg _ (funext fun a => ?_))) (congrArg _ (funext fun a => ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
      | ⟨4, _⟩ => rfl
  rw [hs]
  unfold score
  have hb : val_main_call3_v2 (F := Ideal) (ix5 b r h q n) = ⊥ := by
    rw [val_main_call3_v2_apply, val_main_call3_v0_apply, val_main_cst_apply]
    exact (show Ideal.ofBits FTy.f32 0xFF800000#32 = ⊥ by simp [Ideal.ofBits, Ideal.ieee])
  rw [hb]
  by_cases hq : sees q ⟨n.val % 64, by omega⟩
  · rw [if_pos hq, if_pos hq]; rfl
  · rw [if_neg hq, if_neg hq]; rfl

theorem max_apply (b : Fin 2) (r : Fin 256) (h : Fin 16) (q : Fin 64) :
    val_main_v92 (F := Ideal) P R (ix4 b r h q) = rowMax (score P R b r h q) := by
  rw [val_main_v92_apply, val_main_v91_apply, val_main_cst_21_apply]
  have hb : (FloatOps.ofBits (F := Ideal) FTy.f32 0xFF800000#32 : EReal) = ⊥ :=
    (show Ideal.ofBits FTy.f32 0xFF800000#32 = ⊥ by simp [Ideal.ofBits, Ideal.ieee])
  have hm : val_main_v90 (F := Ideal) P R (ix4 b r h q) = rowMax (fun n => val_main_v89 (F := Ideal) P R (ix5 b r h q n)) := by
    unfold val_main_v90 rowMax
    generalize val_main_v89 (F := Ideal) P R = y
    unfold val_main_cst_20
    have hr : S2x256x16x64x512.Reduces [4] S2x256x16x64 := by decide
    refine (congrFun (hostReduce_maximumf_eq_multiReduction (F := Ideal) (φ := .f32) y 0xFF800000#32 reducesTo_S2x256x16x64x512_S2x256x16x64_d4 h_S_ hr (Or.inl rfl) rfl) _).trans ?_
    refine (Ideal.multiReduction_maximumf_single (φ := .f32) y 0xFF800000#32 hr (Or.inl rfl) rfl _).trans ?_
    rw [hb]
    refine congrArg (Finset.fold max ⊥ · Finset.univ) (funext fun n => congrArg y (funext fun a => ?_))
    match a with
    | ⟨0, _⟩ => rfl
    | ⟨1, _⟩ => rfl
    | ⟨2, _⟩ => rfl
    | ⟨3, _⟩ => rfl
    | ⟨4, _⟩ => rfl
  rw [hm, hb]
  simp only [score_apply]
  exact max_eq_right bot_le

theorem exp_apply (b : Fin 2) (r : Fin 256) (h : Fin 16) (q : Fin 64) (n : Fin 512) :
    val_main_v96 (F := Ideal) P R (ix5 b r h q n) = rowExp (score P R b r h q) n := by
  rw [val_main_v96_apply, val_main_v95_apply, score_apply, val_main_v94_apply, val_main_v93_apply,
    show idx_main_v93 (idx_main_v94 (ix5 b r h q n)) = ix4 b r h q from funext fun a => by
      match a with
      | ⟨0, _⟩ => rfl
      | ⟨1, _⟩ => rfl
      | ⟨2, _⟩ => rfl
      | ⟨3, _⟩ => rfl, max_apply]
  rfl

theorem weight_apply (b : Fin 2) (r : Fin 256) (h : Fin 16) (q : Fin 64) (n : Fin 512) :
    val_main_v101 (F := Ideal) P R (ix5 b r h q n)
      = Ideal.div (rowExp (score P R b r h q) n) (∑ k, rowExp (score P R b r h q) k) := by
  rw [val_main_v101_apply, val_main_v100_apply, exp_apply, val_main_v99_apply, val_main_v98_apply,
    show idx_main_v98 (idx_main_v99 (ix5 b r h q n)) = ix4 b r h q from funext fun a => by
      match a with
      | ⟨0, _⟩ => rfl
      | ⟨1, _⟩ => rfl
      | ⟨2, _⟩ => rfl
      | ⟨3, _⟩ => rfl, val_main_v97_apply]
  have hs : ∀ k, val_main_v96 (F := Ideal) P R (idx_main_v97 (ix4 b r h q) k) = rowExp (score P R b r h q) k := fun k => by
    rw [← exp_apply]
    refine congrArg _ (funext fun a => ?_)
    match a with
    | ⟨0, _⟩ => rfl
    | ⟨1, _⟩ => rfl
    | ⟨2, _⟩ => rfl
    | ⟨3, _⟩ => rfl
    | ⟨4, _⟩ => rfl
  simp only [hs]
  have hz : val_main_cst_22 (F := Ideal) (Shape.Idx.first h_S_) = (0 : EReal) := by
    show Ideal.ofBits FTy.f32 0x00000000#32 = 0
    simp [Ideal.ofBits, Ideal.ieee]
  rw [hz, zero_add]
  rfl

/-- **What the reference computes.** -/
theorem ref_apply (hP : ∀ i, ∃ x : ℝ, P i = x) (hR : ∀ i, ∃ x : ℝ, R i = x) :
    val_main_v105 (F := Ideal) P R = natten P R := by
  funext i
  have h0 : (i 0).val < 2 := (i 0).isLt
  have h1 : (i 1).val < 16384 := (i 1).isLt
  have h2 : (i 2).val < 1024 := (i 2).isLt
  have key : ∀ (b : Fin 2) (r : Fin 256) (h : Fin 16) (e : Fin 64) (q : Fin 64),
      val_main_v102 (F := Ideal) P R (ix5 b r h e q) = entry P R b r q ⟨64 * h.val + e.val, by omega⟩ := by
    intro b r h e q
    rw [val_main_v102_apply]
    have hl : ∀ k, val_main_v65 (F := Ideal) P (lidx_main_v102 (ix5 b r h e q) k) = vals P b r ⟨64 * h.val + e.val, by omega⟩ k := fun k => by
      rw [← value_apply]
      refine congrArg _ (funext fun a => ?_)
      match a with
      | ⟨0, _⟩ => rfl
      | ⟨1, _⟩ => rfl
      | ⟨2, _⟩ => rfl
      | ⟨3, _⟩ => rfl
      | ⟨4, _⟩ => rfl
    have hr : ∀ k, val_main_v101 (F := Ideal) P R (ridx_main_v102 (ix5 b r h e q) k)
        = Ideal.div (rowExp (score P R b r h q) k) (∑ k, rowExp (score P R b r h q) k) := fun k => by
      rw [← weight_apply]
      refine congrArg _ (funext fun a => ?_)
      match a with
      | ⟨0, _⟩ => rfl
      | ⟨1, _⟩ => rfl
      | ⟨2, _⟩ => rfl
      | ⟨3, _⟩ => rfl
      | ⟨4, _⟩ => rfl
    simp only [hl, hr]
    unfold entry
    have hh : (⟨(64 * h.val + e.val) / 64, by omega⟩ : Fin 16) = h := Fin.ext (show (64 * h.val + e.val) / 64 = h.val by omega)
    simp only [hh]
    rw [← sum_div_eq_attn _ _ (score_ne_top P R hP hR b r h q) (score_ne_bot P R hP hR b r h q)]
    exact Finset.sum_congr rfl fun k _ => mul_comm _ _
  rw [val_main_v105_apply, val_main_v104_apply, val_main_v103_apply]
  have hi : idx_main_v103 (idx_main_v104 i) = ix5 (⟨(i 0).val, h0⟩ : Fin 2) (⟨(i 1).val / 64, by omega⟩ : Fin 256) (⟨(i 2).val / 64, by omega⟩ : Fin 16)
      (⟨(i 2).val % 64, by omega⟩ : Fin 64) (⟨(i 1).val % 64, by omega⟩ : Fin 64) := by
    funext a
    refine Fin.ext ?_
    match a with
    | ⟨0, _⟩ => show (((i 0).val * 16384 + (i 1).val) * 1024 + (i 2).val) / 16777216 = (i 0).val; omega
    | ⟨1, _⟩ => show (((i 0).val * 16384 + (i 1).val) * 1024 + (i 2).val) / 65536 % 256 = (i 1).val / 64; omega
    | ⟨2, _⟩ => show (((i 0).val * 16384 + (i 1).val) * 1024 + (i 2).val) / 64 % 16 = (i 2).val / 64; omega
    | ⟨3, _⟩ => show (((i 0).val * 16384 + (i 1).val) * 1024 + (i 2).val) % 64 = (i 2).val % 64; omega
    | ⟨4, _⟩ => show (((i 0).val * 16384 + (i 1).val) * 1024 + (i 2).val) / 1024 % 64 = (i 1).val % 64; omega
  rw [hi, key]
  unfold natten
  refine congrArg (entry P R _ _ _) (Fin.ext ?_)
  show 64 * ((i 2).val / 64) + (i 2).val % 64 = (i 2).val
  omega

end Cert.Natten.Ref
-- ==== Proof.Bias.lean ====
/- The bias table that the host hands to the kernel, read at an entry. -/
module

public import proofs.«01_k».proof.Proof.Own.KernelIdeal.Frame
public import proofs.«01_k».proof.Proof.RefValue
public import proofs.«01_k».proof.Proof.Row
public import Idealize.ShloMosaic.Lib.StableHlo.ReadAt

@[expose] public section

set_option maxRecDepth 16384

noncomputable section

namespace Cert.Natten

open Cert.KernelIdeal Cert.KernelIdeal.Gen Idealize.ShloMosaic Idealize.ShloMosaic.TcCoe Idealize.ShloMosaic.Pointwise

/-- The rows of the bias table a window reads that starts `start` rows above the middle, as the host computes them. -/
def tableRows : IVec S8x8x1 32 :=
  let a : IVec S8x8 32 := addi
    (broadcastInDim S8x8 ![0, 1] bcast_S8x1_S8x8_0_1 (broadcastInDim S8x1 ![0] bcast_S8_S8x1_0 (iotaInDim S8 32 0)))
    (broadcastInDim S8x8 ![0, 1] bcast_S1x8_S8x8_0_1 (broadcastInDim S1x8 ![1] bcast_S8_S1x8_1 (iotaInDim S8 32 0)))
  broadcastInDim S8x8x1 ![0, 1] bcast_S8x8_S8x8x1_0_1
    (select (cmpi .slt a (broadcastInDim S8x8 ![] bcast_S_S8x8 (constantI S_ 32 0#32)))
      (addi a (broadcastInDim S8x8 ![] bcast_S_S8x8 (constantI S_ 32 15#32))) a)

theorem tableRows_apply : ∀ s i : Fin 8, min (tableRows (ix3 s i 0)).toInt.toNat 14 = s.val + i.val := by
  decide +kernel

/-- The bias table that the host computes: the reference's own mask and columns, with the rows above. -/
theorem table_eq (m : (ℓ : Loc nD τ sig) → Buf (Elt Ideal) ℓ) (c : Dev nD) :
    (V m c main_v51 : Vec Ideal S4x4x8x64x512 .f32) = shapeCast S4x4x8x64x512 (transpose S16x8x64x8x64 [0, 1, 3, 2, 4]
        (select (broadcastInDim S16x8x8x64x64 ![0, 1, 2, 3, 4] bcast_S1x1x1x64x64_S16x8x8x64x64_0_1_2_3_4
            (broadcastInDim S1x1x1x64x64 ![3, 4] bcast_S64x64_S1x1x1x64x64_3_4 (Cert.ReferenceIdeal.Read.val_main_v22 (F := Ideal))))
          (Host.gather gather_S16x15x64x64_S8x8x1_S16x8x8x64x64_034_1_n_n_1_2_1616464
            (Host.gather gather_S16x15x31_S64x64x1_S16x15x64x64_01_2_n_n_2_2_16151
              (m ((c : Thread nD τ).loc main_arg1)) (Cert.ReferenceIdeal.Read.val_main_v38 (F := Ideal))) tableRows)
          (broadcastInDim S16x8x8x64x64 ![] bcast_S_S16x8x8x64x64 (constant (F := Ideal) S_ .f32 0xFF800000#32)))
        transposes_S16x8x8x64x64_S16x8x64x8x64_0_1_3_2_4) shapeCasts_S16x8x64x8x64_S4x4x8x64x512 := by
  unfold V
  after_reads_simp
  rfl

/-- The gather of the table's rows, read at an entry. -/
theorem gather_rows {α : Type} (x : S16x15x64x64.Idx → α) (idx : IVec S8x8x1 32) (h : Fin 16) (s i : Fin 8) (q w : Fin 64) :
    Host.gather gather_S16x15x64x64_S8x8x1_S16x8x8x64x64_034_1_n_n_1_2_1616464 x idx (ix5 h s i q w)
      = x (ix4 h ⟨min (idx (ix3 s i 0)).toInt.toNat 14, by omega⟩ q w) := by
  unfold Host.gather
  congr 1
  funext a
  refine Fin.ext ?_
  let d := gather_S16x15x64x64_S8x8x1_S16x8x8x64x64_034_1_n_n_1_2_1616464
  show d.start (ix5 h s i q w) idx a + d.batchCoord (ix5 h s i q w) a + d.offCoord (ix5 h s i q w) a = _
  have hsi : ∀ k, d.siIdx (ix5 h s i q w) k = ix3 s i 0 := fun k => by
    funext b; refine Fin.ext ?_
    match b with
    | ⟨0, _⟩ => rfl
    | ⟨1, _⟩ => rfl
    | ⟨2, _⟩ => have := k.isLt; have h1 : d.startIndexMap.length = 1 := rfl; show k.val = 0; omega
  have hb : d.batchCoord (ix5 h s i q w) a = 0 := by fin_cases a <;> rfl
  rw [hb]
  match a with
  | ⟨0, _⟩ =>
    have e3 : d.offCoord (ix5 h s i q w) (0 : Fin 4) = h.val := rfl
    exact (Nat.zero_add _).trans e3
  | ⟨1, _⟩ =>
    have e1 : d.start (ix5 h s i q w) idx (1 : Fin 4) = min (idx (d.siIdx (ix5 h s i q w) ⟨0, by decide⟩)).toInt.toNat 14 := rfl
    rw [hsi] at e1
    exact e1
  | ⟨2, _⟩ =>
    have e3 : d.offCoord (ix5 h s i q w) (2 : Fin 4) = q.val := rfl
    exact (Nat.zero_add _).trans e3
  | ⟨3, _⟩ =>
    have e3 : d.offCoord (ix5 h s i q w) (3 : Fin 4) = w.val := rfl
    exact (Nat.zero_add _).trans e3

/-- **The bias table at an entry**: the bias of a column that the query sees, `−∞` at the others. -/
theorem table_apply (m : (ℓ : Loc nD τ sig) → Buf (Elt Ideal) ℓ) (c : Dev nD) (p h4 : Fin 4) (s : Fin 8) (q : Fin 64) (j : Fin 512)
    (t : Fin 15) (ht : t.val = s.val + j.val / 64) :
    (V m c main_v51 : Vec Ideal S4x4x8x64x512 .f32) (ix5 p h4 s q j)
      = if sees q ⟨j.val % 64, by omega⟩ then
          (m ((c : Thread nD τ).loc main_arg1) : Vec Ideal S16x15x31 .f32) (ix3 ⟨4 * p.val + h4.val, by omega⟩ t (biasCol q ⟨j.val % 64, by omega⟩))
        else (⊥ : EReal) := by
  rw [table_eq]
  have hcast : ∀ y : Vec Ideal S16x8x64x8x64 .f32, shapeCast S4x4x8x64x512 y shapeCasts_S16x8x64x8x64_S4x4x8x64x512 (ix5 p h4 s q j)
      = y (ix5 ⟨4 * p.val + h4.val, by omega⟩ s q ⟨j.val / 64, by omega⟩ ⟨j.val % 64, by omega⟩) := by
    intro y
    pointwise
    exact congrArg (fun k => y (ix5 k s q ⟨j.val / 64, by omega⟩ ⟨j.val % 64, by omega⟩)) (Fin.ext (by dsimp only; omega))
  have hsel : ∀ (M : IVec S64x64 1) (G : Vec Ideal S16x8x8x64x64 .f32) (h : Fin 16) (a : Fin 8) (w : Fin 64),
      transpose S16x8x64x8x64 [0, 1, 3, 2, 4]
        (select (broadcastInDim S16x8x8x64x64 ![0, 1, 2, 3, 4] bcast_S1x1x1x64x64_S16x8x8x64x64_0_1_2_3_4
            (broadcastInDim S1x1x1x64x64 ![3, 4] bcast_S64x64_S1x1x1x64x64_3_4 M))
          G (broadcastInDim S16x8x8x64x64 ![] bcast_S_S16x8x8x64x64 (constant (F := Ideal) S_ .f32 0xFF800000#32)))
        transposes_S16x8x8x64x64_S16x8x64x8x64_0_1_3_2_4 (ix5 h s q a w)
      = Scalar.select (M (ix2 q w)) (G (ix5 h s a q w)) (Scalar.ofBits (F := Ideal) .f32 0xFF800000#32) := by
    intro M G h a w
    pointwise
  rw [hcast, hsel, gather_rows, Ref.sees_table]
  have key : ∀ k hk, k = t.val → Host.gather gather_S16x15x31_S64x64x1_S16x15x64x64_01_2_n_n_2_2_16151
        (m ((c : Thread nD τ).loc main_arg1) : Vec Ideal S16x15x31 .f32) (Cert.ReferenceIdeal.Read.val_main_v38 (F := Ideal))
        (ix4 ⟨4 * p.val + h4.val, by omega⟩ (⟨k, hk⟩ : Fin 15) q ⟨j.val % 64, by omega⟩)
      = (m ((c : Thread nD τ).loc main_arg1) : Vec Ideal S16x15x31 .f32) (ix3 ⟨4 * p.val + h4.val, by omega⟩ t (biasCol q ⟨j.val % 64, by omega⟩)) := by
    intro k hk e
    subst e
    refine (Ref.gather_cols _ _ _ _ _ _).trans ?_
    exact congrArg _ (congrArg (ix3 _ _) (Fin.ext (Ref.biasCol_table q ⟨j.val % 64, by omega⟩)))
  rw [key _ _ ((tableRows_apply s ⟨j.val / 64, by omega⟩).trans ht.symm)]
  split_ifs with hs
  · rfl
  · exact neg_infinity

end Cert.Natten

end
-- ==== Proof.Blocks.lean ====
/- The blocks that a grid step loads: where their entries lie in the launched arguments. -/
module

public import proofs.«01_k».proof.Proof.Own.KernelIdeal.Value
public import Idealize.ShloMosaic.Lib.Pipeline.ValueKit
public import proofs.«01_k».proof.Proof.Bias

@[expose] public section

set_option maxRecDepth 16384

noncomputable section

namespace Cert.Natten

open Cert.KernelIdeal Cert.KernelIdeal.Gen Idealize.ShloMosaic Idealize.ShloMosaic.TcCoe Idealize.ShloMosaic.Pointwise
open Idealize.ShloMosaic.Pipeline (Dat)

theorem index0 : ∀ t : Fin cfg0.N, win0_0.index t = ![t.val / 128, t.val % 32, 12 + t.val / 32 % 4] := by decide +kernel
theorem index1 : ∀ t : Fin cfg0.N, win0_1.index t = ![t.val / 128, t.val % 32 - 1, 16 + t.val / 32 % 4] := by decide +kernel
theorem index2 : ∀ t : Fin cfg0.N, win0_2.index t = ![t.val / 128, t.val % 32, 16 + t.val / 32 % 4] := by decide +kernel
theorem index3 : ∀ t : Fin cfg0.N, win0_3.index t = ![t.val / 128, min (t.val % 32 + 1) 31, 16 + t.val / 32 % 4] := by decide +kernel
theorem index4 : ∀ t : Fin cfg0.N, win0_4.index t = ![t.val / 128, t.val % 32 - 1, 20 + t.val / 32 % 4] := by decide +kernel
theorem index5 : ∀ t : Fin cfg0.N, win0_5.index t = ![t.val / 128, t.val % 32, 20 + t.val / 32 % 4] := by decide +kernel
theorem index6 : ∀ t : Fin cfg0.N, win0_6.index t = ![t.val / 128, min (t.val % 32 + 1) 31, 20 + t.val / 32 % 4] := by decide +kernel
theorem index7 : ∀ t : Fin cfg0.N, win0_7.index t = ![t.val / 32 % 4, 0, 0, 0, 0] := by decide +kernel
theorem index8 : ∀ t : Fin cfg0.N, win0_8.index t = ![t.val / 128, t.val % 32, t.val / 32 % 4] := by decide +kernel

variable (m : (ℓ : Loc nD τ sig) → Buf (Elt Ideal) ℓ) (c : Dev nD)

/-- The launched projections. -/
abbrev proj : Proj.Idx → EReal := m ((c : Thread nD τ).loc main_arg0)
/-- The launched bias table. -/
abbrev rpb : Rpb.Idx → EReal := m ((c : Thread nD τ).loc main_arg1)

/-- Where an entry of a block lies in the launched projections. -/
theorem place_of_block (b r s : ℕ) (k : Fin 512) (l : Fin 256) (i : Proj.Idx) (h0 : (i 0).val = b) (h1 : (i 1).val = 512 * r + k.val)
    (h2 : (i 2).val = 256 * s + l.val) (a : Fin 3) :
    (![b, r, s] : Fin 3 → ℕ) a * (![1, 512, 256] : Fin 3 → ℕ) a + ((ix3 (0 : Fin 1) k l : S1x512x256.Idx) a).val = (i a).val := by
  match a with
  | ⟨0, _⟩ => show b * 1 + 0 = (i 0).val; omega
  | ⟨1, _⟩ => show r * 512 + k.val = (i 1).val; omega
  | ⟨2, _⟩ => show s * 256 + l.val = (i 2).val; omega

theorem blk0 (t : Fin cfg0.N) (k : Fin 512) (l : Fin 256) (i : Proj.Idx) (h0 : (i 0).val = t.val / 128)
    (h1 : (i 1).val = 512 * (t.val % 32) + k.val) (h2 : (i 2).val = 256 * (12 + t.val / 32 % 4) + l.val) :
    (iblk m c 0 t : Vec Ideal S1x512x256 .bf16) (ix3 0 k l) = proj m c i := by
  blk_simp [iblk]
  rw [V_main_arg0]
  refine congrArg (proj m c) (funext fun a => Fin.ext ?_)
  blk_simp
  rw [index0]
  exact place_of_block _ _ _ k l i h0 h1 h2 a

theorem blk1 (t : Fin cfg0.N) (k : Fin 512) (l : Fin 256) (i : Proj.Idx) (h0 : (i 0).val = t.val / 128)
    (h1 : (i 1).val = 512 * ((t.val % 32 - 1)) + k.val) (h2 : (i 2).val = 256 * (16 + t.val / 32 % 4) + l.val) :
    (iblk m c 1 t : Vec Ideal S1x512x256 .bf16) (ix3 0 k l) = proj m c i := by
  blk_simp [iblk]
  rw [V_main_arg0]
  refine congrArg (proj m c) (funext fun a => Fin.ext ?_)
  blk_simp
  rw [index1]
  exact place_of_block _ _ _ k l i h0 h1 h2 a

theorem blk2 (t : Fin cfg0.N) (k : Fin 512) (l : Fin 256) (i : Proj.Idx) (h0 : (i 0).val = t.val / 128)
    (h1 : (i 1).val = 512 * (t.val % 32) + k.val) (h2 : (i 2).val = 256 * (16 + t.val / 32 % 4) + l.val) :
    (iblk m c 2 t : Vec Ideal S1x512x256 .bf16) (ix3 0 k l) = proj m c i := by
  blk_simp [iblk]
  rw [V_main_arg0]
  refine congrArg (proj m c) (funext fun a => Fin.ext ?_)
  blk_simp
  rw [index2]
  exact place_of_block _ _ _ k l i h0 h1 h2 a

theorem blk3 (t : Fin cfg0.N) (k : Fin 512) (l : Fin 256) (i : Proj.Idx) (h0 : (i 0).val = t.val / 128)
    (h1 : (i 1).val = 512 * (min (t.val % 32 + 1) 31) + k.val) (h2 : (i 2).val = 256 * (16 + t.val / 32 % 4) + l.val) :
    (iblk m c 3 t : Vec Ideal S1x512x256 .bf16) (ix3 0 k l) = proj m c i := by
  blk_simp [iblk]
  rw [V_main_arg0]
  refine congrArg (proj m c) (funext fun a => Fin.ext ?_)
  blk_simp
  rw [index3]
  exact place_of_block _ _ _ k l i h0 h1 h2 a

theorem blk4 (t : Fin cfg0.N) (k : Fin 512) (l : Fin 256) (i : Proj.Idx) (h0 : (i 0).val = t.val / 128)
    (h1 : (i 1).val = 512 * ((t.val % 32 - 1)) + k.val) (h2 : (i 2).val = 256 * (20 + t.val / 32 % 4) + l.val) :
    (iblk m c 4 t : Vec Ideal S1x512x256 .bf16) (ix3 0 k l) = proj m c i := by
  blk_simp [iblk]
  rw [V_main_arg0]
  refine congrArg (proj m c) (funext fun a => Fin.ext ?_)
  blk_simp
  rw [index4]
  exact place_of_block _ _ _ k l i h0 h1 h2 a

theorem blk5 (t : Fin cfg0.N) (k : Fin 512) (l : Fin 256) (i : Proj.Idx) (h0 : (i 0).val = t.val / 128)
    (h1 : (i 1).val = 512 * (t.val % 32) + k.val) (h2 : (i 2).val = 256 * (20 + t.val / 32 % 4) + l.val) :
    (iblk m c 5 t : Vec Ideal S1x512x256 .bf16) (ix3 0 k l) = proj m c i := by
  blk_simp [iblk]
  rw [V_main_arg0]
  refine congrArg (proj m c) (funext fun a => Fin.ext ?_)
  blk_simp
  rw [index5]
  exact place_of_block _ _ _ k l i h0 h1 h2 a

theorem blk6 (t : Fin cfg0.N) (k : Fin 512) (l : Fin 256) (i : Proj.Idx) (h0 : (i 0).val = t.val / 128)
    (h1 : (i 1).val = 512 * (min (t.val % 32 + 1) 31) + k.val) (h2 : (i 2).val = 256 * (20 + t.val / 32 % 4) + l.val) :
    (iblk m c 6 t : Vec Ideal S1x512x256 .bf16) (ix3 0 k l) = proj m c i := by
  blk_simp [iblk]
  rw [V_main_arg0]
  refine congrArg (proj m c) (funext fun a => Fin.ext ?_)
  blk_simp
  rw [index6]
  exact place_of_block _ _ _ k l i h0 h1 h2 a

theorem blk7 (t : Fin cfg0.N) (h : Fin 4) (s : Fin 8) (q : Fin 64) (j : Fin 512) (p : Fin 4) (hp : p.val = t.val / 32 % 4) :
    (iblk m c 7 t : Vec Ideal S1x4x8x64x512 .f32) (ix5 0 h s q j) = (V m c main_v51 : Vec Ideal S4x4x8x64x512 .f32) (ix5 p h s q j) := by
  blk_simp [iblk]
  refine congrArg (V m c main_v51 : Vec Ideal S4x4x8x64x512 .f32) (funext fun a => Fin.ext ?_)
  blk_simp
  rw [index7]
  match a with
  | ⟨0, _⟩ => show t.val / 32 % 4 * 1 + 0 = p.val; omega
  | ⟨1, _⟩ => show 0 * 4 + h.val = h.val; omega
  | ⟨2, _⟩ => show 0 * 8 + s.val = s.val; omega
  | ⟨3, _⟩ => show 0 * 64 + q.val = q.val; omega
  | ⟨4, _⟩ => show 0 * 512 + j.val = j.val; omega

end Cert.Natten

end
-- ==== Proof.KernelValue.lean ====
/- What the kernel leaves in its result: the neighbourhood attention of `Spec`. -/
module

public import proofs.«01_k».proof.Proof.Step
public import proofs.«01_k».proof.Proof.Blocks
public import proofs.«01_k».proof.Proof.Bias

@[expose] public section

set_option maxRecDepth 16384

noncomputable section

namespace Cert.Natten

open Cert.KernelIdeal Cert.KernelIdeal.Gen Idealize.ShloMosaic Idealize.ShloMosaic.TcCoe Idealize.ShloMosaic.Pointwise
open Idealize.ShloMosaic.Pipeline (Dat)

theorem natten_of (P : Proj.Idx → EReal) (R : Rpb.Idx → EReal) (y : Out.Idx) (b : Fin 2) (r : Fin 256) (q : Fin 64) (l : Fin 1024)
    (h0 : (y 0).val = b.val) (h1 : (y 1).val = 64 * r.val + q.val) (h2 : (y 2).val = l.val) : natten P R y = entry P R b r q l := by
  have hy : y = ix3 b (place r q) l := by
    funext a
    refine Fin.ext ?_
    match a with
    | ⟨0, _⟩ => exact h0
    | ⟨1, _⟩ => exact h1
    | ⟨2, _⟩ => exact h2
  subst hy
  have hq := q.isLt
  have e1 : ∀ h, (⟨(place r q).val / 64, h⟩ : Fin 256) = r := fun h => Fin.ext (by show (64 * r.val + q.val) / 64 = r.val; omega)
  have e2 : ∀ h, (⟨(place r q).val % 64, h⟩ : Fin 64) = q := fun h => Fin.ext (by show (64 * r.val + q.val) % 64 = q.val; omega)
  exact congrArg₂ (fun r q => entry P R b r q l) (e1 _) (e2 _)

variable (m : (ℓ : Loc nD τ sig) → Buf (Elt Ideal) ℓ) (c : Dev nD)

/-- A loaded block: `off` columns of blocks along, `row` blocks of tokens down. -/
abbrev Loads (t : Fin cfg0.N) (x : Vec Ideal S1x512x256 .bf16) (off row : ℕ) : Prop :=
  ∀ (k : Fin 512) (l : Fin 256) (i : Proj.Idx), (i 0).val = t.val / 128 → (i 1).val = 512 * row + k.val →
    (i 2).val = 256 * (off + t.val / 32 % 4) + l.val → x (ix3 0 k l) = proj m c i

/-- The stack of three blocks around block `t % 32`, as far as the rows of a window reach. -/
theorem stack_rows (x1 x2 x3 : Vec Ideal S1x512x256 .bf16) (g : ℕ → EReal) (l : Fin 256) (i : ℕ) (hi : i < 32)
    (h1 : ∀ k : Fin 512, x1 (ix3 0 k l) = g (512 * (i - 1) + k.val)) (h2 : ∀ k : Fin 512, x2 (ix3 0 k l) = g (512 * i + k.val))
    (h3 : ∀ k : Fin 512, x3 (ix3 0 k l) = g (512 * (min (i + 1) 31) + k.val)) (n o : ℕ) (hn : n < 1536) (ho : n + 512 * i = o + 512)
    (hl : o < 16384) : stack x1 x2 x3 n l = g o := by
  by_cases e1 : n < 512
  · rw [stack_fst x1 x2 x3 n l ⟨n, e1⟩ rfl, h1]
    exact congrArg g (by dsimp only; omega)
  · by_cases e2 : n < 1024
    · rw [stack_snd x1 x2 x3 n l ⟨n - 512, by omega⟩ (by dsimp only; omega), h2]
      exact congrArg g (by dsimp only; omega)
    · rw [stack_trd x1 x2 x3 n l ⟨n - 1024, by omega⟩ (by dsimp only; omega), h3]
      exact congrArg g (by dsimp only; omega)

/-- A projection at a token given by its number. -/
def tok (P : Proj.Idx → EReal) (b : Fin 2) (s : Fin 6144) (o : ℕ) : EReal := if h : o < 16384 then P (ix3 b ⟨o, h⟩ s) else 0

/-- **One row of a step at an entry**: the layer's attention there. -/
theorem row_entry (t : Fin cfg0.N)
    (x0 x1 x2 x3 x4 x5 x6 : Vec Ideal S1x512x256 .bf16) (x7 : Vec Ideal S1x4x8x64x512 .f32)
    (hx0 : Loads m c t x0 12 (t.val % 32)) (hx1 : Loads m c t x1 16 (t.val % 32 - 1)) (hx2 : Loads m c t x2 16 (t.val % 32))
    (hx3 : Loads m c t x3 16 (min (t.val % 32 + 1) 31)) (hx4 : Loads m c t x4 20 (t.val % 32 - 1)) (hx5 : Loads m c t x5 20 (t.val % 32))
    (hx6 : Loads m c t x6 20 (min (t.val % 32 + 1) 31))
    (hx7 : ∀ (h : Fin 4) (s : Fin 8) (q : Fin 64) (j : Fin 512) (p : Fin 4), p.val = t.val / 32 % 4 →
      x7 (ix5 0 h s q j) = (V m c main_v51 : Vec Ideal S4x4x8x64x512 .f32) (ix5 p h s q j)) (rr : Fin 8) (row : ℕ) (start : Fin 8) (r : Fin 256) (hr : r.val = 8 * (t.val % 32) + rr.val)
    (hrow : row + 8 * (t.val % 32) = firstRow r + 8) (hstart : start.val + r.val = firstRow r + 7) (qi : Fin 64) (l : Fin 256)
    (b : Fin 2) (hb : b.val = t.val / 128) (L : Fin 1024) (hL : L.val = 256 * (t.val / 32 % 4) + l.val) :
    stepRow x0 x1 x2 x3 x4 x5 x6 x7 rr row start (ix3 0 qi l) = entry (proj m c) (rpb m c) b r qi L := by
  have hi : t.val % 32 < 32 := Nat.mod_lt _ (by decide)
  have hrr := rr.isLt
  have hq := qi.isLt
  have hl := l.isLt
  have hfr : firstRow r = min (r.val - 4) 248 := rfl
  have h4 : 4 ≤ row := by omega
  have h12 : row ≤ 12 := by omega
  have hN : ∀ j : Fin 512, 64 * firstRow r + j.val < 16384 := fun j => by omega
  have htok : ∀ (s : Fin 6144) (j : Fin 512), tok (proj m c) b s (64 * firstRow r + j.val) = proj m c (ix3 b (token r j) s) := fun s j =>
    dif_pos (hN j)
  have hin : ∀ (s : Fin 6144) (k : ℕ) (hk : k < 16384), proj m c (ix3 b ⟨k, hk⟩ s) = tok (proj m c) b s k := fun s k hk => by
    unfold tok
    rw [dif_pos hk]
  have hk : ∀ (j : Fin 512) (d : Fin 256) (s : Fin 6144), s.val = 256 * (16 + t.val / 32 % 4) + d.val →
      stack x1 x2 x3 (64 * row + j.val) d = proj m c (ix3 b (token r j) s) := by
    intro j d s hs
    rw [← htok]
    refine stack_rows _ _ _ (tok (proj m c) b s) d (t.val % 32) hi (fun k => ?_) (fun k => ?_) (fun k => ?_) _ _ (by omega) (by omega) (hN j)
    · rw [← hin s _ (by omega)]; exact hx1 k d _ hb rfl hs
    · rw [← hin s _ (by omega)]; exact hx2 k d _ hb rfl hs
    · rw [← hin s _ (by omega)]; exact hx3 k d _ hb rfl hs
  have hv : ∀ (j : Fin 512) (s : Fin 6144), s.val = 256 * (20 + t.val / 32 % 4) + l.val →
      stack x4 x5 x6 (64 * row + j.val) l = proj m c (ix3 b (token r j) s) := by
    intro j s hs
    rw [← htok]
    refine stack_rows _ _ _ (tok (proj m c) b s) l (t.val % 32) hi (fun k => ?_) (fun k => ?_) (fun k => ?_) _ _ (by omega) (by omega) (hN j)
    · rw [← hin s _ (by omega)]; exact hx4 k l _ hb rfl hs
    · rw [← hin s _ (by omega)]; exact hx5 k l _ hb rfl hs
    · rw [← hin s _ (by omega)]; exact hx6 k l _ hb rfl hs
  refine (stepRow_apply _ _ _ _ _ _ _ _ rr row h4 h12 start qi l).trans ?_
  unfold entry
  congr 1
  · funext j
    have hj := j.isLt
    have hd : (∑ e : Fin 64, x0 (ix3 0 ⟨64 * rr.val + qi.val, by omega⟩ ⟨64 * (l.val / 64) + e.val, by omega⟩)
          * stack x1 x2 x3 (64 * row + j.val) ⟨64 * (l.val / 64) + e.val, by omega⟩)
        = dots (proj m c) b r ⟨L.val / 64, by omega⟩ qi j := by
      unfold dots
      refine Finset.sum_congr rfl fun e _ => ?_
      have he := e.isLt
      rw [hk j ⟨64 * (l.val / 64) + e.val, by omega⟩ ⟨4096 + (64 * (L.val / 64) + e.val), by omega⟩ (by dsimp only; omega)]
      congr 1
      refine hx0 _ _ _ hb ?_ ?_
      · show 64 * r.val + qi.val = 512 * (t.val % 32) + (64 * rr.val + qi.val); omega
      · show 3072 + (64 * (L.val / 64) + e.val) = 256 * (12 + t.val / 32 % 4) + (64 * (l.val / 64) + e.val); omega
    rw [hd, hx7 _ start qi j ⟨t.val / 32 % 4, by omega⟩ rfl,
      table_apply m c _ _ start qi j (biasRow r (j.val / 64)) (by show min (firstRow r + j.val / 64 + 7 - r.val) 14 = start.val + j.val / 64; omega)]
    unfold score biasOf
    split_ifs with hs
    · congr 1
      refine congrArg (rpb m c) (congrArg (fun h => ix3 h _ _) (Fin.ext ?_))
      show 4 * (t.val / 32 % 4) + l.val / 64 = L.val / 64
      omega
    · exact EReal.add_bot _
  · funext j
    exact hv j ⟨5120 + L.val, by omega⟩ (by dsimp only; omega)

end Cert.Natten

end
-- ==== Proof.Final.lean ====
/- The kernel's result array after its run. -/
module

public import proofs.«01_k».proof.Proof.KernelValue

@[expose] public section

set_option maxRecDepth 16384

noncomputable section

namespace Cert.Natten

open Cert.KernelIdeal Cert.KernelIdeal.Gen Idealize.ShloMosaic Idealize.ShloMosaic.TcCoe Idealize.ShloMosaic.Pointwise
open Idealize.ShloMosaic.Pipeline (Dat)

variable (m : (ℓ : Loc nD τ sig) → Buf (Elt Ideal) ℓ) (c : Dev nD)

/-- One stored row of a step at an entry. -/
theorem step_entry (t : Fin cfg0.N) (rr : Fin 8) (row : ℕ) (start : Fin 8) (r : Fin 256) (hr : r.val = 8 * (t.val % 32) + rr.val)
    (hrow : row + 8 * (t.val % 32) = firstRow r + 8) (hstart : start.val + r.val = firstRow r + 7) (qi : Fin 64) (l : Fin 256)
    (b : Fin 2) (hb : b.val = t.val / 128) (L : Fin 1024) (hL : L.val = 256 * (t.val / 32 % 4) + l.val) :
    stepRow (iblk m c 0 t) (iblk m c 1 t) (iblk m c 2 t) (iblk m c 3 t) (iblk m c 4 t) (iblk m c 5 t) (iblk m c 6 t) (iblk m c 7 t)
      rr row start (ix3 0 qi l) = entry (proj m c) (rpb m c) b r qi L :=
  row_entry m c t _ _ _ _ _ _ _ _ (blk0 m c t) (blk1 m c t) (blk2 m c t) (blk3 m c t) (blk4 m c t) (blk5 m c t) (blk6 m c t) (blk7 m c t)
    rr row start r hr hrow hstart qi l b hb L hL

/-- What a step leaves in its output block, whichever rows its windows start at. -/
theorem block_entry (t : Fin cfg0.N) (rows : Fin 8 → ℕ) (starts : Fin 8 → Fin 8)
    (hrow : ∀ rr r, r.val = 8 * (t.val % 32) + rr.val → rows rr + 8 * (t.val % 32) = firstRow r + 8)
    (hstart : ∀ rr r, r.val = 8 * (t.val % 32) + rr.val → (starts rr).val + r.val = firstRow r + 7)
    (y : S1x512x256.Idx) (z : Out.Idx) (hz : ∀ a : Fin 3, (z a).val = (![t.val / 128, t.val % 32, t.val / 32 % 4] : Fin 3 → ℕ) a * S1x512x256.size a + (y a).val) :
    View.canon (stored fun rr => stepRow (iblk m c 0 t) (iblk m c 1 t) (iblk m c 2 t) (iblk m c 3 t) (iblk m c 4 t) (iblk m c 5 t)
      (iblk m c 6 t) (iblk m c 7 t) rr (rows rr) (starts rr)) y = natten (proj m c) (rpb m c) z := by
  have ht : t.val < 256 := t.isLt
  have y0 : (y 0).val < 1 := (y 0).isLt
  have y1 : (y 1).val < 512 := (y 1).isLt
  have y2 : (y 2).val < 256 := (y 2).isLt
  have z0 : (z 0).val = t.val / 128 * 1 + (y 0).val := hz 0
  have z1 : (z 1).val = t.val % 32 * 512 + (y 1).val := hz 1
  have z2 : (z 2).val = t.val / 32 % 4 * 256 + (y 2).val := hz 2
  let rr : Fin 8 := ⟨(y 1).val / 64, by omega⟩
  let qi : Fin 64 := ⟨(y 1).val % 64, by omega⟩
  let l : Fin 256 := ⟨(y 2).val, y2⟩
  let r : Fin 256 := ⟨8 * (t.val % 32) + (y 1).val / 64, by omega⟩
  let b : Fin 2 := ⟨t.val / 128, by omega⟩
  let L : Fin 1024 := ⟨256 * (t.val / 32 % 4) + (y 2).val, by omega⟩
  rw [stored_apply _ y rr qi l (by show (y 1).val = 64 * ((y 1).val / 64) + (y 1).val % 64; omega) rfl,
    natten_of _ _ z b r qi L (by show (z 0).val = t.val / 128; omega)
      (by show (z 1).val = 64 * (8 * (t.val % 32) + (y 1).val / 64) + (y 1).val % 64; omega)
      (by show (z 2).val = 256 * (t.val / 32 % 4) + (y 2).val; omega)]
  exact step_entry m c t rr _ _ r rfl (hrow rr r rfl) (hstart rr r rfl) qi l b rfl L rfl

theorem table_A : ∀ rr : Fin 8, ∀ r : Fin 256, r.val = rr.val → rowsA rr = firstRow r + 8 ∧ (startsA rr).val + r.val = firstRow r + 7 := by
  decide +kernel
theorem table_C : ∀ rr : Fin 8, ∀ r : Fin 256, r.val = 248 + rr.val → rowsC rr + 248 = firstRow r + 8 ∧ (startsC rr).val + r.val = firstRow r + 7 := by
  decide +kernel
theorem table_B : ∀ rr : Fin 8, rowsB rr = rr.val + 4 ∧ (startsB rr).val = 3 := by
  decide +kernel

/-- **The kernel's result array is the neighbourhood attention of its arguments.** -/
theorem final : (dats m 0 c).arrAt 8 cfg0.N = natten (proj m c) (rpb m c) := by
  refine (dats m 0 c).arrAt_eq_of_covers 8 (natten (proj m c) (rpb m c)) (by decide +kernel) fun t hf y => ?_
  blk_simp
  rw [after0_8]
  have hz : ∀ a : Fin 3, ((((cfg0.win 8).blk t).view.emb y : Out.Idx) a).val
      = (![t.val / 128, t.val % 32, t.val / 32 % 4] : Fin 3 → ℕ) a * S1x512x256.size a + ((y : S1x512x256.Idx) a).val := by
    intro a
    blk_simp
    rw [index8]
  have h32 : t.val % 32 < 32 := Nat.mod_lt _ (by decide)
  by_cases h0 : t.val % 32 = 0
  · rw [outsAt0_A m c t h0 (by omega) (by omega), out_A]
    refine block_entry m c t rowsA startsA (fun rr r hr => ?_) (fun rr r hr => ?_) y _ hz
    · have := (table_A rr r (by omega)).1; omega
    · exact (table_A rr r (by omega)).2
  · by_cases h1 : t.val % 32 = 31
    · rw [outsAt0_C m c t h0 h1 (by omega), out_C]
      refine block_entry m c t rowsC startsC (fun rr r hr => ?_) (fun rr r hr => ?_) y _ hz
      · have := (table_C rr r (by omega)).1; omega
      · exact (table_C rr r (by omega)).2
    · rw [outsAt0_B m c t h0 h1 (by omega), out_B]
      refine block_entry m c t rowsB startsB (fun rr r hr => ?_) (fun rr r hr => ?_) y _ hz
      · have h := (table_B rr).1
        have hfr : firstRow r = min (r.val - 4) 248 := rfl
        have := rr.isLt
        omega
      · have h := (table_B rr).2
        have hfr : firstRow r = min (r.val - 4) 248 := rfl
        have := rr.isLt
        omega

end Cert.Natten

end
-- ==== Proof.Precond.lean ====
/- What the precondition says: the entries of both arguments are real numbers. -/
module

public import proofs.«01_k».proof.Pre_finite_inputs
public import Idealize.ShloMosaic.Lib.ReduceAll
public import Idealize.ShloMosaic.Lib.Pointwise
public import Idealize.ShloMosaic.PureOps.Ideal.Laws

@[expose] public section

noncomputable section

namespace Cert.Natten

open Idealize.ShloMosaic Idealize.ShloMosaic.Pointwise

/-- The facts that the predicate states. -/
instance preFacts : Cert.Pre_finite_inputs.Facts where
  bcast_S_S2x16384x6144 := by decide
  reducesTo_S2x16384x6144_S_d0_1_2 := by decide
  h_S_ := by decide
  bcast_S_S16x15x31 := by decide
  reducesTo_S16x15x31_S_d0_1_2 := by decide

theorem top_bf16 : Ideal.ofBits .bf16 0x7F80#16 = ⊤ := by
  simp [Ideal.ofBits, Ideal.ieee]

theorem top_f32 : Ideal.ofBits .f32 0x7F800000#32 = ⊤ := by
  simp [Ideal.ofBits, Ideal.ieee]

theorem real_of_abs (x top : EReal) (ht : top = ⊤) (h : Ideal.cmp .olt (max x (-x)) top = 1#1) : ∃ r : ℝ, x = r := by
  subst ht
  have hlt : max x (-x) < ⊤ := by
    by_contra hn
    simp [Ideal.cmp, hn] at h
  induction x with
  | bot => simp at hlt
  | top => simp at hlt
  | coe r => exact ⟨r, rfl⟩

theorem finite_apply (P : FVec Ideal Cert.Pre_finite_inputs.S2x16384x6144 .bf16) (R : FVec Ideal Cert.Pre_finite_inputs.S16x15x31 .f32)
    (h : Cert.Pre_finite_inputs.fn (F := Ideal) P R = fun _ => 1#1) :
    (∀ i, ∃ x : ℝ, P i = x) ∧ ∀ i, ∃ x : ℝ, R i = x := by
  have h0 := congrFun h (fun a => a.elim0)
  unfold Cert.Pre_finite_inputs.fn at h0
  obtain ⟨h1, h2⟩ := IntOp.andi_eq_one.1 h0
  haveI : Subsingleton Cert.Pre_finite_inputs.S_.Idx := ⟨fun a b => funext fun k => k.elim0⟩
  refine ⟨fun i => ?_, fun i => ?_⟩
  · have hi := Host.reduce_andi_all _ _ _ _ _ h1 i
    exact real_of_abs (P i) _ top_bf16 hi
  · have hi := Host.reduce_andi_all _ _ _ _ _ h2 i
    exact real_of_abs (R i) _ top_f32 hi

end Cert.Natten

end
-- ==== Proof.Own.Experts.Frame.lean ====
/- The frame of the experts' launch, at any values. The blocks of the two input weights may overhang their arrays, so what
   the kernel leaves in its result is not named here: the launch ends, and its arguments are as they were. -/
module

public import proofs.«01_k».proof.Proof.Own.Experts.Body
public import Idealize.ShloMosaic.Lib.Claim

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window of the result is the one of which nothing is said. -/
def forgets0 : Fin 6 → Bool := fun w => w.val == 5

/-- The launch's data: an input's buffer is left at its block, of a clipped one at the part inside the array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => win0_1.fill (grid0.coords t) (Pipeline.Dat.unnamed (cfg := cfg0) ⟨1, h⟩ t) (iblk m c 1 t)
    | ⟨2, h⟩ => win0_2.fill (grid0.coords t) (Pipeline.Dat.unnamed (cfg := cfg0) ⟨2, h⟩ t) (iblk m c 2 t)
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem cut0_1 (c : Dev nD) (t : Fin cfg0.N) : win0_1.cut (grid0.coords t) ((dats m 0 c).after 1 t) = iblk m c 1 t :=
  win0_1.cut_fill _ _ _
theorem cut0_2 (c : Dev nD) (t : Fin cfg0.N) : win0_2.cut (grid0.coords t) ((dats m 0 c).after 2 t) = iblk m c 2 t :=
  win0_2.cut_fill _ _ _

/-- A clipped block's part inside the array goes by the block's index. -/
theorem clip0_1 (t t' : Fin cfg0.N) (h : win0_1.index t = win0_1.index t') : win0_1.clip (grid0.coords t) = win0_1.clip (grid0.coords t') :=
  funext fun a => congrArg (fun k => Pipeline.Clip.of k (S1x2048x512.size a) (S16x2048x5504.size a)) (congrFun h a)
theorem clip0_2 (t t' : Fin cfg0.N) (h : win0_2.index t = win0_2.index t') : win0_2.clip (grid0.coords t) = win0_2.clip (grid0.coords t') :=
  funext fun a => congrArg (fun k => Pipeline.Clip.of k (S1x2048x512.size a) (S16x2048x5504.size a)) (congrFun h a)

/-- What the body finds in a clipped input's buffer: its block inside the array, anything past it. -/
theorem before0_1 (c : Dev nD) (t : Fin cfg0.N) (d) : (dats m 0 c).before 1 t d = win0_1.fill (grid0.coords t) d (iblk m c 1 t) :=
  ((dats m 0 c).before_in_eq_fetched 1 rfl (fun _ => rfl) (fun t t' h => clip0_1 t t' h) (fun t => cut0_1 m c t) t d).trans rfl
theorem before0_2 (c : Dev nD) (t : Fin cfg0.N) (d) : (dats m 0 c).before 2 t d = win0_2.fill (grid0.coords t) d (iblk m c 2 t) :=
  ((dats m 0 c).before_in_eq_fetched 2 rfl (fun _ => rfl) (fun t t' h => clip0_2 t t' h) (fun t => cut0_2 m c t) t d).trans rfl

/-- The scratch at named contents is the scratch at some contents. -/
theorem scratch_some (c : Dev nD) (g : Vec F S1024x5632 .bf16) :
    owns (c : Thread nD τ) (Memref.whole cc0_scratch0) fullShare g
      ⊢ (iprop(∃ f : Buf (Elt F) ((c : Thread nD τ).loc cc0_scratch0), ((c : Thread nD τ).loc cc0_scratch0) ↦{fullShare} f) : sProp 𝕄) := by
  rw [owns_whole_eq]
  iintro ⟨%f, -, H⟩
  iexists f; iexact H

/-- The body at a point, from the buffers as it finds them to the buffers as it leaves them. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ X, owns (c : Thread nD τ) (st0_5 t) fullShare X))
      ⊢ wp frame (wpE (defs₀ (F := F)) Variants.none c none) Set.univ (bodyAt0 t) fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare (win0_1.fill (grid0.coords t) d (win0_1.cut (grid0.coords t) ((dats m 0 c).after 1 t))))
            ∗ (∃ d, owns (c : Thread nD τ) (st0_2 t) fullShare (win0_2.fill (grid0.coords t) d (win0_2.cut (grid0.coords t) ((dats m 0 c).after 2 t))))
            ∗ owns (c : Thread nD τ) (st0_3 t) fullShare ((dats m 0 c).after 3 t)
            ∗ owns (c : Thread nD τ) (st0_4 t) fullShare ((dats m 0 c).after 4 t)
            ∗ (∃ X, owns (c : Thread nD τ) (st0_5 t) fullShare X)) := by
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    cut0_1, cut0_2, after0_0, after0_3, after0_4]
  unfold Pipeline.ΦA
  rw [scopedRest0_eq]
  iintro ⟨⟨⟨%g, HS⟩, HR⟩, Ho, ⟨%d0, H0⟩, ⟨%d1, H1⟩, ⟨%d2, H2⟩, ⟨%d3, H3⟩, ⟨%d4, H4⟩, ⟨%X, H5⟩⟩
  rw [before0_0_of m (dats m 0 c) (A_eq m c 0) (after0_0 m c) t d0, before0_1 m c t d1, before0_2 m c t d2,
    before0_3_of m (dats m 0 c) (A_eq m c 3) (after0_3 m c) t d3, before0_4_of m (dats m 0 c) (A_eq m c 4) (after0_4 m c) t d4]
  by_cases h : t.val % 15 < 11
  · iapply (run_fill c (grid0.coords t) _ _ _ _ _ _ _ _ _ _ _ _ _ _ ((cond1_iff t).mpr h)
      (fun h2 => absurd ((cond2_iff t).mp h2) (by omega)) _ _ _ g Set.univ _)
    isplitl [H0]; · iexact H0
    isplitl [H1]; · iexact H1
    isplitl [H2]; · iexact H2
    isplitl [HS]
    · rw [owns_whole_eq]; iexists g; isplitr; · ipureintro; rfl
      iexact HS
    iintro ⟨H0, H1, H2, ⟨%g', -, HS⟩⟩
    isplitl [HS HR]
    · isplitl [HS]
      · iapply (scratch_some c _); iexact HS
      iexact HR
    isplitl [Ho]; · iexact Ho
    isplitl [H0]; · iexact H0
    isplitl [H1]; · iexists d1; iexact H1
    isplitl [H2]; · iexists d2; iexact H2
    isplitl [H3]; · iexact H3
    isplitl [H4]; · iexact H4
    iexists X; iexact H5
  · iapply (run_tile c (grid0.coords t) _ _ _ _ _ _ _ _ _ _ _ _ _ _ (fun h1 => h ((cond1_iff t).mp h1))
      ((cond2_iff t).mpr (by omega)) _ _ g Set.univ _)
    isplitl [H3]; · iexact H3
    isplitl [H4]; · iexact H4
    isplitl [H5]; · iexists X; iexact H5
    isplitl [HS]
    · rw [owns_whole_eq]; iexists g; isplitr; · ipureintro; rfl
      iexact HS
    iintro ⟨H3, H4, H5, HS⟩
    isplitl [HS HR]
    · isplitl [HS]
      · iapply (scratch_some c _); iexact HS
      iexact HR
    isplitl [Ho]; · iexact Ho
    isplitl [H0]; · iexact H0
    isplitl [H1]; · iexists d1; iexact H1
    isplitl [H2]; · iexists d2; iexact H2
    isplitl [H3]; · iexact H3
    isplitl [H4]; · iexact H4
    iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch ends with every input array unchanged and every semaphore at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun _ w => by fin_cases w <;> rfl)
    (howed := fun _ _ => rfl) (V := V m) (hmain := hmain m Variants.none) (hA := A_eq m) (hΦ := fun _ _ => rfl)

/-- The frame: the launch ends with the five arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c)⟩, h.2⟩)
    (run_main m ρ)

end Cert.Experts.Gen

end
-- ==== Proof.Ffn.Spec.lean ====
/- The experts' feed-forward over the reals, and the two products of the kernel's body at an index. -/
module

public import proofs.«01_k».proof.Proof.Gen.ExpertsIdeal.Skeleton
public import proofs.«01_k».proof.Proof.Gen.ExpertsReferenceIdeal.Read
public import Idealize.ShloMosaic.Lib.Pointwise
public import Idealize.ShloMosaic.Lib.KernelVsHost
public import Idealize.ShloMosaic.Lib.IdealHost

@[expose] public section

set_option maxRecDepth 16384

noncomputable section

namespace Cert.Ffn

open Cert.ExpertsIdeal Cert.ExpertsIdeal.Gen Idealize.ShloMosaic Idealize.ShloMosaic.TcCoe Idealize.ShloMosaic.Pointwise

/-- The gated unit of one feature: `silu g * u`. -/
def unit (g u : EReal) : EReal := g * Ideal.logistic g * u

/-- The hidden features of one token of one expert. -/
def hidden (X : FVec Ideal S16x4096x2048 .bf16) (G U : FVec Ideal S16x2048x5504 .bf16) (e : Fin 16) (r : Fin 4096) (f : Fin 5504) : EReal :=
  unit (∑ k : Fin 2048, X (ix3 e r k) * G (ix3 e k f)) (∑ k : Fin 2048, X (ix3 e r k) * U (ix3 e k f))

/-- The experts' result at an index. -/
def entry (X : FVec Ideal S16x4096x2048 .bf16) (G U : FVec Ideal S16x2048x5504 .bf16) (D : FVec Ideal S16x5504x2048 .bf16)
    (W : FVec Ideal S16x4096 .f32) (e : Fin 16) (r : Fin 4096) (d : Fin 2048) : EReal :=
  (∑ f : Fin 5504, hidden X G U e r f * D (ix3 e f d)) * W (ix2 e r)

/-- The experts' result. -/
def ffn (X : FVec Ideal S16x4096x2048 .bf16) (G U : FVec Ideal S16x2048x5504 .bf16) (D : FVec Ideal S16x5504x2048 .bf16)
    (W : FVec Ideal S16x4096 .f32) : FVec Ideal S16x4096x2048 .bf16 :=
  fun i => entry X G U D W (i 0) (i 1) (i 2)

/-- The first phase's product at an index: column `j` of it depends on column `j` of the weights' blocks alone. -/
theorem pay1_apply (x : Vec Ideal S1x1024x2048 .bf16) (g u : Vec Ideal S1x2048x512 .bf16) (r : Fin 1024) (j : Fin 512) :
    k0_pay1 (F := Ideal) x g u (ix2 r j)
      = unit (∑ k : Fin 2048, x (ix3 0 r k) * g (ix3 0 k j)) (∑ k : Fin 2048, x (ix3 0 r k) * u (ix3 0 k j)) := by
  pointwise [k0_pay1]
  rfl

/-- The second phase's product at an index. -/
theorem pay2_apply (h : Vec Ideal S1024x5504 .bf16) (d : Vec Ideal S1x5504x512 .bf16) (w : Vec Ideal S1x1024x1 .f32) (r : Fin 1024) (l : Fin 512) :
    k0_pay2 (F := Ideal) h d w (ix3 0 r l) = (∑ f : Fin 5504, h (ix2 r f) * d (ix3 0 f l)) * w (ix3 0 r 0) := by
  pointwise [k0_pay2]

open Cert.ExpertsReferenceIdeal.Read in
/-- The reference's result is the experts' feed-forward of its arguments. -/
theorem ref_apply (X : FVec Ideal S16x4096x2048 .bf16) (G U : FVec Ideal S16x2048x5504 .bf16) (D : FVec Ideal S16x5504x2048 .bf16)
    (W : FVec Ideal S16x4096 .f32) : val_main_v9 (F := Ideal) X G U D W = ffn X G U D W := by
  funext i
  obtain ⟨e, r, d, rfl⟩ : ∃ e r d, i = ix3 e r d := ⟨i 0, i 1, i 2, by ext a; fin_cases a <;> rfl⟩
  rw [val_main_v9_apply, val_main_v8_apply, val_main_v7_apply, val_main_v6_apply, val_main_v5_apply]
  simp only [val_main_v4_apply, val_main_v3_apply, val_main_v2_apply, val_main_call0_v5_apply, val_main_call0_v4_apply,
    val_main_call0_v3_apply, val_main_call0_v2_apply, val_main_call0_v1_apply, val_main_call0_v0_apply, val_main_call0_cst_apply,
    val_main_call0_cst_0_apply, val_main_v0_apply, val_main_v1_apply]
  have one : (FloatOps.ofBits (F := Ideal) FTy.f32 1065353216#32 : EReal) = 1 := Ideal.ofBits_one_f32
  rw [one]
  have a : ∀ f k, lidx_main_v0 (lidx_main_v5 (ix3 e r d) f) k = ix3 e r k := fun f k => by ext a; fin_cases a <;> rfl
  have b : ∀ f k, ridx_main_v0 (lidx_main_v5 (ix3 e r d) f) k = ix3 e k f := fun f k => by ext a; fin_cases a <;> rfl
  have a' : ∀ f k, lidx_main_v1 (lidx_main_v5 (ix3 e r d) f) k = ix3 e r k := fun f k => by ext a; fin_cases a <;> rfl
  have b' : ∀ f k, ridx_main_v1 (lidx_main_v5 (ix3 e r d) f) k = ix3 e k f := fun f k => by ext a; fin_cases a <;> rfl
  have c : ∀ f, ridx_main_v5 (ix3 e r d) f = ix3 e f d := fun f => by ext a; fin_cases a <;> rfl
  have w : idx_main_v6 (idx_main_v7 (ix3 e r d)) = ix2 e r := by ext a; fin_cases a <;> rfl
  simp only [a, b, a', b', c, w]
  rfl

end Cert.Ffn

end
-- ==== Proof.Own.ExpertsIdeal.Body.lean ====
/- The experts' kernel body, at any values: what it does at a point of the first phase, which fills one stretch of 512
   columns of the scratch, and at a point of the second, which writes one tile of the result. -/
module

public import proofs.«01_k».proof.Proof.Gen.ExpertsIdeal.Frame
public import proofs.«01_k».proof.Proof.Gen.ExpertsIdeal.Skeleton
public import Idealize.ShloMosaic.Lib.VecWindow

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first phase's condition: the last coordinate is less than 11. -/
theorem cond1_iff : ∀ t : Fin cfg0.N, k0_cond1 (grid0.coords t) = 1#1 ↔ t.val % 15 < 11 := by decide +kernel
/-- The second phase's condition: the last coordinate is 11 or more. -/
theorem cond2_iff : ∀ t : Fin cfg0.N, k0_cond2 (grid0.coords t) = 1#1 ↔ 11 ≤ t.val % 15 := by decide +kernel
/-- The columns that a first phase's point fills. -/
theorem off1_eq : ∀ t : Fin cfg0.N, k0_off1 (grid0.coords t) = ![0, 512 * (t.val % 15)] := by
  have h : ∀ t : Fin cfg0.N, k0_off1 (grid0.coords t) 0 = 0 ∧ k0_off1 (grid0.coords t) 1 = 512 * (t.val % 15) := by decide +kernel
  exact fun t => funext fun a => by fin_cases a; exacts [(h t).1, (h t).2]

variable (c : Dev nD) (i : grid0.Coords)
  (arg3 : Memref sig .tc .vmem S1x1024x2048 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S1x5504x512 .bf16) (harg6 : arg6.IsWhole)
  (arg7 : Memref sig .tc .vmem S1x1024x1 .f32) (harg7 : arg7.IsWhole)
  (arg8 : Memref sig .tc .vmem S1x1024x512 .bf16) (harg8 : arg8.IsWhole)
  (arg9 : Memref sig .tc .vmem S1024x5632 .bf16) (harg9 : arg9.IsWhole)

/-- The rectangle of the scratch that a first phase's point fills. -/
abbrev stretch (h : k0_cond1 i = 1#1) : Rect S1024x5632 := Rect.unit (s := S1024x5632) (k0_off1 i) S1024x512.size (k0_off1_inb i h)

/-- A point of the first phase: the stretch of the scratch holds the product, the rest of it what it held. -/
theorem run_fill (hc1 : k0_cond1 i = 1#1) (hc2 : ¬ k0_cond2 i = 1#1)
    (x0 : Vec F S1x1024x2048 .bf16) (x1 x2 : Vec F S1x2048x512 .bf16) (g : Vec F S1024x5632 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg9 fullShare g
        ∗ (iprop(owns (c : Thread nD τ) arg3 fullShare x0 ∗ owns (c : Thread nD τ) arg4 fullShare x1 ∗ owns (c : Thread nD τ) arg5 fullShare x2
            ∗ ∃ g' : Vec F S1024x5632 .bf16, ⌜(∀ j : S1024x512.Idx, g' ((stretch i hc1).emb j) = k0_pay1 x0 x1 x2 j)
                ∧ ∀ y, y ∉ (stretch i hc1).set → g' y = g y⌝ ∗ owns (c : Thread nD τ) arg9 fullShare g') -∗ K ⟨⟩))
      ⊢ wp frame (wpE (defs₀ (F := F)) Variants.none c none) E
          (cc0_expert_ffn i arg3 harg3 arg4 harg4 arg5 harg5 arg6 harg6 arg7 harg7 arg8 harg8 arg9 harg9) K := by
  simp only [cc0_expert_ffn_eq_skeleton]; unfold cc0_expert_ffn_skel
  unfold owns
  iintro ⟨⟨%f0, %hf0, H0⟩, ⟨%f1, %hf1, H1⟩, ⟨%f2, %hf2, H2⟩, ⟨%f9, %hf9, H9⟩, Hk⟩
  obtain rfl := harg3.eq_unread hf0; obtain rfl := harg4.eq_unread hf1; obtain rfl := harg5.eq_unread hf2
  obtain rfl := harg9.eq_unread hf9
  sl_exec (disch := first | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _
  isplitr
  swap
  · iexists _; isplitr; swap
    · iexact H9
    ipureintro; rfl
  ipureintro
  rw [View.readAt_full arg3.view _ inb_S1x1024x2048_S1x1024x2048_0_0_0, View.readAt_full arg4.view _ inb_S1x2048x512_S1x2048x512_0_0_0,
    View.readAt_full arg5.view _ inb_S1x2048x512_S1x2048x512_0_0_0, hf0, hf1, hf2]
  refine ⟨fun j => View.read_writes_cons_emb _ _ _ _ _ _, fun y hy => ?_⟩
  rw [View.writes_cons, View.read_slice_write_of_not_mem _ _ _ _ (by rw [Rect.map_emb_univ]; exact hy)]
  exact congrFun hf9 y

/-- A point of the second phase: the tile of the result holds the product of the scratch's columns. -/
theorem run_tile (hc1 : ¬ k0_cond1 i = 1#1) (hc2 : k0_cond2 i = 1#1)
    (x3 : Vec F S1x5504x512 .bf16) (x4 : Vec F S1x1024x1 .f32) (g : Vec F S1024x5632 .bf16)
    (E : Set ℕ) (K : PUnit → sProp 𝕄) :
    iprop(owns (c : Thread nD τ) arg6 fullShare x3 ∗ owns (c : Thread nD τ) arg7 fullShare x4
        ∗ (∃ x5, owns (c : Thread nD τ) arg8 fullShare x5) ∗ owns (c : Thread nD τ) arg9 fullShare g
        ∗ (iprop(owns (c : Thread nD τ) arg6 fullShare x3 ∗ owns (c : Thread nD τ) arg7 fullShare x4
            ∗ owns (c : Thread nD τ) arg8 fullShare
                (k0_pay2 (fun j => g ((Rect.unit (s := S1024x5632) ![0, 0] S1024x5504.size inb_S1024x5632_S1024x5504_0_0).emb j)) x3 x4)
            ∗ owns (c : Thread nD τ) arg9 fullShare g) -∗ K ⟨⟩))
      ⊢ wp frame (wpE (defs₀ (F := F)) Variants.none c none) E
          (cc0_expert_ffn i arg3 harg3 arg4 harg4 arg5 harg5 arg6 harg6 arg7 harg7 arg8 harg8 arg9 harg9) K := by
  simp only [cc0_expert_ffn_eq_skeleton]; unfold cc0_expert_ffn_skel
  unfold owns
  iintro ⟨⟨%f3, %hf3, H3⟩, ⟨%f4, %hf4, H4⟩, ⟨%d5, %f5, -, H5⟩, ⟨%f9, %hf9, H9⟩, Hk⟩
  obtain rfl := harg6.eq_unread hf3; obtain rfl := harg7.eq_unread hf4; obtain rfl := harg9.eq_unread hf9
  sl_exec (disch := first | sl_exact hc1 | sl_exact hc2)
  sl_step
  iapply Hk
  isplitl [H3]
  · iexists _; isplitr; · ipureintro; exact harg6.read_unread _
    iexact H3
  isplitl [H4]
  · iexists _; isplitr; · ipureintro; exact harg7.read_unread _
    iexact H4
  isplitl [H5]
  · iexists _; isplitr; swap
    · iexact H5
    ipureintro
    rw [View.read_writes_full arg8.view _ inb_S1x1024x512_S1x1024x512_0_0_0, View.readAt_full arg6.view _ inb_S1x5504x512_S1x5504x512_0_0_0,
      View.readAt_full arg7.view _ inb_S1x1024x1_S1x1024x1_0_0_0, hf3, hf4]
    exact congrArg (fun X => k0_pay2 X x3 x4) (funext fun j => congrFun hf9 _)
  · iexists _; isplitr; · ipureintro; exact harg9.read_unread _
    iexact H9

end Cert.ExpertsIdeal.Gen

end
-- ==== Proof.Ffn.Blocks.lean ====
/- The blocks that a point of the experts' grid loads: where their entries lie in the launched arguments. -/
module

public import proofs.«01_k».proof.Proof.Ffn.Spec
public import proofs.«01_k».proof.Proof.Own.ExpertsIdeal.Body
public import Idealize.ShloMosaic.Lib.Pipeline.ValueKit
public import Idealize.ShloMosaic.Lib.StableHlo.ReadAt

@[expose] public section

set_option maxRecDepth 16384

noncomputable section

namespace Cert.Ffn

open Cert.ExpertsIdeal Cert.ExpertsIdeal.Gen Idealize.ShloMosaic Idealize.ShloMosaic.TcCoe Idealize.ShloMosaic.Pointwise
open Idealize.ShloMosaic.Pipeline (Dat)

theorem index0 : ∀ t : Fin cfg0.N, win0_0.index t = ![t.val / 60, t.val / 15 % 4, 0] := by decide +kernel
theorem index1 : ∀ t : Fin cfg0.N, win0_1.index t = ![t.val / 60, 0, min (t.val % 15) 10] := by decide +kernel
theorem index2 : ∀ t : Fin cfg0.N, win0_2.index t = ![t.val / 60, 0, min (t.val % 15) 10] := by decide +kernel
theorem index3 : ∀ t : Fin cfg0.N, win0_3.index t = ![t.val / 60, 0, t.val % 15 - 11] := by decide +kernel
theorem index4 : ∀ t : Fin cfg0.N, win0_4.index t = ![t.val / 60, t.val / 15 % 4, 0] := by decide +kernel
theorem index5 : ∀ t : Fin cfg0.N, win0_5.index t = ![t.val / 60, t.val / 15 % 4, t.val % 15 - 11] := by decide +kernel

/-- How much of a block of the input weights lies inside the array: of the last block, 384 columns of its 512. -/
theorem size1 : ∀ t : Fin cfg0.N, ∀ a : Fin 3, win0_1.xsize (grid0.coords t) a = (![1, 2048, min 512 (5504 - 512 * min (t.val % 15) 10)] : Fin 3 → ℕ) a := by
  decide +kernel
theorem size2 : ∀ t : Fin cfg0.N, ∀ a : Fin 3, win0_2.xsize (grid0.coords t) a = (![1, 2048, min 512 (5504 - 512 * min (t.val % 15) 10)] : Fin 3 → ℕ) a := by
  decide +kernel

variable (m : (ℓ : Loc nD τ sig) → Buf (Elt Ideal) ℓ) (c : Dev nD)

/-- The launched arguments. -/
abbrev xg : FVec Ideal S16x4096x2048 .bf16 := m ((c : Thread nD τ).loc main_arg0)
abbrev wg : FVec Ideal S16x2048x5504 .bf16 := m ((c : Thread nD τ).loc main_arg1)
abbrev wu : FVec Ideal S16x2048x5504 .bf16 := m ((c : Thread nD τ).loc main_arg2)
abbrev wd : FVec Ideal S16x5504x2048 .bf16 := m ((c : Thread nD τ).loc main_arg3)
abbrev gates : FVec Ideal S16x4096 .f32 := m ((c : Thread nD τ).loc main_arg4)

theorem V_gates (e : Fin 16) (R : Fin 4096) : (V m c main_v0 : Vec Ideal S16x4096x1 .f32) (ix3 e R 0) = gates m c (ix2 e R) := by
  have h : (V m c main_v0 : Vec Ideal S16x4096x1 .f32) = broadcastInDim S16x4096x1 ![0, 1] bcast_S16x4096_S16x4096x1_0_1 (gates m c) := by
    unfold V
    after_reads_simp
  rw [h]
  pointwise

variable (t : Fin cfg0.N) (e : Fin 16) (he : e.val = t.val / 60)
include he

theorem blk0 (R : Fin 4096) (r : Fin 1024) (hR : R.val = 1024 * (t.val / 15 % 4) + r.val) (k : Fin 2048) :
    (iblk m c 0 t : Vec Ideal S1x1024x2048 .bf16) (ix3 0 r k) = xg m c (ix3 e R k) := by
  blk_simp [iblk]
  rw [V_main_arg0]
  refine congrArg (xg m c) (funext fun a => Fin.ext ?_)
  blk_simp
  rw [index0]
  match a with
  | ⟨0, _⟩ => show t.val / 60 * 1 + 0 = e.val; omega
  | ⟨1, _⟩ => show t.val / 15 % 4 * 1024 + r.val = R.val; omega
  | ⟨2, _⟩ => show 0 * 2048 + k.val = k.val; omega

/-- A column of a clipped block that lies inside the array, whatever lies past it. -/
theorem blk1 (d : S1x2048x512.Idx → EReal) (k : Fin 2048) (j : Fin 512) (f : Fin 5504) (hf : f.val = 512 * (t.val % 15) + j.val) (h11 : t.val % 15 < 11) :
    (win0_1.fill (grid0.coords t) d (iblk m c 1 t) : S1x2048x512.Idx → EReal) (ix3 0 k j) = wg m c (ix3 e k f) := by
  have hm : win0_1.moved (grid0.coords t) (ix3 (0 : Fin 1) k j : S1x2048x512.Idx) = true := by
    rw [Pipeline.Window.moved_iff]
    intro a
    rw [size1 t a]
    match a with
    | ⟨0, _⟩ => show 0 < 1; omega
    | ⟨1, _⟩ => exact k.isLt
    | ⟨2, _⟩ => show j.val < min 512 (5504 - 512 * min (t.val % 15) 10); have := f.isLt; omega
  unfold Pipeline.Window.fill
  rw [dif_pos hm]
  blk_simp [iblk]
  rw [V_main_arg1]
  refine congrArg (wg m c) (funext fun a => Fin.ext ?_)
  blk_simp
  rw [index1]
  match a with
  | ⟨0, _⟩ => show t.val / 60 * 1 + 0 = e.val; omega
  | ⟨1, _⟩ => show 0 * 2048 + k.val = k.val; omega
  | ⟨2, _⟩ => show min (t.val % 15) 10 * 512 + j.val = f.val; omega

theorem blk2 (d : S1x2048x512.Idx → EReal) (k : Fin 2048) (j : Fin 512) (f : Fin 5504) (hf : f.val = 512 * (t.val % 15) + j.val) (h11 : t.val % 15 < 11) :
    (win0_2.fill (grid0.coords t) d (iblk m c 2 t) : S1x2048x512.Idx → EReal) (ix3 0 k j) = wu m c (ix3 e k f) := by
  have hm : win0_2.moved (grid0.coords t) (ix3 (0 : Fin 1) k j : S1x2048x512.Idx) = true := by
    rw [Pipeline.Window.moved_iff]
    intro a
    rw [size2 t a]
    match a with
    | ⟨0, _⟩ => show 0 < 1; omega
    | ⟨1, _⟩ => exact k.isLt
    | ⟨2, _⟩ => show j.val < min 512 (5504 - 512 * min (t.val % 15) 10); have := f.isLt; omega
  unfold Pipeline.Window.fill
  rw [dif_pos hm]
  blk_simp [iblk]
  rw [V_main_arg2]
  refine congrArg (wu m c) (funext fun a => Fin.ext ?_)
  blk_simp
  rw [index2]
  match a with
  | ⟨0, _⟩ => show t.val / 60 * 1 + 0 = e.val; omega
  | ⟨1, _⟩ => show 0 * 2048 + k.val = k.val; omega
  | ⟨2, _⟩ => show min (t.val % 15) 10 * 512 + j.val = f.val; omega

theorem blk3 (f : Fin 5504) (l : Fin 512) (d : Fin 2048) (hd : d.val = 512 * (t.val % 15 - 11) + l.val) :
    (iblk m c 3 t : Vec Ideal S1x5504x512 .bf16) (ix3 0 f l) = wd m c (ix3 e f d) := by
  blk_simp [iblk]
  rw [V_main_arg3]
  refine congrArg (wd m c) (funext fun a => Fin.ext ?_)
  blk_simp
  rw [index3]
  match a with
  | ⟨0, _⟩ => show t.val / 60 * 1 + 0 = e.val; omega
  | ⟨1, _⟩ => show 0 * 5504 + f.val = f.val; omega
  | ⟨2, _⟩ => show (t.val % 15 - 11) * 512 + l.val = d.val; omega

theorem blk4 (R : Fin 4096) (r : Fin 1024) (hR : R.val = 1024 * (t.val / 15 % 4) + r.val) :
    (iblk m c 4 t : Vec Ideal S1x1024x1 .f32) (ix3 0 r 0) = gates m c (ix2 e R) := by
  rw [← V_gates m c e R]
  blk_simp [iblk]
  refine congrArg (V m c main_v0 : Vec Ideal S16x4096x1 .f32) (funext fun a => Fin.ext ?_)
  blk_simp
  rw [index4]
  match a with
  | ⟨0, _⟩ => show t.val / 60 * 1 + 0 = e.val; omega
  | ⟨1, _⟩ => show t.val / 15 % 4 * 1024 + r.val = R.val; omega
  | ⟨2, _⟩ => show 0 * 1 + 0 = 0; omega

end Cert.Ffn

end
-- ==== Proof.Ffn.Step.lean ====
/- What a point of the experts' grid adds to the scratch, or writes of the result, in terms of the launched arguments. -/
module

public import proofs.«01_k».proof.Proof.Ffn.Blocks

@[expose] public section

set_option maxRecDepth 16384

noncomputable section

namespace Cert.Ffn

open Cert.ExpertsIdeal Cert.ExpertsIdeal.Gen Idealize.ShloMosaic Idealize.ShloMosaic.TcCoe Idealize.ShloMosaic.Pointwise

variable (m : (ℓ : Loc nD τ sig) → Buf (Elt Ideal) ℓ) (c : Dev nD)

/-- The scratch before point `n`: the columns that the first phase has filled so far hold the hidden features of the point's
    tokens. The columns past the 5504 features, which the last stretch overhangs, are not spoken of. -/
def Good (n : ℕ) (g : Vec Ideal S1024x5632 .bf16) : Prop :=
  ∀ (r : Fin 1024) (k : Fin 5632) (f : Fin 5504) (e : Fin 16) (R : Fin 4096), k.val = f.val → k.val < 512 * (n % 15) → e.val = n / 60 →
    R.val = 1024 * (n / 15 % 4) + r.val → g (ix2 r k) = hidden (xg m c) (wg m c) (wu m c) e R f

/-- A tile of the result. -/
def tile (t : Fin cfg0.N) : Vec Ideal S1x1024x512 .bf16 := fun y =>
  entry (xg m c) (wg m c) (wu m c) (wd m c) (gates m c) ⟨t.val / 60, by have : t.val < 960 := t.isLt; omega⟩
    ⟨1024 * (t.val / 15 % 4) + (y 1).val, by have : (y 1).val < 1024 := (y 1).isLt; omega⟩
    ⟨512 * (t.val % 15 - 11) + (y 2).val, by have : (y 2).val < 512 := (y 2).isLt; omega⟩

theorem good_start (n : ℕ) (h : n % 15 = 0) (g : Vec Ideal S1024x5632 .bf16) : Good m c n g := by
  intro r k f e R _ hk
  omega

/-- A point of the first phase fills the next stretch. -/
theorem good_fill (t : Fin cfg0.N) (h11 : t.val % 15 < 11) (hc : k0_cond1 (grid0.coords t) = 1#1) (d1 d2 : S1x2048x512.Idx → EReal)
    (g g' : Vec Ideal S1024x5632 .bf16) (hg : Good m c t.val g)
    (hin : ∀ j : S1024x512.Idx, g' ((stretch (grid0.coords t) hc).emb j)
      = k0_pay1 (F := Ideal) (iblk m c 0 t) (win0_1.fill (grid0.coords t) d1 (iblk m c 1 t)) (win0_2.fill (grid0.coords t) d2 (iblk m c 2 t)) j)
    (hout : ∀ y, y ∉ (stretch (grid0.coords t) hc).set → g' y = g y) : Good m c (t.val + 1) g' := by
  intro r k f e R hkf hk he hR
  have hm : (t.val + 1) % 15 = t.val % 15 + 1 := by omega
  have he' : e.val = t.val / 60 := by omega
  have hR' : R.val = 1024 * (t.val / 15 % 4) + r.val := by omega
  by_cases hlt : k.val < 512 * (t.val % 15)
  · rw [hout _ ?_]
    · exact hg r k f e R hkf hlt he' hR'
    · intro hmem
      rw [Rect.mem_set_unit] at hmem
      have h1 := (hmem 1).1
      rw [off1_eq] at h1
      have : 512 * (t.val % 15) ≤ k.val := h1
      omega
  · have hj : k.val - 512 * (t.val % 15) < 512 := by omega
    have hplace : (ix2 r k : S1024x5632.Idx) = (stretch (grid0.coords t) hc).emb (ix2 r ⟨k.val - 512 * (t.val % 15), hj⟩ : S1024x512.Idx) := by
      funext a
      apply Fin.ext
      match a with
      | ⟨0, _⟩ =>
        show r.val = k0_off1 (grid0.coords t) 0 + 1 * r.val
        rw [off1_eq]; show r.val = 0 + 1 * r.val; omega
      | ⟨1, _⟩ =>
        show k.val = k0_off1 (grid0.coords t) 1 + 1 * (k.val - 512 * (t.val % 15))
        rw [off1_eq]; show k.val = 512 * (t.val % 15) + 1 * (k.val - 512 * (t.val % 15)); omega
    rw [hplace, hin, pay1_apply]
    have hf : f.val = 512 * (t.val % 15) + (k.val - 512 * (t.val % 15)) := by omega
    unfold hidden
    refine congrArg₂ unit (Finset.sum_congr rfl fun q _ => ?_) (Finset.sum_congr rfl fun q _ => ?_)
    · rw [blk0 m c t e he' R r hR' q, blk1 m c t e he' d1 q ⟨_, hj⟩ f hf h11]
    · rw [blk0 m c t e he' R r hR' q, blk2 m c t e he' d2 q ⟨_, hj⟩ f hf h11]

/-- A point of the second phase leaves the scratch as it was. -/
theorem good_keep (t : Fin cfg0.N) (h11 : 11 ≤ t.val % 15) (g : Vec Ideal S1024x5632 .bf16) (hg : Good m c t.val g) : Good m c (t.val + 1) g := by
  intro r k f e R hkf hk he hR
  have := f.isLt
  exact hg r k f e R hkf (by omega) (by omega) (by omega)

/-- A point of the second phase writes its tile of the result. -/
theorem tile_eq (t : Fin cfg0.N) (h11 : 11 ≤ t.val % 15) (g : Vec Ideal S1024x5632 .bf16) (hg : Good m c t.val g) :
    k0_pay2 (F := Ideal) (fun j => g ((Rect.unit (s := S1024x5632) ![0, 0] S1024x5504.size inb_S1024x5632_S1024x5504_0_0).emb j)) (iblk m c 3 t) (iblk m c 4 t)
      = tile m c t := by
  funext y
  obtain ⟨r, l, rfl⟩ : ∃ (r : Fin 1024) (l : Fin 512), y = ix3 0 r l := ⟨y 1, y 2, by
    funext a
    match a with
    | ⟨0, _⟩ => exact Subsingleton.elim (α := Fin 1) _ _
    | ⟨1, _⟩ => rfl
    | ⟨2, _⟩ => rfl⟩
  rw [pay2_apply]
  unfold tile entry
  have hr := r.isLt
  rw [blk4 m c t ⟨t.val / 60, by have : t.val < 960 := t.isLt; omega⟩ rfl ⟨1024 * (t.val / 15 % 4) + r.val, by omega⟩ r rfl]
  refine congrArg₂ (· * ·) (Finset.sum_congr rfl fun f _ => ?_) rfl
  rw [blk3 m c t ⟨t.val / 60, by have : t.val < 960 := t.isLt; omega⟩ rfl f l ⟨512 * (t.val % 15 - 11) + l.val, by have := l.isLt; omega⟩ rfl]
  refine congrArg₂ (· * ·) ?_ rfl
  have hplace : (Rect.unit (s := S1024x5632) ![0, 0] S1024x5504.size inb_S1024x5632_S1024x5504_0_0).emb (ix2 r f : S1024x5504.Idx)
      = (ix2 r ⟨f.val, by have := f.isLt; omega⟩ : S1024x5632.Idx) := by
    funext a
    apply Fin.ext
    match a with
    | ⟨0, _⟩ => show 0 + 1 * r.val = r.val; omega
    | ⟨1, _⟩ => show 0 + 1 * f.val = f.val; omega
  rw [hplace]
  exact hg r _ f _ _ rfl (by have := f.isLt; show f.val < _; omega) rfl rfl

end Cert.Ffn

end
-- ==== Proof.Ffn.Frame.lean ====
/- The experts' launch over the reals, the scratch tracked from point to point: what its buffers hold, and its frame. -/
module

public import proofs.«01_k».proof.Proof.Ffn.Step
public import Idealize.ShloMosaic.Lib.Claim

@[expose] public section

set_option maxRecDepth 16384

noncomputable section

namespace Cert.Ffn

open Cert.ExpertsIdeal Cert.ExpertsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Between points: the scratch as far as it is filled, and the generator's register at anything. -/
def tracked (c : Dev nD) (n : ℕ) : sProp 𝕄 :=
  iprop((∃ g : Vec Ideal S1024x5632 .bf16, ⌜Good m c n g⌝ ∗ owns (c : Thread nD τ) (Memref.whole cc0_scratch0) fullShare g) ∗ ∃ r, prngReg c r)

/-- The launch's data: an input's buffer is left at its block, the result's at its tile. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, h⟩ => win0_1.fill (grid0.coords t) (Pipeline.Dat.unnamed (cfg := cfg0) ⟨1, h⟩ t) (iblk m c 1 t)
    | ⟨2, h⟩ => win0_2.fill (grid0.coords t) (Pipeline.Dat.unnamed (cfg := cfg0) ⟨2, h⟩ t) (iblk m c 2 t)
    | ⟨3, _⟩ => iblk m c 3 t
    | ⟨4, _⟩ => iblk m c 4 t
    | ⟨5, _⟩ => tile m c t
  Φ t := tracked m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tile m c t := by dsimp only [dats]

theorem cut0_1 (c : Dev nD) (t : Fin cfg0.N) : win0_1.cut (grid0.coords t) ((dats m 0 c).after 1 t) = iblk m c 1 t :=
  win0_1.cut_fill _ _ _
theorem cut0_2 (c : Dev nD) (t : Fin cfg0.N) : win0_2.cut (grid0.coords t) ((dats m 0 c).after 2 t) = iblk m c 2 t :=
  win0_2.cut_fill _ _ _

/-- A clipped block's part inside the array goes by the block's index. -/
theorem clip0_1 (t t' : Fin cfg0.N) (h : win0_1.index t = win0_1.index t') : win0_1.clip (grid0.coords t) = win0_1.clip (grid0.coords t') :=
  funext fun a => congrArg (fun k => Pipeline.Clip.of k (S1x2048x512.size a) (S16x2048x5504.size a)) (congrFun h a)
theorem clip0_2 (t t' : Fin cfg0.N) (h : win0_2.index t = win0_2.index t') : win0_2.clip (grid0.coords t) = win0_2.clip (grid0.coords t') :=
  funext fun a => congrArg (fun k => Pipeline.Clip.of k (S1x2048x512.size a) (S16x2048x5504.size a)) (congrFun h a)

/-- What the body finds in a clipped input's buffer: its block inside the array, anything past it. -/
theorem before0_1 (c : Dev nD) (t : Fin cfg0.N) (d) : (dats m 0 c).before 1 t d = win0_1.fill (grid0.coords t) d (iblk m c 1 t) :=
  ((dats m 0 c).before_in_eq_fetched 1 rfl (fun _ => rfl) (fun t t' h => clip0_1 t t' h) (fun t => cut0_1 m c t) t d).trans rfl
theorem before0_2 (c : Dev nD) (t : Fin cfg0.N) (d) : (dats m 0 c).before 2 t d = win0_2.fill (grid0.coords t) d (iblk m c 2 t) :=
  ((dats m 0 c).before_in_eq_fetched 2 rfl (fun _ => rfl) (fun t t' h => clip0_2 t t' h) (fun t => cut0_2 m c t) t d).trans rfl

/-- The scratch at named contents is the scratch at some contents. -/
theorem scratch_some (c : Dev nD) (g : Vec Ideal S1024x5632 .bf16) :
    owns (c : Thread nD τ) (Memref.whole cc0_scratch0) fullShare g
      ⊢ (iprop(∃ f : Buf (Elt Ideal) ((c : Thread nD τ).loc cc0_scratch0), ((c : Thread nD τ).loc cc0_scratch0) ↦{fullShare} f) : sProp 𝕄) := by
  rw [owns_whole_eq]
  iintro ⟨%f, -, H⟩
  iexists f; iexact H

/-- What the body is handed at a point. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body hands back at a point, the result's buffer apart. -/
def post (c : Dev nD) (t : Fin cfg0.N) (Z : sProp 𝕄) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ owns (c : Thread nD τ) (st0_4 t) fullShare ((dats m 0 c).after 4 t)
    ∗ Z)

/-- The body at a point of the first phase. -/
theorem sound_fill (c : Dev nD) (t : Fin cfg0.N) (h : t.val % 15 < 11) :
    pre m c t ⊢ wp frame (wpE (defs₀ (F := Ideal)) Variants.none c none) Set.univ (bodyAt0 t) fun _ =>
      post m c t iprop(∃ d, owns (c : Thread nD τ) (st0_5 t) fullShare ((dats m 0 c).before 5 t d)) := by
  unfold pre post
  rw [show (dats m 0 c).owesAt () t.succ = (dats m 0 c).owesAt () t.castSucc from rfl,
    show (dats m 0 c).Φ t.castSucc = tracked m c t.val from rfl, show (dats m 0 c).Φ t.succ = tracked m c (t.val + 1) from rfl,
    cut0_1, cut0_2, after0_0, after0_3, after0_4]
  unfold tracked
  iintro ⟨⟨⟨%g, %hg, HS⟩, HR⟩, Ho, ⟨%d0, H0⟩, ⟨%d1, H1⟩, ⟨%d2, H2⟩, ⟨%d3, H3⟩, ⟨%d4, H4⟩, H5⟩
  rw [before0_0_of m (dats m 0 c) (A_eq m c 0) (after0_0 m c) t d0, before0_1 m c t d1, before0_2 m c t d2,
    before0_3_of m (dats m 0 c) (A_eq m c 3) (after0_3 m c) t d3, before0_4_of m (dats m 0 c) (A_eq m c 4) (after0_4 m c) t d4]
  iapply (run_fill c (grid0.coords t) _ _ _ _ _ _ _ _ _ _ _ _ _ _ ((cond1_iff t).mpr h)
    (fun h2 => absurd ((cond2_iff t).mp h2) (by omega)) _ _ _ g Set.univ _)
  isplitl [H0]; · iexact H0
  isplitl [H1]; · iexact H1
  isplitl [H2]; · iexact H2
  isplitl [HS]; · iexact HS
  iintro ⟨H0, H1, H2, ⟨%g', %hg', HS⟩⟩
  isplitl [HS HR]
  · isplitl [HS]
    · iexists g'
      isplitr
      · ipureintro; exact good_fill m c t h _ d1 d2 g g' hg hg'.1 hg'.2
      iexact HS
    iexact HR
  isplitl [Ho]; · iexact Ho
  isplitl [H0]; · iexact H0
  isplitl [H1]; · iexists d1; iexact H1
  isplitl [H2]; · iexists d2; iexact H2
  isplitl [H3]; · iexact H3
  isplitl [H4]; · iexact H4
  iexact H5

/-- The body at a point of the second phase. -/
theorem sound_tile (c : Dev nD) (t : Fin cfg0.N) (h : 11 ≤ t.val % 15) :
    pre m c t ⊢ wp frame (wpE (defs₀ (F := Ideal)) Variants.none c none) Set.univ (bodyAt0 t) fun _ =>
      post m c t (owns (c : Thread nD τ) (st0_5 t) fullShare ((dats m 0 c).after 5 t)) := by
  unfold pre post
  rw [show (dats m 0 c).owesAt () t.succ = (dats m 0 c).owesAt () t.castSucc from rfl,
    show (dats m 0 c).Φ t.castSucc = tracked m c t.val from rfl, show (dats m 0 c).Φ t.succ = tracked m c (t.val + 1) from rfl,
    cut0_1, cut0_2, after0_0, after0_3, after0_4, after0_5]
  unfold tracked
  iintro ⟨⟨⟨%g, %hg, HS⟩, HR⟩, Ho, ⟨%d0, H0⟩, ⟨%d1, H1⟩, ⟨%d2, H2⟩, ⟨%d3, H3⟩, ⟨%d4, H4⟩, ⟨%d5, H5⟩⟩
  rw [before0_0_of m (dats m 0 c) (A_eq m c 0) (after0_0 m c) t d0, before0_1 m c t d1, before0_2 m c t d2,
    before0_3_of m (dats m 0 c) (A_eq m c 3) (after0_3 m c) t d3, before0_4_of m (dats m 0 c) (A_eq m c 4) (after0_4 m c) t d4,
    ← tile_eq m c t h g hg]
  iapply (run_tile c (grid0.coords t) _ _ _ _ _ _ _ _ _ _ _ _ _ _ (fun h1 => absurd ((cond1_iff t).mp h1) (by omega))
    ((cond2_iff t).mpr h) _ _ g Set.univ _)
  isplitl [H3]; · iexact H3
  isplitl [H4]; · iexact H4
  isplitl [H5]; · iexists _; iexact H5
  isplitl [HS]; · iexact HS
  iintro ⟨H3, H4, H5, HS⟩
  isplitl [HS HR]
  · isplitl [HS]
    · iexists g
      isplitr
      · ipureintro; exact good_keep m c t h g hg
      iexact HS
    iexact HR
  isplitl [Ho]; · iexact Ho
  isplitl [H0]; · iexact H0
  isplitl [H1]; · iexists d1; iexact H1
  isplitl [H2]; · iexists d2; iexact H2
  isplitl [H3]; · iexact H3
  isplitl [H4]; · iexact H4
  iexact H5

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The result's window is idle in the first phase, and is written back at each point of the second. -/
theorem idle_iff : ∀ t : Fin cfg0.N, idle0 5 (grid0.coords t) = true ↔ t.val % 15 < 11 := by decide +kernel
theorem flush_iff : ∀ t : Fin cfg0.N, win0_5.flush t = true ↔ 11 ≤ t.val % 15 := by decide +kernel

theorem body_obligation (c : Dev nD) : BodyObligationLoose (dats m 0 c) (defs₀ (F := Ideal)) Variants.none () Set.univ := fun t => by
  rw [bigSep_W0, bigSep_W0, defs₀_row]
  by_cases h : t.val % 15 < 11
  · have hi : cfg0.idle 5 (cfg0.grid.coords t) = true := (idle_iff t).mpr h
    have hf : (cfg0.win 5).flush t = false := Bool.eq_false_iff.mpr (mt (flush_iff t).mp (by omega))
    rw [hi, hf]
    exact triple_restated (sound_fill m c t h) rfl .rfl fun _ => .rfl
  · have hi : cfg0.idle 5 (cfg0.grid.coords t) = false := Bool.eq_false_iff.mpr (mt (idle_iff t).mp h)
    rw [hi]
    exact triple_restated (sound_tile m c t (by omega)) rfl .rfl fun _ => .rfl

theorem enter (c : Dev nD) : Pipeline.ΦA spec0 c ⊢ tracked m c 0 := by
  unfold tracked Pipeline.ΦA
  rw [scopedRest0_eq]
  iintro ⟨⟨%g, HS⟩, HR⟩
  isplitl [HS]
  · iexists g
    isplitr
    · ipureintro; exact good_start m c 0 rfl g
    rw [owns_whole_eq]; iexists g; isplitr; · ipureintro; rfl
    iexact HS
  iexact HR

theorem leave (c : Dev nD) (n : ℕ) : tracked m c n ⊢ Pipeline.ΦA spec0 c := by
  unfold tracked Pipeline.ΦA
  rw [scopedRest0_eq]
  iintro ⟨⟨%g, -, HS⟩, HR⟩
  isplitl [HS]
  · iapply (scratch_some c _); iexact HS
  iexact HR

set_option backward.isDefEq.respectTransparency.types false in
/-- The launch ends with every array at what its blocks' write-backs leave, and every semaphore at zero. -/
theorem run_main : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => body_obligation m c) (hshare := fun _ w => by fin_cases w <;> rfl)
    (howed := fun _ _ => rfl) (V := V m) (hmain := hmain m Variants.none) (hA := A_eq m)
    (hin := fun c => enter m c) (hout := fun c => leave m c _)

end Cert.Ffn

end
-- ==== Proof.Ffn.Final.lean ====
/- The experts' result array after the launch, and the launch's frame. -/
module

public import proofs.«01_k».proof.Proof.Ffn.Frame

@[expose] public section

set_option maxRecDepth 16384

noncomputable section

namespace Cert.Ffn

open Cert.ExpertsIdeal Cert.ExpertsIdeal.Gen Idealize.ShloMosaic Idealize.ShloMosaic.TcCoe Idealize.ShloMosaic.Pointwise
open Idealize.SL.Sem Idealize.ShloMosaic.Tactic
open Idealize.ShloMosaic.Pipeline (Dat)

variable (m : (ℓ : Loc nD τ sig) → Buf (Elt Ideal) ℓ) (ρ : Dev nD → PrngReg) (c : Dev nD)

/-- A tile at an entry is the experts' result at the place the tile's entry lies. -/
theorem tile_entry (t : Fin cfg0.N) (y : S1x1024x512.Idx) (z : S16x4096x2048.Idx)
    (hz : ∀ a : Fin 3, (z a).val = (![t.val / 60, t.val / 15 % 4, t.val % 15 - 11] : Fin 3 → ℕ) a * S1x1024x512.size a + (y a).val) :
    tile m c t y = ffn (xg m c) (wg m c) (wu m c) (wd m c) (gates m c) z := by
  have y0 : (y 0).val < 1 := (y 0).isLt
  have z0 : (z 0).val = t.val / 60 * 1 + (y 0).val := hz 0
  have z1 : (z 1).val = t.val / 15 % 4 * 1024 + (y 1).val := hz 1
  have z2 : (z 2).val = (t.val % 15 - 11) * 512 + (y 2).val := hz 2
  unfold tile ffn
  congr 1
  · exact Fin.ext (by show t.val / 60 = (z 0).val; omega)
  · exact Fin.ext (by show 1024 * (t.val / 15 % 4) + (y 1).val = (z 1).val; omega)
  · exact Fin.ext (by show 512 * (t.val % 15 - 11) + (y 2).val = (z 2).val; omega)

/-- **The kernel's result array is the experts' feed-forward of its arguments.** -/
theorem final : (dats m 0 c).arrAt 5 cfg0.N = ffn (xg m c) (wg m c) (wu m c) (wd m c) (gates m c) := by
  refine (dats m 0 c).arrAt_eq_of_covers 5 (ffn (xg m c) (wg m c) (wu m c) (wd m c) (gates m c)) (by decide +kernel) fun t hf y => ?_
  blk_simp
  rw [after0_5]
  refine tile_entry m c t y _ fun a => ?_
  blk_simp
  rw [index5]

/-- The arguments are unchanged where the arrays are at what the launch's write-backs leave. -/
theorem args_kept (r : PUnit × MemSt nD τ sig (Elt Ideal)) (h : Pipeline.FramePost cfgs (dats m) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c)⟩

/-- The launch leaves the experts' feed-forward of its arguments in its result. -/
theorem result (r : PUnit × MemSt nD τ sig (Elt Ideal)) (h : Pipeline.FramePost cfgs (dats m) 0 (V m) r) :
    r.2.mem ((c.tc : Thread nD τ).loc main_v1) = ffn (xg m c) (wg m c) (wu m c) (wd m c) (gates m c) :=
  ((h c).1 5).trans (final m c)

end Cert.Ffn

end
-- ==== Proof.Proj.Spec.lean ====
/- The input projection over the reals, and the products of the kernel's body at an index. -/
module

public import proofs.«01_k».proof.Proof.Gen.ProjectIdeal.Skeleton
public import Idealize.ShloMosaic.Lib.Pointwise
public import Idealize.ShloMosaic.Lib.KernelVsHost
public import Idealize.ShloMosaic.Lib.IdealHost

@[expose] public section

set_option maxRecDepth 16384

noncomputable section

namespace Cert.Proj

open Cert.ProjectIdeal Cert.ProjectIdeal.Gen Idealize.ShloMosaic Idealize.ShloMosaic.TcCoe Idealize.ShloMosaic.Pointwise

/-- The constant that the norms add to the mean of squares. -/
def eps : EReal := Ideal.ofBits .f32 0x358637BD#32

/-- The factor of a norm, from a sum of squares and the number of them. -/
def scale (s n : EReal) : EReal := Ideal.rsqrt (Ideal.div s n + eps)

/-- A token's feature, normed, with its gain, and modulated. -/
def normed (x : Fin 2048 → EReal) (g sc sh : EReal) (k : Fin 2048) : EReal :=
  x k * scale (∑ i, x i * x i) (Ideal.ofBits .f32 0x45000000#32) * g * (1 + sc) + sh

section Arguments
variable (X : FVec Ideal S2x16384x2048 .f32) (G : FVec Ideal S2048 .f32) (C H : FVec Ideal S2x2048 .f32)
  (W : FVec Ideal S2048x6144 .bf16) (Q K : FVec Ideal S64 .f32)

/-- The normed and modulated tokens. -/
def hid (b : Fin 2) (s : Fin 16384) (k : Fin 2048) : EReal :=
  normed (fun i => X (ix3 b s i)) (G (ix1 k)) (C (ix2 b k)) (H (ix2 b k)) k

/-- The projections before the norms of the heads. -/
def acc (b : Fin 2) (s : Fin 16384) (n : Fin 6144) : EReal := ∑ k : Fin 2048, hid X G C H b s k * W (ix2 k n)

/-- The sum of squares over the head of column `n`. -/
def squares (A : Fin 6144 → EReal) (n : Fin 6144) : EReal :=
  ∑ d : Fin 64, A ⟨64 * (n.val / 64) + d.val, by omega⟩ * A ⟨64 * (n.val / 64) + d.val, by omega⟩

/-- The gain of a column of queries (scaled), or of keys. -/
def gain (n : Fin 6144) : EReal :=
  if n.val < 4096 then Q (ix1 ⟨n.val % 64, by omega⟩) * Ideal.ofBits .f32 0x3E000000#32 else K (ix1 ⟨n.val % 64, by omega⟩)

/-- The result at an index: queries and keys are normed by heads. -/
def entry (b : Fin 2) (s : Fin 16384) (n : Fin 6144) : EReal :=
  if 3072 ≤ n.val ∧ n.val < 5120 then
    acc X G C H W b s n * scale (squares (acc X G C H W b s) n) (Ideal.ofBits .f32 0x42800000#32) * gain Q K n
  else acc X G C H W b s n

/-- The input projection. -/
def project : FVec Ideal S2x16384x6144 .bf16 := fun i => entry X G C H W Q K (i 0) (i 1) (i 2)

end Arguments

theorem pay1_apply (x : Vec Ideal S1x1024x2048 .f32) (g : Vec Ideal S1x2048 .f32) (sc sh : Vec Ideal S1x1x2048 .f32) (r : Fin 1024) (k : Fin 2048) :
    k0_pay1 (F := Ideal) x g sc sh (ix2 r k) = normed (fun i => x (ix3 0 r i)) (g (ix2 0 k)) (sc (ix3 0 0 k)) (sh (ix3 0 0 k)) k := by
  pointwise [k0_pay1]
  rfl

theorem pay2_apply (h : Vec Ideal S1024x2048 .bf16) (w : Vec Ideal S2048x1024 .bf16) (r : Fin 1024) (j : Fin 1024) :
    k0_pay2 (F := Ideal) h w (ix3 0 r j) = ∑ k : Fin 2048, h (ix2 r k) * w (ix2 k j) := by
  pointwise [k0_pay2]

theorem pay4_apply (h : Vec Ideal S1024x2048 .bf16) (w : Vec Ideal S2048x1024 .bf16) (r : Fin 1024) (j : Fin 1024) :
    k0_pay4 (F := Ideal) h w (ix2 r j) = ∑ k : Fin 2048, h (ix2 r k) * w (ix2 k j) := by
  pointwise [k0_pay4]

section Generic
variable {F : FTy → Type} [FloatOps F]

/-- Two heads' columns of the product, from column `128 * o` on. -/
def cols (a : FVec F S1024x1024 .f32) (o : Fin 8) : FVec F S1024x128 .f32 :=
  extractStridedSlice S1024x128 ![0, 128 * o.val] a (by revert o; decide)

/-- Their squares, summed by heads with the matrix `bd`: the rounded squares, and what rounding left of them. -/
def sums (a : FVec F S1024x128 .f32) (bd : FVec F S128x128 .bf16) : FVec F S1024x128 .f32 :=
  addf (matmul dot_S1024x128_S128x128_S1024x128_1_0_0_1_n_n none (truncf .bf16 (mulf a a) bitsLt_bf16_f32) bd (constant S1024x128 .f32 0x00000000#32))
    (matmul dot_S1024x128_S128x128_S1024x128_1_0_0_1_n_n none
      (truncf .bf16 (subf (mulf a a) (extf .f32 (truncf .bf16 (mulf a a) bitsLt_bf16_f32) bitsLt_bf16_f32)) bitsLt_bf16_f32) bd
      (constant S1024x128 .f32 0x00000000#32))

/-- Two heads normed, with their gains, as the kernel stores them. -/
def heads (a : FVec F S1024x1024 .f32) (g : FVec F S1x1024 .f32) (bd : FVec F S128x128 .bf16) (o : Fin 8) : FVec F S1x1024x128 .bf16 :=
  shapeCast S1x1024x128 (truncf .bf16 (mulf
    (mulf (cols a o) (rsqrt (addf (mulf (sums (cols a o) bd) (broadcast S1024x128 (Scalar.ofBits .f32 0x3C800000#32)))
      (broadcast S1024x128 (Scalar.ofBits .f32 0x358637BD#32)))))
    (broadcastTo S1024x128 (extractStridedSlice S1x128 ![0, 128 * o.val] g (by revert o; decide)) broadcasts_S1x128_S1024x128)) bitsLt_bf16_f32)
    shapeCasts_S1024x128_S1x1024x128

end Generic

theorem heads_apply (a : FVec Ideal S1024x1024 .f32) (g : FVec Ideal S1x1024 .f32) (bd : FVec Ideal S128x128 .bf16) (o : Fin 8) (r : Fin 1024) (l : Fin 128)
    (A : Fin 128 → EReal) (hA : ∀ k, A k = a (ix2 r ⟨128 * o.val + k.val, by omega⟩)) :
    heads (F := Ideal) a g bd o (ix3 0 r l)
      = A l * Ideal.rsqrt (((∑ k, A k * A k * bd (ix2 k l)) + (∑ k, (A k * A k - A k * A k) * bd (ix2 k l))) * Ideal.ofBits .f32 0x3C800000#32 + eps)
        * g (ix2 0 ⟨128 * o.val + l.val, by omega⟩) := by
  simp only [hA]
  pointwise [heads, sums, cols]
  rfl

end Cert.Proj

end
-- ==== Proof.Proj.Pieces.lean ====
/- What one grid step of the input projection leaves: the normed tokens in its scratch, the product, and the product with its heads normed. -/
module

public import proofs.«01_k».proof.Proof.Gen.ProjectIdeal.Frame
public import proofs.«01_k».proof.Proof.Proj.Spec
public import Idealize.ShloMosaic.Lib.Pipeline.ValueKit

@[expose] public section

set_option maxRecDepth 16384

noncomputable section

namespace Cert.Proj

open Cert.ProjectIdeal Cert.ProjectIdeal.Gen Idealize.ShloMosaic Idealize.ShloMosaic.TcCoe Idealize.ShloMosaic.Pointwise Idealize.SL.Sem

section Generic
variable {F : FTy → Type} [FloatOps F]

/-- Eight pairs of heads stored one after the other, the last first. -/
def stored (P : Fin 8 → FVec F S1x1024x128 .bf16) : List (View.Piece (Elt F) S1x1024x1024 .bf16) :=
  [⟨Rect.unit ![0, 0, 896] ![1, 1024, 128] inb_S1x1024x1024_S1x1024x128_0_0_896, P 7⟩,
   ⟨Rect.unit ![0, 0, 768] ![1, 1024, 128] inb_S1x1024x1024_S1x1024x128_0_0_768, P 6⟩,
   ⟨Rect.unit ![0, 0, 640] ![1, 1024, 128] inb_S1x1024x1024_S1x1024x128_0_0_640, P 5⟩,
   ⟨Rect.unit ![0, 0, 512] ![1, 1024, 128] inb_S1x1024x1024_S1x1024x128_0_0_512, P 4⟩,
   ⟨Rect.unit ![0, 0, 384] ![1, 1024, 128] inb_S1x1024x1024_S1x1024x128_0_0_384, P 3⟩,
   ⟨Rect.unit ![0, 0, 256] ![1, 1024, 128] inb_S1x1024x1024_S1x1024x128_0_0_256, P 2⟩,
   ⟨Rect.unit ![0, 0, 128] ![1, 1024, 128] inb_S1x1024x1024_S1x1024x128_0_0_128, P 1⟩,
   ⟨Rect.unit ![0, 0, 0] ![1, 1024, 128] inb_S1x1024x1024_S1x1024x128_0_0_0, P 0⟩]

/-- The stored heads, read at an entry. -/
theorem stored_apply (P : Fin 8 → FVec F S1x1024x128 .bf16) (y : S1x1024x1024.Idx) (o : Fin 8) (r : Fin 1024) (l : Fin 128)
    (hy1 : (y 1).val = r.val) (hy2 : (y 2).val = 128 * o.val + l.val) : View.canon (stored P) y = P o (ix3 0 r l) := by
  have hx : ∀ (k : Fin 8) (x : S1x1024x128.Idx), (y 1).val = (x 1).val → (y 2).val = 128 * k.val + (x 2).val →
      P k x = P o (ix3 0 r l) := by
    intro k x e1 e2
    have x2_lt : (x 2).val < 128 := (x 2).isLt
    have x0_lt : (x 0).val < 1 := (x 0).isLt
    have hk : k = o := Fin.ext (by omega)
    subst hk
    congr 1
    funext a
    refine Fin.ext ?_
    match a with
    | ⟨0, _⟩ => show (x 0).val = 0; omega
    | ⟨1, _⟩ => show (x 1).val = r.val; omega
    | ⟨2, _⟩ => show (x 2).val = l.val; omega
  unfold stored
  canon_tiles x h using View.cover_of_tiled_head _ _ _ (by rfl) y
  all_goals exact hx _ x h1 (by first | exact h2 | (rw [h2]; simp))

variable (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S128x128 .bf16) (harg10 : arg10.IsWhole) (arg11 : Memref sig .tc .vmem S1x1024x1024 .bf16) (harg11 : arg11.IsWhole) (arg12 : Memref sig .tc .vmem S1024x2048 .bf16) (harg12 : arg12.IsWhole)
    (x0 : Vec F S1x1024x2048 .f32) (x1 : Vec F S1x2048 .f32) (x2 : Vec F S1x1x2048 .f32) (x3 : Vec F S1x1x2048 .f32) (x4 : Vec F S2048x1024 .bf16) (x5 : Vec F S1x1024 .f32) (x6 : Vec F S1x1024 .f32) (x7 : Vec F S128x128 .bf16)
    (xs0 : Vec F S1024x2048 .bf16)

/-- The first of a row of blocks fills the scratch. -/
theorem scratch_A (hc0 : cond0_0 i) (hc1 : cond0_1 i) (hc2 : ¬cond0_2 i) :
    sout0_A_0 c i arg3 harg3 arg4 harg4 arg5 harg5 arg6 harg6 arg7 harg7 arg8 harg8 arg9 harg9 arg10 harg10 arg11 harg11 arg12 harg12 hc0 hc1 hc2 x0 x1 x2 x3 x4 x5 x6 x7 = k0_pay1 x0 x1 x2 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 hc2 x0 x1 x2 x3 x4 x5 x6 x7)]
  unfold kernelRun0_A
  dsimp only
  sl_unfold_words
  simp (disch := decide) only [View.readAt_eq_ld, View.ld_unit_lit', View.canon_cons_unit_lit', View.readCov_unit_lit', harg3.read_unread, harg4.read_unread, harg5.read_unread, harg6.read_unread, harg7.read_unread, harg8.read_unread, harg9.read_unread, harg10.read_unread, harg11.read_unread, harg12.read_unread]
  done

/-- The first of a row of blocks stores the product of what it filled. -/
theorem out_A (hc0 : cond0_0 i) (hc1 : cond0_1 i) (hc2 : ¬cond0_2 i) :
    out0_A_8 c i arg3 harg3 arg4 harg4 arg5 harg5 arg6 harg6 arg7 harg7 arg8 harg8 arg9 harg9 arg10 harg10 arg11 harg11 arg12 harg12 hc0 hc1 hc2 x0 x1 x2 x3 x4 x5 x6 x7 = k0_pay2 (k0_pay1 x0 x1 x2 x3) x4 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 hc1 hc2 x0 x1 x2 x3 x4 x5 x6 x7)]
  unfold kernelRun0_A
  dsimp only
  sl_unfold_words
  simp (disch := decide) only [View.readAt_eq_ld, View.ld_unit_lit', View.canon_cons_unit_lit', View.readCov_unit_lit', harg3.read_unread, harg4.read_unread, harg5.read_unread, harg6.read_unread, harg7.read_unread, harg8.read_unread, harg9.read_unread, harg10.read_unread, harg11.read_unread, harg12.read_unread]
  done

/-- A block of columns that are not normed. -/
theorem out_B (hc0 : ¬cond0_0 i) (hc1 : cond0_1 i) (hc2 : ¬cond0_2 i) :
    out0_B_8 c i arg3 harg3 arg4 harg4 arg5 harg5 arg6 harg6 arg7 harg7 arg8 harg8 arg9 harg9 arg10 harg10 arg11 harg11 arg12 harg12 hc0 hc1 hc2 x0 x1 x2 x3 x4 x5 x6 x7 xs0 = k0_pay2 xs0 x4 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 hc1 hc2 x0 x1 x2 x3 x4 x5 x6 x7 xs0)]
  unfold kernelRun0_B
  dsimp only
  sl_unfold_words
  simp (disch := decide) only [View.readAt_eq_ld, View.ld_unit_lit', View.canon_cons_unit_lit', View.readCov_unit_lit', harg3.read_unread, harg4.read_unread, harg5.read_unread, harg6.read_unread, harg7.read_unread, harg8.read_unread, harg9.read_unread, harg10.read_unread, harg11.read_unread, harg12.read_unread]
  done

/-- Whether a block of columns is of queries. -/
def isQ (i : grid0.Coords) : BitVec 1 :=
  Scalar.andi (Scalar.cmpi .sge (Scalar.muli (BitVec.ofNat 32 (i 2).val) 1024#32) 3072#32) (Scalar.cmpi .slt (Scalar.muli (BitVec.ofNat 32 (i 2).val) 1024#32) 4096#32)

/-- A block of columns of queries or of keys. -/
theorem out_C (hc0 : ¬cond0_0 i) (hc1 : ¬cond0_1 i) (hc2 : cond0_2 i) :
    out0_C_8 c i arg3 harg3 arg4 harg4 arg5 harg5 arg6 harg6 arg7 harg7 arg8 harg8 arg9 harg9 arg10 harg10 arg11 harg11 arg12 harg12 hc0 hc1 hc2 x0 x1 x2 x3 x4 x5 x6 x7 xs0
      = View.canon (stored fun o => heads (k0_pay4 xs0 x4) (k0_pay5 (isQ i) x5 x6) (k0_pay6 x7) o) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 hc2 x0 x1 x2 x3 x4 x5 x6 x7 xs0)]
  unfold kernelRun0_C
  dsimp only
  sl_unfold_words
  simp (disch := decide) only [View.readAt_eq_ld, View.ld_unit_lit', View.canon_cons_unit_lit', View.readCov_unit_lit', harg3.read_unread, harg4.read_unread, harg5.read_unread, harg6.read_unread, harg7.read_unread, harg8.read_unread, harg9.read_unread, harg10.read_unread, harg11.read_unread, harg12.read_unread]
  rfl

end Generic

end Cert.Proj

end
-- ==== Proof.Proj.Blocks.lean ====
/- The blocks that a point of the input projection's grid loads: where their entries lie in the launched arguments. -/
module

public import proofs.«01_k».proof.Proof.Gen.ProjectIdeal.Frame
public import proofs.«01_k».proof.Proof.Proj.Spec
public import Idealize.ShloMosaic.Lib.Pipeline.ValueKit
public import Idealize.ShloMosaic.Lib.StableHlo.ReadAt

@[expose] public section

set_option maxRecDepth 16384

noncomputable section

namespace Cert.Proj

open Cert.ProjectIdeal Cert.ProjectIdeal.Gen Idealize.ShloMosaic Idealize.ShloMosaic.TcCoe Idealize.ShloMosaic.Pointwise
open Idealize.ShloMosaic.Pipeline (Dat)

theorem index0 : ∀ t : Fin cfg0.N, win0_0.index t = ![t.val / 96, t.val / 6 % 16, 0] := by decide +kernel
theorem index1 : ∀ t : Fin cfg0.N, win0_1.index t = ![0, 0] := by decide +kernel
theorem index2 : ∀ t : Fin cfg0.N, win0_2.index t = ![t.val / 96, 0, 0] := by decide +kernel
theorem index3 : ∀ t : Fin cfg0.N, win0_3.index t = ![t.val / 96, 0, 0] := by decide +kernel
theorem index4 : ∀ t : Fin cfg0.N, win0_4.index t = ![0, t.val % 6] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![t.val / 96, t.val / 6 % 16, t.val % 6] := by decide +kernel
theorem coord2 : ∀ t : Fin cfg0.N, (grid0.coords t 2).val = t.val % 6 := by decide +kernel

variable (m : (ℓ : Loc nD τ sig) → Buf (Elt Ideal) ℓ) (c : Dev nD)

/-- The launched arguments. -/
abbrev aX : FVec Ideal S2x16384x2048 .f32 := m ((c : Thread nD τ).loc main_arg0)
abbrev aG : FVec Ideal S2048 .f32 := m ((c : Thread nD τ).loc main_arg1)
abbrev aC : FVec Ideal S2x2048 .f32 := m ((c : Thread nD τ).loc main_arg2)
abbrev aH : FVec Ideal S2x2048 .f32 := m ((c : Thread nD τ).loc main_arg3)
abbrev aW : FVec Ideal S2048x6144 .bf16 := m ((c : Thread nD τ).loc main_arg4)
abbrev aQ : FVec Ideal S64 .f32 := m ((c : Thread nD τ).loc main_arg5)
abbrev aK : FVec Ideal S64 .f32 := m ((c : Thread nD τ).loc main_arg6)

theorem V_G (k : Fin 2048) : (V m c main_v11 : Vec Ideal S1x2048 .f32) (ix2 0 k) = aG m c (ix1 k) := by
  unfold V
  after_reads_simp
  pointwise

theorem V_C (b : Fin 2) (k : Fin 2048) : (V m c main_v12 : Vec Ideal S2x1x2048 .f32) (ix3 b 0 k) = aC m c (ix2 b k) := by
  unfold V
  after_reads_simp
  pointwise

theorem V_H (b : Fin 2) (k : Fin 2048) : (V m c main_v13 : Vec Ideal S2x1x2048 .f32) (ix3 b 0 k) = aH m c (ix2 b k) := by
  unfold V
  after_reads_simp
  pointwise

theorem V_Q (k : Fin 1024) : (V m c main_v17 : Vec Ideal S1x1024 .f32) (ix2 0 k) = aQ m c (ix1 ⟨k.val % 64, by omega⟩) * Ideal.ofBits .f32 0x3E000000#32 := by
  unfold V
  after_reads_simp
  pointwise

theorem V_K (k : Fin 1024) : (V m c main_v21 : Vec Ideal S1x1024 .f32) (ix2 0 k) = aK m c (ix1 ⟨k.val % 64, by omega⟩) := by
  unfold V
  after_reads_simp
  pointwise
  done

/-- The host's floor division by the width of a head. -/
def headOf {s : Shape} (h : Shape.BroadcastsInDim S_ s ![]) (x : IVec s 32) : IVec s 32 :=
  select (andi (cmpi .ne (signi x) (broadcastInDim s ![] h (signi (constantI S_ 32 64#32))))
      (cmpi .ne (Host.remsi x (broadcastInDim s ![] h (constantI S_ 32 64#32))) (broadcastInDim s ![] h (constantI S_ 32 0#32))))
    (subi (Host.divsi x (broadcastInDim s ![] h (constantI S_ 32 64#32))) (broadcastInDim s ![] h (constantI S_ 32 1#32)))
    (Host.divsi x (broadcastInDim s ![] h (constantI S_ 32 64#32)))

theorem headOf_apply {s : Shape} (h : Shape.BroadcastsInDim S_ s ![]) (x : IVec s 32) (i : s.Idx) (k : Fin 128) (hx : x i = BitVec.ofNat 32 k.val) :
    headOf h x i = BitVec.ofNat 32 (k.val / 64) := by
  unfold headOf
  pointwise
  rw [hx]
  clear hx
  revert k
  decide +kernel

/-- Whether two heads of a pair are the same, as a word. -/
theorem same_word : ∀ k l : Fin 2, IntOp.cmpi .eq (BitVec.ofNat 32 k.val) (BitVec.ofNat 32 l.val) = if k.val = l.val then 1#1 else 0#1 := by
  decide +kernel

theorem V_bd (k l : Fin 128) : (V m c main_v10 : Vec Ideal S128x128 .bf16) (ix2 k l) = if k.val / 64 = l.val / 64 then (1 : EReal) else 0 := by
  have h : (V m c main_v10 : Vec Ideal S128x128 .bf16) = uitofp (F := Ideal) .bf16 (cmpi .eq
      (broadcastInDim S128x128 ![0, 1] bcast_S128x1_S128x128_0_1 (headOf bcast_S_S128x1 (broadcastInDim S128x1 ![0] bcast_S128_S128x1_0 (iotaInDim S128 32 0))))
      (broadcastInDim S128x128 ![0, 1] bcast_S1x128_S128x128_0_1 (headOf bcast_S_S1x128 (broadcastInDim S1x128 ![1] bcast_S128_S1x128_1 (iotaInDim S128 32 0))))) := by
    unfold V
    after_reads_simp
    rfl
  rw [h]
  pointwise
  rw [headOf_apply _ _ _ k (by pointwise), headOf_apply _ _ _ l (by pointwise), same_word ⟨k.val / 64, by omega⟩ ⟨l.val / 64, by omega⟩]
  show FloatOps.uitofp (F := Ideal) FTy.bf16 (if k.val / 64 = l.val / 64 then 1#1 else 0#1) = _
  split_ifs
  · show (((1#1).toNat : ℝ) : EReal) = 1
    simp
  · show (((0#1).toNat : ℝ) : EReal) = 0
    simp

variable (t : Fin cfg0.N) (b : Fin 2) (hb : b.val = t.val / 96)

section
include hb

theorem blk0 (s : Fin 16384) (r : Fin 1024) (hs : s.val = 1024 * (t.val / 6 % 16) + r.val) (k : Fin 2048) :
    (iblk m c 0 t : Vec Ideal S1x1024x2048 .f32) (ix3 0 r k) = aX m c (ix3 b s k) := by
  blk_simp [iblk]
  rw [V_main_arg0]
  refine congrArg (aX m c) (funext fun a => Fin.ext ?_)
  blk_simp
  rw [index0]
  match a with
  | ⟨0, _⟩ => show t.val / 96 * 1 + 0 = b.val; omega
  | ⟨1, _⟩ => show t.val / 6 % 16 * 1024 + r.val = s.val; omega
  | ⟨2, _⟩ => show 0 * 2048 + k.val = k.val; omega

theorem blk2 (k : Fin 2048) : (iblk m c 2 t : Vec Ideal S1x1x2048 .f32) (ix3 0 0 k) = aC m c (ix2 b k) := by
  rw [← V_C m c b k]
  blk_simp [iblk]
  refine congrArg (V m c main_v12 : Vec Ideal S2x1x2048 .f32) (funext fun a => Fin.ext ?_)
  blk_simp
  rw [index2]
  match a with
  | ⟨0, _⟩ => show t.val / 96 * 1 + 0 = b.val; omega
  | ⟨1, _⟩ => show 0 * 1 + 0 = 0; omega
  | ⟨2, _⟩ => show 0 * 2048 + k.val = k.val; omega

theorem blk3 (k : Fin 2048) : (iblk m c 3 t : Vec Ideal S1x1x2048 .f32) (ix3 0 0 k) = aH m c (ix2 b k) := by
  rw [← V_H m c b k]
  blk_simp [iblk]
  refine congrArg (V m c main_v13 : Vec Ideal S2x1x2048 .f32) (funext fun a => Fin.ext ?_)
  blk_simp
  rw [index3]
  match a with
  | ⟨0, _⟩ => show t.val / 96 * 1 + 0 = b.val; omega
  | ⟨1, _⟩ => show 0 * 1 + 0 = 0; omega
  | ⟨2, _⟩ => show 0 * 2048 + k.val = k.val; omega

end

theorem blk1 (k : Fin 2048) : (iblk m c 1 t : Vec Ideal S1x2048 .f32) (ix2 0 k) = aG m c (ix1 k) := by
  rw [← V_G m c k]
  blk_simp [iblk]
  refine congrArg (V m c main_v11 : Vec Ideal S1x2048 .f32) (funext fun a => Fin.ext ?_)
  blk_simp
  rw [index1]
  match a with
  | ⟨0, _⟩ => rfl
  | ⟨1, _⟩ => show 0 * 2048 + k.val = k.val; omega

theorem blk4 (k : Fin 2048) (j : Fin 1024) (n : Fin 6144) (hn : n.val = 1024 * (t.val % 6) + j.val) :
    (iblk m c 4 t : Vec Ideal S2048x1024 .bf16) (ix2 k j) = aW m c (ix2 k n) := by
  blk_simp [iblk]
  rw [V_main_arg4]
  refine congrArg (aW m c) (funext fun a => Fin.ext ?_)
  blk_simp
  rw [index4]
  match a with
  | ⟨0, _⟩ => show 0 * 2048 + k.val = k.val; omega
  | ⟨1, _⟩ => show t.val % 6 * 1024 + j.val = n.val; omega

theorem blk5 (j : Fin 1024) : (iblk m c 5 t : Vec Ideal S1x1024 .f32) (ix2 0 j) = aQ m c (ix1 ⟨j.val % 64, Nat.mod_lt _ (by decide)⟩) * Ideal.ofBits .f32 0x3E000000#32 := by
  rw [← V_Q m c j]
  blk_simp [iblk]
  refine congrArg (V m c main_v17 : Vec Ideal S1x1024 .f32) (funext fun a => Fin.ext ?_)
  blk_simp
  rw [index5]
  match a with
  | ⟨0, _⟩ => rfl
  | ⟨1, _⟩ => show 0 * 1024 + j.val = j.val; omega

theorem blk6 (j : Fin 1024) : (iblk m c 6 t : Vec Ideal S1x1024 .f32) (ix2 0 j) = aK m c (ix1 ⟨j.val % 64, Nat.mod_lt _ (by decide)⟩) := by
  rw [← V_K m c j]
  blk_simp [iblk]
  refine congrArg (V m c main_v21 : Vec Ideal S1x1024 .f32) (funext fun a => Fin.ext ?_)
  blk_simp
  rw [index6]
  match a with
  | ⟨0, _⟩ => rfl
  | ⟨1, _⟩ => show 0 * 1024 + j.val = j.val; omega

theorem blk7 (k l : Fin 128) : (iblk m c 7 t : Vec Ideal S128x128 .bf16) (ix2 k l) = if k.val / 64 = l.val / 64 then (1 : EReal) else 0 := by
  rw [← V_bd m c k l]
  blk_simp [iblk]
  refine congrArg (V m c main_v10 : Vec Ideal S128x128 .bf16) (funext fun a => Fin.ext ?_)
  blk_simp
  rw [index7]
  match a with
  | ⟨0, _⟩ => show 0 * 128 + k.val = k.val; omega
  | ⟨1, _⟩ => show 0 * 128 + l.val = l.val; omega

end Cert.Proj

end
-- ==== Proof.Proj.Norm.lean ====
/- The projections are real numbers, and so the kernel's two sums over the lanes of a pair of heads are the head's sum of squares. -/
module

public import proofs.«01_k».proof.Proof.Proj.Spec

@[expose] public section

set_option maxRecDepth 16384

noncomputable section

namespace Cert.Proj

open Cert.ProjectIdeal Cert.ProjectIdeal.Gen Idealize.ShloMosaic Idealize.ShloMosaic.TcCoe Idealize.ShloMosaic.Pointwise

theorem eps_real : ∃ e : ℝ, 0 < e ∧ eps = e := by
  refine ⟨8796093 / 2 ^ 43, by norm_num, ?_⟩
  unfold eps
  simp [Ideal.ofBits, Ideal.ieee, -EReal.coe_mul]; norm_num

theorem bits_2048 : Ideal.ofBits .f32 0x45000000#32 = ((2048 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

theorem bits_inv64 : Ideal.ofBits .f32 0x3C800000#32 = ((1 / 64 : ℝ) : EReal) := by
  simp [Ideal.ofBits, Ideal.ieee, -EReal.coe_mul]; norm_num

/-- An extended real that is a real number. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_zero : IsReal 0 := ⟨0, rfl⟩
theorem isReal_one : IsReal 1 := ⟨1, rfl⟩

theorem isReal_sum {ι : Type} (t : Finset ι) (f : ι → EReal) (h : ∀ i ∈ t, IsReal (f i)) : IsReal (∑ i ∈ t, f i) := by
  classical
  induction t using Finset.induction_on with
  | empty => simpa using isReal_zero
  | insert a t ha ih =>
    rw [Finset.sum_insert ha]
    exact (h a (Finset.mem_insert_self a t)).add (ih fun i hi => h i (Finset.mem_insert_of_mem hi))

theorem square_nonneg (x : EReal) : 0 ≤ x * x := by
  induction x with
  | bot => simp
  | top => simp
  | coe r => rw [← EReal.coe_mul]; exact_mod_cast mul_self_nonneg r

/-- The factor of a norm is a real number, and where the sum of squares is infinite it is zero. -/
theorem scale_cases (s : EReal) (hs : 0 ≤ s) (n : ℝ) (hn : 0 < n) : IsReal (scale s n) ∧ (s = ⊤ → scale s n = 0) := by
  obtain ⟨e, he, hE⟩ := eps_real
  unfold scale
  rw [hE, Ideal.div_coe hn.ne']
  induction s with
  | bot => simp at hs
  | top =>
    have h : (⊤ : EReal) * ((1 / n : ℝ) : EReal) + (e : EReal) = ⊤ := by
      rw [EReal.top_mul_coe_of_pos (by positivity), EReal.top_add_coe]
    rw [h, Ideal.rsqrt_top]
    exact ⟨isReal_zero, fun _ => rfl⟩
  | coe r =>
    have hr : 0 ≤ r := by exact_mod_cast hs
    have hp : 0 < r * (1 / n) + e := by positivity
    rw [← EReal.coe_mul, ← EReal.coe_add, Ideal.rsqrt_coe, if_neg hp.le.not_gt, if_neg hp.ne']
    exact ⟨⟨_, rfl⟩, fun h => absurd h (EReal.coe_ne_top r)⟩

/-- Whatever the token holds, its normed features are real numbers. -/
theorem normed_real (x : Fin 2048 → EReal) (g sc sh : EReal) (hg : IsReal g) (hsc : IsReal sc) (hsh : IsReal sh) (k : Fin 2048) :
    IsReal (normed x g sc sh k) := by
  unfold normed
  refine (((IsReal.mul ?_ hg).mul (isReal_one.add hsc)).add hsh)
  rw [bits_2048]
  have hs : 0 ≤ ∑ i, x i * x i := Finset.sum_nonneg fun i _ => square_nonneg (x i)
  obtain ⟨h1, h2⟩ := scale_cases _ hs 2048 (by norm_num)
  by_cases hx : ∀ i, IsReal (x i)
  · exact (hx k).mul h1
  · obtain ⟨i, hi⟩ := not_forall.mp hx
    have htop : x i * x i = ⊤ := by
      generalize x i = y at hi
      induction y with
      | bot => simp
      | top => simp
      | coe r => exact absurd ⟨r, rfl⟩ hi
    have hsum : ∑ i, x i * x i = ⊤ := by
      refine top_le_iff.mp ?_
      rw [← htop]
      exact Finset.single_le_sum (f := fun i => x i * x i) (fun j _ => square_nonneg (x j)) (Finset.mem_univ i)
    rw [h2 hsum, mul_zero]
    exact isReal_zero

theorem acc_real (X : FVec Ideal S2x16384x2048 .f32) (G : FVec Ideal S2048 .f32) (C H : FVec Ideal S2x2048 .f32) (W : FVec Ideal S2048x6144 .bf16)
    (hG : ∀ i, IsReal (G i)) (hC : ∀ i, IsReal (C i)) (hH : ∀ i, IsReal (H i)) (hW : ∀ i, IsReal (W i))
    (b : Fin 2) (s : Fin 16384) (n : Fin 6144) : IsReal (acc X G C H W b s n) :=
  isReal_sum _ _ fun _ _ => (normed_real _ _ _ _ (hG _) (hC _) (hH _) _).mul (hW _)

/-- A sum over the lanes of two heads in which one head's lanes count. -/
theorem sum_lanes (h : ℕ) (hh : h < 2) (f : Fin 128 → EReal) :
    ∑ d : Fin 128, f d * (if d.val / 64 = h then 1 else 0) = ∑ e : Fin 64, f ⟨64 * h + e.val, by omega⟩ := by
  rw [← Equiv.sum_comp (finProdFinEquiv (m := 2) (n := 64)), Fintype.sum_prod_type, Finset.sum_eq_single (⟨h, hh⟩ : Fin 2)]
  · refine Finset.sum_congr rfl fun e _ => ?_
    have hv : ((finProdFinEquiv ((⟨h, hh⟩ : Fin 2), e) : Fin (2 * 64))) = (⟨64 * h + e.val, by omega⟩ : Fin 128) :=
      Fin.ext (by simp [finProdFinEquiv]; omega)
    rw [hv, if_pos (by show (64 * h + e.val) / 64 = h; omega), mul_one]
  · intro k _ hk
    refine Finset.sum_eq_zero fun e _ => ?_
    have hv : ((finProdFinEquiv (k, e) : Fin (2 * 64))).val = e.val + 64 * k.val := rfl
    rw [if_neg, mul_zero]
    intro he
    apply hk
    apply Fin.ext
    have : (e.val + 64 * k.val) / 64 = h := he
    show k.val = h
    omega
  · intro hn
    exact absurd (Finset.mem_univ _) hn

/-- **Two heads normed, of real numbers**: what is left of the squares adds nothing, and each lane's sum is its head's. -/
theorem heads_real (a : FVec Ideal S1024x1024 .f32) (g : FVec Ideal S1x1024 .f32) (bd : FVec Ideal S128x128 .bf16) (o : Fin 8) (r : Fin 1024) (l : Fin 128)
    (A : Fin 128 → EReal) (hA : ∀ k, A k = a (ix2 r ⟨128 * o.val + k.val, by omega⟩)) (hr : ∀ k, IsReal (A k))
    (hbd : ∀ k, bd (ix2 k l) = if k.val / 64 = l.val / 64 then 1 else 0) :
    heads (F := Ideal) a g bd o (ix3 0 r l)
      = A l * scale (∑ d : Fin 64, A ⟨64 * (l.val / 64) + d.val, by omega⟩ * A ⟨64 * (l.val / 64) + d.val, by omega⟩) (Ideal.ofBits .f32 0x42800000#32)
        * g (ix2 0 ⟨128 * o.val + l.val, by omega⟩) := by
  have hz : ∀ k, A k * A k - A k * A k = 0 := fun k => by
    obtain ⟨x, hx⟩ := (hr k).mul (hr k)
    rw [hx, ← EReal.coe_sub, sub_self]; rfl
  rw [heads_apply a g bd o r l A hA]
  simp only [hz, zero_mul, Finset.sum_const_zero, add_zero, hbd]
  rw [sum_lanes (l.val / 64) (by omega) (fun k => A k * A k)]
  unfold scale
  rw [bits_64, bits_inv64, Ideal.div_coe (by norm_num)]

end Cert.Proj

end
-- ==== Proof.Proj.Final.lean ====
/- The kernel's result array after the launch. -/
module

public import proofs.«01_k».proof.Proof.Proj.Pieces
public import proofs.«01_k».proof.Proof.Proj.Blocks
public import proofs.«01_k».proof.Proof.Proj.Norm

@[expose] public section

set_option maxRecDepth 16384

noncomputable section

namespace Cert.Proj

open Cert.ProjectIdeal Cert.ProjectIdeal.Gen Idealize.ShloMosaic Idealize.ShloMosaic.TcCoe Idealize.ShloMosaic.Pointwise
open Idealize.ShloMosaic.Pipeline (Dat)

variable (m : (ℓ : Loc nD τ sig) → Buf (Elt Ideal) ℓ) (c : Dev nD)

/-- The normed tokens of the launched arguments, and their projections. -/
abbrev hidOf := hid (aX m c) (aG m c) (aC m c) (aH m c)
abbrev accOf := acc (aX m c) (aG m c) (aC m c) (aH m c) (aW m c)

/-- A block of normed tokens, for the tokens of point `t`. -/
def Holds (t : ℕ) (g : Vec Ideal S1024x2048 .bf16) : Prop :=
  ∀ (r : Fin 1024) (k : Fin 2048) (b : Fin 2) (s : Fin 16384), b.val = t / 96 → s.val = 1024 * (t / 6 % 16) + r.val →
    g (ix2 r k) = hidOf m c b s k

/-- Where the scratch is not filled it stays as it was. -/
theorem scratch_kept (t : Fin cfg0.N) (h0 : ¬t.val % 6 = 0) :
    (outsAt0 m c t.val t.isLt).2 = (outsAt0 m c (t.val - 1) (Nat.lt_of_le_of_lt (Nat.sub_le _ _) t.isLt)).2 := by
  by_cases h2 : 3 ≤ t.val % 6 ∧ t.val % 6 ≤ 4
  · rw [outsAt0_C m c t h0 (not_not_intro h2) h2]
    rfl
  · rw [outsAt0_B m c t h0 h2 h2]
    rfl

theorem fills (t : Fin cfg0.N) : Holds m c t.val (k0_pay1 (F := Ideal) (iblk m c 0 t) (iblk m c 1 t) (iblk m c 2 t) (iblk m c 3 t)) := by
  intro r k b s hb hs
  rw [pay1_apply, blk1 m c t k, blk2 m c t b hb k, blk3 m c t b hb k]
  unfold hidOf hid
  congr 1
  funext i
  exact blk0 m c t b hb s r hs i

theorem scratch_filled (t : Fin cfg0.N) (h0 : t.val % 6 = 0) : Holds m c t.val (outsAt0 m c t.val t.isLt).2 := by
  have h2 : ¬(3 ≤ t.val % 6 ∧ t.val % 6 ≤ 4) := by omega
  rw [outsAt0_A m c t h0 h2 h2, scratch_A]
  exact fills m c t

/-- The scratch after a point holds its normed tokens. -/
theorem scratch_holds (n : ℕ) (hn : n < cfg0.N) : Holds m c n (outsAt0 m c n hn).2 := by
  induction n with
  | zero => exact scratch_filled m c ⟨0, hn⟩ rfl
  | succ n ih =>
    by_cases h0 : (n + 1) % 6 = 0
    · exact scratch_filled m c ⟨n + 1, hn⟩ h0
    · intro r k b s hb hs
      have e : (outsAt0 m c (n + 1) hn).2 = _ := scratch_kept m c ⟨n + 1, hn⟩ h0
      rw [e]
      exact ih (Nat.lt_of_succ_lt hn) r k b s (by omega) (by omega)

/-- So does the scratch before a point that does not fill it. -/
theorem scratch_before (t : Fin cfg0.N) (h0 : ¬t.val % 6 = 0) :
    Holds m c t.val (outsAt0 m c (t.val - 1) (Nat.lt_of_le_of_lt (Nat.sub_le _ _) t.isLt)).2 := by
  rw [← scratch_kept m c t h0]
  exact scratch_holds m c t.val t.isLt

section Products
variable (t : Fin cfg0.N) (g : Vec Ideal S1024x2048 .bf16) (hg : Holds m c t.val g) (b : Fin 2) (hb : b.val = t.val / 96)
  (r : Fin 1024) (s : Fin 16384) (hs : s.val = 1024 * (t.val / 6 % 16) + r.val) (j : Fin 1024) (n : Fin 6144) (hn : n.val = 1024 * (t.val % 6) + j.val)
include hg hb hs hn

theorem product : ∑ k : Fin 2048, g (ix2 r k) * (iblk m c 4 t : Vec Ideal S2048x1024 .bf16) (ix2 k j) = accOf m c b s n :=
  Finset.sum_congr rfl fun k _ => by rw [hg r k b s hb hs, blk4 m c t k j n hn]

theorem plain_entry : k0_pay2 (F := Ideal) g (iblk m c 4 t) (ix3 0 r j) = accOf m c b s n := by
  rw [pay2_apply]
  exact product m c t g hg b hb r s hs j n hn

theorem product_entry : k0_pay4 (F := Ideal) g (iblk m c 4 t) (ix2 r j) = accOf m c b s n := by
  rw [pay4_apply]
  exact product m c t g hg b hb r s hs j n hn

end Products

theorem isQ_eq : ∀ t : Fin cfg0.N, 3 ≤ t.val % 6 ∧ t.val % 6 ≤ 4 → isQ (grid0.coords t) = if t.val % 6 = 3 then 1#1 else 0#1 := by decide +kernel

/-- The gains that a block of queries or of keys takes. -/
theorem gains_entry (t : Fin cfg0.N) (h2 : 3 ≤ t.val % 6 ∧ t.val % 6 ≤ 4) (j : Fin 1024) (n : Fin 6144) (hn : n.val = 1024 * (t.val % 6) + j.val) :
    k0_pay5 (F := Ideal) (isQ (grid0.coords t)) (iblk m c 5 t) (iblk m c 6 t) (ix2 0 j) = gain (aQ m c) (aK m c) n := by
  have hj := j.isLt
  have e : (⟨j.val % 64, by omega⟩ : Fin 64) = ⟨n.val % 64, by omega⟩ := Fin.ext (by show j.val % 64 = n.val % 64; omega)
  rw [isQ_eq t h2]
  unfold gain
  by_cases h3 : t.val % 6 = 3
  · rw [if_pos h3, if_pos (by omega), ← e, ← blk5 m c t j]
    pointwise [k0_pay5]
  · rw [if_neg h3, if_neg (by omega), ← e, ← blk6 m c t j]
    pointwise [k0_pay5]

/-- A block of queries or of keys at an entry. -/
theorem heads_entry (hacc : ∀ b s n, IsReal (accOf m c b s n)) (t : Fin cfg0.N) (h2 : 3 ≤ t.val % 6 ∧ t.val % 6 ≤ 4)
    (g : Vec Ideal S1024x2048 .bf16) (hg : Holds m c t.val g) (b : Fin 2) (hb : b.val = t.val / 96)
    (r : Fin 1024) (s : Fin 16384) (hs : s.val = 1024 * (t.val / 6 % 16) + r.val) (o : Fin 8) (l : Fin 128) (n : Fin 6144)
    (hn : n.val = 1024 * (t.val % 6) + (128 * o.val + l.val)) :
    heads (F := Ideal) (k0_pay4 g (iblk m c 4 t)) (k0_pay5 (isQ (grid0.coords t)) (iblk m c 5 t) (iblk m c 6 t)) (k0_pay6 (iblk m c 7 t)) o (ix3 0 r l)
      = entry (aX m c) (aG m c) (aC m c) (aH m c) (aW m c) (aQ m c) (aK m c) b s n := by
  have ho := o.isLt
  have hl := l.isLt
  have hA : ∀ k : Fin 128, accOf m c b s ⟨1024 * (t.val % 6) + (128 * o.val + k.val), by omega⟩
      = k0_pay4 (F := Ideal) g (iblk m c 4 t) (ix2 r ⟨128 * o.val + k.val, by omega⟩) := fun k =>
    (product_entry m c t g hg b hb r s hs _ _ rfl).symm
  have hbd : ∀ k, k0_pay6 (F := Ideal) (iblk m c 7 t) (ix2 k l) = if k.val / 64 = l.val / 64 then (1 : EReal) else 0 := fun k => by
    rw [← blk7 m c t k l]
    pointwise [k0_pay6]
  rw [heads_real _ _ _ o r l _ hA (fun k => hacc b s _) hbd, gains_entry m c t h2 _ n (by rw [hn])]
  unfold entry squares
  rw [if_pos (by omega)]
  have e1 : (⟨1024 * (t.val % 6) + (128 * o.val + l.val), by omega⟩ : Fin 6144) = n := Fin.ext hn.symm
  have e2 : ∀ d : Fin 64, (⟨1024 * (t.val % 6) + (128 * o.val + (64 * (l.val / 64) + d.val)), by omega⟩ : Fin 6144) = ⟨64 * (n.val / 64) + d.val, by omega⟩ :=
    fun d => Fin.ext (by show 1024 * (t.val % 6) + (128 * o.val + (64 * (l.val / 64) + d.val)) = 64 * (n.val / 64) + d.val; omega)
  simp only [e1, e2]

/-- What a point stores, at an entry. -/
theorem block_entry (hacc : ∀ b s n, IsReal (accOf m c b s n)) (t : Fin cfg0.N) (y : S1x1024x1024.Idx) (z : S2x16384x6144.Idx)
    (hz : ∀ a : Fin 3, (z a).val = (![t.val / 96, t.val / 6 % 16, t.val % 6] : Fin 3 → ℕ) a * S1x1024x1024.size a + (y a).val) :
    (outsAt0 m c t.val t.isLt).1 y = project (aX m c) (aG m c) (aC m c) (aH m c) (aW m c) (aQ m c) (aK m c) z := by
  have y0 : (y 0).val < 1 := (y 0).isLt
  have y1 : (y 1).val < 1024 := (y 1).isLt
  have y2 : (y 2).val < 1024 := (y 2).isLt
  have z0 : (z 0).val = t.val / 96 * 1 + (y 0).val := hz 0
  have z1 : (z 1).val = t.val / 6 % 16 * 1024 + (y 1).val := hz 1
  have z2 : (z 2).val = t.val % 6 * 1024 + (y 2).val := hz 2
  have hy : y = ix3 0 (⟨(y 1).val, y1⟩ : Fin 1024) (⟨(y 2).val, y2⟩ : Fin 1024) := by
    funext a
    refine Fin.ext ?_
    match a with
    | ⟨0, _⟩ => show (y 0).val = 0; omega
    | ⟨1, _⟩ => rfl
    | ⟨2, _⟩ => rfl
  show _ = entry _ _ _ _ _ _ _ (z 0 : Fin 2) (z 1 : Fin 16384) (z 2 : Fin 6144)
  by_cases h2 : 3 ≤ t.val % 6 ∧ t.val % 6 ≤ 4
  · have h0 : ¬t.val % 6 = 0 := by omega
    rw [outsAt0_C m c t h0 (not_not_intro h2) h2, out_C]
    dsimp only
    rw [stored_apply _ y ⟨(y 2).val / 128, by omega⟩ ⟨(y 1).val, y1⟩ ⟨(y 2).val % 128, by omega⟩ rfl
      (by show (y 2).val = 128 * ((y 2).val / 128) + (y 2).val % 128; omega)]
    exact heads_entry m c hacc t h2 _ (scratch_before m c t h0) _ (by omega) _ _ (by dsimp only; omega) _ _ _
      (by show (z 2).val = 1024 * (t.val % 6) + (128 * ((y 2).val / 128) + (y 2).val % 128); omega)
  · unfold entry
    rw [if_neg (by omega)]
    by_cases h0 : t.val % 6 = 0
    · rw [outsAt0_A m c t h0 h2 h2, out_A]
      dsimp only
      rw [hy]
      exact plain_entry m c t _ (fills m c t) _ (by omega) _ _ (by dsimp only; omega) _ _ (by dsimp only; omega)
    · rw [outsAt0_B m c t h0 h2 h2, out_B]
      dsimp only
      rw [hy]
      exact plain_entry m c t _ (scratch_before m c t h0) _ (by omega) _ _ (by dsimp only; omega) _ _ (by dsimp only; omega)

/-- **Where the projections are real numbers, the kernel's result array is the input projection of its arguments.** -/
theorem final (hacc : ∀ b s n, IsReal (accOf m c b s n)) :
    (dats m 0 c).arrAt 8 cfg0.N = project (aX m c) (aG m c) (aC m c) (aH m c) (aW m c) (aQ m c) (aK m c) := by
  refine (dats m 0 c).arrAt_eq_of_covers 8 (project (aX m c) (aG m c) (aC m c) (aH m c) (aW m c) (aQ m c) (aK m c)) (by decide +kernel) fun t hf y => ?_
  blk_simp
  rw [after0_8]
  refine block_entry m c hacc t y _ fun a => ?_
  blk_simp
  rw [index8]

end Cert.Proj

end
-- ==== Proof.Proj.Ref.lean ====
/- The reference's result is the input projection of its arguments. -/
module

public import proofs.«01_k».proof.Proof.Proj.Spec
public import proofs.«01_k».proof.Proof.Gen.ProjectReferenceIdeal.Read

@[expose] public section

set_option maxRecDepth 16384

noncomputable section

namespace Cert.Proj

open Cert.ProjectReferenceIdeal Cert.ProjectReferenceIdeal.Gen Cert.ProjectReferenceIdeal.Read
open Idealize.ShloMosaic Idealize.ShloMosaic.TcCoe Idealize.ShloMosaic.Pointwise

variable (X : FVec Ideal S2x16384x2048 .f32) (G : FVec Ideal S2048 .f32) (C H : FVec Ideal S2x2048 .f32)
  (W : FVec Ideal S2048x6144 .bf16) (Q K : FVec Ideal S64 .f32)

theorem zero_bits : (FloatOps.ofBits (F := Ideal) FTy.f32 0#32 : EReal) = 0 := Ideal.ofBits_zero_f32
theorem one_bits : (FloatOps.ofBits (F := Ideal) FTy.f32 1065353216#32 : EReal) = 1 := Ideal.ofBits_one_f32

theorem ref_acc (b : Fin 2) (s : Fin 16384) (n : Fin 6144) : val_main_v22 (F := Ideal) X G C H W (ix3 b s n) = acc X G C H W b s n := by
  rw [val_main_v22_apply]
  refine Finset.sum_congr rfl fun k _ => ?_
  have hl : lidx_main_v22 (ix3 b s n) k = ix3 b s k := by ext a; fin_cases a <;> rfl
  have hr : ridx_main_v22 (ix3 b s n) k = ix2 k n := by ext a; fin_cases a <;> rfl
  have h1 : ∀ i, idx_main_v1 (idx_main_v2 (idx_main_v8 (ix3 b s k))) i = ix3 b s i := fun i => by ext a; fin_cases a <;> rfl
  have h2 : idx_main_v10 (idx_main_v11 (ix3 b s k)) = ix1 k := by ext a; fin_cases a <;> rfl
  have h3 : idx_main_v13 (idx_main_v16 (ix3 b s k)) = ix2 b k := by ext a; fin_cases a <;> rfl
  have h4 : idx_main_v18 (idx_main_v19 (ix3 b s k)) = ix2 b k := by ext a; fin_cases a <;> rfl
  rw [hl, hr]
  simp only [val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_cst_apply, val_main_cst_0_apply, val_main_cst_1_apply, val_main_cst_2_apply, h1, h2, h3, h4, zero_bits, one_bits, zero_add]
  rfl

theorem ref_queries (b : Fin 2) (s : Fin 16384) (h : Fin 16) (d : Fin 64) :
    val_main_v42 (F := Ideal) X G C H W Q (ix4 b s h d)
      = acc X G C H W b s ⟨3072 + 64 * h.val + d.val, by omega⟩
        * scale (∑ e : Fin 64, acc X G C H W b s ⟨3072 + 64 * h.val + e.val, by omega⟩ * acc X G C H W b s ⟨3072 + 64 * h.val + e.val, by omega⟩) (Ideal.ofBits .f32 0x42800000#32)
        * (Q (ix1 d) * Ideal.ofBits .f32 0x3E000000#32) := by
  have h1 : ∀ e, idx_main_v23 (idx_main_v24 (idx_main_v27 (ix4 b s h e))) = ix3 b s ⟨3072 + 64 * h.val + e.val, by omega⟩ := fun e =>
    funext fun a => Fin.ext <| match a with
      | ⟨0, _⟩ => by show (((b.val * 16384 + s.val) * 16 + h.val) * 64 + e.val) / 16777216 = b.val; omega
      | ⟨1, _⟩ => by show (((b.val * 16384 + s.val) * 16 + h.val) * 64 + e.val) / 1024 % 16384 = s.val; omega
      | ⟨2, _⟩ => by show 3072 + (((b.val * 16384 + s.val) * 16 + h.val) * 64 + e.val) % 1024 = 3072 + 64 * h.val + e.val; omega
  have h2 : ∀ e, idx_main_v29 (idx_main_v30 (idx_main_v36 (ix4 b s h d))) e = ix4 b s h e := fun e => by ext a; fin_cases a <;> rfl
  have h3 : idx_main_v38 (idx_main_v39 (ix4 b s h d)) = ix1 d := by ext a; fin_cases a <;> rfl
  simp only [val_main_v42_apply, val_main_v41_apply, val_main_v40_apply, val_main_v39_apply, val_main_v38_apply, val_main_v37_apply, val_main_v36_apply,
    val_main_v35_apply, val_main_v34_apply, val_main_v33_apply, val_main_v32_apply, val_main_v31_apply, val_main_v30_apply, val_main_v29_apply,
    val_main_v28_apply, val_main_v27_apply, val_main_v24_apply, val_main_v23_apply, val_main_cst_3_apply, val_main_cst_4_apply, val_main_cst_5_apply,
    val_main_cst_6_apply, h1, h2, h3, ref_acc, zero_bits, zero_add]
  exact mul_assoc _ _ _

theorem ref_keys (b : Fin 2) (s : Fin 16384) (h : Fin 16) (d : Fin 64) :
    val_main_v56 (F := Ideal) X G C H W K (ix4 b s h d)
      = acc X G C H W b s ⟨4096 + 64 * h.val + d.val, by omega⟩
        * scale (∑ e : Fin 64, acc X G C H W b s ⟨4096 + 64 * h.val + e.val, by omega⟩ * acc X G C H W b s ⟨4096 + 64 * h.val + e.val, by omega⟩) (Ideal.ofBits .f32 0x42800000#32)
        * K (ix1 d) := by
  have h1 : ∀ e, idx_main_v23 (idx_main_v25 (idx_main_v43 (ix4 b s h e))) = ix3 b s ⟨4096 + 64 * h.val + e.val, by omega⟩ := fun e =>
    funext fun a => Fin.ext <| match a with
      | ⟨0, _⟩ => by show (((b.val * 16384 + s.val) * 16 + h.val) * 64 + e.val) / 16777216 = b.val; omega
      | ⟨1, _⟩ => by show (((b.val * 16384 + s.val) * 16 + h.val) * 64 + e.val) / 1024 % 16384 = s.val; omega
      | ⟨2, _⟩ => by show 3072 + (1024 + (((b.val * 16384 + s.val) * 16 + h.val) * 64 + e.val) % 1024) = 4096 + 64 * h.val + e.val; omega
  have h2 : ∀ e, idx_main_v45 (idx_main_v46 (idx_main_v52 (ix4 b s h d))) e = ix4 b s h e := fun e => by ext a; fin_cases a <;> rfl
  have h3 : idx_main_v54 (idx_main_v55 (ix4 b s h d)) = ix1 d := by ext a; fin_cases a <;> rfl
  simp only [val_main_v56_apply, val_main_v55_apply, val_main_v54_apply, val_main_v53_apply, val_main_v52_apply,
    val_main_v51_apply, val_main_v50_apply, val_main_v49_apply, val_main_v48_apply, val_main_v47_apply, val_main_v46_apply, val_main_v45_apply,
    val_main_v44_apply, val_main_v43_apply, val_main_v25_apply, val_main_v23_apply, val_main_cst_7_apply, val_main_cst_8_apply, val_main_cst_9_apply,
    h1, h2, h3, ref_acc, zero_bits, zero_add]
  rfl

/-- Four runs of columns side by side, read at a column. -/
theorem columns_apply (p : FVec Ideal S2x16384x3072 .f32) (q k v : FVec Ideal S2x16384x1024 .f32) (b : Fin 2) (s : Fin 16384) (n : Fin 6144) :
    (concatenate S2x16384x6144 2 [⟨S2x16384x3072, p⟩, ⟨S2x16384x1024, q⟩, ⟨S2x16384x1024, k⟩, ⟨S2x16384x1024, v⟩]
        concatenates_S2x16384x3072_S2x16384x1024_S2x16384x1024_S2x16384x1024_S2x16384x6144_d2 : FVec Ideal S2x16384x6144 .f32) (ix3 b s n)
      = if h : n.val < 3072 then p (ix3 b s ⟨n.val, h⟩)
        else if h : n.val - 3072 < 1024 then q (ix3 b s ⟨n.val - 3072, h⟩)
        else if h : n.val - 3072 - 1024 < 1024 then k (ix3 b s ⟨n.val - 3072 - 1024, h⟩)
        else v (ix3 b s ⟨n.val - 3072 - 1024 - 1024, by omega⟩) := by
  pointwise

/-- The head and the lane of a column of keys. -/
theorem idx_keys (b : Fin 2) (s : Fin 16384) (p : Fin 1024) : idx_main_v59 (ix3 b s p) = ix4 b s ⟨p.val / 64, by omega⟩ ⟨p.val % 64, by omega⟩ :=
  funext fun a => Fin.ext <| match a with
    | ⟨0, _⟩ => by show ((b.val * 16384 + s.val) * 1024 + p.val) / 16777216 = b.val; omega
    | ⟨1, _⟩ => by show ((b.val * 16384 + s.val) * 1024 + p.val) / 1024 % 16384 = s.val; omega
    | ⟨2, _⟩ => by show ((b.val * 16384 + s.val) * 1024 + p.val) / 64 % 16 = p.val / 64; omega
    | ⟨3, _⟩ => by show ((b.val * 16384 + s.val) * 1024 + p.val) % 64 = p.val % 64; omega

/-- **The reference's result is the input projection of its arguments.** -/
theorem ref_apply : val_main_v61 (F := Ideal) X G C H W Q K = project X G C H W Q K := by
  funext i
  obtain ⟨b, s, n, rfl⟩ : ∃ b s n, i = ix3 b s n := ⟨i 0, i 1, i 2, by ext a; fin_cases a <;> rfl⟩
  rw [val_main_v61_apply]
  unfold val_main_v60
  rw [columns_apply]
  show _ = entry X G C H W Q K b s n
  unfold entry
  by_cases c1 : n.val < 3072
  · rw [dif_pos c1, if_neg (by omega), val_main_v57_apply]
    have e : idx_main_v57 (ix3 b s ⟨n.val, c1⟩) = ix3 b s n := by ext a; fin_cases a <;> rfl
    rw [e, ref_acc]
    rfl
  by_cases c2 : n.val - 3072 < 1024
  · rw [dif_neg c1, dif_pos c2, if_pos (by omega), val_main_v58_apply]
    have e : idx_main_v58 (ix3 b s ⟨n.val - 3072, c2⟩) = ix4 b s ⟨(n.val - 3072) / 64, by omega⟩ ⟨(n.val - 3072) % 64, by omega⟩ :=
      funext fun a => Fin.ext <| match a with
        | ⟨0, _⟩ => by show ((b.val * 16384 + s.val) * 1024 + (n.val - 3072)) / 16777216 = b.val; omega
        | ⟨1, _⟩ => by show ((b.val * 16384 + s.val) * 1024 + (n.val - 3072)) / 1024 % 16384 = s.val; omega
        | ⟨2, _⟩ => by show ((b.val * 16384 + s.val) * 1024 + (n.val - 3072)) / 64 % 16 = (n.val - 3072) / 64; omega
        | ⟨3, _⟩ => by show ((b.val * 16384 + s.val) * 1024 + (n.val - 3072)) % 64 = (n.val - 3072) % 64; omega
    rw [e, ref_queries]
    unfold squares gain
    rw [if_pos (by omega)]
    have e1 : (⟨3072 + 64 * ((n.val - 3072) / 64) + (n.val - 3072) % 64, by omega⟩ : Fin 6144) = n := Fin.ext (by show 3072 + 64 * ((n.val - 3072) / 64) + (n.val - 3072) % 64 = n.val; omega)
    have e2 : ∀ d : Fin 64, (⟨3072 + 64 * ((n.val - 3072) / 64) + d.val, by omega⟩ : Fin 6144) = ⟨64 * (n.val / 64) + d.val, by omega⟩ := fun d =>
      Fin.ext (by show 3072 + 64 * ((n.val - 3072) / 64) + d.val = 64 * (n.val / 64) + d.val; omega)
    have e3 : (⟨(n.val - 3072) % 64, by omega⟩ : Fin 64) = ⟨n.val % 64, by omega⟩ := Fin.ext (by show (n.val - 3072) % 64 = n.val % 64; omega)
    simp only [e1, e2, e3]
    rfl
  by_cases c3 : n.val - 3072 - 1024 < 1024
  · rw [dif_neg c1, dif_neg c2, dif_pos c3, if_pos (by omega), val_main_v59_apply]
    have e := idx_keys b s ⟨n.val - 3072 - 1024, c3⟩
    rw [e, ref_keys]
    unfold squares gain
    rw [if_neg (by omega)]
    have e1 : (⟨4096 + 64 * ((n.val - 3072 - 1024) / 64) + (n.val - 3072 - 1024) % 64, by omega⟩ : Fin 6144) = n := Fin.ext (by show 4096 + 64 * ((n.val - 3072 - 1024) / 64) + (n.val - 3072 - 1024) % 64 = n.val; omega)
    have e2 : ∀ d : Fin 64, (⟨4096 + 64 * ((n.val - 3072 - 1024) / 64) + d.val, by omega⟩ : Fin 6144) = ⟨64 * (n.val / 64) + d.val, by omega⟩ := fun d =>
      Fin.ext (by show 4096 + 64 * ((n.val - 3072 - 1024) / 64) + d.val = 64 * (n.val / 64) + d.val; omega)
    have e3 : (⟨(n.val - 3072 - 1024) % 64, by omega⟩ : Fin 64) = ⟨n.val % 64, by omega⟩ := Fin.ext (by show (n.val - 3072 - 1024) % 64 = n.val % 64; omega)
    simp only [e1, e2, e3]
    rfl
  · rw [dif_neg c1, dif_neg c2, dif_neg c3, if_neg (by omega), val_main_v26_apply, val_main_v23_apply]
    have e : idx_main_v23 (idx_main_v26 (ix3 b s ⟨n.val - 3072 - 1024 - 1024, by omega⟩)) = ix3 b s n :=
      funext fun a => Fin.ext <| match a with
        | ⟨0, _⟩ => rfl
        | ⟨1, _⟩ => rfl
        | ⟨2, _⟩ => by show 3072 + (2048 + (n.val - 3072 - 1024 - 1024)) = n.val; omega
    rw [e, ref_acc]
    rfl

end Cert.Proj

end
-- ==== Proof.Proj.Precond.lean ====
/- What the precondition says of the input projection: the gain, the modulation and the weights are real numbers, so the
   projections are. -/
module

public import proofs.«01_k».proof.Pre_finite_weights
public import proofs.«01_k».proof.Proof.Precond
public import proofs.«01_k».proof.Proof.Proj.Norm

@[expose] public section

noncomputable section

namespace Cert.Proj

open Idealize.ShloMosaic Idealize.ShloMosaic.Pointwise Cert.Natten

/-- The facts that the predicate states. -/
instance preFacts : Cert.Pre_finite_weights.Facts where
  bcast_S_S2048 := by decide
  reducesTo_S2048_S_d0 := by decide
  h_S_ := by decide
  bcast_S_S2x2048 := by decide
  reducesTo_S2x2048_S_d0_1 := by decide
  bcast_S_S2048x6144 := by decide
  reducesTo_S2048x6144_S_d0_1 := by decide

open Cert.Pre_finite_weights in
theorem projections_real (X : FVec Ideal S2x16384x2048 .f32) (G : FVec Ideal S2048 .f32) (C H : FVec Ideal S2x2048 .f32)
    (W : FVec Ideal S2048x6144 .bf16) (Q K : FVec Ideal S64 .f32) (h : fn (F := Ideal) X G C H W Q K = fun _ => 1#1) :
    ∀ b s n, IsReal (acc X G C H W b s n) := by
  have h0 := congrFun h (fun a => a.elim0)
  unfold fn fn_part1 at h0
  obtain ⟨h1, hw⟩ := IntOp.andi_eq_one.1 h0
  obtain ⟨h2, hh⟩ := IntOp.andi_eq_one.1 h1
  obtain ⟨hg, hc⟩ := IntOp.andi_eq_one.1 h2
  haveI : Subsingleton S_.Idx := ⟨fun a b => funext fun k => k.elim0⟩
  refine acc_real X G C H W (fun i => ?_) (fun i => ?_) (fun i => ?_) (fun i => ?_)
  · have hi := Host.reduce_andi_all _ _ _ _ _ hg i
    exact real_of_abs (G i) _ top_f32 hi
  · have hi := Host.reduce_andi_all _ _ _ _ _ hc i
    exact real_of_abs (C i) _ top_f32 hi
  · have hi := Host.reduce_andi_all _ _ _ _ _ hh i
    exact real_of_abs (H i) _ top_f32 hi
  · have hi := Host.reduce_andi_all _ _ _ _ _ hw i
    exact real_of_abs (W i) _ top_bf16 hi

end Cert.Proj

end
-- ==== Proof.Mix.Spec.lean ====
/- The output projection with the norm before the experts and the routing's affinities, over the reals, and the products of
   the kernel's body at an index. -/
module

public import proofs.«01_k».proof.Proof.Gen.MixIdeal.Skeleton
public import proofs.«01_k».proof.Proof.Proj.Norm
public import proofs.«01_k».proof.Proof.Softmax

@[expose] public section

set_option maxRecDepth 16384

noncomputable section

namespace Cert.Mix

open Cert.MixIdeal Cert.MixIdeal.Gen Idealize.ShloMosaic Idealize.ShloMosaic.TcCoe Idealize.ShloMosaic.Pointwise
open Cert.Proj (eps scale normed IsReal)
open Cert.Natten (rowMax rowExp)

/-- A feature of one of the two mixers, normed, with its gain. -/
def half (y : Fin 1024 → EReal) (g : EReal) (k : Fin 1024) : EReal :=
  y k * scale (∑ i, y i * y i) (Ideal.ofBits .f32 0x44800000#32) * g

section Arguments
variable (Y A : FVec Ideal S2x16384x1024 .bf16) (X : FVec Ideal S2x16384x2048 .f32) (GY GA : FVec Ideal S1024 .f32)
  (W : FVec Ideal S2048x2048 .bf16) (G : FVec Ideal S2x2048 .f32) (N : FVec Ideal S2048 .f32) (C H : FVec Ideal S2x2048 .f32)
  (R : FVec Ideal S2048x16 .f32)

/-- The projection of the two mixers' normed features. -/
def mixed (b : Fin 2) (s : Fin 16384) (n : Fin 2048) : EReal :=
  (∑ k : Fin 1024, half (fun i => Y (ix3 b s i)) (GY (ix1 k)) k * W (ix2 ⟨k.val, by omega⟩ n))
    + ∑ k : Fin 1024, half (fun i => A (ix3 b s i)) (GA (ix1 k)) k * W (ix2 ⟨1024 + k.val, by omega⟩ n)

/-- The tokens with the gated projection added. -/
def next (b : Fin 2) (s : Fin 16384) (n : Fin 2048) : EReal := X (ix3 b s n) + G (ix2 b n) * mixed Y A GY GA W b s n

/-- Those, normed and modulated. -/
def hid (b : Fin 2) (s : Fin 16384) (n : Fin 2048) : EReal :=
  normed (next Y A X GY GA W G b s) (N (ix1 n)) (C (ix2 b n)) (H (ix2 b n)) n

/-- A token's scores for the experts. -/
def score (b : Fin 2) (s : Fin 16384) (e : Fin 16) : EReal := ∑ k : Fin 2048, hid Y A X GY GA W G N C H b s k * R (ix2 k e)

/-- The three results. -/
def tokens : FVec Ideal S2x16384x2048 .f32 := fun i => next Y A X GY GA W G (i 0) (i 1) (i 2)
def hidden : FVec Ideal S2x16384x2048 .bf16 := fun i => hid Y A X GY GA W G N C H (i 0) (i 1) (i 2)
def affinities : FVec Ideal S2x16384x16 .f32 := fun i =>
  Ideal.div (rowExp (score Y A X GY GA W G N C H R (i 0) (i 1)) (i 2 : Fin 16)) (∑ e : Fin 16, rowExp (score Y A X GY GA W G N C H R (i 0) (i 1)) e)

end Arguments

theorem pay4_apply (y : Vec Ideal S1x512x1024 .bf16) (g : Vec Ideal S1x1024 .f32) (w : Vec Ideal S1024x2048 .bf16) (r : Fin 512) (n : Fin 2048) :
    k0_pay4 (F := Ideal) y g w (ix2 r n) = ∑ k : Fin 1024, half (fun i => y (ix3 0 r i)) (g (ix2 0 k)) k * w (ix2 k n) := by
  pointwise [k0_pay4]
  rfl

theorem pay5_apply (y : Vec Ideal S1x512x1024 .bf16) (g : Vec Ideal S1x1024 .f32) (r : Fin 512) (k : Fin 1024) :
    k0_pay5 (F := Ideal) y g (ix2 r k) = half (fun i => y (ix3 0 r i)) (g (ix2 0 k)) k := by
  pointwise [k0_pay5]
  rfl

section Bodies
variable (p : FVec Ideal S512x2048 .f32) (a : FVec Ideal S512x1024 .bf16) (w : Vec Ideal S1024x2048 .bf16) (x : Vec Ideal S1x512x2048 .f32)
  (g1 : Vec Ideal S1x1x2048 .f32) (g : Vec Ideal S1x2048 .f32) (sc sh : Vec Ideal S1x1x2048 .f32)

theorem pay6_apply (r : Fin 512) (n : Fin 2048) :
    k0_pay6 (F := Ideal) p a w x g1 (ix2 r n) = x (ix3 0 r n) + g1 (ix3 0 0 n) * (p (ix2 r n) + ∑ k : Fin 1024, a (ix2 r k) * w (ix2 k n)) := by
  pointwise [k0_pay6]

theorem pay7_apply (r : Fin 512) (n : Fin 2048) : k0_pay7 (F := Ideal) p a w x g1 (ix3 0 r n) = k0_pay6 p a w x g1 (ix2 r n) := by
  pointwise [k0_pay7]

theorem pay1_apply (r : Fin 512) (n : Fin 2048) :
    k0_pay1 (F := Ideal) (k0_pay8 p a w x g1 g sc) sh (ix2 r n)
      = normed (fun i => k0_pay6 p a w x g1 (ix2 r i)) (g (ix2 0 n)) (sc (ix3 0 0 n)) (sh (ix3 0 0 n)) n := by
  pointwise [k0_pay1, k0_pay8]
  rfl

theorem pay2_apply (h : FVec Ideal S512x2048 .f32) (r : Fin 512) (n : Fin 2048) : k0_pay2 (F := Ideal) h sh (ix3 0 r n) = k0_pay1 h sh (ix2 r n) := by
  pointwise [k0_pay2]

end Bodies

section Generic
variable {F : FTy → Type} [FloatOps F]

/-- The experts' scores: tokens and weights are each split into a bf16 part and its residue. -/
def logits (h : FVec F S512x2048 .f32) (w : Vec F S2048x16 .f32) : FVec F S512x16 .f32 :=
  have hi := truncf .bf16 w bitsLt_bf16_f32
  have lo := truncf .bf16 (subf w (extf .f32 hi bitsLt_bf16_f32)) bitsLt_bf16_f32
  have a := truncf .bf16 h bitsLt_bf16_f32
  have b := truncf .bf16 (subf h (extf .f32 a bitsLt_bf16_f32)) bitsLt_bf16_f32
  have both := matmul dot_S512x2048_S2048x32_S512x32_1_0_0_1_n_n none a
    (concatenate S2048x32 1 [⟨S2048x16, hi⟩, ⟨S2048x16, lo⟩] concatenates_S2048x16_S2048x16_S2048x32_d1) (constant S512x32 .f32 0x00000000#32)
  addf (addf (extractStridedSlice S512x16 ![0, 0] both slices_S512x32_o0_0_S512x16) (extractStridedSlice S512x16 ![0, 16] both slices_S512x32_o0_16_S512x16))
    (matmul dot_S512x2048_S2048x16_S512x16_1_0_0_1_n_n none b hi (constant S512x16 .f32 0x00000000#32))

/-- The softmax of a row of scores. -/
def soft (l : FVec F S512x16 .f32) : FVec F S512x16 .f32 :=
  have top := multiReduction .maximumf [1] S512 l 0xFF800000#32 reduces_S512x16_S512 (.inl rfl) rfl
  have e := exp (subf l (broadcastTo S512x16 (shapeCast S512x1 top shapeCasts_S512_S512x1) broadcasts_S512x1_S512x16))
  have tot := multiReduction .add [1] S512 e 0x00000000#32 reduces_S512x16_S512 (.inl rfl) rfl
  divf e (broadcastTo S512x16 (shapeCast S512x1 tot shapeCasts_S512_S512x1) broadcasts_S512x1_S512x16)

theorem pay3_eq (v : FVec F S512x2048 .f32) (sh : Vec F S1x1x2048 .f32) (w : Vec F S2048x16 .f32) :
    k0_pay3 v sh w = shapeCast S1x512x16 (soft (logits (k0_pay1 v sh) w)) shapeCasts_S512x16_S1x512x16 := rfl

end Generic

/-- At real numbers the residues are zero. -/
theorem logits_apply (h : FVec Ideal S512x2048 .f32) (w : Vec Ideal S2048x16 .f32) (r : Fin 512) (e : Fin 16)
    (hh : ∀ k, IsReal (h (ix2 r k))) (hw : ∀ k, IsReal (w (ix2 k e))) :
    logits (F := Ideal) h w (ix2 r e) = ∑ k : Fin 2048, h (ix2 r k) * w (ix2 k e) := by
  have h1 : logits (F := Ideal) h w (ix2 r e) = (∑ k : Fin 2048, h (ix2 r k) * w (ix2 k e)) + (∑ k : Fin 2048, h (ix2 r k) * (w (ix2 k e) - w (ix2 k e)))
      + ∑ k : Fin 2048, (h (ix2 r k) - h (ix2 r k)) * w (ix2 k e) := by
    pointwise [logits]
  have hs : ∀ x : EReal, IsReal x → x - x = 0 := by
    rintro _ ⟨a, rfl⟩
    rw [← EReal.coe_sub, sub_self]
    rfl
  rw [h1]
  simp only [hs _ (hh _), hs _ (hw _), mul_zero, zero_mul, Finset.sum_const_zero, add_zero]

theorem soft_apply (l : FVec Ideal S512x16 .f32) (r : Fin 512) (e : Fin 16) :
    soft (F := Ideal) l (ix2 r e) = Ideal.div (rowExp (fun j => l (ix2 r j)) e) (∑ j, rowExp (fun j => l (ix2 r j)) j) := by
  pointwise [soft]
  rfl

end Cert.Mix

end
-- ==== Proof.Mix.Blocks.lean ====
/- The blocks that a point of the output projection's grid loads: where their entries lie in the launched arguments. -/
module

public import proofs.«01_k».proof.Proof.Gen.MixIdeal.Frame
public import proofs.«01_k».proof.Proof.Mix.Spec
public import Idealize.ShloMosaic.Lib.Pipeline.ValueKit
public import Idealize.ShloMosaic.Lib.StableHlo.ReadAt

@[expose] public section

set_option maxRecDepth 16384

noncomputable section

namespace Cert.Mix

open Cert.MixIdeal Cert.MixIdeal.Gen Idealize.ShloMosaic Idealize.ShloMosaic.TcCoe Idealize.ShloMosaic.Pointwise
open Idealize.ShloMosaic.Pipeline (Dat)

theorem index0 : ∀ t : Fin cfg0.N, win0_0.index t = ![t.val / 32, t.val % 32, 0] := by decide +kernel
theorem index1 : ∀ t : Fin cfg0.N, win0_1.index t = ![t.val / 32, t.val % 32, 0] := by decide +kernel
theorem index2 : ∀ t : Fin cfg0.N, win0_2.index t = ![t.val / 32, t.val % 32, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val / 32, 0, 0] := by decide +kernel
theorem index8 : ∀ t : Fin cfg0.N, win0_8.index t = ![0, 0] := by decide +kernel
theorem index9 : ∀ t : Fin cfg0.N, win0_9.index t = ![t.val / 32, 0, 0] := by decide +kernel
theorem index10 : ∀ t : Fin cfg0.N, win0_10.index t = ![t.val / 32, 0, 0] := by decide +kernel
theorem index11 : ∀ t : Fin cfg0.N, win0_11.index t = ![0, 0] := by decide +kernel
theorem index12 : ∀ t : Fin cfg0.N, win0_12.index t = ![t.val / 32, t.val % 32, 0] := by decide +kernel
theorem index13 : ∀ t : Fin cfg0.N, win0_13.index t = ![t.val / 32, t.val % 32, 0] := by decide +kernel
theorem index14 : ∀ t : Fin cfg0.N, win0_14.index t = ![t.val / 32, t.val % 32, 0] := by decide +kernel

variable (m : (ℓ : Loc nD τ sig) → Buf (Elt Ideal) ℓ) (c : Dev nD)

/-- The launched arguments. -/
abbrev aY : FVec Ideal S2x16384x1024 .bf16 := m ((c : Thread nD τ).loc main_arg0)
abbrev aA : FVec Ideal S2x16384x1024 .bf16 := m ((c : Thread nD τ).loc main_arg1)
abbrev aX : FVec Ideal S2x16384x2048 .f32 := m ((c : Thread nD τ).loc main_arg2)
abbrev aGY : FVec Ideal S1024 .f32 := m ((c : Thread nD τ).loc main_arg3)
abbrev aGA : FVec Ideal S1024 .f32 := m ((c : Thread nD τ).loc main_arg4)
abbrev aW : FVec Ideal S2048x2048 .bf16 := m ((c : Thread nD τ).loc main_arg5)
abbrev aG : FVec Ideal S2x2048 .f32 := m ((c : Thread nD τ).loc main_arg6)
abbrev aN : FVec Ideal S2048 .f32 := m ((c : Thread nD τ).loc main_arg7)
abbrev aC : FVec Ideal S2x2048 .f32 := m ((c : Thread nD τ).loc main_arg8)
abbrev aH : FVec Ideal S2x2048 .f32 := m ((c : Thread nD τ).loc main_arg9)
abbrev aR : FVec Ideal S2048x16 .f32 := m ((c : Thread nD τ).loc main_arg10)

theorem V_GY (k : Fin 1024) : (V m c main_v0 : Vec Ideal S1x1024 .f32) (ix2 0 k) = aGY m c (ix1 k) := by
  unfold V
  after_reads_simp
  pointwise

theorem V_GA (k : Fin 1024) : (V m c main_v1 : Vec Ideal S1x1024 .f32) (ix2 0 k) = aGA m c (ix1 k) := by
  unfold V
  after_reads_simp
  pointwise

theorem V_WY (k : Fin 1024) (n : Fin 2048) : (V m c main_v2 : Vec Ideal S1024x2048 .bf16) (ix2 k n) = aW m c (ix2 ⟨k.val, by omega⟩ n) := by
  unfold V
  after_reads_simp
  pointwise

theorem V_WA (k : Fin 1024) (n : Fin 2048) : (V m c main_v3 : Vec Ideal S1024x2048 .bf16) (ix2 k n) = aW m c (ix2 ⟨1024 + k.val, by omega⟩ n) := by
  unfold V
  after_reads_simp
  pointwise

theorem V_G (b : Fin 2) (k : Fin 2048) : (V m c main_v4 : Vec Ideal S2x1x2048 .f32) (ix3 b 0 k) = aG m c (ix2 b k) := by
  unfold V
  after_reads_simp
  pointwise

theorem V_N (k : Fin 2048) : (V m c main_v5 : Vec Ideal S1x2048 .f32) (ix2 0 k) = aN m c (ix1 k) := by
  unfold V
  after_reads_simp
  pointwise

theorem V_C (b : Fin 2) (k : Fin 2048) : (V m c main_v6 : Vec Ideal S2x1x2048 .f32) (ix3 b 0 k) = aC m c (ix2 b k) := by
  unfold V
  after_reads_simp
  pointwise

theorem V_H (b : Fin 2) (k : Fin 2048) : (V m c main_v7 : Vec Ideal S2x1x2048 .f32) (ix3 b 0 k) = aH m c (ix2 b k) := by
  unfold V
  after_reads_simp
  pointwise

variable (t : Fin cfg0.N) (b : Fin 2) (hb : b.val = t.val / 32)

section
include hb

section Rows
variable (s : Fin 16384) (r : Fin 512) (hs : s.val = 512 * (t.val % 32) + r.val)
include hs

theorem blk0 (k : Fin 1024) : (iblk m c 0 t : Vec Ideal S1x512x1024 .bf16) (ix3 0 r k) = aY m c (ix3 b s k) := by
  blk_simp [iblk]
  rw [V_main_arg0]
  refine congrArg (aY m c) (funext fun a => Fin.ext ?_)
  blk_simp
  rw [index0]
  match a with
  | ⟨0, _⟩ => show t.val / 32 * 1 + 0 = b.val; omega
  | ⟨1, _⟩ => show t.val % 32 * 512 + r.val = s.val; omega
  | ⟨2, _⟩ => show 0 * 1024 + k.val = k.val; omega

theorem blk1 (k : Fin 1024) : (iblk m c 1 t : Vec Ideal S1x512x1024 .bf16) (ix3 0 r k) = aA m c (ix3 b s k) := by
  blk_simp [iblk]
  rw [V_main_arg1]
  refine congrArg (aA m c) (funext fun a => Fin.ext ?_)
  blk_simp
  rw [index1]
  match a with
  | ⟨0, _⟩ => show t.val / 32 * 1 + 0 = b.val; omega
  | ⟨1, _⟩ => show t.val % 32 * 512 + r.val = s.val; omega
  | ⟨2, _⟩ => show 0 * 1024 + k.val = k.val; omega

theorem blk2 (k : Fin 2048) : (iblk m c 2 t : Vec Ideal S1x512x2048 .f32) (ix3 0 r k) = aX m c (ix3 b s k) := by
  blk_simp [iblk]
  rw [V_main_arg2]
  refine congrArg (aX m c) (funext fun a => Fin.ext ?_)
  blk_simp
  rw [index2]
  match a with
  | ⟨0, _⟩ => show t.val / 32 * 1 + 0 = b.val; omega
  | ⟨1, _⟩ => show t.val % 32 * 512 + r.val = s.val; omega
  | ⟨2, _⟩ => show 0 * 2048 + k.val = k.val; omega

end Rows

theorem blk7 (k : Fin 2048) : (iblk m c 7 t : Vec Ideal S1x1x2048 .f32) (ix3 0 0 k) = aG m c (ix2 b k) := by
  rw [← V_G m c b k]
  blk_simp [iblk]
  refine congrArg (V m c main_v4 : Vec Ideal S2x1x2048 .f32) (funext fun a => Fin.ext ?_)
  blk_simp
  rw [index7]
  match a with
  | ⟨0, _⟩ => show t.val / 32 * 1 + 0 = b.val; omega
  | ⟨1, _⟩ => show 0 * 1 + 0 = 0; omega
  | ⟨2, _⟩ => show 0 * 2048 + k.val = k.val; omega

theorem blk9 (k : Fin 2048) : (iblk m c 9 t : Vec Ideal S1x1x2048 .f32) (ix3 0 0 k) = aC m c (ix2 b k) := by
  rw [← V_C m c b k]
  blk_simp [iblk]
  refine congrArg (V m c main_v6 : Vec Ideal S2x1x2048 .f32) (funext fun a => Fin.ext ?_)
  blk_simp
  rw [index9]
  match a with
  | ⟨0, _⟩ => show t.val / 32 * 1 + 0 = b.val; omega
  | ⟨1, _⟩ => show 0 * 1 + 0 = 0; omega
  | ⟨2, _⟩ => show 0 * 2048 + k.val = k.val; omega

theorem blk10 (k : Fin 2048) : (iblk m c 10 t : Vec Ideal S1x1x2048 .f32) (ix3 0 0 k) = aH m c (ix2 b k) := by
  rw [← V_H m c b k]
  blk_simp [iblk]
  refine congrArg (V m c main_v7 : Vec Ideal S2x1x2048 .f32) (funext fun a => Fin.ext ?_)
  blk_simp
  rw [index10]
  match a with
  | ⟨0, _⟩ => show t.val / 32 * 1 + 0 = b.val; omega
  | ⟨1, _⟩ => show 0 * 1 + 0 = 0; omega
  | ⟨2, _⟩ => show 0 * 2048 + k.val = k.val; omega

end

theorem blk3 (k : Fin 1024) : (iblk m c 3 t : Vec Ideal S1x1024 .f32) (ix2 0 k) = aGY m c (ix1 k) := by
  rw [← V_GY m c k]
  blk_simp [iblk]
  refine congrArg (V m c main_v0 : Vec Ideal S1x1024 .f32) (funext fun a => Fin.ext ?_)
  blk_simp
  rw [index3]
  match a with
  | ⟨0, _⟩ => rfl
  | ⟨1, _⟩ => show 0 * 1024 + k.val = k.val; omega

theorem blk4 (k : Fin 1024) : (iblk m c 4 t : Vec Ideal S1x1024 .f32) (ix2 0 k) = aGA m c (ix1 k) := by
  rw [← V_GA m c k]
  blk_simp [iblk]
  refine congrArg (V m c main_v1 : Vec Ideal S1x1024 .f32) (funext fun a => Fin.ext ?_)
  blk_simp
  rw [index4]
  match a with
  | ⟨0, _⟩ => rfl
  | ⟨1, _⟩ => show 0 * 1024 + k.val = k.val; omega

theorem blk5 (k : Fin 1024) (n : Fin 2048) :
    (iblk m c 5 t : Vec Ideal S1024x2048 .bf16) (ix2 k n) = aW m c (ix2 ⟨k.val, k.isLt.trans (by decide)⟩ n) := by
  refine Eq.trans ?_ (V_WY m c k n)
  blk_simp [iblk]
  refine congrArg (V m c main_v2 : Vec Ideal S1024x2048 .bf16) (funext fun a => Fin.ext ?_)
  blk_simp
  rw [index5]
  match a with
  | ⟨0, _⟩ => show 0 * 1024 + k.val = k.val; omega
  | ⟨1, _⟩ => show 0 * 2048 + n.val = n.val; omega

theorem blk6 (k : Fin 1024) (n : Fin 2048) :
    (iblk m c 6 t : Vec Ideal S1024x2048 .bf16) (ix2 k n) = aW m c (ix2 ⟨1024 + k.val, Nat.add_lt_add_left k.isLt 1024⟩ n) := by
  refine Eq.trans ?_ (V_WA m c k n)
  blk_simp [iblk]
  refine congrArg (V m c main_v3 : Vec Ideal S1024x2048 .bf16) (funext fun a => Fin.ext ?_)
  blk_simp
  rw [index6]
  match a with
  | ⟨0, _⟩ => show 0 * 1024 + k.val = k.val; omega
  | ⟨1, _⟩ => show 0 * 2048 + n.val = n.val; omega

theorem blk8 (k : Fin 2048) : (iblk m c 8 t : Vec Ideal S1x2048 .f32) (ix2 0 k) = aN m c (ix1 k) := by
  rw [← V_N m c k]
  blk_simp [iblk]
  refine congrArg (V m c main_v5 : Vec Ideal S1x2048 .f32) (funext fun a => Fin.ext ?_)
  blk_simp
  rw [index8]
  match a with
  | ⟨0, _⟩ => rfl
  | ⟨1, _⟩ => show 0 * 2048 + k.val = k.val; omega

theorem blk11 (k : Fin 2048) (e : Fin 16) : (iblk m c 11 t : Vec Ideal S2048x16 .f32) (ix2 k e) = aR m c (ix2 k e) := by
  blk_simp [iblk]
  rw [V_main_arg10]
  refine congrArg (aR m c) (funext fun a => Fin.ext ?_)
  blk_simp
  rw [index11]
  match a with
  | ⟨0, _⟩ => show 0 * 2048 + k.val = k.val; omega
  | ⟨1, _⟩ => show 0 * 16 + e.val = e.val; omega

end Cert.Mix

end
-- ==== Proof.Mix.Final.lean ====
/- The kernel's three result arrays after the launch. -/
module

public import proofs.«01_k».proof.Proof.Mix.Blocks

@[expose] public section

set_option maxRecDepth 16384

noncomputable section

namespace Cert.Mix

open Cert.MixIdeal Cert.MixIdeal.Gen Idealize.ShloMosaic Idealize.ShloMosaic.TcCoe Idealize.ShloMosaic.Pointwise
open Idealize.ShloMosaic.Pipeline (Dat)
open Cert.Proj (IsReal normed_real)
open Cert.Natten (rowExp)

section Pieces
variable (x0 x1 : Vec Ideal S1x512x1024 .bf16) (x2 : Vec Ideal S1x512x2048 .f32) (x3 x4 : Vec Ideal S1x1024 .f32) (x5 x6 : Vec Ideal S1024x2048 .bf16)
  (x7 : Vec Ideal S1x1x2048 .f32) (x8 : Vec Ideal S1x2048 .f32) (x9 x10 : Vec Ideal S1x1x2048 .f32) (x11 : Vec Ideal S2048x16 .f32)

theorem out12 : out0_12 x0 x1 x2 x3 x4 x5 x6 x7 x8 x9 x10 x11 = k0_pay7 (k0_pay4 x0 x3 x5) (k0_pay5 x1 x4) x6 x2 x7 := by
  unfold_out out0_12
  simp (disch := decide) only [View.ld_unit_lit', View.canon_cons_unit_lit']

theorem out13 : out0_13 x0 x1 x2 x3 x4 x5 x6 x7 x8 x9 x10 x11 = k0_pay2 (k0_pay8 (k0_pay4 x0 x3 x5) (k0_pay5 x1 x4) x6 x2 x7 x8 x9) x10 := by
  unfold_out out0_13
  simp (disch := decide) only [View.ld_unit_lit', View.canon_cons_unit_lit']

theorem out14 : out0_14 x0 x1 x2 x3 x4 x5 x6 x7 x8 x9 x10 x11 = k0_pay3 (k0_pay8 (k0_pay4 x0 x3 x5) (k0_pay5 x1 x4) x6 x2 x7 x8 x9) x10 x11 := by
  unfold_out out0_14
  simp (disch := decide) only [View.ld_unit_lit', View.canon_cons_unit_lit']

end Pieces

variable (m : (ℓ : Loc nD τ sig) → Buf (Elt Ideal) ℓ) (c : Dev nD)

/-- The new tokens of the launched arguments, and their normed features. -/
abbrev nextOf := next (aY m c) (aA m c) (aX m c) (aGY m c) (aGA m c) (aW m c) (aG m c)
abbrev hidOf := hid (aY m c) (aA m c) (aX m c) (aGY m c) (aGA m c) (aW m c) (aG m c) (aN m c) (aC m c) (aH m c)

section Point
variable (t : Fin cfg0.N) (b : Fin 2) (hb : b.val = t.val / 32) (s : Fin 16384) (r : Fin 512) (hs : s.val = 512 * (t.val % 32) + r.val)
include hb hs

theorem next_entry (n : Fin 2048) :
    k0_pay6 (F := Ideal) (k0_pay4 (iblk m c 0 t) (iblk m c 3 t) (iblk m c 5 t)) (k0_pay5 (iblk m c 1 t) (iblk m c 4 t)) (iblk m c 6 t) (iblk m c 2 t) (iblk m c 7 t) (ix2 r n)
      = nextOf m c b s n := by
  have h0 : (fun i => (iblk m c 0 t : Vec Ideal S1x512x1024 .bf16) (ix3 0 r i)) = fun i => aY m c (ix3 b s i) := funext fun i => blk0 m c t b hb s r hs i
  have h1 : (fun i => (iblk m c 1 t : Vec Ideal S1x512x1024 .bf16) (ix3 0 r i)) = fun i => aA m c (ix3 b s i) := funext fun i => blk1 m c t b hb s r hs i
  rw [pay6_apply, blk2 m c t b hb s r hs n, blk7 m c t b hb n, pay4_apply, h0]
  simp only [pay5_apply, h1]
  unfold nextOf next mixed
  congr 2
  congr 1
  · exact Finset.sum_congr rfl fun k _ => by rw [blk3 m c t k, blk5 m c t k n]
  · exact Finset.sum_congr rfl fun k _ => by rw [blk4 m c t k, blk6 m c t k n]

theorem hid_entry (n : Fin 2048) :
    k0_pay1 (F := Ideal) (k0_pay8 (k0_pay4 (iblk m c 0 t) (iblk m c 3 t) (iblk m c 5 t)) (k0_pay5 (iblk m c 1 t) (iblk m c 4 t)) (iblk m c 6 t) (iblk m c 2 t) (iblk m c 7 t)
        (iblk m c 8 t) (iblk m c 9 t)) (iblk m c 10 t) (ix2 r n)
      = hidOf m c b s n := by
  rw [pay1_apply, blk8 m c t n, blk9 m c t b hb n, blk10 m c t b hb n]
  unfold hidOf hid
  congr 1
  funext i
  exact next_entry m c t b hb s r hs i

theorem aff_entry (hh : ∀ b s n, IsReal (hidOf m c b s n)) (hR : ∀ i, IsReal (aR m c i)) (e : Fin 16) :
    k0_pay3 (F := Ideal) (k0_pay8 (k0_pay4 (iblk m c 0 t) (iblk m c 3 t) (iblk m c 5 t)) (k0_pay5 (iblk m c 1 t) (iblk m c 4 t)) (iblk m c 6 t) (iblk m c 2 t) (iblk m c 7 t)
        (iblk m c 8 t) (iblk m c 9 t)) (iblk m c 10 t) (iblk m c 11 t) (ix3 0 r e)
      = affinities (aY m c) (aA m c) (aX m c) (aGY m c) (aGA m c) (aW m c) (aG m c) (aN m c) (aC m c) (aH m c) (aR m c) (ix3 b s e) := by
  have hl : ∀ j, logits (F := Ideal) (k0_pay1 (k0_pay8 (k0_pay4 (iblk m c 0 t) (iblk m c 3 t) (iblk m c 5 t)) (k0_pay5 (iblk m c 1 t) (iblk m c 4 t)) (iblk m c 6 t)
        (iblk m c 2 t) (iblk m c 7 t) (iblk m c 8 t) (iblk m c 9 t)) (iblk m c 10 t)) (iblk m c 11 t) (ix2 r j)
      = score (aY m c) (aA m c) (aX m c) (aGY m c) (aGA m c) (aW m c) (aG m c) (aN m c) (aC m c) (aH m c) (aR m c) b s j := fun j => by
    rw [logits_apply _ _ r j (fun k => by rw [hid_entry m c t b hb s r hs k]; exact hh b s k) (fun k => by rw [blk11 m c t k j]; exact hR _)]
    exact Finset.sum_congr rfl fun k _ => by rw [hid_entry m c t b hb s r hs k, blk11 m c t k j]
  rw [pay3_eq]
  have hc : ∀ v : FVec Ideal S512x16 .f32, (shapeCast S1x512x16 v shapeCasts_S512x16_S1x512x16 : FVec Ideal S1x512x16 .f32) (ix3 0 r e) = v (ix2 r e) := fun v => by pointwise
  rw [hc, soft_apply]
  simp only [hl]
  rfl

end Point

/-- Where a point's block agrees with an array at each row of the block's tokens, it agrees at each entry. -/
theorem at_place {w : ℕ} (t : Fin cfg0.N) (f : (⟨3, ![1, 512, w]⟩ : Shape).Idx → EReal) (T : (⟨3, ![2, 16384, w]⟩ : Shape).Idx → EReal)
    (h : ∀ (b : Fin 2) (s : Fin 16384) (r : Fin 512) (n : Fin w), b.val = t.val / 32 → s.val = 512 * (t.val % 32) + r.val → f (ix3 0 r n) = T (ix3 b s n))
    (y : (⟨3, ![1, 512, w]⟩ : Shape).Idx) (z : (⟨3, ![2, 16384, w]⟩ : Shape).Idx)
    (hz : ∀ a : Fin 3, (z a).val = (![t.val / 32, t.val % 32, 0] : Fin 3 → ℕ) a * (![1, 512, w] : Fin 3 → ℕ) a + (y a).val) : f y = T z := by
  have y0 : (y 0).val < 1 := (y 0).isLt
  have z0 : (z 0).val = t.val / 32 * 1 + (y 0).val := hz 0
  have z1 : (z 1).val = t.val % 32 * 512 + (y 1).val := hz 1
  have z2 : (z 2).val = 0 * w + (y 2).val := hz 2
  have hy : y = ix3 0 (y 1 : Fin 512) (y 2 : Fin w) := by
    funext a
    refine Fin.ext ?_
    match a with
    | ⟨0, _⟩ => show (y 0).val = 0; omega
    | ⟨1, _⟩ => rfl
    | ⟨2, _⟩ => rfl
  have hz' : z = ix3 (z 0 : Fin 2) (z 1 : Fin 16384) (y 2 : Fin w) := by
    funext a
    refine Fin.ext ?_
    match a with
    | ⟨0, _⟩ => rfl
    | ⟨1, _⟩ => rfl
    | ⟨2, _⟩ => show (z 2).val = (y 2).val; omega
  rw [hy, hz']
  exact h _ _ _ _ (by omega) (by show (z 1).val = 512 * (t.val % 32) + (y 1).val; omega)

/-- **The kernel's first result is the tokens with the gated projection added.** -/
theorem tokens_final : (dats m 0 c).arrAt 12 cfg0.N = tokens (aY m c) (aA m c) (aX m c) (aGY m c) (aGA m c) (aW m c) (aG m c) := by
  refine (dats m 0 c).arrAt_eq_of_covers 12 (tokens (aY m c) (aA m c) (aX m c) (aGY m c) (aGA m c) (aW m c) (aG m c)) (by decide +kernel) fun t hf y => ?_
  blk_simp
  rw [after0_12, out12]
  refine at_place t _ _ (fun b s r n hb hs => ?_) y _ fun a => ?_
  · rw [pay7_apply]
    exact next_entry m c t b hb s r hs n
  · blk_simp
    rw [index12]

/-- **The kernel's second result is those tokens normed.** -/
theorem hidden_final : (dats m 0 c).arrAt 13 cfg0.N
    = hidden (aY m c) (aA m c) (aX m c) (aGY m c) (aGA m c) (aW m c) (aG m c) (aN m c) (aC m c) (aH m c) := by
  refine (dats m 0 c).arrAt_eq_of_covers 13 (hidden (aY m c) (aA m c) (aX m c) (aGY m c) (aGA m c) (aW m c) (aG m c) (aN m c) (aC m c) (aH m c)) (by decide +kernel) fun t hf y => ?_
  blk_simp
  rw [after0_13, out13]
  refine at_place t _ _ (fun b s r n hb hs => ?_) y _ fun a => ?_
  · rw [pay2_apply]
    exact hid_entry m c t b hb s r hs n
  · blk_simp
    rw [index13]

/-- **Where the gain and the modulation of the norm and the router's weights are real numbers, the kernel's third result is
    the affinities.** -/
theorem affinities_final (hN : ∀ i, IsReal (aN m c i)) (hC : ∀ i, IsReal (aC m c i)) (hH : ∀ i, IsReal (aH m c i)) (hR : ∀ i, IsReal (aR m c i)) :
    (dats m 0 c).arrAt 14 cfg0.N
      = affinities (aY m c) (aA m c) (aX m c) (aGY m c) (aGA m c) (aW m c) (aG m c) (aN m c) (aC m c) (aH m c) (aR m c) := by
  have hh : ∀ b s n, IsReal (hidOf m c b s n) := fun b s n => normed_real _ _ _ _ (hN _) (hC _) (hH _) _
  refine (dats m 0 c).arrAt_eq_of_covers 14 (affinities (aY m c) (aA m c) (aX m c) (aGY m c) (aGA m c) (aW m c) (aG m c) (aN m c) (aC m c) (aH m c) (aR m c)) (by decide +kernel) fun t hf y => ?_
  blk_simp
  rw [after0_14, out14]
  refine at_place t _ _ (fun b s r n hb hs => ?_) y _ fun a => ?_
  · exact aff_entry m c t b hb s r hs hh hR n
  · blk_simp
    rw [index14]

end Cert.Mix

end
-- ==== Proof.Mix.Ref.lean ====
/- The reference's three results, of its arguments. -/
module

public import proofs.«01_k».proof.Proof.Mix.Spec
public import proofs.«01_k».proof.Proof.Gen.MixReferenceIdeal.Read

@[expose] public section

set_option maxRecDepth 16384

noncomputable section

namespace Cert.Mix

open Cert.MixReferenceIdeal Cert.MixReferenceIdeal.Gen Cert.MixReferenceIdeal.Read
open Idealize.ShloMosaic Idealize.ShloMosaic.TcCoe Idealize.ShloMosaic.Pointwise
open Cert.Natten (rowMax rowExp)

variable (Y A : FVec Ideal S2x16384x1024 .bf16) (X : FVec Ideal S2x16384x2048 .f32) (GY GA : FVec Ideal S1024 .f32)
  (W : FVec Ideal S2048x2048 .bf16) (G : FVec Ideal S2x2048 .f32) (N : FVec Ideal S2048 .f32) (C H : FVec Ideal S2x2048 .f32)
  (R : FVec Ideal S2048x16 .f32)

theorem zero_bits : (FloatOps.ofBits (F := Ideal) FTy.f32 0#32 : EReal) = 0 := Ideal.ofBits_zero_f32
theorem one_bits : (FloatOps.ofBits (F := Ideal) FTy.f32 1065353216#32 : EReal) = 1 := Ideal.ofBits_one_f32

theorem ref_half_y (b : Fin 2) (s : Fin 16384) (k : Fin 1024) :
    val_main_v13 (F := Ideal) Y GY (ix3 b s k) = half (fun i => Y (ix3 b s i)) (GY (ix1 k)) k := by
  have h1 : ∀ i, idx_main_v2 (idx_main_v3 (idx_main_v9 (ix3 b s k))) i = ix3 b s i := fun i => by ext a; fin_cases a <;> rfl
  have h2 : idx_main_v11 (idx_main_v12 (ix3 b s k)) = ix1 k := by ext a; fin_cases a <;> rfl
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_cst_apply, val_main_cst_0_apply, val_main_cst_1_apply, h1, h2, zero_bits, zero_add]
  rfl

theorem ref_half_a (b : Fin 2) (s : Fin 16384) (k : Fin 1024) :
    val_main_v27 (F := Ideal) A GA (ix3 b s k) = half (fun i => A (ix3 b s i)) (GA (ix1 k)) k := by
  have h1 : ∀ i, idx_main_v16 (idx_main_v17 (idx_main_v23 (ix3 b s k))) i = ix3 b s i := fun i => by ext a; fin_cases a <;> rfl
  have h2 : idx_main_v25 (idx_main_v26 (ix3 b s k)) = ix1 k := by ext a; fin_cases a <;> rfl
  simp only [val_main_v27_apply, val_main_v26_apply, val_main_v25_apply, val_main_v24_apply, val_main_v23_apply, val_main_v22_apply,
    val_main_v21_apply, val_main_v20_apply, val_main_v19_apply, val_main_v18_apply, val_main_v17_apply, val_main_v16_apply, val_main_v15_apply,
    val_main_v14_apply, val_main_cst_2_apply, val_main_cst_3_apply, val_main_cst_4_apply, h1, h2, zero_bits, zero_add]
  rfl

/-- The two mixers' features side by side, read at a feature. -/
theorem features_apply (p q : FVec Ideal S2x16384x1024 .f32) (b : Fin 2) (s : Fin 16384) (k : Fin 2048) :
    (concatenate S2x16384x2048 2 [⟨S2x16384x1024, p⟩, ⟨S2x16384x1024, q⟩] concatenates_S2x16384x1024_S2x16384x1024_S2x16384x2048_d2
        : FVec Ideal S2x16384x2048 .f32) (ix3 b s k)
      = if h : k.val < 1024 then p (ix3 b s ⟨k.val, h⟩) else q (ix3 b s ⟨k.val - 1024, by omega⟩) := by
  pointwise

/-- A sum over the features of both mixers, in two. -/
theorem sum_both (f : Fin 2048 → EReal) :
    ∑ k, f k = (∑ k : Fin 1024, f ⟨k.val, by omega⟩) + ∑ k : Fin 1024, f ⟨1024 + k.val, by omega⟩ :=
  Fin.sum_univ_add (a := 1024) (b := 1024) f

theorem ref_mixed (b : Fin 2) (s : Fin 16384) (n : Fin 2048) : val_main_v30 (F := Ideal) Y A GY GA W (ix3 b s n) = mixed Y A GY GA W b s n := by
  have hl : ∀ k, lidx_main_v30 (ix3 b s n) k = ix3 b s k := fun k => by ext a; fin_cases a <;> rfl
  have hr : ∀ k, ridx_main_v30 (ix3 b s n) k = ix2 k n := fun k => by ext a; fin_cases a <;> rfl
  have h29 : ∀ i, val_main_v29 (F := Ideal) Y A GY GA i = val_main_v28 (F := Ideal) Y A GY GA i := fun i => rfl
  rw [val_main_v30_apply, sum_both]
  simp only [hl, hr, h29]
  unfold mixed val_main_v28
  congr 1
  · refine Finset.sum_congr rfl fun k _ => ?_
    rw [features_apply, dif_pos k.isLt, ref_half_y]
  · refine Finset.sum_congr rfl fun k _ => ?_
    rw [features_apply, dif_neg (by show ¬1024 + k.val < 1024; omega)]
    have e : (⟨1024 + k.val - 1024, by omega⟩ : Fin 1024) = k := Fin.ext (by show 1024 + k.val - 1024 = k.val; omega)
    rw [e, ref_half_a]

theorem ref_next (b : Fin 2) (s : Fin 16384) (n : Fin 2048) :
    val_main_v34 (F := Ideal) Y A X GY GA W G (ix3 b s n) = next Y A X GY GA W G b s n := by
  have h1 : idx_main_v31 (idx_main_v32 (ix3 b s n)) = ix2 b n := by ext a; fin_cases a <;> rfl
  rw [val_main_v34_apply, val_main_v33_apply, val_main_v32_apply, val_main_v31_apply, h1, ref_mixed]
  rfl

theorem ref_hid (b : Fin 2) (s : Fin 16384) (n : Fin 2048) :
    val_main_v55 (F := Ideal) Y A X GY GA W G N C H (ix3 b s n) = hid Y A X GY GA W G N C H b s n := by
  have h1 : ∀ i, idx_main_v36 (idx_main_v37 (idx_main_v43 (ix3 b s n))) i = ix3 b s i := fun i => by ext a; fin_cases a <;> rfl
  have h2 : idx_main_v45 (idx_main_v46 (ix3 b s n)) = ix1 n := by ext a; fin_cases a <;> rfl
  have h3 : idx_main_v48 (idx_main_v51 (ix3 b s n)) = ix2 b n := by ext a; fin_cases a <;> rfl
  have h4 : idx_main_v53 (idx_main_v54 (ix3 b s n)) = ix2 b n := by ext a; fin_cases a <;> rfl
  simp only [val_main_v55_apply, val_main_v54_apply, val_main_v53_apply, val_main_v52_apply, val_main_v51_apply, val_main_v50_apply,
    val_main_v49_apply, val_main_v48_apply, val_main_v47_apply, val_main_v46_apply, val_main_v45_apply, val_main_v44_apply, val_main_v43_apply,
    val_main_v42_apply, val_main_v41_apply, val_main_v40_apply, val_main_v39_apply, val_main_v38_apply, val_main_v37_apply, val_main_v36_apply,
    val_main_v35_apply, val_main_cst_5_apply, val_main_cst_6_apply, val_main_cst_7_apply, val_main_cst_8_apply, h1, h2, h3, h4, ref_next,
    zero_bits, one_bits, zero_add]
  rfl

theorem ref_score (b : Fin 2) (s : Fin 16384) (e : Fin 16) :
    val_main_v56 (F := Ideal) Y A X GY GA W G N C H R (ix3 b s e) = score Y A X GY GA W G N C H R b s e := by
  rw [val_main_v56_apply]
  refine Finset.sum_congr rfl fun k _ => ?_
  have hl : lidx_main_v56 (ix3 b s e) k = ix3 b s k := by ext a; fin_cases a <;> rfl
  have hr : ridx_main_v56 (ix3 b s e) k = ix2 k e := by ext a; fin_cases a <;> rfl
  rw [hl, hr, ref_hid]

theorem ref_max (b : Fin 2) (s : Fin 16384) :
    val_main_v59 (F := Ideal) Y A X GY GA W G N C H R (ix2 b s) = rowMax (score Y A X GY GA W G N C H R b s) := by
  rw [val_main_v59_apply, val_main_v58_apply, val_main_cst_10_apply]
  have hb : (FloatOps.ofBits (F := Ideal) FTy.f32 0xFF800000#32 : EReal) = ⊥ :=
    (show Ideal.ofBits FTy.f32 0xFF800000#32 = ⊥ by simp [Ideal.ofBits, Ideal.ieee])
  have hm : val_main_v57 (F := Ideal) Y A X GY GA W G N C H R (ix2 b s)
      = rowMax (fun e => val_main_v56 (F := Ideal) Y A X GY GA W G N C H R (ix3 b s e)) := by
    unfold val_main_v57 rowMax
    generalize val_main_v56 (F := Ideal) Y A X GY GA W G N C H R = y
    unfold val_main_cst_9
    have hr : S2x16384x16.Reduces [2] S2x16384 := by decide
    refine (congrFun (hostReduce_maximumf_eq_multiReduction (F := Ideal) (φ := .f32) y 0xFF800000#32 reducesTo_S2x16384x16_S2x16384_d2 h_S_ hr (Or.inl rfl) rfl) _).trans ?_
    refine (Ideal.multiReduction_maximumf_single (φ := .f32) y 0xFF800000#32 hr (Or.inl rfl) rfl _).trans ?_
    rw [hb]
    refine congrArg (Finset.fold max ⊥ · Finset.univ) (funext fun n => congrArg y (funext fun a => ?_))
    match a with
    | ⟨0, _⟩ => rfl
    | ⟨1, _⟩ => rfl
    | ⟨2, _⟩ => rfl
  rw [hm, hb]
  simp only [ref_score]
  exact max_eq_right bot_le

theorem ref_exp (b : Fin 2) (s : Fin 16384) (e : Fin 16) :
    val_main_v63 (F := Ideal) Y A X GY GA W G N C H R (ix3 b s e) = rowExp (score Y A X GY GA W G N C H R b s) e := by
  have h1 : idx_main_v60 (idx_main_v61 (ix3 b s e)) = ix2 b s := by ext a; fin_cases a <;> rfl
  rw [val_main_v63_apply, val_main_v62_apply, val_main_v61_apply, val_main_v60_apply, h1, ref_score, ref_max]
  rfl

/-- **The reference's first result.** -/
theorem ref_tokens : val_main_v34 (F := Ideal) Y A X GY GA W G = tokens Y A X GY GA W G := by
  funext i
  obtain ⟨b, s, n, rfl⟩ : ∃ b s n, i = ix3 b s n := ⟨i 0, i 1, i 2, by ext a; fin_cases a <;> rfl⟩
  exact ref_next Y A X GY GA W G b s n

/-- **Its second.** -/
theorem ref_hidden : val_main_v68 (F := Ideal) Y A X GY GA W G N C H = hidden Y A X GY GA W G N C H := by
  funext i
  obtain ⟨b, s, n, rfl⟩ : ∃ b s n, i = ix3 b s n := ⟨i 0, i 1, i 2, by ext a; fin_cases a <;> rfl⟩
  rw [val_main_v68_apply, ref_hid]
  rfl

/-- **Its third.** -/
theorem ref_affinities : val_main_v67 (F := Ideal) Y A X GY GA W G N C H R = affinities Y A X GY GA W G N C H R := by
  funext i
  obtain ⟨b, s, e, rfl⟩ : ∃ b s e, i = ix3 b s e := ⟨i 0, i 1, i 2, by ext a; fin_cases a <;> rfl⟩
  have h1 : ∀ j, idx_main_v64 (idx_main_v65 (idx_main_v66 (ix3 b s e))) j = ix3 b s j := fun j => by ext a; fin_cases a <;> rfl
  simp only [val_main_v67_apply, val_main_v66_apply, val_main_v65_apply, val_main_v64_apply, val_main_cst_11_apply, h1, ref_exp, zero_bits, zero_add]
  rfl

end Cert.Mix

end
-- ==== Proof.Mix.Precond.lean ====
/- What the precondition says of the output projection: the second norm's gain and modulation and the router's weights are
   real numbers. -/
module

public import proofs.«01_k».proof.Pre_finite_router
public import proofs.«01_k».proof.Proof.Precond
public import proofs.«01_k».proof.Proof.Proj.Norm

@[expose] public section

noncomputable section

namespace Cert.Mix

open Idealize.ShloMosaic Idealize.ShloMosaic.Pointwise Cert.Natten
open Cert.Proj (IsReal)

/-- The facts that the predicate states. -/
instance preFacts : Cert.Pre_finite_router.Facts where
  bcast_S_S2048 := by decide
  reducesTo_S2048_S_d0 := by decide
  h_S_ := by decide
  bcast_S_S2x2048 := by decide
  reducesTo_S2x2048_S_d0_1 := by decide
  bcast_S_S2048x16 := by decide
  reducesTo_S2048x16_S_d0_1 := by decide

open Cert.Pre_finite_router in
theorem router_real (Y A : FVec Ideal S2x16384x1024 .bf16) (X : FVec Ideal S2x16384x2048 .f32) (GY GA : FVec Ideal S1024 .f32)
    (W : FVec Ideal S2048x2048 .bf16) (G : FVec Ideal S2x2048 .f32) (N : FVec Ideal S2048 .f32) (C H : FVec Ideal S2x2048 .f32)
    (R : FVec Ideal S2048x16 .f32) (h : fn (F := Ideal) Y A X GY GA W G N C H R = fun _ => 1#1) :
    (∀ i, IsReal (N i)) ∧ (∀ i, IsReal (C i)) ∧ (∀ i, IsReal (H i)) ∧ ∀ i, IsReal (R i) := by
  have h0 := congrFun h (fun a => a.elim0)
  unfold fn fn_part1 at h0
  obtain ⟨h1, hr⟩ := IntOp.andi_eq_one.1 h0
  obtain ⟨h2, hh⟩ := IntOp.andi_eq_one.1 h1
  obtain ⟨hn, hc⟩ := IntOp.andi_eq_one.1 h2
  haveI : Subsingleton S_.Idx := ⟨fun a b => funext fun k => k.elim0⟩
  refine ⟨fun i => ?_, fun i => ?_, fun i => ?_, fun i => ?_⟩
  · have hi := Host.reduce_andi_all _ _ _ _ _ hn i
    exact real_of_abs (N i) _ top_f32 hi
  · have hi := Host.reduce_andi_all _ _ _ _ _ hc i
    exact real_of_abs (C i) _ top_f32 hi
  · have hi := Host.reduce_andi_all _ _ _ _ _ hh i
    exact real_of_abs (H i) _ top_f32 hi
  · have hi := Host.reduce_andi_all _ _ _ _ _ hr i
    exact real_of_abs (R i) _ top_f32 hi

end Cert.Mix

end
-- ==== Proof.Ada.Spec.lean ====
/- The modulation's projection over the reals, and the kernel's body at an index. -/
module

public import proofs.«01_k».proof.Proof.Gen.AdaIdeal.Frame
public import proofs.«01_k».proof.Proof.Gen.AdaIdeal.Value
public import Idealize.ShloMosaic.Lib.Pipeline.ValueKit
public import Idealize.ShloMosaic.Lib.Pointwise

@[expose] public section

set_option maxRecDepth 16384

noncomputable section

namespace Cert.Ada

open Cert.AdaIdeal Cert.AdaIdeal.Gen Idealize.ShloMosaic Idealize.ShloMosaic.TcCoe Idealize.ShloMosaic.Pointwise

/-- `silu x`. -/
def silu (x : EReal) : EReal := x * Ideal.logistic x

/-- Column `n` of the modulation of conditioning vector `b`. -/
def entry (C : FVec Ideal S3x2048 .f32) (W : FVec Ideal S2048x12288 .f32) (B : FVec Ideal S12288 .f32) (b : Fin 3) (n : Fin 12288) : EReal :=
  (∑ k : Fin 2048, silu (C (ix2 b k)) * W (ix2 k n)) + B (ix1 n)

/-- The modulation: the conditioning vectors through `silu` and an affine map. -/
def modulation (C : FVec Ideal S3x2048 .f32) (W : FVec Ideal S2048x12288 .f32) (B : FVec Ideal S12288 .f32) : FVec Ideal S3x12288 .f32 :=
  fun i => entry C W B (i 0) (i 1)

variable (x : Vec Ideal S2048x3 .f32) (w : Vec Ideal S2048x1024 .f32) (d : Vec Ideal S1x1024 .f32)

/-- A row of the products with the weights, summed. -/
theorem row_apply (b : Fin 3) (n : Fin 1024) :
    Value.Fam3_0 (F := Ideal) w x d b (ix1 n) = ∑ k : Fin 2048, silu (x (ix2 k b)) * w (ix2 k n) := by
  have hc : ∀ k : Fin 2048, w (ix2 k n) * silu (x (ix2 k b)) = silu (x (ix2 k b)) * w (ix2 k n) := fun k => mul_comm _ _
  rw [← Finset.sum_congr rfl fun k _ => hc k]
  fin_cases b <;> · pointwise; rfl

/-- What the body leaves in a block. -/
theorem out_apply (b : Fin 3) (n : Fin 1024) :
    out0_3 (F := Ideal) x w d (ix2 b n) = (∑ k : Fin 2048, silu (x (ix2 k b)) * w (ix2 k n)) + d (ix2 0 n) := by
  unfold out0_3
  simp (disch := decide) only [View.ld_unit_lit']
  rw [Value.canon3_eq w x d, ← row_apply x w d b n]
  have h0 : Value.sel3 (ix2 b n) = b := rfl
  have h1 : Value.ix3_0 (ix2 b n) = ix1 n := by ext a; fin_cases a; rfl
  have h2 : Value.ix3_1 (ix2 b n) = ix2 0 n := by ext a; fin_cases a <;> rfl
  show FloatOps.addf (Value.Fam3_0 w x d (Value.sel3 (ix2 b n)) (Value.ix3_0 (ix2 b n))) (d (Value.ix3_1 (ix2 b n))) = _
  rw [h0, h1, h2]
  rfl

end Cert.Ada

end
-- ==== Proof.Ada.Final.lean ====
/- The kernel's result array after the launch. -/
module

public import proofs.«01_k».proof.Proof.Ada.Spec
public import Idealize.ShloMosaic.Lib.Pipeline.ValueKit
public import Idealize.ShloMosaic.Lib.StableHlo.ReadAt

@[expose] public section

set_option maxRecDepth 16384

noncomputable section

namespace Cert.Ada

open Cert.AdaIdeal Cert.AdaIdeal.Gen Idealize.ShloMosaic Idealize.ShloMosaic.TcCoe Idealize.ShloMosaic.Pointwise
open Idealize.ShloMosaic.Pipeline (Dat)

theorem index0 : ∀ t : Fin cfg0.N, win0_0.index t = ![0, 0] := by decide +kernel
theorem index1 : ∀ t : Fin cfg0.N, win0_1.index t = ![0, t.val] := by decide +kernel
theorem index2 : ∀ t : Fin cfg0.N, win0_2.index t = ![0, t.val] := by decide +kernel
theorem index3 : ∀ t : Fin cfg0.N, win0_3.index t = ![0, t.val] := by decide +kernel

variable (m : (ℓ : Loc nD τ sig) → Buf (Elt Ideal) ℓ) (c : Dev nD)

/-- The launched arguments. -/
abbrev aC : FVec Ideal S3x2048 .f32 := m ((c : Thread nD τ).loc main_arg0)
abbrev aW : FVec Ideal S2048x12288 .f32 := m ((c : Thread nD τ).loc main_arg1)
abbrev aB : FVec Ideal S12288 .f32 := m ((c : Thread nD τ).loc main_arg2)

theorem V_C (k : Fin 2048) (b : Fin 3) : (V m c main_v0 : Vec Ideal S2048x3 .f32) (ix2 k b) = aC m c (ix2 b k) := by
  unfold V
  after_reads_simp
  pointwise

theorem V_B (n : Fin 12288) : (V m c main_v1 : Vec Ideal S1x12288 .f32) (ix2 0 n) = aB m c (ix1 n) := by
  unfold V
  after_reads_simp
  pointwise

variable (t : Fin cfg0.N)

theorem blk0 (k : Fin 2048) (b : Fin 3) : (iblk m c 0 t : Vec Ideal S2048x3 .f32) (ix2 k b) = aC m c (ix2 b k) := by
  rw [← V_C m c k b]
  blk_simp [iblk]
  refine congrArg (V m c main_v0) (funext fun a => Fin.ext ?_)
  blk_simp
  rw [index0]
  match a with
  | ⟨0, _⟩ => show 0 * 2048 + k.val = k.val; omega
  | ⟨1, _⟩ => show 0 * 3 + b.val = b.val; omega

section Columns
variable (n : Fin 12288) (l : Fin 1024) (hn : n.val = t.val * 1024 + l.val)
include hn

theorem blk1 (k : Fin 2048) : (iblk m c 1 t : Vec Ideal S2048x1024 .f32) (ix2 k l) = aW m c (ix2 k n) := by
  blk_simp [iblk]
  rw [V_main_arg1]
  refine congrArg (aW m c) (funext fun a => Fin.ext ?_)
  blk_simp
  rw [index1]
  match a with
  | ⟨0, _⟩ => show 0 * 2048 + k.val = k.val; omega
  | ⟨1, _⟩ => show t.val * 1024 + l.val = n.val; omega

theorem blk2 : (iblk m c 2 t : Vec Ideal S1x1024 .f32) (ix2 0 l) = aB m c (ix1 n) := by
  rw [← V_B m c n]
  blk_simp [iblk]
  refine congrArg (V m c main_v1) (funext fun a => Fin.ext ?_)
  blk_simp
  rw [index2]
  match a with
  | ⟨0, _⟩ => rfl
  | ⟨1, _⟩ => show t.val * 1024 + l.val = n.val; omega

theorem block_entry (b : Fin 3) :
    out0_3 (F := Ideal) (iblk m c 0 t) (iblk m c 1 t) (iblk m c 2 t) (ix2 b l) = entry (aC m c) (aW m c) (aB m c) b n := by
  rw [out_apply, blk2 m c t n l hn]
  unfold entry
  congr 1
  exact Finset.sum_congr rfl fun k _ => by rw [blk0 m c t k b, blk1 m c t n l hn k]

end Columns

/-- A point's block agrees with the modulation at the place where it is written. -/
theorem at_place (y : S3x1024.Idx) (z : S3x12288.Idx) (hz : ∀ a : Fin 2, (z a).val = (![0, t.val] : Fin 2 → ℕ) a * (![3, 1024] : Fin 2 → ℕ) a + (y a).val) :
    out0_3 (F := Ideal) (iblk m c 0 t) (iblk m c 1 t) (iblk m c 2 t) y = modulation (aC m c) (aW m c) (aB m c) z := by
  have z0 : (z 0).val = 0 * 3 + (y 0).val := hz 0
  have z1 : (z 1).val = t.val * 1024 + (y 1).val := hz 1
  have hy : y = ix2 (y 0 : Fin 3) (y 1 : Fin 1024) := by ext a; fin_cases a <;> rfl
  have hz' : z = ix2 (y 0 : Fin 3) (z 1 : Fin 12288) := by
    funext a
    refine Fin.ext ?_
    match a with
    | ⟨0, _⟩ => show (z 0).val = (y 0).val; omega
    | ⟨1, _⟩ => rfl
  rw [hy, hz']
  exact block_entry m c t _ _ z1 _

/-- **The kernel's result is the modulation.** -/
theorem final : (dats m 0 c).arrAt 3 cfg0.N = modulation (aC m c) (aW m c) (aB m c) := by
  refine (dats m 0 c).arrAt_eq_of_covers 3 (modulation (aC m c) (aW m c) (aB m c)) (by decide +kernel) fun t hf y => ?_
  blk_simp
  rw [after0_3]
  refine at_place m c t y _ fun a => ?_
  blk_simp
  rw [index3]

end Cert.Ada

end
-- ==== Proof.Ada.Ref.lean ====
/- The reference's result, of its arguments. -/
module

public import proofs.«01_k».proof.Proof.Ada.Spec
public import proofs.«01_k».proof.Proof.Gen.AdaReferenceIdeal.Read

@[expose] public section

set_option maxRecDepth 16384

noncomputable section

namespace Cert.Ada

open Cert.AdaReferenceIdeal Cert.AdaReferenceIdeal.Gen Cert.AdaReferenceIdeal.Read
open Idealize.ShloMosaic Idealize.ShloMosaic.TcCoe Idealize.ShloMosaic.Pointwise

variable (C : FVec Ideal S3x2048 .f32) (W : FVec Ideal S2048x12288 .f32) (B : FVec Ideal S12288 .f32)

theorem one_bits : (FloatOps.ofBits (F := Ideal) FTy.f32 1065353216#32 : EReal) = 1 := Ideal.ofBits_one_f32

theorem ref_silu (b : Fin 3) (k : Fin 2048) : val_main_v0 (F := Ideal) C (ix2 b k) = silu (C (ix2 b k)) := by
  simp only [val_main_v0_apply, val_main_call0_v5_apply, val_main_call0_v4_apply, val_main_call0_cst_0_apply, val_main_call0_v3_apply,
    val_main_call0_v2_apply, val_main_call0_cst_apply, val_main_call0_v1_apply, val_main_call0_v0_apply, one_bits]
  rfl

theorem ref_apply : val_main_v4 (F := Ideal) C W B = modulation C W B := by
  funext i
  obtain ⟨b, n, rfl⟩ : ∃ (b : Fin 3) (n : Fin 12288), i = ix2 b n := ⟨i 0, i 1, by ext a; fin_cases a <;> rfl⟩
  have hl : ∀ k, lidx_main_v1 (ix2 b n) k = ix2 b k := fun k => by ext a; fin_cases a <;> rfl
  have hr : ∀ k, ridx_main_v1 (ix2 b n) k = ix2 k n := fun k => by ext a; fin_cases a <;> rfl
  have hb : idx_main_v2 (idx_main_v3 (ix2 b n)) = ix1 n := by ext a; fin_cases a; rfl
  rw [val_main_v4_apply, val_main_v1_apply, val_main_v3_apply, val_main_v2_apply, hb]
  simp only [hl, hr, ref_silu]
  rfl

end Cert.Ada

end
-- ==== Proof.Short.Spec.lean ====
/- The short convolution over the reals, and the kernel's body at an index. -/
module

public import proofs.«01_k».proof.Proof.Gen.ShortIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.Short

open Cert.ShortIdeal Cert.ShortIdeal.Gen Idealize.ShloMosaic Idealize.ShloMosaic.TcCoe Idealize.ShloMosaic.Pointwise

section Arguments
variable (P : FVec Ideal S2x16384x6144 .bf16) (W : FVec Ideal S3x3072 .f32) (B : FVec Ideal S3072 .f32)

/-- A channel of a sequence with a zero before its first token and one after its last. -/
def padded (b : Fin 2) (n : Fin 3072) (q : ℕ) : EReal :=
  if h : 1 ≤ q ∧ q ≤ 16384 then P (ix3 b ⟨q - 1, by omega⟩ ⟨n.val, by omega⟩) else 0

/-- The three taps and the bias. -/
def taps (b : Fin 2) (s : ℕ) (n : Fin 3072) : EReal :=
  W (ix2 0 n) * padded P b n s + W (ix2 1 n) * padded P b n (s + 1) + W (ix2 2 n) * padded P b n (s + 2) + B (ix1 n)

/-- The two results: the product of the third and the second width's channels, and the first width's. -/
def product : FVec Ideal S2x16384x1024 .bf16 := fun i =>
  taps P W B (i 0) (i 1).val ⟨2048 + (i 2 : Fin 1024).val, by have h : (i 2 : Fin 1024).val < 1024 := (i 2).isLt; omega⟩
    * taps P W B (i 0) (i 1).val ⟨1024 + (i 2 : Fin 1024).val, by have h : (i 2 : Fin 1024).val < 1024 := (i 2).isLt; omega⟩
def gate : FVec Ideal S2x16384x1024 .bf16 := fun i =>
  taps P W B (i 0) (i 1).val ⟨(i 2 : Fin 1024).val, by have h : (i 2 : Fin 1024).val < 1024 := (i 2).isLt; omega⟩

end Arguments

section Body
variable (a : BitVec 32) (x : Vec Ideal S1x1024x512 .bf16) (p q : Vec Ideal S1x1x512 .bf16) (w0 w1 w2 : Vec Ideal S1x1x512 .f32) (d : Vec Ideal S1x512 .f32)

/-- A row for each of a block's tokens. -/
def rows (v : FVec Ideal S1x512 .f32) : FVec Ideal S1024x512 .f32 := broadcastTo S1024x512 v broadcasts_S1x512_S1024x512

/-- The block with its row `e` replaced by `v`, after it was moved by `k` rows. -/
def moved (e k : BitVec 32) (v : FVec Ideal S1x512 .f32) : FVec Ideal S1024x512 .f32 :=
  select (broadcastTo S1024x512 (shapeCast S1024x1 (cmpi .eq (iota .tc S1024x1 32 [0] iota_S1024x1_d0_w32) (broadcast S1024x1 e)) shapeCasts_S1024x1_S1024x1) broadcasts_S1024x1_S1024x512)
    (rows (shapeCast S1x512 v shapeCasts_S1x512_S1x512))
    (dynamicRotate 0 k none (k0_pay3 x) rotates_S1024x512_d0)

/-- A halo's row, or zeros. -/
def halo (o : BitVec 1) (p : Vec Ideal S1x1x512 .bf16) : FVec Ideal S1x512 .f32 :=
  Scalar.select o (extf .f32 (shapeCast S1x512 p shapeCasts_S1x1x512_S1x512 : FVec Ideal S1x512 .bf16) bitsLt_bf16_f32) (broadcast S1x512 (Scalar.ofBits .f32 0x00000000#32))

/-- The body's convolution of one width's channels. -/
def conv : FVec Ideal S1024x512 .f32 :=
  addf (addf (addf (mulf (rows (shapeCast S1x512 w0 shapeCasts_S1x1x512_S1x512)) (moved x 0#32 1#32 (halo (Scalar.cmpi .sgt a 0#32) p)))
      (mulf (rows (shapeCast S1x512 w1 shapeCasts_S1x1x512_S1x512)) (k0_pay3 x)))
      (mulf (rows (shapeCast S1x512 w2 shapeCasts_S1x1x512_S1x512)) (moved x 1023#32 1023#32 (halo (Scalar.cmpi .slt a 15#32) q))))
    (rows (shapeCast S1x512 d shapeCasts_S1x512_S1x512))

theorem first_eq (i : grid0.Coords) :
    k0_pay6 (F := Ideal) (k0_pay3 x) (k0_pay4 i x q) (k0_pay5 i x p w0) w1 w2 d = conv (BitVec.ofNat 32 (i 1).val) x p q w0 w1 w2 d := rfl

theorem second_eq :
    k0_pay10 (F := Ideal) (iota .tc S1024x1 32 [0] iota_S1024x1_d0_w32) (k0_pay7 x) (k0_pay8 a q)
        (k0_pay9 a (iota .tc S1024x1 32 [0] iota_S1024x1_d0_w32) x p) 1023#32 w0 w1 w2 d
      = conv a x p q w0 w1 w2 d := rfl

theorem third_eq (u : FVec Ideal S1024x512 .f32) :
    k0_pay13 (F := Ideal) (iota .tc S1024x1 32 [0] iota_S1024x1_d0_w32) u (k0_pay11 x) (k0_pay12 a p) (Scalar.cmpi .slt a 15#32) q w0 w1 w2 d
      = truncf .bf16 (mulf (conv a x p q w0 w1 w2 d) u) bitsLt_bf16_f32 := rfl

theorem moved_apply (e k : ℕ) (he : e < 1024) (hk : k < 1024) (v : FVec Ideal S1x512 .f32) (r : Fin 1024) (l : Fin 512) :
    moved x (BitVec.ofNat 32 e) (BitVec.ofNat 32 k) v (ix2 r l)
      = if r.val = e then v (ix2 0 l) else x (ix3 0 ⟨(r.val + 1024 - k) % 1024, Nat.mod_lt _ (by decide)⟩ l) := by
  pointwise [moved, rows, k0_pay3]
  unfold Scalar.select
  have hk' : (BitVec.ofNat 32 k).toNat % 1024 = k := by rw [BitVec.toNat_ofNat]; omega
  simp only [show (IntOp.cmpi .eq (BitVec.ofNat 32 r.val) (BitVec.ofNat 32 e) = 1) ↔ r.val = e from
    WordCmp.cmpi_eq_ofNat_eq_one_iff (by omega) (by omega), hk']

theorem halo_apply (o : BitVec 1) (l : Fin 512) : halo o p (ix2 0 l) = if o = 1 then p (ix3 0 0 l) else 0 := by
  unfold halo Scalar.select
  by_cases h : o = 1
  · rw [if_pos h, if_pos h]
    pointwise
  · rw [if_neg h, if_neg h]
    pointwise

theorem conv_apply (r : Fin 1024) (l : Fin 512) :
    conv a x p q w0 w1 w2 d (ix2 r l)
      = w0 (ix3 0 0 l) * moved x 0#32 1#32 (halo (Scalar.cmpi .sgt a 0#32) p) (ix2 r l) + w1 (ix3 0 0 l) * x (ix3 0 r l)
        + w2 (ix3 0 0 l) * moved x 1023#32 1023#32 (halo (Scalar.cmpi .slt a 15#32) q) (ix2 r l) + d (ix2 0 l) := by
  unfold conv
  generalize moved x 0#32 1#32 (halo (Scalar.cmpi .sgt a 0#32) p) = y
  generalize moved x 1023#32 1023#32 (halo (Scalar.cmpi .slt a 15#32) q) = z
  pointwise [rows, k0_pay3]

end Body

/-- **The body's convolution is the three taps**, where the blocks it reads hold the channel's tokens. -/
theorem conv_taps (P : FVec Ideal S2x16384x6144 .bf16) (W : FVec Ideal S3x3072 .f32) (B : FVec Ideal S3072 .f32) (i : ℕ) (hi : i < 16)
    (x : Vec Ideal S1x1024x512 .bf16) (p q : Vec Ideal S1x1x512 .bf16) (w0 w1 w2 : Vec Ideal S1x1x512 .f32) (d : Vec Ideal S1x512 .f32)
    (b : Fin 2) (n : Fin 3072) (l : Fin 512)
    (hx : ∀ (r : Fin 1024) (s : Fin 16384), s.val = 1024 * i + r.val → x (ix3 0 r l) = P (ix3 b s ⟨n.val, by omega⟩))
    (hp : ∀ s : Fin 16384, s.val + 1 = 1024 * i → p (ix3 0 0 l) = P (ix3 b s ⟨n.val, by omega⟩))
    (hq : ∀ s : Fin 16384, s.val = 1024 * i + 1024 → q (ix3 0 0 l) = P (ix3 b s ⟨n.val, by omega⟩))
    (hw0 : w0 (ix3 0 0 l) = W (ix2 0 n)) (hw1 : w1 (ix3 0 0 l) = W (ix2 1 n)) (hw2 : w2 (ix3 0 0 l) = W (ix2 2 n)) (hd : d (ix2 0 l) = B (ix1 n))
    (r : Fin 1024) :
    conv (BitVec.ofNat 32 i) x p q w0 w1 w2 d (ix2 r l) = taps P W B b (1024 * i + r.val) n := by
  have hr : r.val < 1024 := r.isLt
  have ha : Scalar.cmpi .sgt (BitVec.ofNat 32 i) 0#32 = 1 ↔ 0 < i := WordCmp.cmpi_sgt_ofNat_eq_one_iff (by omega) (by decide)
  have hz : Scalar.cmpi .slt (BitVec.ofNat 32 i) 15#32 = 1 ↔ i < 15 := WordCmp.cmpi_slt_ofNat_eq_one_iff (by omega) (by decide)
  have h1 : moved x 0#32 1#32 (halo (Scalar.cmpi .sgt (BitVec.ofNat 32 i) 0#32) p) (ix2 r l) = padded P b n (1024 * i + r.val) := by
    refine (moved_apply x 0 1 (by decide) (by decide) _ r l).trans ?_
    rw [halo_apply]
    unfold padded
    by_cases h0 : r.val = 0
    · rw [if_pos h0]
      by_cases h : 0 < i
      · rw [if_pos (ha.mpr h), dif_pos (by omega)]
        exact hp _ (by show 1024 * i + r.val - 1 + 1 = 1024 * i; omega)
      · rw [if_neg (mt ha.mp h), dif_neg (by omega)]
    · rw [if_neg h0, dif_pos (by omega)]
      exact hx _ _ (by show 1024 * i + r.val - 1 = 1024 * i + (r.val + 1024 - 1) % 1024; omega)
  have h2 : moved x 1023#32 1023#32 (halo (Scalar.cmpi .slt (BitVec.ofNat 32 i) 15#32) q) (ix2 r l) = padded P b n (1024 * i + r.val + 2) := by
    refine (moved_apply x 1023 1023 (by decide) (by decide) _ r l).trans ?_
    rw [halo_apply]
    unfold padded
    by_cases h0 : r.val = 1023
    · rw [if_pos h0]
      by_cases h : i < 15
      · rw [if_pos (hz.mpr h), dif_pos (by omega)]
        exact hq _ (by show 1024 * i + r.val + 2 - 1 = 1024 * i + 1024; omega)
      · rw [if_neg (mt hz.mp h), dif_neg (by omega)]
    · rw [if_neg h0, dif_pos (by omega)]
      exact hx _ _ (by show 1024 * i + r.val + 2 - 1 = 1024 * i + (r.val + 1024 - 1023) % 1024; omega)
  have h3 : x (ix3 0 r l) = padded P b n (1024 * i + r.val + 1) := by
    unfold padded
    rw [dif_pos (by omega)]
    exact hx _ _ (by show 1024 * i + r.val + 1 - 1 = 1024 * i + r.val; omega)
  rw [conv_apply, h1, h2, h3, hw0, hw1, hw2, hd]
  rfl

end Cert.Short

end
-- ==== Proof.Short.Final.lean ====
/- The kernel's two result arrays after the launch. -/
module

public import proofs.«01_k».proof.Proof.Short.Spec
public import proofs.«01_k».proof.Proof.Gen.ShortIdeal.Frame
public import Idealize.ShloMosaic.Lib.StableHlo.ReadAt

@[expose] public section

set_option maxRecDepth 16384

noncomputable section

namespace Cert.Short

open Cert.ShortIdeal Cert.ShortIdeal.Gen Idealize.ShloMosaic Idealize.ShloMosaic.TcCoe Idealize.ShloMosaic.Pointwise
open Idealize.ShloMosaic.Pipeline (Dat)

theorem coord : ∀ t : Fin cfg0.N, (grid0.coords t 1).val = t.val / 2 % 16 := by decide +kernel

theorem index0 : ∀ t : Fin cfg0.N, win0_0.index t = ![t.val / 32, t.val / 2 % 16, 2 * (0 : Fin 3).val + t.val % 2] := by decide +kernel
theorem index1 : ∀ t : Fin cfg0.N, win0_1.index t = ![t.val / 32, t.val / 2 % 16 * 64 - 1, 2 * (0 : Fin 3).val + t.val % 2] := by decide +kernel
theorem index2 : ∀ t : Fin cfg0.N, win0_2.index t = ![t.val / 32, min (t.val / 2 % 16 * 64 + 64) 1023, 2 * (0 : Fin 3).val + t.val % 2] := by decide +kernel
theorem index3 : ∀ t : Fin cfg0.N, win0_3.index t = ![t.val / 32, t.val / 2 % 16, 2 * (1 : Fin 3).val + t.val % 2] := by decide +kernel
theorem index4 : ∀ t : Fin cfg0.N, win0_4.index t = ![t.val / 32, t.val / 2 % 16 * 64 - 1, 2 * (1 : Fin 3).val + t.val % 2] := by decide +kernel
theorem index5 : ∀ t : Fin cfg0.N, win0_5.index t = ![t.val / 32, min (t.val / 2 % 16 * 64 + 64) 1023, 2 * (1 : Fin 3).val + t.val % 2] := by decide +kernel
theorem index6 : ∀ t : Fin cfg0.N, win0_6.index t = ![t.val / 32, t.val / 2 % 16, 2 * (2 : Fin 3).val + t.val % 2] := by decide +kernel
theorem index7 : ∀ t : Fin cfg0.N, win0_7.index t = ![t.val / 32, t.val / 2 % 16 * 64 - 1, 2 * (2 : Fin 3).val + t.val % 2] := by decide +kernel
theorem index8 : ∀ t : Fin cfg0.N, win0_8.index t = ![t.val / 32, min (t.val / 2 % 16 * 64 + 64) 1023, 2 * (2 : Fin 3).val + t.val % 2] := by decide +kernel
theorem index9 : ∀ t : Fin cfg0.N, win0_9.index t = ![0, 0, t.val % 2] := by decide +kernel
theorem index10 : ∀ t : Fin cfg0.N, win0_10.index t = ![0, t.val % 2] := by decide +kernel
theorem index11 : ∀ t : Fin cfg0.N, win0_11.index t = ![t.val / 32, t.val / 2 % 16, t.val % 2] := by decide +kernel
theorem index12 : ∀ t : Fin cfg0.N, win0_12.index t = ![t.val / 32, t.val / 2 % 16, t.val % 2] := by decide +kernel

section Pieces
variable (i : grid0.Coords) (x0 : Vec Ideal S1x1024x512 .bf16) (x1 x2 : Vec Ideal S1x16x512 .bf16) (x3 : Vec Ideal S1x1024x512 .bf16) (x4 x5 : Vec Ideal S1x16x512 .bf16)
  (x6 : Vec Ideal S1x1024x512 .bf16) (x7 x8 : Vec Ideal S1x16x512 .bf16) (x9 : Vec Ideal S3x3x512 .f32) (x10 : Vec Ideal S3x512 .f32)

theorem out11 : out0_11 i x0 x1 x2 x3 x4 x5 x6 x7 x8 x9 x10
    = k0_pay1 (truncf .bf16 (mulf (conv (BitVec.ofNat 32 (i 1).val) x6 (View.ld x7 r0_1) (View.ld x8 r0_2) (View.ld x9 r0_11) (View.ld x9 r0_12) (View.ld x9 r0_13) (View.ld x10 r0_14))
        (conv (BitVec.ofNat 32 (i 1).val) x3 (View.ld x4 r0_1) (View.ld x5 r0_2) (View.ld x9 r0_7) (View.ld x9 r0_8) (View.ld x9 r0_9) (View.ld x10 r0_10))) bitsLt_bf16_f32) := by
  have h3 : View.ld x3 r0_0 = x3 := by simp (disch := decide) only [View.ld_unit_lit']
  have h6 : View.ld x6 r0_0 = x6 := by simp (disch := decide) only [View.ld_unit_lit']
  unfold_out out0_11
  rw [h3, h6, second_eq, third_eq]
  simp (disch := decide) only [View.canon_cons_unit_lit']

theorem out12 : out0_12 i x0 x1 x2 x3 x4 x5 x6 x7 x8 x9 x10
    = k0_pay2 (conv (BitVec.ofNat 32 (i 1).val) x0 (View.ld x1 r0_1) (View.ld x2 r0_2) (View.ld x9 r0_3) (View.ld x9 r0_4) (View.ld x9 r0_5) (View.ld x10 r0_6)) := by
  have h0 : View.ld x0 r0_0 = x0 := by simp (disch := decide) only [View.ld_unit_lit']
  unfold_out out0_12
  rw [h0, first_eq]
  simp (disch := decide) only [View.canon_cons_unit_lit']

theorem pay1_apply (u v : FVec Ideal S1024x512 .f32) (r : Fin 1024) (l : Fin 512) :
    k0_pay1 (F := Ideal) (truncf .bf16 (mulf u v) bitsLt_bf16_f32) (ix3 0 r l) = u (ix2 r l) * v (ix2 r l) := by
  pointwise [k0_pay1]

theorem pay2_apply (u : FVec Ideal S1024x512 .f32) (r : Fin 1024) (l : Fin 512) : k0_pay2 (F := Ideal) u (ix3 0 r l) = u (ix2 r l) := by
  pointwise [k0_pay2]

end Pieces

variable (m : (ℓ : Loc nD τ sig) → Buf (Elt Ideal) ℓ) (c : Dev nD)

/-- The launched arguments. -/
abbrev aP : FVec Ideal S2x16384x6144 .bf16 := m ((c : Thread nD τ).loc main_arg0)
abbrev aW : FVec Ideal S3x3072 .f32 := m ((c : Thread nD τ).loc main_arg1)
abbrev aB : FVec Ideal S3072 .f32 := m ((c : Thread nD τ).loc main_arg2)

theorem V_W (k g : Fin 3) (n : Fin 1024) : (V m c main_v0 : Vec Ideal S3x3x1024 .f32) (ix3 k g n) = aW m c (ix2 k ⟨g.val * 1024 + n.val, by omega⟩) := by
  unfold V
  after_reads_simp
  pointwise

theorem V_B (g : Fin 3) (n : Fin 1024) : (V m c main_v1 : Vec Ideal S3x1024 .f32) (ix2 g n) = aB m c (ix1 ⟨g.val * 1024 + n.val, by omega⟩) := by
  unfold V
  after_reads_simp
  pointwise

variable (t : Fin cfg0.N)

/-- A block's entry is the array's at the place that lies as far into the block: of the tokens of a point, and of the two
    halos. -/
abbrev Tokens (g : Fin 3) (x : Vec Ideal S1x1024x512 .bf16) : Prop := ∀ (y : S1x1024x512.Idx) (z : S2x16384x6144.Idx),
  (∀ a : Fin 3, (z a).val = (![t.val / 32, t.val / 2 % 16, 2 * g.val + t.val % 2] : Fin 3 → ℕ) a * (![1, 1024, 512] : Fin 3 → ℕ) a + (y a).val) → x y = aP m c z
abbrev Before (g : Fin 3) (x : Vec Ideal S1x16x512 .bf16) : Prop := ∀ (y : S1x16x512.Idx) (z : S2x16384x6144.Idx),
  (∀ a : Fin 3, (z a).val = (![t.val / 32, t.val / 2 % 16 * 64 - 1, 2 * g.val + t.val % 2] : Fin 3 → ℕ) a * (![1, 16, 512] : Fin 3 → ℕ) a + (y a).val) → x y = aP m c z
abbrev After (g : Fin 3) (x : Vec Ideal S1x16x512 .bf16) : Prop := ∀ (y : S1x16x512.Idx) (z : S2x16384x6144.Idx),
  (∀ a : Fin 3, (z a).val = (![t.val / 32, min (t.val / 2 % 16 * 64 + 64) 1023, 2 * g.val + t.val % 2] : Fin 3 → ℕ) a * (![1, 16, 512] : Fin 3 → ℕ) a + (y a).val) → x y = aP m c z

theorem blk0 : Tokens m c t 0 (iblk m c 0 t) := fun y z hz => by
  blk_simp [iblk]
  rw [V_main_arg0]
  refine congrArg (aP m c) (funext fun a => Fin.ext ?_)
  blk_simp
  rw [index0]
  exact (hz a).symm

theorem blk1 : Before m c t 0 (iblk m c 1 t) := fun y z hz => by
  blk_simp [iblk]
  rw [V_main_arg0]
  refine congrArg (aP m c) (funext fun a => Fin.ext ?_)
  blk_simp
  rw [index1]
  exact (hz a).symm

theorem blk2 : After m c t 0 (iblk m c 2 t) := fun y z hz => by
  blk_simp [iblk]
  rw [V_main_arg0]
  refine congrArg (aP m c) (funext fun a => Fin.ext ?_)
  blk_simp
  rw [index2]
  exact (hz a).symm

theorem blk3 : Tokens m c t 1 (iblk m c 3 t) := fun y z hz => by
  blk_simp [iblk]
  rw [V_main_arg0]
  refine congrArg (aP m c) (funext fun a => Fin.ext ?_)
  blk_simp
  rw [index3]
  exact (hz a).symm

theorem blk4 : Before m c t 1 (iblk m c 4 t) := fun y z hz => by
  blk_simp [iblk]
  rw [V_main_arg0]
  refine congrArg (aP m c) (funext fun a => Fin.ext ?_)
  blk_simp
  rw [index4]
  exact (hz a).symm

theorem blk5 : After m c t 1 (iblk m c 5 t) := fun y z hz => by
  blk_simp [iblk]
  rw [V_main_arg0]
  refine congrArg (aP m c) (funext fun a => Fin.ext ?_)
  blk_simp
  rw [index5]
  exact (hz a).symm

theorem blk6 : Tokens m c t 2 (iblk m c 6 t) := fun y z hz => by
  blk_simp [iblk]
  rw [V_main_arg0]
  refine congrArg (aP m c) (funext fun a => Fin.ext ?_)
  blk_simp
  rw [index6]
  exact (hz a).symm

theorem blk7 : Before m c t 2 (iblk m c 7 t) := fun y z hz => by
  blk_simp [iblk]
  rw [V_main_arg0]
  refine congrArg (aP m c) (funext fun a => Fin.ext ?_)
  blk_simp
  rw [index7]
  exact (hz a).symm

theorem blk8 : After m c t 2 (iblk m c 8 t) := fun y z hz => by
  blk_simp [iblk]
  rw [V_main_arg0]
  refine congrArg (aP m c) (funext fun a => Fin.ext ?_)
  blk_simp
  rw [index8]
  exact (hz a).symm

theorem blk9 (k g : Fin 3) (l : Fin 512) (n : Fin 3072) (hn : n.val = g.val * 1024 + (t.val % 2 * 512 + l.val)) :
    (iblk m c 9 t : Vec Ideal S3x3x512 .f32) (ix3 k g l) = aW m c (ix2 k n) := by
  have e : n = ⟨g.val * 1024 + (⟨t.val % 2 * 512 + l.val, by omega⟩ : Fin 1024).val, by omega⟩ := Fin.ext hn
  rw [e, ← V_W m c k g ⟨t.val % 2 * 512 + l.val, by omega⟩]
  blk_simp [iblk]
  refine congrArg (V m c main_v0) (funext fun a => Fin.ext ?_)
  blk_simp
  rw [index9]
  match a with
  | ⟨0, _⟩ => show 0 * 3 + k.val = k.val; omega
  | ⟨1, _⟩ => show 0 * 3 + g.val = g.val; omega
  | ⟨2, _⟩ => rfl

theorem blk10 (g : Fin 3) (l : Fin 512) (n : Fin 3072) (hn : n.val = g.val * 1024 + (t.val % 2 * 512 + l.val)) :
    (iblk m c 10 t : Vec Ideal S3x512 .f32) (ix2 g l) = aB m c (ix1 n) := by
  have e : n = ⟨g.val * 1024 + (⟨t.val % 2 * 512 + l.val, by omega⟩ : Fin 1024).val, by omega⟩ := Fin.ext hn
  rw [e, ← V_B m c g ⟨t.val % 2 * 512 + l.val, by omega⟩]
  blk_simp [iblk]
  refine congrArg (V m c main_v1) (funext fun a => Fin.ext ?_)
  blk_simp
  rw [index10]
  match a with
  | ⟨0, _⟩ => show 0 * 3 + g.val = g.val; omega
  | ⟨1, _⟩ => rfl

/-- The convolution of one width's channels at a point, read at an entry. -/
theorem width_taps (g : Fin 3) (x : Vec Ideal S1x1024x512 .bf16) (p q : Vec Ideal S1x16x512 .bf16) (w0 w1 w2 : Vec Ideal S1x1x512 .f32) (d : Vec Ideal S1x512 .f32)
    (hx : Tokens m c t g x) (hp : Before m c t g p) (hq : After m c t g q)
    (b : Fin 2) (hb : b.val = t.val / 32) (r : Fin 1024) (l : Fin 512) (n : Fin 3072) (hn : n.val = g.val * 1024 + (t.val % 2 * 512 + l.val))
    (hw0 : w0 (ix3 0 0 l) = (iblk m c 9 t : Vec Ideal S3x3x512 .f32) (ix3 0 g l)) (hw1 : w1 (ix3 0 0 l) = (iblk m c 9 t : Vec Ideal S3x3x512 .f32) (ix3 1 g l))
    (hw2 : w2 (ix3 0 0 l) = (iblk m c 9 t : Vec Ideal S3x3x512 .f32) (ix3 2 g l)) (hd : d (ix2 0 l) = (iblk m c 10 t : Vec Ideal S3x512 .f32) (ix2 g l)) :
    conv (BitVec.ofNat 32 (grid0.coords t 1).val) x (View.ld p r0_1) (View.ld q r0_2) w0 w1 w2 d (ix2 r l)
      = taps (aP m c) (aW m c) (aB m c) b (1024 * (t.val / 2 % 16) + r.val) n := by
  rw [coord]
  refine conv_taps _ _ _ _ (Nat.mod_lt _ (by decide)) _ _ _ _ _ _ _ b n l (fun r s hs => ?_) (fun s hs => ?_) (fun s hs => ?_)
    (hw0.trans (blk9 m c t 0 g l n hn)) (hw1.trans (blk9 m c t 1 g l n hn)) (hw2.trans (blk9 m c t 2 g l n hn)) (hd.trans (blk10 m c t g l n hn)) r
  · refine hx _ _ fun a => ?_
    match a with
    | ⟨0, _⟩ => show b.val = t.val / 32 * 1 + 0; omega
    | ⟨1, _⟩ => show s.val = t.val / 2 % 16 * 1024 + r.val; omega
    | ⟨2, _⟩ => show n.val = (2 * g.val + t.val % 2) * 512 + l.val; omega
  · refine hp _ _ fun a => ?_
    match a with
    | ⟨0, _⟩ => show b.val = t.val / 32 * 1 + (0 + 1 * 0); omega
    | ⟨1, _⟩ => show s.val = (t.val / 2 % 16 * 64 - 1) * 16 + (15 + 1 * 0); omega
    | ⟨2, _⟩ => show n.val = (2 * g.val + t.val % 2) * 512 + (0 + 1 * l.val); omega
  · refine hq _ _ fun a => ?_
    match a with
    | ⟨0, _⟩ => show b.val = t.val / 32 * 1 + (0 + 1 * 0); omega
    | ⟨1, _⟩ => show s.val = min (t.val / 2 % 16 * 64 + 64) 1023 * 16 + (0 + 1 * 0); omega
    | ⟨2, _⟩ => show n.val = (2 * g.val + t.val % 2) * 512 + (0 + 1 * l.val); omega

/-- A stretch of a block's weights, and of its biases, read at a channel. -/
theorem tap_apply (y : Vec Ideal S3x3x512 .f32) (k g : Fin 3) (h : ∀ a : Fin 3, (![k.val, g.val, 0] : Fin 3 → ℕ) a + S1x1x512.size a ≤ S3x3x512.size a) (l : Fin 512) :
    View.ld y (Rect.unit (s := S3x3x512) ![k.val, g.val, 0] S1x1x512.size h) (ix3 0 0 l) = y (ix3 k g l) := by
  refine congrArg y (funext fun a => Fin.ext ?_)
  match a with
  | ⟨0, _⟩ => show k.val + 1 * 0 = k.val; omega
  | ⟨1, _⟩ => show g.val + 1 * 0 = g.val; omega
  | ⟨2, _⟩ => show 0 + 1 * l.val = l.val; omega

theorem bias_apply (y : Vec Ideal S3x512 .f32) (g : Fin 3) (h : ∀ a : Fin 2, (![g.val, 0] : Fin 2 → ℕ) a + S1x512.size a ≤ S3x512.size a) (l : Fin 512) :
    View.ld y (Rect.unit (s := S3x512) ![g.val, 0] S1x512.size h) (ix2 0 l) = y (ix2 g l) := by
  refine congrArg y (funext fun a => Fin.ext ?_)
  match a with
  | ⟨0, _⟩ => show g.val + 1 * 0 = g.val; omega
  | ⟨1, _⟩ => show 0 + 1 * l.val = l.val; omega

/-- The convolutions that the kernel computes at a point, of each width's channels. -/
theorem first_at (b : Fin 2) (s : Fin 16384) (n : Fin 3072) (r : Fin 1024) (l : Fin 512) (hb : b.val = t.val / 32)
    (hs : s.val = 1024 * (t.val / 2 % 16) + r.val) (hn : n.val = 0 * 1024 + (t.val % 2 * 512 + l.val)) :
    conv (BitVec.ofNat 32 (grid0.coords t 1).val) (iblk m c 0 t) (View.ld (iblk m c 1 t) r0_1) (View.ld (iblk m c 2 t) r0_2)
        (View.ld (iblk m c 9 t) r0_3) (View.ld (iblk m c 9 t) r0_4) (View.ld (iblk m c 9 t) r0_5) (View.ld (iblk m c 10 t) r0_6) (ix2 r l)
      = taps (aP m c) (aW m c) (aB m c) b s n := by
  rw [hs]
  exact width_taps m c t 0 _ _ _ _ _ _ _ (blk0 m c t) (blk1 m c t) (blk2 m c t) b hb r l n hn
    (tap_apply _ 0 0 _ l) (tap_apply _ 1 0 _ l) (tap_apply _ 2 0 _ l) (bias_apply _ 0 _ l)

theorem second_at (b : Fin 2) (s : Fin 16384) (n : Fin 3072) (r : Fin 1024) (l : Fin 512) (hb : b.val = t.val / 32)
    (hs : s.val = 1024 * (t.val / 2 % 16) + r.val) (hn : n.val = 1 * 1024 + (t.val % 2 * 512 + l.val)) :
    conv (BitVec.ofNat 32 (grid0.coords t 1).val) (iblk m c 3 t) (View.ld (iblk m c 4 t) r0_1) (View.ld (iblk m c 5 t) r0_2)
        (View.ld (iblk m c 9 t) r0_7) (View.ld (iblk m c 9 t) r0_8) (View.ld (iblk m c 9 t) r0_9) (View.ld (iblk m c 10 t) r0_10) (ix2 r l)
      = taps (aP m c) (aW m c) (aB m c) b s n := by
  rw [hs]
  exact width_taps m c t 1 _ _ _ _ _ _ _ (blk3 m c t) (blk4 m c t) (blk5 m c t) b hb r l n hn
    (tap_apply _ 0 1 _ l) (tap_apply _ 1 1 _ l) (tap_apply _ 2 1 _ l) (bias_apply _ 1 _ l)

theorem third_at (b : Fin 2) (s : Fin 16384) (n : Fin 3072) (r : Fin 1024) (l : Fin 512) (hb : b.val = t.val / 32)
    (hs : s.val = 1024 * (t.val / 2 % 16) + r.val) (hn : n.val = 2 * 1024 + (t.val % 2 * 512 + l.val)) :
    conv (BitVec.ofNat 32 (grid0.coords t 1).val) (iblk m c 6 t) (View.ld (iblk m c 7 t) r0_1) (View.ld (iblk m c 8 t) r0_2)
        (View.ld (iblk m c 9 t) r0_11) (View.ld (iblk m c 9 t) r0_12) (View.ld (iblk m c 9 t) r0_13) (View.ld (iblk m c 10 t) r0_14) (ix2 r l)
      = taps (aP m c) (aW m c) (aB m c) b s n := by
  rw [hs]
  exact width_taps m c t 2 _ _ _ _ _ _ _ (blk6 m c t) (blk7 m c t) (blk8 m c t) b hb r l n hn
    (tap_apply _ 0 2 _ l) (tap_apply _ 1 2 _ l) (tap_apply _ 2 2 _ l) (bias_apply _ 2 _ l)

/-- Where a point's block agrees with an array at each row of the block's tokens, it agrees at each entry. -/
theorem at_place (f : S1x1024x512.Idx → EReal) (T : S2x16384x1024.Idx → EReal)
    (h : ∀ (b : Fin 2) (s : Fin 16384) (n : Fin 1024) (r : Fin 1024) (l : Fin 512), b.val = t.val / 32 → s.val = 1024 * (t.val / 2 % 16) + r.val →
      n.val = t.val % 2 * 512 + l.val → f (ix3 0 r l) = T (ix3 b s n))
    (y : S1x1024x512.Idx) (z : S2x16384x1024.Idx)
    (hz : ∀ a : Fin 3, (z a).val = (![t.val / 32, t.val / 2 % 16, t.val % 2] : Fin 3 → ℕ) a * (![1, 1024, 512] : Fin 3 → ℕ) a + (y a).val) : f y = T z := by
  have y0 : (y 0).val < 1 := (y 0).isLt
  have z0 : (z 0).val = t.val / 32 * 1 + (y 0).val := hz 0
  have z1 : (z 1).val = t.val / 2 % 16 * 1024 + (y 1).val := hz 1
  have z2 : (z 2).val = t.val % 2 * 512 + (y 2).val := hz 2
  have hy : y = ix3 0 (y 1 : Fin 1024) (y 2 : Fin 512) := by
    funext a
    refine Fin.ext ?_
    match a with
    | ⟨0, _⟩ => show (y 0).val = 0; omega
    | ⟨1, _⟩ => rfl
    | ⟨2, _⟩ => rfl
  have hz' : z = ix3 (z 0 : Fin 2) (z 1 : Fin 16384) (z 2 : Fin 1024) := by ext a; fin_cases a <;> rfl
  rw [hy, hz']
  exact h _ _ _ _ _ (by omega) (by omega) z2

/-- **The kernel's first result is the product of the third and the second width's channels.** -/
theorem product_final : (dats m 0 c).arrAt 11 cfg0.N = product (aP m c) (aW m c) (aB m c) := by
  refine (dats m 0 c).arrAt_eq_of_covers 11 (product (aP m c) (aW m c) (aB m c)) (by decide +kernel) fun t hf y => ?_
  blk_simp
  rw [after0_11, out11]
  refine at_place t _ _ (fun b s n r l hb hs hn => ?_) y _ fun a => ?_
  · exact (pay1_apply _ _ r l).trans (congrArg₂ (· * ·)
      (third_at m c t b s ⟨2048 + n.val, by omega⟩ r l hb hs (by show 2048 + n.val = 2 * 1024 + (t.val % 2 * 512 + l.val); omega))
      (second_at m c t b s ⟨1024 + n.val, by omega⟩ r l hb hs (by show 1024 + n.val = 1 * 1024 + (t.val % 2 * 512 + l.val); omega)))
  · blk_simp
    rw [index11]

theorem gate_apply (P : FVec Ideal S2x16384x6144 .bf16) (W : FVec Ideal S3x3072 .f32) (B : FVec Ideal S3072 .f32) (b : Fin 2) (s : Fin 16384) (n : Fin 1024)
    (h : n.val < 3072) : gate P W B (ix3 b s n) = taps P W B b s.val ⟨n.val, h⟩ := rfl

/-- **The kernel's second result is the first width's channels.** -/
theorem gate_final : (dats m 0 c).arrAt 12 cfg0.N = gate (aP m c) (aW m c) (aB m c) := by
  refine (dats m 0 c).arrAt_eq_of_covers 12 (gate (aP m c) (aW m c) (aB m c)) (by decide +kernel) fun t hf y => ?_
  blk_simp
  rw [after0_12, out12]
  refine at_place t _ _ (fun b s n r l hb hs hn => ?_) y _ fun a => ?_
  · have e := first_at m c t b s ⟨n.val, lt_trans n.isLt (by decide)⟩ r l hb hs (hn.trans (Nat.zero_add _).symm)
    exact (pay2_apply _ r l).trans (e.trans (gate_apply _ _ _ b s n _).symm)
  · blk_simp
    rw [index12]

end Cert.Short

end
-- ==== Proof.Short.Ref.lean ====
/- The reference's two results, of its arguments. -/
module

public import proofs.«01_k».proof.Proof.Short.Spec
public import proofs.«01_k».proof.Proof.Gen.ShortReferenceIdeal.Read
public import Idealize.ShloMosaic.Lib.KernelVsHost

@[expose] public section

set_option maxRecDepth 16384

noncomputable section

namespace Cert.Short

open Cert.ShortReferenceIdeal Cert.ShortReferenceIdeal.Gen Cert.ShortReferenceIdeal.Read
open Idealize.ShloMosaic Idealize.ShloMosaic.TcCoe Idealize.ShloMosaic.Pointwise

variable (P : FVec Ideal S2x16384x6144 .bf16) (W : FVec Ideal S3x3072 .f32) (B : FVec Ideal S3072 .f32)

/-- The reference's padded array. -/
theorem ref_padded (b : Fin 2) (q : Fin 16386) (n : Fin 3072) : val_main_v2 (F := Ideal) P (ix3 b q n) = padded P b n q.val := by
  have hq : q.val < 16386 := q.isLt
  unfold padded
  by_cases h : 1 ≤ q.val ∧ q.val ≤ 16384
  · rw [dif_pos h]
    unfold val_main_v2
    rw [pad_apply_of_inside _ _ _ _ _ _ _ _ (ix3 b ⟨q.val - 1, by omega⟩ n) (fun a => by
      match a with
      | ⟨0, _⟩ => show b.val = 0 + b.val * 1; omega
      | ⟨1, _⟩ => show q.val = 1 + (q.val - 1) * 1; omega
      | ⟨2, _⟩ => show n.val = 0 + n.val * 1; omega)]
    have e : idx_main_v0 (ix3 b ⟨q.val - 1, by omega⟩ n) = ix3 b ⟨q.val - 1, by omega⟩ ⟨n.val, by omega⟩ := by ext a; fin_cases a <;> rfl
    rw [val_main_v1_apply, val_main_v0_apply, e]
    rfl
  · rw [dif_neg h]
    unfold val_main_v2
    rw [pad_apply_of_not_inside _ _ _ _ _ _ _ _ (1 : Fin 3) (by
      show ¬(1 ≤ q.val ∧ (q.val - 1) % 1 = 0 ∧ (q.val - 1) / 1 < 16384)
      omega)]
    rw [val_main_call0_v0_apply, val_main_c_apply]
    show (((0#32 : BitVec 32).toInt : ℝ) : EReal) = 0
    simp

/-- The reference's convolution. -/
theorem ref_taps (b : Fin 2) (s : Fin 16384) (n : Fin 3072) : val_main_v25 (F := Ideal) P W B (ix3 b s n) = taps P W B b s.val n := by
  have hn : n.val % 3072 = n.val := Nat.mod_eq_of_lt n.isLt
  have h0 : idx_main_v5 (ix3 b s n) = ix3 b ⟨s.val, by omega⟩ n := by ext a; fin_cases a <;> rfl
  have h1 : idx_main_v11 (ix3 b s n) = ix3 b ⟨s.val + 1, by omega⟩ n := by
    ext a; fin_cases a <;> first | rfl | (show 1 + s.val = s.val + 1; omega)
  have h2 : idx_main_v18 (ix3 b s n) = ix3 b ⟨s.val + 2, by omega⟩ n := by
    ext a; fin_cases a <;> first | rfl | (show 2 + s.val = s.val + 2; omega)
  have w0 : idx_main_v3 (idx_main_v4 (idx_main_v6 (idx_main_v7 (ix3 b s n)))) = ix2 0 n := by
    ext a; fin_cases a <;> first | rfl | exact hn
  have w1 : idx_main_v9 (idx_main_v10 (idx_main_v12 (idx_main_v13 (ix3 b s n)))) = ix2 1 n := by
    ext a; fin_cases a <;> first | rfl | exact hn
  have w2 : idx_main_v16 (idx_main_v17 (idx_main_v19 (idx_main_v20 (ix3 b s n)))) = ix2 2 n := by
    ext a; fin_cases a <;> first | rfl | exact hn
  have d : idx_main_v23 (idx_main_v24 (ix3 b s n)) = ix1 n := by ext a; fin_cases a; rfl
  simp only [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, val_main_v12_apply,
    val_main_v11_apply, val_main_v10_apply, val_main_v9_apply, val_main_v8_apply, val_main_v7_apply, val_main_v6_apply, val_main_v5_apply,
    val_main_v4_apply, val_main_v3_apply, h0, h1, h2, w0, w1, w2, d, ref_padded]
  rfl

theorem ref_product : val_main_v30 (F := Ideal) P W B = product P W B := by
  funext i
  obtain ⟨b, s, n, rfl⟩ : ∃ (b : Fin 2) (s : Fin 16384) (n : Fin 1024), i = ix3 b s n := ⟨i 0, i 1, i 2, by ext a; fin_cases a <;> rfl⟩
  have h1 : idx_main_v28 (ix3 b s n) = ix3 b s ⟨2048 + n.val, by omega⟩ := by ext a; fin_cases a <;> rfl
  have h2 : idx_main_v27 (ix3 b s n) = ix3 b s ⟨1024 + n.val, by omega⟩ := by ext a; fin_cases a <;> rfl
  rw [val_main_v30_apply, val_main_v29_apply, val_main_v28_apply, val_main_v27_apply, h1, h2, ref_taps, ref_taps]
  rfl

theorem ref_gate : val_main_v31 (F := Ideal) P W B = gate P W B := by
  funext i
  obtain ⟨b, s, n, rfl⟩ : ∃ (b : Fin 2) (s : Fin 16384) (n : Fin 1024), i = ix3 b s n := ⟨i 0, i 1, i 2, by ext a; fin_cases a <;> rfl⟩
  have h1 : idx_main_v26 (ix3 b s n) = ix3 b s ⟨n.val, by omega⟩ := by ext a; fin_cases a <;> rfl
  rw [val_main_v31_apply, val_main_v26_apply, h1, ref_taps]
  rfl

end Cert.Short

end
-- ==== Proof.Gate.Spec.lean ====
/- The skip connection and the gate after the long convolution over the reals, the convolution's last stage a product with a
   table, and the kernel's body at an index. -/
module

public import proofs.«01_k».proof.Proof.Gen.GateIdeal.Frame
public import Idealize.ShloMosaic.Lib.Pipeline.ValueKit
public import Idealize.ShloMosaic.Lib.Pointwise

@[expose] public section

set_option maxRecDepth 16384

noncomputable section

namespace Cert.Gate

open Cert.GateIdeal Cert.GateIdeal.Gen Idealize.ShloMosaic Idealize.ShloMosaic.TcCoe Idealize.ShloMosaic.Pointwise

/-- The place in the transformed array of component `s` of 512: its real or imaginary part, and its number among 256. -/
abbrev part (s : Fin 512) : Fin 2 := ⟨s.val / 256, by omega⟩
abbrev freq (s : Fin 512) : Fin 256 := ⟨s.val % 256, by omega⟩

/-- The token and the channel of column `n` of a row that holds 128 tokens. -/
abbrev step (n : Fin 131072) : Fin 128 := ⟨n.val / 1024, by omega⟩
abbrev chan (n : Fin 131072) : Fin 1024 := ⟨n.val % 1024, by omega⟩
abbrev token (i : Fin 128) (n : Fin 131072) : Fin 16384 := ⟨128 * i.val + n.val / 1024, by omega⟩

section Arguments
variable (Z : FVec Ideal S2x2x256x128x1024 .bf16) (T : FVec Ideal S128x512 .bf16) (V X : FVec Ideal S2x16384x1024 .bf16) (S : FVec Ideal S1024 .f32)

/-- The long convolution's result with the skip connection added, times the gate. -/
def entry (b : Fin 2) (i : Fin 128) (n : Fin 131072) : EReal :=
  ((∑ s : Fin 512, T (ix2 i s) * Z (ix5 b (part s) (freq s) (step n) (chan n))) + S (ix1 (chan n)) * V (ix3 b (token i n) (chan n)))
    * X (ix3 b (token i n) (chan n))

def gated : FVec Ideal S2x128x131072 .bf16 := fun j => entry Z T V X S (j 0) (j 1) (j 2)

end Arguments

variable (x0 : Vec Ideal S1x512x4096 .bf16) (x1 : Vec Ideal S128x512 .bf16) (x2 x3 : Vec Ideal S1x128x4096 .bf16) (x4 : Vec Ideal S1x4096 .f32)

/-- What the body leaves in a block. -/
theorem out_apply (i : Fin 128) (l : Fin 4096) :
    out0_5 (F := Ideal) x0 x1 x2 x3 x4 (ix3 0 i l)
      = ((∑ s : Fin 512, x1 (ix2 i s) * x0 (ix3 0 s l)) + x4 (ix2 0 l) * x2 (ix3 0 i l)) * x3 (ix3 0 i l) := by
  have e : out0_5 (F := Ideal) x0 x1 x2 x3 x4 = k0_pay1 x1 x0 x2 x4 x3 := by
    unfold out0_5
    simp (disch := decide) only [View.ld_unit_lit', View.canon_cons_unit_lit']
  rw [e]
  pointwise [k0_pay1]

end Cert.Gate

end
-- ==== Proof.Gate.Final.lean ====
/- The kernel's result array after the launch. -/
module

public import proofs.«01_k».proof.Proof.Gate.Spec
public import Idealize.ShloMosaic.Lib.StableHlo.ReadAt

@[expose] public section

set_option maxRecDepth 16384

noncomputable section

namespace Cert.Gate

open Cert.GateIdeal Cert.GateIdeal.Gen Idealize.ShloMosaic Idealize.ShloMosaic.TcCoe Idealize.ShloMosaic.Pointwise
open Idealize.ShloMosaic.Pipeline (Dat)

theorem index0 : ∀ t : Fin cfg0.N, win0_0.index t = ![t.val / 32, 0, t.val % 32] := by decide +kernel
theorem index1 : ∀ t : Fin cfg0.N, win0_1.index t = ![0, 0] := by decide +kernel
theorem index2 : ∀ t : Fin cfg0.N, win0_2.index t = ![t.val / 32, 0, t.val % 32] := by decide +kernel
theorem index3 : ∀ t : Fin cfg0.N, win0_3.index t = ![t.val / 32, 0, t.val % 32] := by decide +kernel
theorem index4 : ∀ t : Fin cfg0.N, win0_4.index t = ![0, 0] := by decide +kernel
theorem index5 : ∀ t : Fin cfg0.N, win0_5.index t = ![t.val / 32, 0, t.val % 32] := by decide +kernel

variable (m : (ℓ : Loc nD τ sig) → Buf (Elt Ideal) ℓ) (c : Dev nD)

/-- The launched arguments. -/
abbrev aZ : FVec Ideal S2x2x256x128x1024 .bf16 := m ((c : Thread nD τ).loc main_arg0)
abbrev aT : FVec Ideal S128x512 .bf16 := m ((c : Thread nD τ).loc main_arg1)
abbrev aV : FVec Ideal S2x16384x1024 .bf16 := m ((c : Thread nD τ).loc main_arg2)
abbrev aX : FVec Ideal S2x16384x1024 .bf16 := m ((c : Thread nD τ).loc main_arg3)
abbrev aS : FVec Ideal S1024 .f32 := m ((c : Thread nD τ).loc main_arg4)

/-- An array of tokens as rows of 128 tokens each. -/
theorem rows_apply (x : FVec Ideal S2x16384x1024 .bf16) (h : S2x16384x1024.ShapeCasts S2x128x131072) (b : Fin 2) (i : Fin 128) (n : Fin 131072) :
    shapeCast S2x128x131072 x h (ix3 b i n) = x (ix3 b (token i n) (chan n)) := by
  refine shapeCast_apply x h _ _ ?_
  rw [Shape.rowMajor_val_three, Shape.rowMajor_val_three]
  show (b.val * 16384 + (128 * i.val + n.val / 1024)) * 1024 + n.val % 1024 = (b.val * 128 + i.val) * 131072 + n.val
  omega

/-- The transformed array with real and imaginary parts on one axis, and tokens and channels on another. -/
theorem parts_apply (x : FVec Ideal S2x2x256x128x1024 .bf16) (h : S2x2x256x128x1024.ShapeCasts S2x512x131072) (b : Fin 2) (s : Fin 512) (n : Fin 131072) :
    shapeCast S2x512x131072 x h (ix3 b s n) = x (ix5 b (part s) (freq s) (step n) (chan n)) := by
  refine shapeCast_apply x h _ _ ?_
  rw [Shape.rowMajor_val_five, Shape.rowMajor_val_three]
  show (((b.val * 2 + s.val / 256) * 256 + s.val % 256) * 128 + n.val / 1024) * 1024 + n.val % 1024 = (b.val * 512 + s.val) * 131072 + n.val
  omega

theorem V_Z (b : Fin 2) (s : Fin 512) (n : Fin 131072) :
    (V m c main_v0 : Vec Ideal S2x512x131072 .bf16) (ix3 b s n) = aZ m c (ix5 b (part s) (freq s) (step n) (chan n)) := by
  unfold V
  after_reads_simp
  exact parts_apply _ _ b s n

theorem V_V (b : Fin 2) (i : Fin 128) (n : Fin 131072) :
    (V m c main_v1 : Vec Ideal S2x128x131072 .bf16) (ix3 b i n) = aV m c (ix3 b (token i n) (chan n)) := by
  unfold V
  after_reads_simp
  exact rows_apply _ _ b i n

theorem V_X (b : Fin 2) (i : Fin 128) (n : Fin 131072) :
    (V m c main_v2 : Vec Ideal S2x128x131072 .bf16) (ix3 b i n) = aX m c (ix3 b (token i n) (chan n)) := by
  unfold V
  after_reads_simp
  exact rows_apply _ _ b i n

/-- The skip weights, repeated for each of a block's four tokens. -/
theorem V_S (p : Fin 4) (d : Fin 1024) : (V m c main_v6 : Vec Ideal S1x4096 .f32) (ix2 0 ⟨p.val * 1024 + d.val, by omega⟩) = aS m c (ix1 d) := by
  unfold V
  after_reads_simp
  pointwise

variable (t : Fin cfg0.N)

theorem blk1 (i : Fin 128) (s : Fin 512) : (iblk m c 1 t : Vec Ideal S128x512 .bf16) (ix2 i s) = aT m c (ix2 i s) := by
  blk_simp [iblk]
  rw [V_main_arg1]
  refine congrArg (aT m c) (funext fun a => Fin.ext ?_)
  blk_simp
  rw [index1]
  match a with
  | ⟨0, _⟩ => show 0 * 128 + i.val = i.val; omega
  | ⟨1, _⟩ => show 0 * 512 + s.val = s.val; omega

section Columns
variable (b : Fin 2) (hb : b.val = t.val / 32) (n : Fin 131072) (l : Fin 4096) (hn : n.val = t.val % 32 * 4096 + l.val)
include hn

theorem blk4 : (iblk m c 4 t : Vec Ideal S1x4096 .f32) (ix2 0 l) = aS m c (ix1 (chan n)) := by
  rw [← V_S m c ⟨l.val / 1024, by omega⟩ (chan n)]
  blk_simp [iblk]
  refine congrArg (V m c main_v6) (funext fun a => Fin.ext ?_)
  blk_simp
  rw [index4]
  match a with
  | ⟨0, _⟩ => rfl
  | ⟨1, _⟩ => show 0 * 4096 + l.val = l.val / 1024 * 1024 + n.val % 1024; omega

include hb

theorem blk0 (s : Fin 512) : (iblk m c 0 t : Vec Ideal S1x512x4096 .bf16) (ix3 0 s l) = aZ m c (ix5 b (part s) (freq s) (step n) (chan n)) := by
  rw [← V_Z m c b s n]
  blk_simp [iblk]
  refine congrArg (V m c main_v0) (funext fun a => Fin.ext ?_)
  blk_simp
  rw [index0]
  match a with
  | ⟨0, _⟩ => show t.val / 32 * 1 + 0 = b.val; omega
  | ⟨1, _⟩ => show 0 * 512 + s.val = s.val; omega
  | ⟨2, _⟩ => show t.val % 32 * 4096 + l.val = n.val; omega

theorem blk2 (i : Fin 128) : (iblk m c 2 t : Vec Ideal S1x128x4096 .bf16) (ix3 0 i l) = aV m c (ix3 b (token i n) (chan n)) := by
  rw [← V_V m c b i n]
  blk_simp [iblk]
  refine congrArg (V m c main_v1) (funext fun a => Fin.ext ?_)
  blk_simp
  rw [index2]
  match a with
  | ⟨0, _⟩ => show t.val / 32 * 1 + 0 = b.val; omega
  | ⟨1, _⟩ => show 0 * 128 + i.val = i.val; omega
  | ⟨2, _⟩ => show t.val % 32 * 4096 + l.val = n.val; omega

theorem blk3 (i : Fin 128) : (iblk m c 3 t : Vec Ideal S1x128x4096 .bf16) (ix3 0 i l) = aX m c (ix3 b (token i n) (chan n)) := by
  rw [← V_X m c b i n]
  blk_simp [iblk]
  refine congrArg (V m c main_v2) (funext fun a => Fin.ext ?_)
  blk_simp
  rw [index3]
  match a with
  | ⟨0, _⟩ => show t.val / 32 * 1 + 0 = b.val; omega
  | ⟨1, _⟩ => show 0 * 128 + i.val = i.val; omega
  | ⟨2, _⟩ => show t.val % 32 * 4096 + l.val = n.val; omega

theorem block_entry (i : Fin 128) :
    out0_5 (F := Ideal) (iblk m c 0 t) (iblk m c 1 t) (iblk m c 2 t) (iblk m c 3 t) (iblk m c 4 t) (ix3 0 i l)
      = entry (aZ m c) (aT m c) (aV m c) (aX m c) (aS m c) b i n := by
  rw [out_apply, blk4 m c t n l hn, blk2 m c t b hb n l hn i, blk3 m c t b hb n l hn i]
  unfold entry
  congr 2
  exact Finset.sum_congr rfl fun s _ => by rw [blk1 m c t i s, blk0 m c t b hb n l hn s]

end Columns

/-- A point's block agrees with the gated array at the place where it is written. -/
theorem at_place (y : S1x128x4096.Idx) (z : S2x128x131072.Idx)
    (hz : ∀ a : Fin 3, (z a).val = (![t.val / 32, 0, t.val % 32] : Fin 3 → ℕ) a * (![1, 128, 4096] : Fin 3 → ℕ) a + (y a).val) :
    out0_5 (F := Ideal) (iblk m c 0 t) (iblk m c 1 t) (iblk m c 2 t) (iblk m c 3 t) (iblk m c 4 t) y
      = gated (aZ m c) (aT m c) (aV m c) (aX m c) (aS m c) z := by
  have y0 : (y 0).val < 1 := (y 0).isLt
  have z0 : (z 0).val = t.val / 32 * 1 + (y 0).val := hz 0
  have z1 : (z 1).val = 0 * 128 + (y 1).val := hz 1
  have z2 : (z 2).val = t.val % 32 * 4096 + (y 2).val := hz 2
  have hy : y = ix3 0 (y 1 : Fin 128) (y 2 : Fin 4096) := by
    funext a
    refine Fin.ext ?_
    match a with
    | ⟨0, _⟩ => show (y 0).val = 0; omega
    | ⟨1, _⟩ => rfl
    | ⟨2, _⟩ => rfl
  have hz' : z = ix3 (z 0 : Fin 2) (y 1 : Fin 128) (z 2 : Fin 131072) := by
    funext a
    refine Fin.ext ?_
    match a with
    | ⟨0, _⟩ => rfl
    | ⟨1, _⟩ => show (z 1).val = (y 1).val; omega
    | ⟨2, _⟩ => rfl
  rw [hy, hz']
  exact block_entry m c t (z 0) (z0.trans (by omega)) _ _ z2 _

/-- **The kernel's result is the gated array.** -/
theorem final : (dats m 0 c).arrAt 5 cfg0.N = gated (aZ m c) (aT m c) (aV m c) (aX m c) (aS m c) := by
  refine (dats m 0 c).arrAt_eq_of_covers 5 (gated (aZ m c) (aT m c) (aV m c) (aX m c) (aS m c)) (by decide +kernel) fun t hf y => ?_
  blk_simp
  rw [after0_5]
  refine at_place m c t y _ fun a => ?_
  blk_simp
  rw [index5]

end Cert.Gate

end
-- ==== Proof.Gate.Ref.lean ====
/- The reference's result, of its arguments. -/
module

public import proofs.«01_k».proof.Proof.Gate.Spec
public import proofs.«01_k».proof.Proof.Gen.GateReferenceIdeal.Read

@[expose] public section

set_option maxRecDepth 16384

noncomputable section

namespace Cert.Gate

open Cert.GateReferenceIdeal Cert.GateReferenceIdeal.Gen Cert.GateReferenceIdeal.Read
open Idealize.ShloMosaic Idealize.ShloMosaic.TcCoe Idealize.ShloMosaic.Pointwise

variable (Z : FVec Ideal S2x2x256x128x1024 .bf16) (T : FVec Ideal S128x512 .bf16) (V X : FVec Ideal S2x16384x1024 .bf16) (S : FVec Ideal S1024 .f32)

theorem unflat (b : Fin 2) (i : Fin 128) (n : Fin 131072) : idx_main_v12 (ix3 b i n) = ix3 b (token i n) (chan n) := by
  funext a
  refine Fin.ext ?_
  match a with
  | ⟨0, _⟩ => show ((b.val * 128 + i.val) * 131072 + n.val) / 16777216 = b.val; omega
  | ⟨1, _⟩ => show ((b.val * 128 + i.val) * 131072 + n.val) / 1024 % 16384 = 128 * i.val + n.val / 1024; omega
  | ⟨2, _⟩ => show ((b.val * 128 + i.val) * 131072 + n.val) % 1024 = n.val % 1024; omega

theorem split (b : Fin 2) (i : Fin 128) (n : Fin 131072) : idx_main_v3 (ix3 b (token i n) (chan n)) = ix4 b i (step n) (chan n) := by
  funext a
  refine Fin.ext ?_
  match a with
  | ⟨0, _⟩ => show ((b.val * 16384 + (128 * i.val + n.val / 1024)) * 1024 + n.val % 1024) / 16777216 = b.val; omega
  | ⟨1, _⟩ => show ((b.val * 16384 + (128 * i.val + n.val / 1024)) * 1024 + n.val % 1024) / 131072 % 128 = i.val; omega
  | ⟨2, _⟩ => show ((b.val * 16384 + (128 * i.val + n.val / 1024)) * 1024 + n.val % 1024) / 1024 % 128 = n.val / 1024; omega
  | ⟨3, _⟩ => show ((b.val * 16384 + (128 * i.val + n.val / 1024)) * 1024 + n.val % 1024) % 1024 = n.val % 1024; omega

theorem parts (b : Fin 2) (s : Fin 512) (p : Fin 128) (d : Fin 1024) : idx_main_v0 (ix4 b s p d) = ix5 b (part s) (freq s) p d := by
  funext a
  refine Fin.ext ?_
  match a with
  | ⟨0, _⟩ => show (((b.val * 512 + s.val) * 128 + p.val) * 1024 + d.val) / 67108864 = b.val; omega
  | ⟨1, _⟩ => show (((b.val * 512 + s.val) * 128 + p.val) * 1024 + d.val) / 33554432 % 2 = s.val / 256; omega
  | ⟨2, _⟩ => show (((b.val * 512 + s.val) * 128 + p.val) * 1024 + d.val) / 131072 % 256 = s.val % 256; omega
  | ⟨3, _⟩ => show (((b.val * 512 + s.val) * 128 + p.val) * 1024 + d.val) / 1024 % 128 = p.val; omega
  | ⟨4, _⟩ => show (((b.val * 512 + s.val) * 128 + p.val) * 1024 + d.val) % 1024 = d.val; omega

/-- The product with the table. -/
theorem ref_product (b : Fin 2) (i : Fin 128) (p : Fin 128) (d : Fin 1024) :
    val_main_v2 (F := Ideal) Z T (ix4 b i p d) = ∑ s : Fin 512, T (ix2 i s) * Z (ix5 b (part s) (freq s) p d) := by
  have hl : ∀ k, lidx_main_v1 (idx_main_v2 (ix4 b i p d)) k = ix4 b k p d := fun k => by ext a; fin_cases a <;> rfl
  have hr : ∀ k, ridx_main_v1 (idx_main_v2 (ix4 b i p d)) k = ix2 i k := fun k => by ext a; fin_cases a <;> rfl
  rw [val_main_v2_apply, val_main_v1_apply]
  refine Finset.sum_congr rfl fun k _ => ?_
  rw [hl, hr, val_main_v0_apply, parts]
  exact mul_comm _ _

theorem ref_apply : val_main_v12 (F := Ideal) Z T V X S = gated Z T V X S := by
  funext j
  obtain ⟨b, i, n, rfl⟩ : ∃ (b : Fin 2) (i : Fin 128) (n : Fin 131072), j = ix3 b i n := ⟨j 0, j 1, j 2, by ext a; fin_cases a <;> rfl⟩
  have hs : idx_main_v5 (idx_main_v6 (ix3 b (token i n) (chan n))) = ix1 (chan n) := by ext a; fin_cases a; rfl
  rw [val_main_v12_apply, unflat, val_main_v11_apply, val_main_v10_apply, val_main_v8_apply, val_main_v3_apply, split, ref_product, val_main_v7_apply,
    val_main_v6_apply, val_main_v5_apply, hs, val_main_v4_apply, val_main_v9_apply]
  rfl

end Cert.Gate

end
-- ==== Proof.Mid.Spec.lean ====
/- The middle of the long convolution over the reals: a product with a table, a complex product with the filter's spectrum,
   a product with a second table, and a complex product with conjugate twiddles; and the kernel's body at an index. -/
module

public import proofs.«01_k».proof.Proof.Gen.MidIdeal.Frame
public import Idealize.ShloMosaic.Lib.Pipeline.ValueKit
public import Idealize.ShloMosaic.Lib.Pointwise

@[expose] public section

set_option maxRecDepth 16384

noncomputable section

namespace Cert.Mid

open Cert.MidIdeal Cert.MidIdeal.Gen Idealize.ShloMosaic Idealize.ShloMosaic.TcCoe Idealize.ShloMosaic.Pointwise

/-- Real parts come first in a column of 256, imaginary parts after them. -/
abbrev lo (i : Fin 128) : Fin 256 := ⟨i.val, by omega⟩
abbrev up (i : Fin 128) : Fin 256 := ⟨128 + i.val, by omega⟩
/-- Which part a row of a column is of, and its number in that part. -/
abbrev half (s : Fin 256) : Fin 2 := ⟨s.val / 128, by omega⟩
abbrev low (s : Fin 256) : Fin 128 := ⟨s.val % 128, by omega⟩

/-- A table times a column. -/
def spread (C : Fin 256 → Fin 256 → EReal) (x : Fin 256 → EReal) (u : Fin 256) : EReal := ∑ s : Fin 256, C u s * x s

/-- A column of complex numbers times the spectrum. -/
def turned (x : Fin 256 → EReal) (h : Fin 2 → Fin 128 → EReal) (s : Fin 256) : EReal :=
  if s.val < 128 then x (lo (low s)) * h 0 (low s) - x (up (low s)) * h 1 (low s)
  else x (lo (low s)) * h 1 (low s) + x (up (low s)) * h 0 (low s)

/-- A column of complex numbers times the conjugates of the twiddles. -/
def back (z : Fin 256 → EReal) (tr ti : Fin 128 → EReal) (q : Fin 2) (i : Fin 128) : EReal :=
  if q.val < 1 then z (lo i) * tr i + z (up i) * ti i else z (up i) * tr i - z (lo i) * ti i

/-- The four steps on one column. -/
def column (C I : Fin 256 → Fin 256 → EReal) (x : Fin 256 → EReal) (h : Fin 2 → Fin 128 → EReal) (tr ti : Fin 128 → EReal) (q : Fin 2) (i : Fin 128) :
    EReal :=
  back (spread I (turned (spread C x) h)) tr ti q i

/-- The column of the flattened argument that holds token group `i` and channel `n`. -/
abbrev flat (i : Fin 128) (n : Fin 1024) : Fin 131072 := ⟨i.val * 1024 + n.val, by omega⟩

section Arguments
variable (A : FVec Ideal S2x2x256x131072 .bf16) (H : FVec Ideal S2x256x128x1024 .bf16) (C I : FVec Ideal S256x256 .bf16)
  (TR TI : FVec Ideal S256x128x1 .f32)

def entry (b q : Fin 2) (k : Fin 256) (i : Fin 128) (n : Fin 1024) : EReal :=
  column (fun u s => C (ix2 u s)) (fun u s => I (ix2 u s)) (fun s => A (ix4 b (half s) k (flat (low s) n))) (fun p j => H (ix4 p k j n))
    (fun j => TR (ix3 k j 0)) (fun j => TI (ix3 k j 0)) q i

def middle : FVec Ideal S2x2x256x128x1024 .bf16 := fun j => entry A H C I TR TI (j 0) (j 1) (j 2) (j 3) (j 4)

end Arguments

section Generic
variable {F : FTy → Type} [FloatOps F]
variable (x0 : Vec F S1x2x16x128x256 .bf16) (x1 : Vec F S2x16x128x256 .bf16) (x2 x3 : Vec F S256x256 .bf16) (x4 x5 : Vec F S16x128x1 .f32)

/-- Where part `q` of frequency `k` lies in a block. -/
abbrev place (q : Fin 2) (k : Fin 16) : Rect S1x2x16x128x256 :=
  Rect.unit (s := S1x2x16x128x256) ![0, q.val, k.val, 0, 0] S1x1x1x128x256.size (by revert q k; decide)

def aAt (q : Fin 2) (k : Fin 16) : Vec F S1x1x1x128x256 .bf16 := View.ld x0 (place q k)
def hAt (q : Fin 2) (k : Fin 16) : Vec F S1x1x128x256 .bf16 :=
  View.ld x1 (Rect.unit (s := S2x16x128x256) ![q.val, k.val, 0, 0] S1x1x128x256.size (by revert q k; decide))
def cAt (x : Vec F S256x256 .bf16) : Vec F S256x256 .bf16 := View.ld x r0_2
def tAt (x : Vec F S16x128x1 .f32) (k : Fin 16) : Vec F S1x128x1 .f32 :=
  View.ld x (Rect.unit (s := S16x128x1) ![k.val, 0, 0] S1x128x1.size (by revert k; decide))

/-- The product with the second table, its real and its imaginary part. -/
def re (k : Fin 16) : FVec F S128x256 .f32 := k0_pay4 (aAt x0 0 k) (aAt x0 1 k) (cAt x2) (hAt x1 0 k) (hAt x1 1 k) (cAt x3)
def im (k : Fin 16) : FVec F S128x256 .f32 := k0_pay5 (aAt x0 0 k) (aAt x0 1 k) (cAt x2) (hAt x1 0 k) (hAt x1 1 k) (cAt x3)

/-- What the body stores for frequency `k`: the real part, then the imaginary part. -/
def payload (q : Fin 2) (k : Fin 16) : FVec F S1x1x1x128x256 .bf16 :=
  match q with
  | 0 => k0_pay8 (re x0 x1 x2 x3 k) (im x0 x1 x2 x3 k) (k0_pay6 (tAt x4 k)) (tAt x5 k)
  | 1 => k0_pay9 (re x0 x1 x2 x3 k) (im x0 x1 x2 x3 k) (k0_pay6 (tAt x4 k)) (tAt x5 k)

/-- The order of the stores, the last first. -/
def order : List (Fin 2 × Fin 16) :=
  [(1, 15), (0, 15), (1, 14), (0, 14), (1, 13), (0, 13), (1, 12), (0, 12), (1, 11), (0, 11), (1, 10), (0, 10), (1, 9), (0, 9), (1, 8), (0, 8),
   (1, 7), (0, 7), (1, 6), (0, 6), (1, 5), (0, 5), (1, 4), (0, 4), (1, 3), (0, 3), (1, 2), (0, 2), (1, 1), (0, 1), (1, 0), (0, 0)]

def stored : List (View.Piece (Elt F) S1x2x16x128x256 .bf16) :=
  order.map fun p => ⟨place p.1 p.2, payload x0 x1 x2 x3 x4 x5 p.1 p.2⟩

theorem out_eq : out0_6 x0 x1 x2 x3 x4 x5 = View.canon (stored x0 x1 x2 x3 x4 x5) := rfl

theorem stored_apply (q : Fin 2) (k : Fin 16) (i : Fin 128) (l : Fin 256) :
    View.canon (stored x0 x1 x2 x3 x4 x5) (ix5 0 q k i l) = payload x0 x1 x2 x3 x4 x5 q k (ix5 0 0 0 i l) := by
  have hm : ∀ (q : Fin 2) (k : Fin 16), (q, k) ∈ order := by decide
  refine View.canon_eq_of_allAt _ _ _ ⟨_, List.mem_map.mpr ⟨(q, k), hm q k, rfl⟩, ?_⟩ ?_
  · show ix5 (0 : Fin 1) q k i l ∈ (place q k).set
    rw [Rect.mem_set_unit]
    intro a
    match a with
    | ⟨0, _⟩ => exact ⟨le_refl 0, Nat.zero_lt_one⟩
    | ⟨1, _⟩ => exact ⟨le_refl q.val, Nat.lt_succ_self _⟩
    | ⟨2, _⟩ => exact ⟨le_refl k.val, Nat.lt_succ_self _⟩
    | ⟨3, _⟩ => exact ⟨Nat.zero_le _, (by show i.val < 0 + 128; omega)⟩
    | ⟨4, _⟩ => exact ⟨Nat.zero_le _, (by show l.val < 0 + 256; omega)⟩
  · intro p hp
    obtain ⟨⟨q', k'⟩, -, rfl⟩ := List.mem_map.mp hp
    intro (x : S1x1x1x128x256.Idx) hx
    have e : ∀ a, ((place q' k').emb x a).val = (ix5 (0 : Fin 1) q k i l a).val := fun a => congrArg (fun y => (y a).val) hx
    have x1 : (x 1).val < 1 := (x 1).isLt
    have x2 : (x 2).val < 1 := (x 2).isLt
    have e1 : q'.val + 1 * (x 1).val = q.val := e 1
    have e2 : k'.val + 1 * (x 2).val = k.val := e 2
    have e3 : 0 + 1 * (x 3).val = i.val := e 3
    have e4 : 0 + 1 * (x 4).val = l.val := e 4
    have hq : q' = q := Fin.ext (by omega)
    have hk : k' = k := Fin.ext (by omega)
    subst hq hk
    refine congrArg _ (funext fun a => Fin.ext ?_)
    have x0 : (x 0).val < 1 := (x 0).isLt
    match a with
    | ⟨0, _⟩ => show (x 0).val = 0; omega
    | ⟨1, _⟩ => show (x 1).val = 0; omega
    | ⟨2, _⟩ => show (x 2).val = 0; omega
    | ⟨3, _⟩ => show (x 3).val = i.val; omega
    | ⟨4, _⟩ => show (x 4).val = l.val; omega

theorem aAt_apply (q : Fin 2) (k : Fin 16) (i : Fin 128) (l : Fin 256) : aAt x0 q k (ix5 0 0 0 i l) = x0 (ix5 0 q k i l) :=
  View.ld_unit_apply_of x0 _ _ _ (ix5 (0 : Fin 1) (0 : Fin 1) (0 : Fin 1) i l) _ fun a => match a with
    | ⟨0, _⟩ => rfl
    | ⟨1, _⟩ => rfl
    | ⟨2, _⟩ => rfl
    | ⟨3, _⟩ => (Nat.zero_add _).symm
    | ⟨4, _⟩ => (Nat.zero_add _).symm

theorem hAt_apply (q : Fin 2) (k : Fin 16) (i : Fin 128) (l : Fin 256) : hAt x1 q k (ix4 0 0 i l) = x1 (ix4 q k i l) :=
  View.ld_unit_apply_of x1 _ _ _ (ix4 (0 : Fin 1) (0 : Fin 1) i l) _ fun a => match a with
    | ⟨0, _⟩ => rfl
    | ⟨1, _⟩ => rfl
    | ⟨2, _⟩ => (Nat.zero_add _).symm
    | ⟨3, _⟩ => (Nat.zero_add _).symm

theorem cAt_apply (u s : Fin 256) : cAt x2 (ix2 u s) = x2 (ix2 u s) :=
  View.ld_unit_apply_of x2 _ _ _ (ix2 u s) _ fun a => match a with
    | ⟨0, _⟩ => (Nat.zero_add _).symm
    | ⟨1, _⟩ => (Nat.zero_add _).symm

theorem tAt_apply (k : Fin 16) (i : Fin 128) : tAt x4 k (ix3 0 i 0) = x4 (ix3 k i 0) :=
  View.ld_unit_apply_of x4 _ _ _ (ix3 (0 : Fin 1) i (0 : Fin 1)) _ fun a => match a with
    | ⟨0, _⟩ => rfl
    | ⟨1, _⟩ => (Nat.zero_add _).symm
    | ⟨2, _⟩ => rfl

end Generic

/-! ## The body's operations at an index -/

theorem halves {φ : FTy} (x y : FVec Ideal S128x256 φ) (s l : Fin 256) :
    concatenate S256x256 0 [⟨S128x256, x⟩, ⟨S128x256, y⟩] concatenates_S128x256_S128x256_S256x256_d0 (ix2 s l)
      = if s.val < 128 then x (ix2 (low s) l) else y (ix2 (low s) l) := by
  rw [concatenate_pair_apply]
  by_cases h : s.val < 128
  · rw [if_pos h]
    refine (dif_pos h).trans ?_
    refine congrArg x (funext fun a => Fin.ext ?_)
    match a with
    | ⟨0, _⟩ => show s.val = s.val % 128; omega
    | ⟨1, _⟩ => rfl
  · rw [if_neg h]
    refine (dif_neg h).trans ?_
    refine congrArg y (funext fun a => Fin.ext ?_)
    match a with
    | ⟨0, _⟩ => show s.val - 128 = s.val % 128; omega
    | ⟨1, _⟩ => rfl

theorem product (a b : FVec Ideal S256x256 .bf16) (u l : Fin 256) :
    matmul dot_S256x256_S256x256_S256x256_1_0_0_1_n_n none a b (constant (F := Ideal) S256x256 .f32 0x00000000#32) (ix2 u l)
      = ∑ s : Fin 256, a (ix2 u s) * b (ix2 s l) := by
  pointwise

variable (a0 a1 : Vec Ideal S1x1x1x128x256 .bf16) (h0 h1 : Vec Ideal S1x1x128x256 .bf16) (C I : Vec Ideal S256x256 .bf16) (t u : Vec Ideal S1x128x1 .f32)

/-- The product with the first table. -/
theorem first_apply (s l : Fin 256) :
    k0_pay10 (F := Ideal) a0 a1 C (ix2 s l)
      = spread (fun u s => C (ix2 u s)) (fun s => if s.val < 128 then a0 (ix5 0 0 0 (low s) l) else a1 (ix5 0 0 0 (low s) l)) s := by
  refine (product C _ s l).trans (Finset.sum_congr rfl fun s _ => congrArg _ ?_)
  refine (halves _ _ s l).trans ?_
  refine if_congr Iff.rfl ?_ ?_ <;> pointwise

/-- The product with the second table. -/
theorem second_apply (v l : Fin 256) :
    k0_pay3 (F := Ideal) a0 a1 C h0 h1 I (ix2 v l)
      = spread (fun u s => I (ix2 u s)) (turned (fun s => k0_pay10 (F := Ideal) a0 a1 C (ix2 s l)) (fun p i => if p.val < 1 then h0 (ix4 0 0 i l) else h1 (ix4 0 0 i l))) v := by
  refine (product I _ v l).trans (Finset.sum_congr rfl fun s _ => congrArg _ ?_)
  refine (halves (φ := .f32) (subf (mulf (k0_pay11 a0 a1 C) (extf .f32 (shapeCast S128x256 h0 shapeCasts_S1x1x128x256_S128x256) bitsLt_bf16_f32))
      (mulf (k0_pay12 a0 a1 C) (extf .f32 (shapeCast S128x256 h1 shapeCasts_S1x1x128x256_S128x256) bitsLt_bf16_f32)))
    (addf (mulf (k0_pay11 a0 a1 C) (extf .f32 (shapeCast S128x256 h1 shapeCasts_S1x1x128x256_S128x256) bitsLt_bf16_f32))
      (mulf (k0_pay12 a0 a1 C) (extf .f32 (shapeCast S128x256 h0 shapeCasts_S1x1x128x256_S128x256) bitsLt_bf16_f32))) s l).trans ?_
  unfold turned
  refine if_congr Iff.rfl ?_ ?_ <;> pointwise [k0_pay11, k0_pay12]

theorem re_apply (i : Fin 128) (l : Fin 256) : k0_pay4 (F := Ideal) a0 a1 C h0 h1 I (ix2 i l) = k0_pay3 (F := Ideal) a0 a1 C h0 h1 I (ix2 (lo i) l) := by
  pointwise [k0_pay4]

theorem im_apply (i : Fin 128) (l : Fin 256) : k0_pay5 (F := Ideal) a0 a1 C h0 h1 I (ix2 i l) = k0_pay3 (F := Ideal) a0 a1 C h0 h1 I (ix2 (up i) l) := by
  pointwise [k0_pay5]

variable (x y : FVec Ideal S128x256 .f32)

theorem first_part (i : Fin 128) (l : Fin 256) :
    k0_pay8 (F := Ideal) x y (k0_pay6 t) u (ix5 0 0 0 i l) = x (ix2 i l) * t (ix3 0 i 0) + y (ix2 i l) * u (ix3 0 i 0) := by
  pointwise [k0_pay8, k0_pay7, k0_pay6]

theorem second_part (i : Fin 128) (l : Fin 256) :
    k0_pay9 (F := Ideal) x y (k0_pay6 t) u (ix5 0 0 0 i l) = y (ix2 i l) * t (ix3 0 i 0) - x (ix2 i l) * u (ix3 0 i 0) := by
  pointwise [k0_pay9, k0_pay7, k0_pay6]

end Cert.Mid

end
-- ==== Proof.Mid.Final.lean ====
/- The kernel's result array after the launch. -/
module

public import proofs.«01_k».proof.Proof.Mid.Spec
public import Idealize.ShloMosaic.Lib.StableHlo.ReadAt

@[expose] public section

set_option maxRecDepth 16384

noncomputable section

namespace Cert.Mid

open Cert.MidIdeal Cert.MidIdeal.Gen Idealize.ShloMosaic Idealize.ShloMosaic.TcCoe Idealize.ShloMosaic.Pointwise
open Idealize.ShloMosaic.Pipeline (Dat)

/-- The grid: four blocks of channels, sixteen blocks of frequencies, two batch rows. -/
theorem index0 : ∀ t : Fin cfg0.N, win0_0.index t = ![t.val % 2, 0, t.val / 2 % 16, 0, t.val / 32] := by decide +kernel
theorem index1 : ∀ t : Fin cfg0.N, win0_1.index t = ![0, t.val / 2 % 16, 0, t.val / 32] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val / 2 % 16, 0, 0] := by decide +kernel
theorem index5 : ∀ t : Fin cfg0.N, win0_5.index t = ![t.val / 2 % 16, 0, 0] := by decide +kernel
theorem index6 : ∀ t : Fin cfg0.N, win0_6.index t = ![t.val % 2, 0, t.val / 2 % 16, 0, t.val / 32] := by decide +kernel

variable (m : (ℓ : Loc nD τ sig) → Buf (Elt Ideal) ℓ) (c : Dev nD)

/-- The launched arguments. -/
abbrev aA : FVec Ideal S2x2x256x131072 .bf16 := m ((c : Thread nD τ).loc main_arg0)
abbrev aH : FVec Ideal S2x256x128x1024 .bf16 := m ((c : Thread nD τ).loc main_arg1)
abbrev aC : FVec Ideal S256x256 .bf16 := m ((c : Thread nD τ).loc main_arg2)
abbrev aI : FVec Ideal S256x256 .bf16 := m ((c : Thread nD τ).loc main_arg3)
abbrev aR : FVec Ideal S256x128x1 .f32 := m ((c : Thread nD τ).loc main_arg4)
abbrev aJ : FVec Ideal S256x128x1 .f32 := m ((c : Thread nD τ).loc main_arg5)

/-- A flat axis as token groups and channels. -/
theorem unflat_apply (x : FVec Ideal S2x2x256x131072 .bf16) (h : S2x2x256x131072.ShapeCasts S2x2x256x128x1024) (b q : Fin 2) (k : Fin 256) (i : Fin 128)
    (n : Fin 1024) : shapeCast S2x2x256x128x1024 x h (ix5 b q k i n) = x (ix4 b q k (flat i n)) := by
  refine shapeCast_apply x h _ _ ?_
  rw [Shape.rowMajor_val_four, Shape.rowMajor_val_five]
  show ((b.val * 2 + q.val) * 256 + k.val) * 131072 + (i.val * 1024 + n.val) = (((b.val * 2 + q.val) * 256 + k.val) * 128 + i.val) * 1024 + n.val
  omega

theorem V_A (b q : Fin 2) (k : Fin 256) (i : Fin 128) (n : Fin 1024) :
    (V m c main_v0 : Vec Ideal S2x2x256x128x1024 .bf16) (ix5 b q k i n) = aA m c (ix4 b q k (flat i n)) := by
  unfold V
  after_reads_simp
  exact unflat_apply _ _ b q k i n

variable (t : Fin cfg0.N)

theorem blk2 (u s : Fin 256) : (iblk m c 2 t : Vec Ideal S256x256 .bf16) (ix2 u s) = aC m c (ix2 u s) := by
  blk_simp [iblk]
  rw [V_main_arg2]
  refine congrArg (aC m c) (funext fun a => Fin.ext ?_)
  blk_simp
  rw [index2]
  match a with
  | ⟨0, _⟩ => show 0 * 256 + u.val = u.val; omega
  | ⟨1, _⟩ => show 0 * 256 + s.val = s.val; omega

theorem blk3 (u s : Fin 256) : (iblk m c 3 t : Vec Ideal S256x256 .bf16) (ix2 u s) = aI m c (ix2 u s) := by
  blk_simp [iblk]
  rw [V_main_arg3]
  refine congrArg (aI m c) (funext fun a => Fin.ext ?_)
  blk_simp
  rw [index3]
  match a with
  | ⟨0, _⟩ => show 0 * 256 + u.val = u.val; omega
  | ⟨1, _⟩ => show 0 * 256 + s.val = s.val; omega

section Frequency
variable (k : Fin 256) (g : Fin 16) (hk : k.val = t.val / 2 % 16 * 16 + g.val)
include hk

theorem blk4 (i : Fin 128) : (iblk m c 4 t : Vec Ideal S16x128x1 .f32) (ix3 g i 0) = aR m c (ix3 k i 0) := by
  blk_simp [iblk]
  rw [V_main_arg4]
  refine congrArg (aR m c) (funext fun a => Fin.ext ?_)
  blk_simp
  rw [index4]
  match a with
  | ⟨0, _⟩ => show t.val / 2 % 16 * 16 + g.val = k.val; omega
  | ⟨1, _⟩ => show 0 * 128 + i.val = i.val; omega
  | ⟨2, _⟩ => rfl

theorem blk5 (i : Fin 128) : (iblk m c 5 t : Vec Ideal S16x128x1 .f32) (ix3 g i 0) = aJ m c (ix3 k i 0) := by
  blk_simp [iblk]
  rw [V_main_arg5]
  refine congrArg (aJ m c) (funext fun a => Fin.ext ?_)
  blk_simp
  rw [index5]
  match a with
  | ⟨0, _⟩ => show t.val / 2 % 16 * 16 + g.val = k.val; omega
  | ⟨1, _⟩ => show 0 * 128 + i.val = i.val; omega
  | ⟨2, _⟩ => rfl

variable (n : Fin 1024) (l : Fin 256) (hn : n.val = t.val / 32 * 256 + l.val)
include hn

theorem blk1 (p : Fin 2) (i : Fin 128) : (iblk m c 1 t : Vec Ideal S2x16x128x256 .bf16) (ix4 p g i l) = aH m c (ix4 p k i n) := by
  blk_simp [iblk]
  rw [V_main_arg1]
  refine congrArg (aH m c) (funext fun a => Fin.ext ?_)
  blk_simp
  rw [index1]
  match a with
  | ⟨0, _⟩ => show 0 * 2 + p.val = p.val; omega
  | ⟨1, _⟩ => show t.val / 2 % 16 * 16 + g.val = k.val; omega
  | ⟨2, _⟩ => show 0 * 128 + i.val = i.val; omega
  | ⟨3, _⟩ => show t.val / 32 * 256 + l.val = n.val; omega

variable (b : Fin 2) (hb : b.val = t.val % 2)
include hb

theorem blk0 (p : Fin 2) (i : Fin 128) : (iblk m c 0 t : Vec Ideal S1x2x16x128x256 .bf16) (ix5 0 p g i l) = aA m c (ix4 b p k (flat i n)) := by
  rw [← V_A m c b p k i n]
  blk_simp [iblk]
  refine congrArg (V m c main_v0) (funext fun a => Fin.ext ?_)
  blk_simp
  rw [index0]
  match a with
  | ⟨0, _⟩ => show t.val % 2 * 1 + 0 = b.val; omega
  | ⟨1, _⟩ => show 0 * 2 + p.val = p.val; omega
  | ⟨2, _⟩ => show t.val / 2 % 16 * 16 + g.val = k.val; omega
  | ⟨3, _⟩ => show 0 * 128 + i.val = i.val; omega
  | ⟨4, _⟩ => show t.val / 32 * 256 + l.val = n.val; omega

/-- The product with the second table is the reference's. -/
theorem second_block (v : Fin 256) :
    k0_pay3 (F := Ideal) (aAt (iblk m c 0 t) 0 g) (aAt (iblk m c 0 t) 1 g) (cAt (iblk m c 2 t)) (hAt (iblk m c 1 t) 0 g) (hAt (iblk m c 1 t) 1 g)
        (cAt (iblk m c 3 t)) (ix2 v l)
      = spread (fun u s => aI m c (ix2 u s)) (turned (spread (fun u s => aC m c (ix2 u s)) fun s => aA m c (ix4 b (half s) k (flat (low s) n)))
          fun p j => aH m c (ix4 p k j n)) v := by
  have hC : (fun u s => cAt (F := Ideal) (iblk m c 2 t) (ix2 u s)) = fun u s => aC m c (ix2 u s) :=
    funext fun u => funext fun s => (cAt_apply _ u s).trans (blk2 m c t u s)
  have hI : (fun u s => cAt (F := Ideal) (iblk m c 3 t) (ix2 u s)) = fun u s => aI m c (ix2 u s) :=
    funext fun u => funext fun s => (cAt_apply _ u s).trans (blk3 m c t u s)
  have hA : (fun s : Fin 256 => if s.val < 128 then aAt (F := Ideal) (iblk m c 0 t) 0 g (ix5 0 0 0 (low s) l) else aAt (F := Ideal) (iblk m c 0 t) 1 g (ix5 0 0 0 (low s) l))
      = fun s => aA m c (ix4 b (half s) k (flat (low s) n)) := by
    funext s
    rw [aAt_apply, aAt_apply, blk0 m c t k g hk n l hn b hb, blk0 m c t k g hk n l hn b hb]
    by_cases h : s.val < 128
    · rw [if_pos h, show half s = 0 from Fin.ext (by show s.val / 128 = 0; omega)]
    · rw [if_neg h, show half s = 1 from Fin.ext (by show s.val / 128 = 1; omega)]
  have hH : (fun (p : Fin 2) (i : Fin 128) => if p.val < 1 then hAt (F := Ideal) (iblk m c 1 t) 0 g (ix4 0 0 i l) else hAt (F := Ideal) (iblk m c 1 t) 1 g (ix4 0 0 i l))
      = fun p i => aH m c (ix4 p k i n) := by
    funext p i
    rw [hAt_apply, hAt_apply, blk1 m c t k g hk n l hn, blk1 m c t k g hk n l hn]
    by_cases h : p.val < 1
    · rw [if_pos h, show p = 0 from Fin.ext (by show p.val = 0; omega)]
    · rw [if_neg h, show p = 1 from Fin.ext (by show p.val = 1; omega)]
  rw [second_apply, hI, hH, funext fun s => first_apply _ _ _ s l, hC, hA]

theorem block_entry (q : Fin 2) (i : Fin 128) :
    out0_6 (F := Ideal) (iblk m c 0 t) (iblk m c 1 t) (iblk m c 2 t) (iblk m c 3 t) (iblk m c 4 t) (iblk m c 5 t) (ix5 0 q g i l)
      = entry (aA m c) (aH m c) (aC m c) (aI m c) (aR m c) (aJ m c) b q k i n := by
  rw [out_eq, stored_apply]
  unfold entry column back
  beta_reduce
  rw [← second_block m c t k g hk n l hn b hb (lo i), ← second_block m c t k g hk n l hn b hb (up i), ← re_apply, ← im_apply,
    ← blk4 m c t k g hk i, ← blk5 m c t k g hk i, ← tAt_apply (F := Ideal) (iblk m c 4 t) g i, ← tAt_apply (F := Ideal) (iblk m c 5 t) g i]
  match q with
  | 0 => exact first_part _ _ _ _ i l
  | 1 => exact second_part _ _ _ _ i l

end Frequency

/-- A point's block agrees with the result at the place where it is written. -/
theorem at_place (y : S1x2x16x128x256.Idx) (z : S2x2x256x128x1024.Idx)
    (hz : ∀ a : Fin 5, (z a).val = (![t.val % 2, 0, t.val / 2 % 16, 0, t.val / 32] : Fin 5 → ℕ) a * (![1, 2, 16, 128, 256] : Fin 5 → ℕ) a + (y a).val) :
    out0_6 (F := Ideal) (iblk m c 0 t) (iblk m c 1 t) (iblk m c 2 t) (iblk m c 3 t) (iblk m c 4 t) (iblk m c 5 t) y
      = middle (aA m c) (aH m c) (aC m c) (aI m c) (aR m c) (aJ m c) z := by
  have y0 : (y 0).val < 1 := (y 0).isLt
  have z0 : (z 0).val = t.val % 2 * 1 + (y 0).val := hz 0
  have z1 : (z 1).val = 0 * 2 + (y 1).val := hz 1
  have z2 : (z 2).val = t.val / 2 % 16 * 16 + (y 2).val := hz 2
  have z3 : (z 3).val = 0 * 128 + (y 3).val := hz 3
  have z4 : (z 4).val = t.val / 32 * 256 + (y 4).val := hz 4
  have hy : y = ix5 0 (y 1 : Fin 2) (y 2 : Fin 16) (y 3 : Fin 128) (y 4 : Fin 256) := by
    funext a
    refine Fin.ext ?_
    match a with
    | ⟨0, _⟩ => show (y 0).val = 0; omega
    | ⟨1, _⟩ => rfl
    | ⟨2, _⟩ => rfl
    | ⟨3, _⟩ => rfl
    | ⟨4, _⟩ => rfl
  have hz' : z = ix5 (z 0 : Fin 2) (y 1 : Fin 2) (z 2 : Fin 256) (y 3 : Fin 128) (z 4 : Fin 1024) := by
    funext a
    refine Fin.ext ?_
    match a with
    | ⟨0, _⟩ => rfl
    | ⟨1, _⟩ => show (z 1).val = (y 1).val; omega
    | ⟨2, _⟩ => rfl
    | ⟨3, _⟩ => show (z 3).val = (y 3).val; omega
    | ⟨4, _⟩ => rfl
  rw [hy, hz']
  exact block_entry m c t (z 2) (y 2) z2 (z 4) (y 4) z4 (z 0) (z0.trans (by omega)) _ _

/-- **The kernel's result is the middle of the convolution.** -/
theorem final : (dats m 0 c).arrAt 6 cfg0.N = middle (aA m c) (aH m c) (aC m c) (aI m c) (aR m c) (aJ m c) := by
  refine (dats m 0 c).arrAt_eq_of_covers 6 (middle (aA m c) (aH m c) (aC m c) (aI m c) (aR m c) (aJ m c)) (by decide +kernel) fun t hf y => ?_
  blk_simp
  rw [after0_6]
  refine at_place m c t y _ fun a => ?_
  blk_simp
  rw [index6]

end Cert.Mid

end
-- ==== Proof.Mid.Ref.lean ====
/- The reference's result, of its arguments. -/
module

public import proofs.«01_k».proof.Proof.Mid.Spec
public import proofs.«01_k».proof.Proof.Gen.MidReferenceIdeal.Read

@[expose] public section

set_option maxRecDepth 16384

noncomputable section

namespace Cert.Mid

open Cert.MidReferenceIdeal Cert.MidReferenceIdeal.Gen Cert.MidReferenceIdeal.Read
open Idealize.ShloMosaic Idealize.ShloMosaic.TcCoe Idealize.ShloMosaic.Pointwise

variable (A : FVec Ideal S2x2x256x131072 .bf16) (H : FVec Ideal S2x256x128x1024 .bf16) (C I : FVec Ideal S256x256 .bf16)
  (TR TI : FVec Ideal S256x128x1 .f32)
variable (b : Fin 2) (k : Fin 256) (n : Fin 1024)

theorem column_at (s : Fin 256) : val_main_v2 (F := Ideal) A (ix4 b k s n) = A (ix4 b (half s) k (flat (low s) n)) := by
  have h2 : idx_main_v2 (ix4 b k s n) = ix5 b k (half s) (low s) n := by
    funext a
    refine Fin.ext ?_
    match a with
    | ⟨0, _⟩ => show (((b.val * 256 + k.val) * 256 + s.val) * 1024 + n.val) / 67108864 = b.val; omega
    | ⟨1, _⟩ => show (((b.val * 256 + k.val) * 256 + s.val) * 1024 + n.val) / 262144 % 256 = k.val; omega
    | ⟨2, _⟩ => show (((b.val * 256 + k.val) * 256 + s.val) * 1024 + n.val) / 131072 % 2 = s.val / 128; omega
    | ⟨3, _⟩ => show (((b.val * 256 + k.val) * 256 + s.val) * 1024 + n.val) / 1024 % 128 = s.val % 128; omega
    | ⟨4, _⟩ => show (((b.val * 256 + k.val) * 256 + s.val) * 1024 + n.val) % 1024 = n.val; omega
  have h1 : idx_main_v1 (ix5 b k (half s) (low s) n) = ix5 b (half s) k (low s) n := by ext a; fin_cases a <;> rfl
  have h0 : idx_main_v0 (ix5 b (half s) k (low s) n) = ix4 b (half s) k (flat (low s) n) := by
    funext a
    refine Fin.ext ?_
    match a with
    | ⟨0, _⟩ => show ((((b.val * 2 + s.val / 128) * 256 + k.val) * 128 + s.val % 128) * 1024 + n.val) / 67108864 = b.val; omega
    | ⟨1, _⟩ => show ((((b.val * 2 + s.val / 128) * 256 + k.val) * 128 + s.val % 128) * 1024 + n.val) / 33554432 % 2 = s.val / 128; omega
    | ⟨2, _⟩ => show ((((b.val * 2 + s.val / 128) * 256 + k.val) * 128 + s.val % 128) * 1024 + n.val) / 131072 % 256 = k.val; omega
    | ⟨3, _⟩ => show ((((b.val * 2 + s.val / 128) * 256 + k.val) * 128 + s.val % 128) * 1024 + n.val) % 131072 = s.val % 128 * 1024 + n.val; omega
  rw [val_main_v2_apply, h2, val_main_v1_apply, h1, val_main_v0_apply, h0]

theorem first_at (u : Fin 256) :
    val_main_v4 (F := Ideal) A C (ix4 b k u n) = spread (fun u s => C (ix2 u s)) (fun s => A (ix4 b (half s) k (flat (low s) n))) u := by
  have h4 : idx_main_v4 (ix4 b k u n) = ix4 b k n u := by ext a; fin_cases a <;> rfl
  have hl : ∀ s, lidx_main_v3 (ix4 b k n u) s = ix4 b k s n := fun s => by ext a; fin_cases a <;> rfl
  have hr : ∀ s, ridx_main_v3 (ix4 b k n u) s = ix2 u s := fun s => by ext a; fin_cases a <;> rfl
  rw [val_main_v4_apply, h4, val_main_v3_apply]
  refine Finset.sum_congr rfl fun s _ => ?_
  rw [hl, hr, column_at]
  exact mul_comm _ _

variable (i : Fin 128)

theorem first_re : val_main_v5 (F := Ideal) A C (ix4 b k i n) = val_main_v4 (F := Ideal) A C (ix4 b k (lo i) n) := by
  rw [val_main_v5_apply]
  refine congrArg _ ?_
  ext a
  fin_cases a <;> rfl

theorem first_im : val_main_v6 (F := Ideal) A C (ix4 b k i n) = val_main_v4 (F := Ideal) A C (ix4 b k (up i) n) := by
  rw [val_main_v6_apply]
  refine congrArg _ ?_
  ext a
  fin_cases a <;> rfl

/-- The spectrum's parts, their types widened. -/
theorem spectrum_re : val_main_v9 (F := Ideal) H (ix3 k i n) = H (ix4 0 k i n) := by
  have h8 : idx_main_v7 (idx_main_v8 (ix3 k i n)) = ix4 0 k i n := by
    funext a
    refine Fin.ext ?_
    match a with
    | ⟨0, _⟩ => rfl
    | ⟨1, _⟩ => show ((k.val * 128 + i.val) * 1024 + n.val) / 131072 % 256 = k.val; omega
    | ⟨2, _⟩ => show ((k.val * 128 + i.val) * 1024 + n.val) / 1024 % 128 = i.val; omega
    | ⟨3, _⟩ => show ((k.val * 128 + i.val) * 1024 + n.val) % 1024 = n.val; omega
  rw [val_main_v9_apply, val_main_v8_apply, val_main_v7_apply, h8]
  rfl

theorem spectrum_im : val_main_v12 (F := Ideal) H (ix3 k i n) = H (ix4 1 k i n) := by
  have h11 : idx_main_v10 (idx_main_v11 (ix3 k i n)) = ix4 1 k i n := by
    funext a
    refine Fin.ext ?_
    match a with
    | ⟨0, _⟩ => rfl
    | ⟨1, _⟩ => show ((k.val * 128 + i.val) * 1024 + n.val) / 131072 % 256 = k.val; omega
    | ⟨2, _⟩ => show ((k.val * 128 + i.val) * 1024 + n.val) / 1024 % 128 = i.val; omega
    | ⟨3, _⟩ => show ((k.val * 128 + i.val) * 1024 + n.val) % 1024 = n.val; omega
  rw [val_main_v12_apply, val_main_v11_apply, val_main_v10_apply, h11]
  rfl

theorem drop13 : idx_main_v13 (idx_main_v14 (ix4 b k i n)) = ix3 k i n := by ext a; fin_cases a <;> rfl

/-- The complex product with the spectrum. -/
theorem real_at : val_main_v19 (F := Ideal) A H C (ix4 b k i n)
    = val_main_v4 (F := Ideal) A C (ix4 b k (lo i) n) * H (ix4 0 k i n) - val_main_v4 (F := Ideal) A C (ix4 b k (up i) n) * H (ix4 1 k i n) := by
  have h16 : idx_main_v16 (idx_main_v17 (ix4 b k i n)) = ix3 k i n := drop13 b k n i
  rw [val_main_v19_apply, val_main_v15_apply, val_main_v18_apply, first_re, first_im, val_main_v14_apply, val_main_v13_apply, drop13, val_main_v17_apply,
    val_main_v16_apply, h16, spectrum_re, spectrum_im]
  rfl

theorem imag_at : val_main_v26 (F := Ideal) A H C (ix4 b k i n)
    = val_main_v4 (F := Ideal) A C (ix4 b k (lo i) n) * H (ix4 1 k i n) + val_main_v4 (F := Ideal) A C (ix4 b k (up i) n) * H (ix4 0 k i n) := by
  have h20 : idx_main_v20 (idx_main_v21 (ix4 b k i n)) = ix3 k i n := drop13 b k n i
  have h23 : idx_main_v23 (idx_main_v24 (ix4 b k i n)) = ix3 k i n := drop13 b k n i
  rw [val_main_v26_apply, val_main_v22_apply, val_main_v25_apply, first_re, first_im, val_main_v21_apply, val_main_v20_apply, h20, val_main_v24_apply,
    val_main_v23_apply, h23, spectrum_re, spectrum_im]
  rfl

theorem halves_ref (x y : FVec Ideal S2x256x128x1024 .f32) (s : Fin 256) :
    concatenate S2x256x256x1024 2 [⟨S2x256x128x1024, x⟩, ⟨S2x256x128x1024, y⟩] concatenates_S2x256x128x1024_S2x256x128x1024_S2x256x256x1024_d2 (ix4 b k s n)
      = if s.val < 128 then x (ix4 b k (low s) n) else y (ix4 b k (low s) n) := by
  rw [concatenate_pair_apply]
  by_cases h : s.val < 128
  · rw [if_pos h]
    refine (dif_pos h).trans ?_
    refine congrArg x (funext fun a => Fin.ext ?_)
    match a with
    | ⟨0, _⟩ => rfl
    | ⟨1, _⟩ => rfl
    | ⟨2, _⟩ => show s.val = s.val % 128; omega
    | ⟨3, _⟩ => rfl
  · rw [if_neg h]
    refine (dif_neg h).trans ?_
    refine congrArg y (funext fun a => Fin.ext ?_)
    match a with
    | ⟨0, _⟩ => rfl
    | ⟨1, _⟩ => rfl
    | ⟨2, _⟩ => show s.val - 128 = s.val % 128; omega
    | ⟨3, _⟩ => rfl

theorem turned_at (s : Fin 256) : val_main_v28 (F := Ideal) A H C (ix4 b k s n)
    = turned (fun u => val_main_v4 (F := Ideal) A C (ix4 b k u n)) (fun p j => H (ix4 p k j n)) s := by
  refine (halves_ref b k n (val_main_v19 (F := Ideal) A H C) (val_main_v26 (F := Ideal) A H C) s).trans ?_
  rw [real_at, imag_at]
  rfl

theorem second_at (u : Fin 256) : val_main_v30 (F := Ideal) A H C I (ix4 b k u n)
    = spread (fun u s => I (ix2 u s))
        (turned (spread (fun u s => C (ix2 u s)) fun s => A (ix4 b (half s) k (flat (low s) n))) fun p j => H (ix4 p k j n)) u := by
  have h30 : idx_main_v30 (ix4 b k u n) = ix4 b k n u := by ext a; fin_cases a <;> rfl
  have hl : ∀ s, lidx_main_v29 (ix4 b k n u) s = ix4 b k s n := fun s => by ext a; fin_cases a <;> rfl
  have hr : ∀ s, ridx_main_v29 (ix4 b k n u) s = ix2 u s := fun s => by ext a; fin_cases a <;> rfl
  rw [val_main_v30_apply, h30, val_main_v29_apply]
  refine Finset.sum_congr rfl fun s _ => ?_
  rw [hl, hr, turned_at, funext fun u => first_at A C b k n u]
  exact mul_comm _ _

theorem second_re : val_main_v31 (F := Ideal) A H C I (ix4 b k i n) = val_main_v30 (F := Ideal) A H C I (ix4 b k (lo i) n) := by
  rw [val_main_v31_apply]
  refine congrArg _ ?_
  ext a
  fin_cases a <;> rfl

theorem second_im : val_main_v32 (F := Ideal) A H C I (ix4 b k i n) = val_main_v30 (F := Ideal) A H C I (ix4 b k (up i) n) := by
  rw [val_main_v32_apply]
  refine congrArg _ ?_
  ext a
  fin_cases a <;> rfl

theorem twiddle : idx_main_v33 (idx_main_v34 (ix4 b k i n)) = ix3 k i 0 := by ext a; fin_cases a <;> rfl

/-- The complex product with the conjugate twiddles. -/
theorem back_re : val_main_v39 (F := Ideal) A H C I TR TI (ix4 b k i n)
    = val_main_v30 (F := Ideal) A H C I (ix4 b k (lo i) n) * TR (ix3 k i 0) + val_main_v30 (F := Ideal) A H C I (ix4 b k (up i) n) * TI (ix3 k i 0) := by
  have h36 : idx_main_v36 (idx_main_v37 (ix4 b k i n)) = ix3 k i 0 := twiddle b k n i
  rw [val_main_v39_apply, val_main_v35_apply, val_main_v38_apply, second_re, second_im, val_main_v34_apply, val_main_v33_apply, twiddle, val_main_v37_apply,
    val_main_v36_apply, h36]
  rfl

theorem back_im : val_main_v46 (F := Ideal) A H C I TR TI (ix4 b k i n)
    = val_main_v30 (F := Ideal) A H C I (ix4 b k (up i) n) * TR (ix3 k i 0) - val_main_v30 (F := Ideal) A H C I (ix4 b k (lo i) n) * TI (ix3 k i 0) := by
  have h40 : idx_main_v40 (idx_main_v41 (ix4 b k i n)) = ix3 k i 0 := twiddle b k n i
  have h43 : idx_main_v43 (idx_main_v44 (ix4 b k i n)) = ix3 k i 0 := twiddle b k n i
  rw [val_main_v46_apply, val_main_v42_apply, val_main_v45_apply, second_re, second_im, val_main_v41_apply, val_main_v40_apply, h40, val_main_v44_apply,
    val_main_v43_apply, h43]
  rfl

theorem stack_ref (x y : FVec Ideal S2x1x256x128x1024 .f32) (q : Fin 2) :
    concatenate S2x2x256x128x1024 1 [⟨S2x1x256x128x1024, x⟩, ⟨S2x1x256x128x1024, y⟩] concatenates_S2x1x256x128x1024_S2x1x256x128x1024_S2x2x256x128x1024_d1
        (ix5 b q k i n)
      = if q.val < 1 then x (ix5 b 0 k i n) else y (ix5 b 0 k i n) := by
  rw [concatenate_pair_apply]
  by_cases h : q.val < 1
  · rw [if_pos h]
    refine (dif_pos h).trans ?_
    refine congrArg x (funext fun a => Fin.ext ?_)
    match a with
    | ⟨0, _⟩ => rfl
    | ⟨1, _⟩ => show q.val = 0; omega
    | ⟨2, _⟩ => rfl
    | ⟨3, _⟩ => rfl
    | ⟨4, _⟩ => rfl
  · rw [if_neg h]
    refine (dif_neg h).trans ?_
    refine congrArg y (funext fun a => Fin.ext ?_)
    match a with
    | ⟨0, _⟩ => rfl
    | ⟨1, _⟩ => show q.val - 1 = 0; omega
    | ⟨2, _⟩ => rfl
    | ⟨3, _⟩ => rfl
    | ⟨4, _⟩ => rfl

theorem ref_apply : val_main_v50 (F := Ideal) A H C I TR TI = middle A H C I TR TI := by
  funext j
  obtain ⟨b, q, k, i, n, rfl⟩ : ∃ (b q : Fin 2) (k : Fin 256) (i : Fin 128) (n : Fin 1024), j = ix5 b q k i n :=
    ⟨j 0, j 1, j 2, j 3, j 4, by ext a; fin_cases a <;> rfl⟩
  have h47 : idx_main_v47 (ix5 b 0 k i n) = ix4 b k i n := by ext a; fin_cases a <;> rfl
  have h48 : idx_main_v48 (ix5 b 0 k i n) = ix4 b k i n := by ext a; fin_cases a <;> rfl
  refine (stack_ref b k n i (val_main_v47 (F := Ideal) A H C I TR TI) (val_main_v48 (F := Ideal) A H C I TR TI) q).trans ?_
  rw [val_main_v47_apply, h47, val_main_v48_apply, h48, back_re, back_im, second_at, second_at]
  rfl

end Cert.Mid

end
-- ==== Proof.First.Spec.lean ====
/- The first stage of the long convolution over the reals: a product with a table, and a complex product with the twiddles;
   and the kernel's body at an index. -/
module

public import proofs.«01_k».proof.Proof.Gen.FirstIdeal.Frame
public import proofs.«01_k».proof.Proof.Gate.Spec

@[expose] public section

set_option maxRecDepth 16384

noncomputable section

namespace Cert.First

open Cert.FirstIdeal Cert.FirstIdeal.Gen Idealize.ShloMosaic Idealize.ShloMosaic.TcCoe Idealize.ShloMosaic.Pointwise
open Cert.Gate (token step chan)

/-- Real parts come first in a column of 512, imaginary parts after them. -/
abbrev lo (k : Fin 256) : Fin 512 := ⟨k.val, by omega⟩
abbrev up (k : Fin 256) : Fin 512 := ⟨256 + k.val, by omega⟩

/-- A column of complex numbers times a twiddle each. -/
def turned (x : Fin 512 → EReal) (tr ti : Fin 256 → EReal) (q : Fin 2) (k : Fin 256) : EReal :=
  if q.val < 1 then x (lo k) * tr k - x (up k) * ti k else x (lo k) * ti k + x (up k) * tr k

section Arguments
variable (V : FVec Ideal S2x16384x1024 .bf16) (T : FVec Ideal S512x128 .bf16) (TR TI : FVec Ideal S128x256x1 .f32)

def entry (b q : Fin 2) (k : Fin 256) (n : Fin 131072) : EReal :=
  turned (fun u => ∑ t : Fin 128, T (ix2 u t) * V (ix3 b (token t n) (chan n))) (fun k => TR (ix3 (step n) k 0)) (fun k => TI (ix3 (step n) k 0)) q k

def first : FVec Ideal S2x2x256x131072 .bf16 := fun j => entry V T TR TI (j 0) (j 1) (j 2) (j 3)

end Arguments

/-- Column `d` of the stretch `s` of a block's four. -/
abbrev col (s : Fin 4) (d : Fin 1024) : Fin 4096 := ⟨s.val * 1024 + d.val, by omega⟩

section Generic
variable {F : FTy → Type} [FloatOps F]
variable (x0 : Vec F S1x128x4096 .bf16) (x1 : Vec F S512x128 .bf16) (x2 x3 : Vec F S4x256x1 .f32)

/-- Where part `q` of the stretch `s` lies in a block. -/
abbrev place (q : Fin 2) (s : Fin 4) : Rect S1x2x256x4096 :=
  Rect.unit (s := S1x2x256x4096) ![0, q.val, 0, s.val * 1024] S1x1x256x1024.size (by revert q s; decide)

def tAt (x : Vec F S4x256x1 .f32) (s : Fin 4) : Vec F S1x256x1 .f32 :=
  View.ld x (Rect.unit (s := S4x256x1) ![s.val, 0, 0] S1x256x1.size (by revert s; decide))

/-- The product with the table. -/
def product : FVec F S512x4096 .f32 := k0_pay8 (View.ld x1 r0_0) (View.ld x0 r0_1)

/-- Part `q` of the stretch `s` of an array. -/
def piece (y : FVec F S512x4096 .f32) (q : Fin 2) (s : Fin 4) : FVec F S256x1024 .f32 :=
  extractStridedSlice S256x1024 ![q.val * 256, s.val * 1024] y (by revert q s; decide)

/-- What the body stores for the stretch `s`: the real part, then the imaginary part. -/
def payload (q : Fin 2) (s : Fin 4) : FVec F S1x1x256x1024 .bf16 :=
  match q with
  | 0 => k0_pay19 (piece (product x0 x1) 0 s) (piece (product x0 x1) 1 s) (k0_pay17 (tAt x2 s)) (tAt x3 s)
  | 1 => k0_pay20 (piece (product x0 x1) 0 s) (piece (product x0 x1) 1 s) (k0_pay17 (tAt x2 s)) (tAt x3 s)

/-- The order of the stores, the last first. -/
def order : List (Fin 2 × Fin 4) := [(1, 3), (0, 3), (1, 2), (0, 2), (1, 1), (0, 1), (1, 0), (0, 0)]

def stored : List (View.Piece (Elt F) S1x2x256x4096 .bf16) := order.map fun p => ⟨place p.1 p.2, payload x0 x1 x2 x3 p.1 p.2⟩

theorem out_eq : out0_4 x0 x1 x2 x3 = View.canon (stored x0 x1 x2 x3) := rfl

theorem stored_apply (q : Fin 2) (s : Fin 4) (k : Fin 256) (d : Fin 1024) :
    View.canon (stored x0 x1 x2 x3) (ix4 0 q k (col s d)) = payload x0 x1 x2 x3 q s (ix4 0 0 k d) := by
  have hm : ∀ (q : Fin 2) (s : Fin 4), (q, s) ∈ order := by decide
  refine View.canon_eq_of_allAt _ _ _ ⟨_, List.mem_map.mpr ⟨(q, s), hm q s, rfl⟩, ?_⟩ ?_
  · show ix4 (0 : Fin 1) q k (col s d) ∈ (place q s).set
    rw [Rect.mem_set_unit]
    intro a
    match a with
    | ⟨0, _⟩ => exact ⟨le_refl 0, Nat.zero_lt_one⟩
    | ⟨1, _⟩ => exact ⟨le_refl q.val, Nat.lt_succ_self _⟩
    | ⟨2, _⟩ => exact ⟨Nat.zero_le _, (by show k.val < 0 + 256; omega)⟩
    | ⟨3, _⟩ => exact ⟨Nat.le_add_right _ _, (by show s.val * 1024 + d.val < s.val * 1024 + 1024; omega)⟩
  · intro p hp
    obtain ⟨⟨q', s'⟩, -, rfl⟩ := List.mem_map.mp hp
    intro (x : S1x1x256x1024.Idx) hx
    have e : ∀ a, ((place q' s').emb x a).val = (ix4 (0 : Fin 1) q k (col s d) a).val := fun a => congrArg (fun y => (y a).val) hx
    have x1 : (x 1).val < 1 := (x 1).isLt
    have x3 : (x 3).val < 1024 := (x 3).isLt
    have e1 : q'.val + 1 * (x 1).val = q.val := e 1
    have e2 : 0 + 1 * (x 2).val = k.val := e 2
    have e3 : s'.val * 1024 + 1 * (x 3).val = s.val * 1024 + d.val := e 3
    have hq : q' = q := Fin.ext (by omega)
    have hs : s' = s := Fin.ext (by omega)
    subst hq hs
    refine congrArg _ (funext fun a => Fin.ext ?_)
    have x0 : (x 0).val < 1 := (x 0).isLt
    match a with
    | ⟨0, _⟩ => show (x 0).val = 0; omega
    | ⟨1, _⟩ => show (x 1).val = 0; omega
    | ⟨2, _⟩ => show (x 2).val = k.val; omega
    | ⟨3, _⟩ => show (x 3).val = d.val; omega

theorem tAt_apply (s : Fin 4) (k : Fin 256) : tAt x2 s (ix3 0 k 0) = x2 (ix3 s k 0) :=
  View.ld_unit_apply_of x2 _ _ _ (ix3 (0 : Fin 1) k (0 : Fin 1)) _ fun a => match a with
    | ⟨0, _⟩ => rfl
    | ⟨1, _⟩ => (Nat.zero_add _).symm
    | ⟨2, _⟩ => rfl

theorem piece_re (y : FVec F S512x4096 .f32) (s : Fin 4) (k : Fin 256) (d : Fin 1024) : piece y 0 s (ix2 k d) = y (ix2 (lo k) (col s d)) := by
  refine congrArg y (funext fun a => Fin.ext ?_)
  match a with
  | ⟨0, _⟩ => show 0 * 256 + k.val = k.val; omega
  | ⟨1, _⟩ => rfl

theorem piece_im (y : FVec F S512x4096 .f32) (s : Fin 4) (k : Fin 256) (d : Fin 1024) : piece y 1 s (ix2 k d) = y (ix2 (up k) (col s d)) := by
  refine congrArg y (funext fun a => Fin.ext ?_)
  match a with
  | ⟨0, _⟩ => show 1 * 256 + k.val = 256 + k.val; omega
  | ⟨1, _⟩ => rfl

end Generic

/-! ## The body's operations at an index -/

theorem product_apply (x0 : Vec Ideal S1x128x4096 .bf16) (x1 : Vec Ideal S512x128 .bf16) (u : Fin 512) (l : Fin 4096) :
    product (F := Ideal) x0 x1 (ix2 u l) = ∑ t : Fin 128, x1 (ix2 u t) * x0 (ix3 0 t l) := by
  have e : product (F := Ideal) x0 x1 = k0_pay8 x1 x0 := by
    unfold product
    simp (disch := decide) only [View.ld_unit_lit']
  rw [e]
  pointwise [k0_pay8]

variable (x y : FVec Ideal S256x1024 .f32) (t u : Vec Ideal S1x256x1 .f32)

theorem first_part (k : Fin 256) (d : Fin 1024) :
    k0_pay19 (F := Ideal) x y (k0_pay17 t) u (ix4 0 0 k d) = x (ix2 k d) * t (ix3 0 k 0) - y (ix2 k d) * u (ix3 0 k 0) := by
  pointwise [k0_pay19, k0_pay18, k0_pay17]

theorem second_part (k : Fin 256) (d : Fin 1024) :
    k0_pay20 (F := Ideal) x y (k0_pay17 t) u (ix4 0 0 k d) = x (ix2 k d) * u (ix3 0 k 0) + y (ix2 k d) * t (ix3 0 k 0) := by
  pointwise [k0_pay20, k0_pay18, k0_pay17]

end Cert.First

end
-- ==== Proof.First.Final.lean ====
/- The kernel's result array after the launch. -/
module

public import proofs.«01_k».proof.Proof.First.Spec
public import proofs.«01_k».proof.Proof.Gate.Final

@[expose] public section

set_option maxRecDepth 16384

noncomputable section

namespace Cert.First

open Cert.FirstIdeal Cert.FirstIdeal.Gen Idealize.ShloMosaic Idealize.ShloMosaic.TcCoe Idealize.ShloMosaic.Pointwise
open Idealize.ShloMosaic.Pipeline (Dat)
open Cert.Gate (token step chan rows_apply)

theorem index0 : ∀ t : Fin cfg0.N, win0_0.index t = ![t.val / 32, 0, t.val % 32] := by decide +kernel
theorem index1 : ∀ t : Fin cfg0.N, win0_1.index t = ![0, 0] := by decide +kernel
theorem index2 : ∀ t : Fin cfg0.N, win0_2.index t = ![t.val % 32, 0, 0] := by decide +kernel
theorem index3 : ∀ t : Fin cfg0.N, win0_3.index t = ![t.val % 32, 0, 0] := by decide +kernel
theorem index4 : ∀ t : Fin cfg0.N, win0_4.index t = ![t.val / 32, 0, 0, t.val % 32] := by decide +kernel

variable (m : (ℓ : Loc nD τ sig) → Buf (Elt Ideal) ℓ) (c : Dev nD)

/-- The launched arguments. -/
abbrev aV : FVec Ideal S2x16384x1024 .bf16 := m ((c : Thread nD τ).loc main_arg0)
abbrev aT : FVec Ideal S512x128 .bf16 := m ((c : Thread nD τ).loc main_arg1)
abbrev aR : FVec Ideal S128x256x1 .f32 := m ((c : Thread nD τ).loc main_arg2)
abbrev aJ : FVec Ideal S128x256x1 .f32 := m ((c : Thread nD τ).loc main_arg3)

theorem V_V (b : Fin 2) (i : Fin 128) (n : Fin 131072) :
    (V m c main_v0 : Vec Ideal S2x128x131072 .bf16) (ix3 b i n) = aV m c (ix3 b (token i n) (chan n)) := by
  unfold V
  after_reads_simp
  exact rows_apply _ _ b i n

variable (t : Fin cfg0.N)

theorem blk1 (u : Fin 512) (i : Fin 128) : (iblk m c 1 t : Vec Ideal S512x128 .bf16) (ix2 u i) = aT m c (ix2 u i) := by
  blk_simp [iblk]
  rw [V_main_arg1]
  refine congrArg (aT m c) (funext fun a => Fin.ext ?_)
  blk_simp
  rw [index1]
  match a with
  | ⟨0, _⟩ => show 0 * 512 + u.val = u.val; omega
  | ⟨1, _⟩ => show 0 * 128 + i.val = i.val; omega

section Columns
variable (s : Fin 4) (d : Fin 1024) (n : Fin 131072) (hn : n.val = t.val % 32 * 4096 + (s.val * 1024 + d.val))
include hn

theorem blk2 (k : Fin 256) : (iblk m c 2 t : Vec Ideal S4x256x1 .f32) (ix3 s k 0) = aR m c (ix3 (step n) k 0) := by
  blk_simp [iblk]
  rw [V_main_arg2]
  refine congrArg (aR m c) (funext fun a => Fin.ext ?_)
  blk_simp
  rw [index2]
  match a with
  | ⟨0, _⟩ => show t.val % 32 * 4 + s.val = n.val / 1024; omega
  | ⟨1, _⟩ => show 0 * 256 + k.val = k.val; omega
  | ⟨2, _⟩ => rfl

theorem blk3 (k : Fin 256) : (iblk m c 3 t : Vec Ideal S4x256x1 .f32) (ix3 s k 0) = aJ m c (ix3 (step n) k 0) := by
  blk_simp [iblk]
  rw [V_main_arg3]
  refine congrArg (aJ m c) (funext fun a => Fin.ext ?_)
  blk_simp
  rw [index3]
  match a with
  | ⟨0, _⟩ => show t.val % 32 * 4 + s.val = n.val / 1024; omega
  | ⟨1, _⟩ => show 0 * 256 + k.val = k.val; omega
  | ⟨2, _⟩ => rfl

variable (b : Fin 2) (hb : b.val = t.val / 32)
include hb

theorem blk0 (i : Fin 128) : (iblk m c 0 t : Vec Ideal S1x128x4096 .bf16) (ix3 0 i (col s d)) = aV m c (ix3 b (token i n) (chan n)) := by
  rw [← V_V m c b i n]
  blk_simp [iblk]
  refine congrArg (V m c main_v0) (funext fun a => Fin.ext ?_)
  blk_simp
  rw [index0]
  match a with
  | ⟨0, _⟩ => show t.val / 32 * 1 + 0 = b.val; omega
  | ⟨1, _⟩ => show 0 * 128 + i.val = i.val; omega
  | ⟨2, _⟩ => show t.val % 32 * 4096 + (s.val * 1024 + d.val) = n.val; omega

theorem product_block (u : Fin 512) :
    product (F := Ideal) (iblk m c 0 t) (iblk m c 1 t) (ix2 u (col s d)) = ∑ i : Fin 128, aT m c (ix2 u i) * aV m c (ix3 b (token i n) (chan n)) := by
  rw [product_apply]
  exact Finset.sum_congr rfl fun i _ => by rw [blk1 m c t u i, blk0 m c t s d n hn b hb i]

theorem block_entry (q : Fin 2) (k : Fin 256) :
    out0_4 (F := Ideal) (iblk m c 0 t) (iblk m c 1 t) (iblk m c 2 t) (iblk m c 3 t) (ix4 0 q k (col s d))
      = entry (aV m c) (aT m c) (aR m c) (aJ m c) b q k n := by
  rw [out_eq, stored_apply]
  unfold entry turned
  beta_reduce
  rw [← product_block m c t s d n hn b hb (lo k), ← product_block m c t s d n hn b hb (up k), ← piece_re (product (F := Ideal) _ _),
    ← piece_im (product (F := Ideal) _ _), ← blk2 m c t s d n hn k, ← blk3 m c t s d n hn k, ← tAt_apply (F := Ideal) (iblk m c 2 t) s k, ← tAt_apply (F := Ideal) (iblk m c 3 t) s k]
  match q with
  | 0 => exact first_part _ _ _ _ k d
  | 1 => exact second_part _ _ _ _ k d

end Columns

/-- A point's block agrees with the result at the place where it is written. -/
theorem at_place (y : S1x2x256x4096.Idx) (z : S2x2x256x131072.Idx)
    (hz : ∀ a : Fin 4, (z a).val = (![t.val / 32, 0, 0, t.val % 32] : Fin 4 → ℕ) a * (![1, 2, 256, 4096] : Fin 4 → ℕ) a + (y a).val) :
    out0_4 (F := Ideal) (iblk m c 0 t) (iblk m c 1 t) (iblk m c 2 t) (iblk m c 3 t) y = first (aV m c) (aT m c) (aR m c) (aJ m c) z := by
  have y0 : (y 0).val < 1 := (y 0).isLt
  have y3 : (y 3).val < 4096 := (y 3).isLt
  have z0 : (z 0).val = t.val / 32 * 1 + (y 0).val := hz 0
  have z1 : (z 1).val = 0 * 2 + (y 1).val := hz 1
  have z2 : (z 2).val = 0 * 256 + (y 2).val := hz 2
  have z3 : (z 3).val = t.val % 32 * 4096 + (y 3).val := hz 3
  have hy : y = ix4 0 (y 1 : Fin 2) (y 2 : Fin 256) (col ⟨(y 3).val / 1024, by omega⟩ ⟨(y 3).val % 1024, by omega⟩) := by
    funext a
    refine Fin.ext ?_
    match a with
    | ⟨0, _⟩ => show (y 0).val = 0; omega
    | ⟨1, _⟩ => rfl
    | ⟨2, _⟩ => rfl
    | ⟨3, _⟩ => show (y 3).val = (y 3).val / 1024 * 1024 + (y 3).val % 1024; omega
  have hz' : z = ix4 (z 0 : Fin 2) (y 1 : Fin 2) (y 2 : Fin 256) (z 3 : Fin 131072) := by
    funext a
    refine Fin.ext ?_
    match a with
    | ⟨0, _⟩ => rfl
    | ⟨1, _⟩ => show (z 1).val = (y 1).val; omega
    | ⟨2, _⟩ => show (z 2).val = (y 2).val; omega
    | ⟨3, _⟩ => rfl
  have e := block_entry m c t ⟨(y 3).val / 1024, by omega⟩ ⟨(y 3).val % 1024, by omega⟩ (z 3)
    (by show (z 3).val = t.val % 32 * 4096 + ((y 3).val / 1024 * 1024 + (y 3).val % 1024); omega) (z 0) (z0.trans (by omega)) (y 1) (y 2)
  refine (congrArg (out0_4 (F := Ideal) (iblk m c 0 t) (iblk m c 1 t) (iblk m c 2 t) (iblk m c 3 t)) hy).trans (e.trans ?_)
  exact (congrArg (first (aV m c) (aT m c) (aR m c) (aJ m c)) hz').symm

/-- **The kernel's result is the first stage.** -/
theorem final : (dats m 0 c).arrAt 4 cfg0.N = first (aV m c) (aT m c) (aR m c) (aJ m c) := by
  refine (dats m 0 c).arrAt_eq_of_covers 4 (first (aV m c) (aT m c) (aR m c) (aJ m c)) (by decide +kernel) fun t hf y => ?_
  blk_simp
  rw [after0_4]
  refine at_place m c t y _ fun a => ?_
  blk_simp
  rw [index4]

end Cert.First

end
-- ==== Proof.First.Ref.lean ====
/- The reference's result, of its arguments. -/
module

public import proofs.«01_k».proof.Proof.First.Spec
public import proofs.«01_k».proof.Proof.Mid.Ref
public import proofs.«01_k».proof.Proof.Gen.FirstReferenceIdeal.Read

@[expose] public section

set_option maxRecDepth 16384

noncomputable section

namespace Cert.First

open Cert.FirstReferenceIdeal Cert.FirstReferenceIdeal.Gen Cert.FirstReferenceIdeal.Read
open Idealize.ShloMosaic Idealize.ShloMosaic.TcCoe Idealize.ShloMosaic.Pointwise
open Cert.Gate (token step chan)

variable (V : FVec Ideal S2x16384x1024 .bf16) (T : FVec Ideal S512x128 .bf16) (TR TI : FVec Ideal S128x256x1 .f32)
variable (b : Fin 2) (n : Fin 131072)

/-- The product with the table. -/
theorem product_at (u : Fin 512) :
    val_main_v2 (F := Ideal) V T (ix4 b u (step n) (chan n)) = ∑ i : Fin 128, T (ix2 u i) * V (ix3 b (token i n) (chan n)) := by
  have h2 : idx_main_v2 (ix4 b u (step n) (chan n)) = ix4 b (step n) (chan n) u := by ext a; fin_cases a <;> rfl
  have hl : ∀ i, lidx_main_v1 (ix4 b (step n) (chan n) u) i = ix4 b i (step n) (chan n) := fun i => by ext a; fin_cases a <;> rfl
  have hr : ∀ i, ridx_main_v1 (ix4 b (step n) (chan n) u) i = ix2 u i := fun i => by ext a; fin_cases a <;> rfl
  have h0 : ∀ i : Fin 128, idx_main_v0 (ix4 b i (step n) (chan n)) = ix3 b (token i n) (chan n) := fun i => by
    funext a
    refine Fin.ext ?_
    match a with
    | ⟨0, _⟩ => show (((b.val * 128 + i.val) * 128 + n.val / 1024) * 1024 + n.val % 1024) / 16777216 = b.val; omega
    | ⟨1, _⟩ => show (((b.val * 128 + i.val) * 128 + n.val / 1024) * 1024 + n.val % 1024) / 1024 % 16384 = 128 * i.val + n.val / 1024; omega
    | ⟨2, _⟩ => show (((b.val * 128 + i.val) * 128 + n.val / 1024) * 1024 + n.val % 1024) % 1024 = n.val % 1024; omega
  rw [val_main_v2_apply, h2, val_main_v1_apply]
  refine Finset.sum_congr rfl fun i _ => ?_
  rw [hl, hr, val_main_v0_apply, h0]
  exact mul_comm _ _

variable (k : Fin 256) (p : Fin 128) (d : Fin 1024)

theorem first_re : val_main_v3 (F := Ideal) V T (ix4 b k p d) = val_main_v2 (F := Ideal) V T (ix4 b (lo k) p d) := by
  rw [val_main_v3_apply]
  refine congrArg _ ?_
  ext a
  fin_cases a <;> rfl

theorem first_im : val_main_v4 (F := Ideal) V T (ix4 b k p d) = val_main_v2 (F := Ideal) V T (ix4 b (up k) p d) := by
  rw [val_main_v4_apply]
  refine congrArg _ ?_
  ext a
  fin_cases a <;> rfl

theorem twiddle_re : val_main_v5 (F := Ideal) TR (ix3 k p 0) = TR (ix3 p k 0) := by
  rw [val_main_v5_apply]
  refine congrArg _ ?_
  ext a
  fin_cases a <;> rfl

theorem twiddle_im : val_main_v6 (F := Ideal) TI (ix3 k p 0) = TI (ix3 p k 0) := by
  rw [val_main_v6_apply]
  refine congrArg _ ?_
  ext a
  fin_cases a <;> rfl

theorem twiddle : idx_main_v7 (idx_main_v8 (ix4 b k p d)) = ix3 k p 0 := by ext a; fin_cases a <;> rfl

/-- The complex product with the twiddles. -/
theorem real_at : val_main_v13 (F := Ideal) V T TR TI (ix4 b k p d)
    = val_main_v2 (F := Ideal) V T (ix4 b (lo k) p d) * TR (ix3 p k 0) - val_main_v2 (F := Ideal) V T (ix4 b (up k) p d) * TI (ix3 p k 0) := by
  have h10 : idx_main_v10 (idx_main_v11 (ix4 b k p d)) = ix3 k p 0 := twiddle b k p d
  rw [val_main_v13_apply, val_main_v9_apply, val_main_v12_apply, first_re, first_im, val_main_v8_apply, val_main_v7_apply, twiddle, val_main_v11_apply,
    val_main_v10_apply, h10, twiddle_re, twiddle_im]
  rfl

theorem imag_at : val_main_v20 (F := Ideal) V T TR TI (ix4 b k p d)
    = val_main_v2 (F := Ideal) V T (ix4 b (lo k) p d) * TI (ix3 p k 0) + val_main_v2 (F := Ideal) V T (ix4 b (up k) p d) * TR (ix3 p k 0) := by
  have h14 : idx_main_v14 (idx_main_v15 (ix4 b k p d)) = ix3 k p 0 := twiddle b k p d
  have h17 : idx_main_v17 (idx_main_v18 (ix4 b k p d)) = ix3 k p 0 := twiddle b k p d
  rw [val_main_v20_apply, val_main_v16_apply, val_main_v19_apply, first_re, first_im, val_main_v15_apply, val_main_v14_apply, h14, val_main_v18_apply,
    val_main_v17_apply, h17, twiddle_re, twiddle_im]
  rfl

theorem ref_apply : val_main_v25 (F := Ideal) V T TR TI = first V T TR TI := by
  funext j
  obtain ⟨b, q, k, n, rfl⟩ : ∃ (b q : Fin 2) (k : Fin 256) (n : Fin 131072), j = ix4 b q k n :=
    ⟨j 0, j 1, j 2, j 3, by ext a; fin_cases a <;> rfl⟩
  have h25 : idx_main_v25 (ix4 b q k n) = ix5 b q k (step n) (chan n) := by
    funext a
    refine Fin.ext ?_
    match a with
    | ⟨0, _⟩ => show (((b.val * 2 + q.val) * 256 + k.val) * 131072 + n.val) / 67108864 = b.val; omega
    | ⟨1, _⟩ => show (((b.val * 2 + q.val) * 256 + k.val) * 131072 + n.val) / 33554432 % 2 = q.val; omega
    | ⟨2, _⟩ => show (((b.val * 2 + q.val) * 256 + k.val) * 131072 + n.val) / 131072 % 256 = k.val; omega
    | ⟨3, _⟩ => show (((b.val * 2 + q.val) * 256 + k.val) * 131072 + n.val) / 1024 % 128 = n.val / 1024; omega
    | ⟨4, _⟩ => show (((b.val * 2 + q.val) * 256 + k.val) * 131072 + n.val) % 1024 = n.val % 1024; omega
  have h21 : idx_main_v21 (ix5 b 0 k (step n) (chan n)) = ix4 b k (step n) (chan n) := by ext a; fin_cases a <;> rfl
  have h22 : idx_main_v22 (ix5 b 0 k (step n) (chan n)) = ix4 b k (step n) (chan n) := by ext a; fin_cases a <;> rfl
  rw [val_main_v25_apply, h25]
  refine (Cert.Mid.stack_ref b k (chan n) (step n) (val_main_v21 (F := Ideal) V T TR TI) (val_main_v22 (F := Ideal) V T TR TI) q).trans ?_
  rw [val_main_v21_apply, h21, val_main_v22_apply, h22, real_at, imag_at, product_at, product_at]
  rfl

end Cert.First

end
-- ==== Proof.Spectrum.Spec.lean ====
/- The spectrum of a filter over the reals: the second step of the transforms of its forward and its backward taps, and the
   one plus the other's conjugate; and the second launch's body at an index. -/
module

public import proofs.«01_k».proof.Proof.Gen.SpectrumIdeal.Frame
public import proofs.«01_k».proof.Proof.Mid.Spec
public import proofs.«01_k».proof.Proof.First.Spec

@[expose] public section

set_option maxRecDepth 16384

noncomputable section

namespace Cert.Spectrum

open Cert.SpectrumIdeal Cert.SpectrumIdeal.Gen Idealize.ShloMosaic Idealize.ShloMosaic.TcCoe Idealize.ShloMosaic.Pointwise
open Cert.Mid (lo up half low spread flat halves)

/-- The transform of a forward column plus the conjugate of the transform of a backward one. -/
def summed (C : Fin 256 → Fin 256 → EReal) (x : Fin 2 → Fin 256 → EReal) (q : Fin 2) (i : Fin 128) : EReal :=
  if q.val < 1 then spread C (x 0) (lo i) + spread C (x 1) (lo i) else spread C (x 0) (up i) - spread C (x 1) (up i)

section Arguments
variable (V : FVec Ideal S2x16384x1024 .bf16) (T : FVec Ideal S512x128 .bf16) (TR TI : FVec Ideal S128x256x1 .f32) (C : FVec Ideal S256x256 .bf16)

def entry (q : Fin 2) (k : Fin 256) (i : Fin 128) (n : Fin 1024) : EReal :=
  summed (fun u s => C (ix2 u s)) (fun b s => Cert.First.entry V T TR TI b (half s) k (flat (low s) n)) q i

def spectrum : FVec Ideal S2x256x128x1024 .bf16 := fun j => entry V T TR TI C (j 0) (j 1) (j 2) (j 3)

end Arguments

section Generic
variable {F : FTy → Type} [FloatOps F]
variable (x0 : Vec F S2x2x16x128x256 .bf16) (x1 : Vec F S256x256 .bf16)

/-- Where part `q` of frequency `k` lies in a block. -/
abbrev place (q : Fin 2) (k : Fin 16) : Rect S2x16x128x256 :=
  Rect.unit (s := S2x16x128x256) ![q.val, k.val, 0, 0] S1x1x128x256.size (by revert q k; decide)

def aAt (b q : Fin 2) (k : Fin 16) : Vec F S1x1x1x128x256 .bf16 :=
  View.ld x0 (Rect.unit (s := S2x2x16x128x256) ![b.val, q.val, k.val, 0, 0] S1x1x1x128x256.size (by revert b q k; decide))
def cAt : Vec F S256x256 .bf16 := View.ld x1 r1_4

/-- What the body stores for frequency `k`: the real part, then the imaginary part. -/
def payload (q : Fin 2) (k : Fin 16) : FVec F S1x1x128x256 .bf16 :=
  match q with
  | 0 => k1_pay3 (aAt x0 0 0 k) (aAt x0 0 1 k) (aAt x0 1 0 k) (aAt x0 1 1 k) (cAt x1)
  | 1 => k1_pay5 (k1_pay4 (aAt x0 0 0 k) (aAt x0 0 1 k) (aAt x0 1 0 k) (aAt x0 1 1 k) (cAt x1))

def stored : List (View.Piece (Elt F) S2x16x128x256 .bf16) := Cert.Mid.order.map fun p => ⟨place p.1 p.2, payload x0 x1 p.1 p.2⟩

theorem out_eq : out1_2 x0 x1 = View.canon (stored x0 x1) := rfl

theorem stored_apply (q : Fin 2) (k : Fin 16) (i : Fin 128) (l : Fin 256) :
    View.canon (stored x0 x1) (ix4 q k i l) = payload x0 x1 q k (ix4 0 0 i l) := by
  have hm : ∀ (q : Fin 2) (k : Fin 16), (q, k) ∈ Cert.Mid.order := by decide
  refine View.canon_eq_of_allAt _ _ _ ⟨_, List.mem_map.mpr ⟨(q, k), hm q k, rfl⟩, ?_⟩ ?_
  · show ix4 q k i l ∈ (place q k).set
    rw [Rect.mem_set_unit]
    intro a
    match a with
    | ⟨0, _⟩ => exact ⟨le_refl q.val, Nat.lt_succ_self _⟩
    | ⟨1, _⟩ => exact ⟨le_refl k.val, Nat.lt_succ_self _⟩
    | ⟨2, _⟩ => exact ⟨Nat.zero_le _, (by show i.val < 0 + 128; omega)⟩
    | ⟨3, _⟩ => exact ⟨Nat.zero_le _, (by show l.val < 0 + 256; omega)⟩
  · intro p hp
    obtain ⟨⟨q', k'⟩, -, rfl⟩ := List.mem_map.mp hp
    intro (x : S1x1x128x256.Idx) hx
    have e : ∀ a, ((place q' k').emb x a).val = (ix4 q k i l a).val := fun a => congrArg (fun y => (y a).val) hx
    have x0 : (x 0).val < 1 := (x 0).isLt
    have x1 : (x 1).val < 1 := (x 1).isLt
    have e0 : q'.val + 1 * (x 0).val = q.val := e 0
    have e1 : k'.val + 1 * (x 1).val = k.val := e 1
    have e2 : 0 + 1 * (x 2).val = i.val := e 2
    have e3 : 0 + 1 * (x 3).val = l.val := e 3
    have hq : q' = q := Fin.ext (by omega)
    have hk : k' = k := Fin.ext (by omega)
    subst hq hk
    refine congrArg _ (funext fun a => Fin.ext ?_)
    match a with
    | ⟨0, _⟩ => show (x 0).val = 0; omega
    | ⟨1, _⟩ => show (x 1).val = 0; omega
    | ⟨2, _⟩ => show (x 2).val = i.val; omega
    | ⟨3, _⟩ => show (x 3).val = l.val; omega

theorem aAt_apply (b q : Fin 2) (k : Fin 16) (i : Fin 128) (l : Fin 256) : aAt x0 b q k (ix5 0 0 0 i l) = x0 (ix5 b q k i l) :=
  View.ld_unit_apply_of x0 _ _ _ (ix5 (0 : Fin 1) (0 : Fin 1) (0 : Fin 1) i l) _ fun a => match a with
    | ⟨0, _⟩ => rfl
    | ⟨1, _⟩ => rfl
    | ⟨2, _⟩ => rfl
    | ⟨3, _⟩ => (Nat.zero_add _).symm
    | ⟨4, _⟩ => (Nat.zero_add _).symm

theorem cAt_apply (u s : Fin 256) : cAt x1 (ix2 u s) = x1 (ix2 u s) :=
  View.ld_unit_apply_of x1 _ _ _ (ix2 u s) _ fun a => match a with
    | ⟨0, _⟩ => (Nat.zero_add _).symm
    | ⟨1, _⟩ => (Nat.zero_add _).symm

end Generic

/-! ## The body's operations at an index -/

theorem wide_left (x y : FVec Ideal S256x256 .bf16) (s l : Fin 256) :
    concatenate S256x512 1 [⟨S256x256, x⟩, ⟨S256x256, y⟩] concatenates_S256x256_S256x256_S256x512_d1 (ix2 s (Cert.First.lo l)) = x (ix2 s l) := by
  rw [concatenate_pair_apply]
  refine (dif_pos l.isLt).trans ?_
  refine congrArg x (funext fun a => Fin.ext ?_)
  match a with
  | ⟨0, _⟩ => rfl
  | ⟨1, _⟩ => rfl

theorem wide_right (x y : FVec Ideal S256x256 .bf16) (s l : Fin 256) :
    concatenate S256x512 1 [⟨S256x256, x⟩, ⟨S256x256, y⟩] concatenates_S256x256_S256x256_S256x512_d1 (ix2 s (Cert.First.up l)) = y (ix2 s l) := by
  rw [concatenate_pair_apply]
  refine (dif_neg (show ¬ 256 + l.val < 256 by omega)).trans ?_
  refine congrArg y (funext fun a => Fin.ext ?_)
  match a with
  | ⟨0, _⟩ => rfl
  | ⟨1, _⟩ => show 256 + l.val - 256 = l.val; omega

theorem product (a : FVec Ideal S256x256 .bf16) (b : FVec Ideal S256x512 .bf16) (u : Fin 256) (l : Fin 512) :
    matmul dot_S256x256_S256x512_S256x512_1_0_0_1_n_n none a b (constant (F := Ideal) S256x512 .f32 0x00000000#32) (ix2 u l)
      = ∑ s : Fin 256, a (ix2 u s) * b (ix2 s l) := by
  pointwise

variable (a0 a1 b0 b1 : Vec Ideal S1x1x1x128x256 .bf16) (C : Vec Ideal S256x256 .bf16)

theorem forward (u l : Fin 256) :
    k1_pay2 (F := Ideal) a0 a1 b0 b1 C (ix2 u (Cert.First.lo l))
      = spread (fun u s => C (ix2 u s)) (fun s => if s.val < 128 then a0 (ix5 0 0 0 (low s) l) else a1 (ix5 0 0 0 (low s) l)) u := by
  refine (product C _ u _).trans (Finset.sum_congr rfl fun s _ => congrArg _ ?_)
  refine (wide_left _ _ s l).trans ((halves _ _ s l).trans ?_)
  refine if_congr Iff.rfl ?_ ?_ <;> pointwise

theorem backward (u l : Fin 256) :
    k1_pay2 (F := Ideal) a0 a1 b0 b1 C (ix2 u (Cert.First.up l))
      = spread (fun u s => C (ix2 u s)) (fun s => if s.val < 128 then b0 (ix5 0 0 0 (low s) l) else b1 (ix5 0 0 0 (low s) l)) u := by
  refine (product C _ u _).trans (Finset.sum_congr rfl fun s _ => congrArg _ ?_)
  refine (wide_right _ _ s l).trans ((halves _ _ s l).trans ?_)
  refine if_congr Iff.rfl ?_ ?_ <;> pointwise

theorem first_part (i : Fin 128) (l : Fin 256) :
    k1_pay3 (F := Ideal) a0 a1 b0 b1 C (ix4 0 0 i l)
      = k1_pay2 (F := Ideal) a0 a1 b0 b1 C (ix2 (lo i) (Cert.First.lo l)) + k1_pay2 (F := Ideal) a0 a1 b0 b1 C (ix2 (lo i) (Cert.First.up l)) := by
  pointwise [k1_pay3]

theorem second_part (i : Fin 128) (l : Fin 256) :
    k1_pay5 (F := Ideal) (k1_pay4 (F := Ideal) a0 a1 b0 b1 C) (ix4 0 0 i l)
      = k1_pay2 (F := Ideal) a0 a1 b0 b1 C (ix2 (up i) (Cert.First.lo l)) - k1_pay2 (F := Ideal) a0 a1 b0 b1 C (ix2 (up i) (Cert.First.up l)) := by
  pointwise [k1_pay5, k1_pay4]

/-- The body at an index, of its blocks' columns. -/
theorem out_apply (x0 : Vec Ideal S2x2x16x128x256 .bf16) (x1 : Vec Ideal S256x256 .bf16) (q : Fin 2) (k : Fin 16) (i : Fin 128) (l : Fin 256) :
    out1_2 (F := Ideal) x0 x1 (ix4 q k i l) = summed (fun u s => x1 (ix2 u s)) (fun b s => x0 (ix5 b (half s) k (low s) l)) q i := by
  have hC : (fun u s => cAt (F := Ideal) x1 (ix2 u s)) = fun u s => x1 (ix2 u s) := funext fun u => funext fun s => cAt_apply _ u s
  have hA : ∀ b : Fin 2, (fun s : Fin 256 => if s.val < 128 then aAt (F := Ideal) x0 b 0 k (ix5 0 0 0 (low s) l) else aAt (F := Ideal) x0 b 1 k (ix5 0 0 0 (low s) l))
      = fun s => x0 (ix5 b (half s) k (low s) l) := fun b => by
    funext s
    rw [aAt_apply, aAt_apply]
    by_cases h : s.val < 128
    · rw [if_pos h, show half s = 0 from Fin.ext (by show s.val / 128 = 0; omega)]
    · rw [if_neg h, show half s = 1 from Fin.ext (by show s.val / 128 = 1; omega)]
  rw [out_eq, stored_apply]
  unfold summed
  beta_reduce
  rw [← hC, ← hA 0, ← hA 1]
  match q with
  | 0 =>
    refine (first_part _ _ _ _ _ i l).trans ?_
    rw [forward, backward]
    rfl
  | 1 =>
    refine (second_part _ _ _ _ _ i l).trans ?_
    rw [forward, backward]
    rfl

end Cert.Spectrum

end
-- ==== Proof.Spectrum.Stage.lean ====
/- The first launch's result: the first stage of the transforms. -/
module

public import proofs.«01_k».proof.Proof.Gen.SpectrumIdeal.Frame
public import proofs.«01_k».proof.Proof.First.Final

@[expose] public section

set_option maxRecDepth 16384

noncomputable section

namespace Cert.Spectrum

open Cert.SpectrumIdeal Cert.SpectrumIdeal.Gen Idealize.ShloMosaic Idealize.ShloMosaic.TcCoe Idealize.ShloMosaic.Pointwise
open Idealize.ShloMosaic.Pipeline (Dat)
open Cert.Gate (token step chan rows_apply)
open Cert.First (col lo up turned first)

/-- The body of the first launch is the first stage's. -/
theorem stage_eq (x0 : Vec Ideal S1x128x4096 .bf16) (x1 : Vec Ideal S512x128 .bf16) (x2 x3 : Vec Ideal S4x256x1 .f32) :
    out0_4 (F := Ideal) x0 x1 x2 x3 = View.canon (Cert.First.stored (F := Ideal) x0 x1 x2 x3) := rfl

/-- That body at an index, of its blocks' entries. -/
theorem stage_apply (x0 : Vec Ideal S1x128x4096 .bf16) (x1 : Vec Ideal S512x128 .bf16) (x2 x3 : Vec Ideal S4x256x1 .f32) (q : Fin 2) (k : Fin 256) (s : Fin 4)
    (d : Fin 1024) : out0_4 (F := Ideal) x0 x1 x2 x3 (ix4 0 q k (col s d))
      = turned (fun u => ∑ t : Fin 128, x1 (ix2 u t) * x0 (ix3 0 t (col s d))) (fun k => x2 (ix3 s k 0)) (fun k => x3 (ix3 s k 0)) q k := by
  rw [stage_eq, Cert.First.stored_apply]
  unfold turned
  beta_reduce
  rw [← Cert.First.product_apply x0 x1 (lo k), ← Cert.First.product_apply x0 x1 (up k), ← Cert.First.piece_re (Cert.First.product (F := Ideal) _ _),
    ← Cert.First.piece_im (Cert.First.product (F := Ideal) _ _), ← Cert.First.tAt_apply (F := Ideal) x2 s k, ← Cert.First.tAt_apply (F := Ideal) x3 s k]
  match q with
  | 0 => exact Cert.First.first_part _ _ _ _ k d
  | 1 => exact Cert.First.second_part _ _ _ _ k d

theorem stage_index0 : ∀ t : Fin cfg0.N, win0_0.index t = ![t.val / 32, 0, t.val % 32] := by decide +kernel
theorem stage_index1 : ∀ t : Fin cfg0.N, win0_1.index t = ![0, 0] := by decide +kernel
theorem stage_index2 : ∀ t : Fin cfg0.N, win0_2.index t = ![t.val % 32, 0, 0] := by decide +kernel
theorem stage_index3 : ∀ t : Fin cfg0.N, win0_3.index t = ![t.val % 32, 0, 0] := by decide +kernel
theorem stage_index4 : ∀ t : Fin cfg0.N, win0_4.index t = ![t.val / 32, 0, 0, t.val % 32] := by decide +kernel

variable (m : (ℓ : Loc nD τ sig) → Buf (Elt Ideal) ℓ) (ρ : Dev nD → PrngReg) (c : Dev nD)

/-- The launched arguments. -/
abbrev aV : FVec Ideal S2x16384x1024 .bf16 := m ((c : Thread nD τ).loc main_arg0)
abbrev aT : FVec Ideal S512x128 .bf16 := m ((c : Thread nD τ).loc main_arg1)
abbrev aR : FVec Ideal S128x256x1 .f32 := m ((c : Thread nD τ).loc main_arg2)
abbrev aJ : FVec Ideal S128x256x1 .f32 := m ((c : Thread nD τ).loc main_arg3)
abbrev aC : FVec Ideal S256x256 .bf16 := m ((c : Thread nD τ).loc main_arg4)

theorem V1_V (b : Fin 2) (i : Fin 128) (n : Fin 131072) :
    (V1 m ρ c main_v0 : Vec Ideal S2x128x131072 .bf16) (ix3 b i n) = aV m c (ix3 b (token i n) (chan n)) := by
  show (W1 m ρ c (Proc.devRef .tc main_v0) : Vec Ideal S2x128x131072 .bf16) (ix3 b i n) = _
  unfold W1
  after_reads_simp
  exact rows_apply _ _ b i n

theorem V1_T : V1 m ρ c main_arg1 = aT m c := W1_args m ρ c main_arg1 (by decide)
theorem V1_R : V1 m ρ c main_arg2 = aR m c := W1_args m ρ c main_arg2 (by decide)
theorem V1_J : V1 m ρ c main_arg3 = aJ m c := W1_args m ρ c main_arg3 (by decide)

variable (t : Fin cfg0.N)

theorem stage_blk1 (u : Fin 512) (i : Fin 128) : (iblk0 (V1 m ρ) c 1 t : Vec Ideal S512x128 .bf16) (ix2 u i) = aT m c (ix2 u i) := by
  rw [← V1_T m ρ c]
  blk_simp [iblk0]
  refine congrArg (V1 m ρ c main_arg1) (funext fun a => Fin.ext ?_)
  blk_simp
  rw [stage_index1]
  match a with
  | ⟨0, _⟩ => show 0 * 512 + u.val = u.val; omega
  | ⟨1, _⟩ => show 0 * 128 + i.val = i.val; omega

section Columns
variable (s : Fin 4) (d : Fin 1024) (n : Fin 131072) (hn : n.val = t.val % 32 * 4096 + (s.val * 1024 + d.val))
include hn

theorem stage_blk2 (k : Fin 256) : (iblk0 (V1 m ρ) c 2 t : Vec Ideal S4x256x1 .f32) (ix3 s k 0) = aR m c (ix3 (step n) k 0) := by
  rw [← V1_R m ρ c]
  blk_simp [iblk0]
  refine congrArg (V1 m ρ c main_arg2) (funext fun a => Fin.ext ?_)
  blk_simp
  rw [stage_index2]
  match a with
  | ⟨0, _⟩ => show t.val % 32 * 4 + s.val = n.val / 1024; omega
  | ⟨1, _⟩ => show 0 * 256 + k.val = k.val; omega
  | ⟨2, _⟩ => rfl

theorem stage_blk3 (k : Fin 256) : (iblk0 (V1 m ρ) c 3 t : Vec Ideal S4x256x1 .f32) (ix3 s k 0) = aJ m c (ix3 (step n) k 0) := by
  rw [← V1_J m ρ c]
  blk_simp [iblk0]
  refine congrArg (V1 m ρ c main_arg3) (funext fun a => Fin.ext ?_)
  blk_simp
  rw [stage_index3]
  match a with
  | ⟨0, _⟩ => show t.val % 32 * 4 + s.val = n.val / 1024; omega
  | ⟨1, _⟩ => show 0 * 256 + k.val = k.val; omega
  | ⟨2, _⟩ => rfl

variable (b : Fin 2) (hb : b.val = t.val / 32)
include hb

theorem stage_blk0 (i : Fin 128) : (iblk0 (V1 m ρ) c 0 t : Vec Ideal S1x128x4096 .bf16) (ix3 0 i (col s d)) = aV m c (ix3 b (token i n) (chan n)) := by
  rw [← V1_V m ρ c b i n]
  blk_simp [iblk0]
  refine congrArg (V1 m ρ c main_v0) (funext fun a => Fin.ext ?_)
  blk_simp
  rw [stage_index0]
  match a with
  | ⟨0, _⟩ => show t.val / 32 * 1 + 0 = b.val; omega
  | ⟨1, _⟩ => show 0 * 128 + i.val = i.val; omega
  | ⟨2, _⟩ => show t.val % 32 * 4096 + (s.val * 1024 + d.val) = n.val; omega

theorem stage_entry (q : Fin 2) (k : Fin 256) :
    out0_4 (F := Ideal) (iblk0 (V1 m ρ) c 0 t) (iblk0 (V1 m ρ) c 1 t) (iblk0 (V1 m ρ) c 2 t) (iblk0 (V1 m ρ) c 3 t) (ix4 0 q k (col s d))
      = Cert.First.entry (aV m c) (aT m c) (aR m c) (aJ m c) b q k n := by
  refine (stage_apply _ _ _ _ q k s d).trans ?_
  unfold Cert.First.entry
  congr 1
  · exact funext fun u => Finset.sum_congr rfl fun i _ => congrArg₂ _ (stage_blk1 m ρ c t u i) (stage_blk0 m ρ c t s d n hn b hb i)
  · exact funext fun k => stage_blk2 m ρ c t s d n hn k
  · exact funext fun k => stage_blk3 m ρ c t s d n hn k

end Columns

/-- A point's block agrees with the first stage at the place where it is written. -/
theorem stage_place (y : S1x2x256x4096.Idx) (z : S2x2x256x131072.Idx)
    (hz : ∀ a : Fin 4, (z a).val = (![t.val / 32, 0, 0, t.val % 32] : Fin 4 → ℕ) a * (![1, 2, 256, 4096] : Fin 4 → ℕ) a + (y a).val) :
    out0_4 (F := Ideal) (iblk0 (V1 m ρ) c 0 t) (iblk0 (V1 m ρ) c 1 t) (iblk0 (V1 m ρ) c 2 t) (iblk0 (V1 m ρ) c 3 t) y
      = first (aV m c) (aT m c) (aR m c) (aJ m c) z := by
  have y0 : (y 0).val < 1 := (y 0).isLt
  have y3 : (y 3).val < 4096 := (y 3).isLt
  have z0 : (z 0).val = t.val / 32 * 1 + (y 0).val := hz 0
  have z1 : (z 1).val = 0 * 2 + (y 1).val := hz 1
  have z2 : (z 2).val = 0 * 256 + (y 2).val := hz 2
  have z3 : (z 3).val = t.val % 32 * 4096 + (y 3).val := hz 3
  have hy : y = ix4 0 (y 1 : Fin 2) (y 2 : Fin 256) (col ⟨(y 3).val / 1024, by omega⟩ ⟨(y 3).val % 1024, by omega⟩) := by
    funext a
    refine Fin.ext ?_
    match a with
    | ⟨0, _⟩ => show (y 0).val = 0; omega
    | ⟨1, _⟩ => rfl
    | ⟨2, _⟩ => rfl
    | ⟨3, _⟩ => show (y 3).val = (y 3).val / 1024 * 1024 + (y 3).val % 1024; omega
  have hz' : z = ix4 (z 0 : Fin 2) (y 1 : Fin 2) (y 2 : Fin 256) (z 3 : Fin 131072) := by
    funext a
    refine Fin.ext ?_
    match a with
    | ⟨0, _⟩ => rfl
    | ⟨1, _⟩ => show (z 1).val = (y 1).val; omega
    | ⟨2, _⟩ => show (z 2).val = (y 2).val; omega
    | ⟨3, _⟩ => rfl
  have e := stage_entry m ρ c t ⟨(y 3).val / 1024, by omega⟩ ⟨(y 3).val % 1024, by omega⟩ (z 3)
    (by show (z 3).val = t.val % 32 * 4096 + ((y 3).val / 1024 * 1024 + (y 3).val % 1024); omega) (z 0) (z0.trans (by omega)) (y 1) (y 2)
  refine (congrArg (out0_4 (F := Ideal) (iblk0 (V1 m ρ) c 0 t) (iblk0 (V1 m ρ) c 1 t) (iblk0 (V1 m ρ) c 2 t) (iblk0 (V1 m ρ) c 3 t)) hy).trans (e.trans ?_)
  exact (congrArg (first (aV m c) (aT m c) (aR m c) (aJ m c)) hz').symm

/-- The first launch leaves the first stage. -/
theorem stage : (dat0 (V1 m ρ) c).arrAt 4 cfg0.N = first (aV m c) (aT m c) (aR m c) (aJ m c) := by
  refine (dat0 (V1 m ρ) c).arrAt_eq_of_covers 4 (first (aV m c) (aT m c) (aR m c) (aJ m c)) (by decide +kernel) fun t hf y => ?_
  blk_simp
  rw [after0_4]
  refine stage_place m ρ c t y _ fun a => ?_
  blk_simp
  rw [stage_index4]

end Cert.Spectrum

end
-- ==== Proof.Spectrum.Final.lean ====
/- The kernel's result array after the two launches. -/
module

public import proofs.«01_k».proof.Proof.Spectrum.Spec
public import proofs.«01_k».proof.Proof.Spectrum.Stage
public import proofs.«01_k».proof.Proof.Mid.Final

@[expose] public section

set_option maxRecDepth 16384

noncomputable section

namespace Cert.Spectrum

open Cert.SpectrumIdeal Cert.SpectrumIdeal.Gen Idealize.ShloMosaic Idealize.ShloMosaic.TcCoe Idealize.ShloMosaic.Pointwise
open Idealize.ShloMosaic.Pipeline (Dat)
open Cert.Mid (half low flat unflat_apply)

theorem index0 : ∀ t : Fin cfg1.N, win1_0.index t = ![0, 0, t.val % 16, 0, t.val / 16] := by decide +kernel
theorem index1 : ∀ t : Fin cfg1.N, win1_1.index t = ![0, 0] := by decide +kernel
theorem index2 : ∀ t : Fin cfg1.N, win1_2.index t = ![0, t.val % 16, 0, t.val / 16] := by decide +kernel

variable (m : (ℓ : Loc nD τ sig) → Buf (Elt Ideal) ℓ) (ρ : Dev nD → PrngReg) (c : Dev nD)

theorem V3_C : V3 m ρ c main_arg4 = aC m c := W3_args m ρ c main_arg4 (by decide)

/-- The second launch reads the first one's result, its last axis as token groups and channels. -/
theorem V3_A (b q : Fin 2) (k : Fin 256) (i : Fin 128) (n : Fin 1024) :
    (V3 m ρ c main_v2 : Vec Ideal S2x2x256x128x1024 .bf16) (ix5 b q k i n)
      = Cert.First.entry (aV m c) (aT m c) (aR m c) (aJ m c) b q k (flat i n) := by
  have h : W2 m ρ c (Proc.devRef .tc main_v1) = Cert.First.first (aV m c) (aT m c) (aR m c) (aJ m c) := (W2_arr m ρ c 4).trans (stage m ρ c)
  show (W3 m ρ c (Proc.devRef .tc main_v2) : Vec Ideal S2x2x256x128x1024 .bf16) (ix5 b q k i n) = _
  unfold W3
  after_reads_simp
  refine (unflat_apply _ _ b q k i n).trans ?_
  exact congrFun h (ix4 b q k (flat i n))

variable (t : Fin cfg1.N)

theorem blk1 (u s : Fin 256) : (iblk1 (V3 m ρ) c 1 t : Vec Ideal S256x256 .bf16) (ix2 u s) = aC m c (ix2 u s) := by
  rw [← V3_C m ρ c]
  blk_simp [iblk1]
  refine congrArg (V3 m ρ c main_arg4) (funext fun a => Fin.ext ?_)
  blk_simp
  rw [index1]
  match a with
  | ⟨0, _⟩ => show 0 * 256 + u.val = u.val; omega
  | ⟨1, _⟩ => show 0 * 256 + s.val = s.val; omega

section Frequency
variable (k : Fin 256) (g : Fin 16) (hk : k.val = t.val % 16 * 16 + g.val) (n : Fin 1024) (l : Fin 256) (hn : n.val = t.val / 16 * 256 + l.val)
include hk hn

theorem blk0 (b q : Fin 2) (i : Fin 128) : (iblk1 (V3 m ρ) c 0 t : Vec Ideal S2x2x16x128x256 .bf16) (ix5 b q g i l)
    = Cert.First.entry (aV m c) (aT m c) (aR m c) (aJ m c) b q k (flat i n) := by
  rw [← V3_A m ρ c b q k i n]
  blk_simp [iblk1]
  refine congrArg (V3 m ρ c main_v2) (funext fun a => Fin.ext ?_)
  blk_simp
  rw [index0]
  match a with
  | ⟨0, _⟩ => show 0 * 2 + b.val = b.val; omega
  | ⟨1, _⟩ => show 0 * 2 + q.val = q.val; omega
  | ⟨2, _⟩ => show t.val % 16 * 16 + g.val = k.val; omega
  | ⟨3, _⟩ => show 0 * 128 + i.val = i.val; omega
  | ⟨4, _⟩ => show t.val / 16 * 256 + l.val = n.val; omega

theorem block_entry (q : Fin 2) (i : Fin 128) :
    out1_2 (F := Ideal) (iblk1 (V3 m ρ) c 0 t) (iblk1 (V3 m ρ) c 1 t) (ix4 q g i l)
      = entry (aV m c) (aT m c) (aR m c) (aJ m c) (aC m c) q k i n := by
  refine (out_apply _ _ q g i l).trans ?_
  unfold entry
  congr 1
  · exact funext fun u => funext fun s => blk1 m ρ c t u s
  · exact funext fun b => funext fun s => blk0 m ρ c t k g hk n l hn b (half s) (low s)

end Frequency

/-- A point's block agrees with the spectrum at the place where it is written. -/
theorem at_place (y : S2x16x128x256.Idx) (z : S2x256x128x1024.Idx)
    (hz : ∀ a : Fin 4, (z a).val = (![0, t.val % 16, 0, t.val / 16] : Fin 4 → ℕ) a * (![2, 16, 128, 256] : Fin 4 → ℕ) a + (y a).val) :
    out1_2 (F := Ideal) (iblk1 (V3 m ρ) c 0 t) (iblk1 (V3 m ρ) c 1 t) y = spectrum (aV m c) (aT m c) (aR m c) (aJ m c) (aC m c) z := by
  have z0 : (z 0).val = 0 * 2 + (y 0).val := hz 0
  have z1 : (z 1).val = t.val % 16 * 16 + (y 1).val := hz 1
  have z2 : (z 2).val = 0 * 128 + (y 2).val := hz 2
  have z3 : (z 3).val = t.val / 16 * 256 + (y 3).val := hz 3
  have hy : y = ix4 (y 0 : Fin 2) (y 1 : Fin 16) (y 2 : Fin 128) (y 3 : Fin 256) := by ext a; fin_cases a <;> rfl
  have hz' : z = ix4 (y 0 : Fin 2) (z 1 : Fin 256) (y 2 : Fin 128) (z 3 : Fin 1024) := by
    funext a
    refine Fin.ext ?_
    match a with
    | ⟨0, _⟩ => show (z 0).val = (y 0).val; omega
    | ⟨1, _⟩ => rfl
    | ⟨2, _⟩ => show (z 2).val = (y 2).val; omega
    | ⟨3, _⟩ => rfl
  have e := block_entry m ρ c t (z 1) (y 1) z1 (z 3) (y 3) z3 (y 0) (y 2)
  refine (congrArg (out1_2 (F := Ideal) (iblk1 (V3 m ρ) c 0 t) (iblk1 (V3 m ρ) c 1 t)) hy).trans (e.trans ?_)
  exact (congrArg (spectrum (aV m c) (aT m c) (aR m c) (aJ m c) (aC m c)) hz').symm

/-- **The kernel's result is the spectrum.** -/
theorem final : (dat1 (V3 m ρ) c).arrAt 2 cfg1.N = spectrum (aV m c) (aT m c) (aR m c) (aJ m c) (aC m c) := by
  refine (dat1 (V3 m ρ) c).arrAt_eq_of_covers 2 (spectrum (aV m c) (aT m c) (aR m c) (aJ m c) (aC m c)) (by decide +kernel) fun t hf y => ?_
  blk_simp
  rw [after1_2]
  refine at_place m ρ c t y _ fun a => ?_
  blk_simp
  rw [index2]

end Cert.Spectrum

end
-- ==== Proof.Spectrum.Run.lean ====
/- The run of the two launches, every unscoped buffer named at the end. -/
module

public import proofs.«01_k».proof.Proof.Spectrum.Final

@[expose] public section

set_option maxRecDepth 16384

noncomputable section

namespace Cert.Spectrum

open Cert.SpectrumIdeal Cert.SpectrumIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every run ends, and the arrays end with what the second launch leaves. -/
theorem run : θ_run (defs (F := Ideal)) (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- Every run ends with the spectrum, and the arguments unchanged. -/
theorem run_final : θ_run (defs (F := Ideal)) (onTc (τ := τ) (main (F := Ideal))) ⟨m, fun _ => 0, ρ⟩ (fun r => ∀ c : Dev nD,
      r.2.mem ((c.tc : Thread nD τ).loc main_v3) = spectrum (aV m c) (aT m c) (aR m c) (aJ m c) (aC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans ((W4_arr m ρ c 2).trans (final m ρ c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run m ρ)

end Cert.Spectrum

end
-- ==== Proof.Spectrum.Ref.lean ====
/- The reference's result, of its arguments. -/
module

public import proofs.«01_k».proof.Proof.Spectrum.Spec
public import proofs.«01_k».proof.Proof.First.Ref
public import proofs.«01_k».proof.Proof.Gen.SpectrumReferenceIdeal.Read

@[expose] public section

set_option maxRecDepth 16384

noncomputable section

namespace Cert.Spectrum

open Cert.SpectrumReferenceIdeal Cert.SpectrumReferenceIdeal.Gen Cert.SpectrumReferenceIdeal.Read
open Idealize.ShloMosaic Idealize.ShloMosaic.TcCoe Idealize.ShloMosaic.Pointwise
open Cert.Mid (lo up half low spread flat)
open Cert.Gate (token step chan)

variable (V : FVec Ideal S2x16384x1024 .bf16) (T : FVec Ideal S512x128 .bf16) (TR TI : FVec Ideal S128x256x1 .f32) (C : FVec Ideal S256x256 .bf16)

/-- The reference's first stage, real and imaginary part. -/
theorem stage_re : val_main_v13 (F := Ideal) V T TR TI = Cert.FirstReferenceIdeal.Read.val_main_v13 (F := Ideal) V T TR TI := rfl
theorem stage_im : val_main_v20 (F := Ideal) V T TR TI = Cert.FirstReferenceIdeal.Read.val_main_v20 (F := Ideal) V T TR TI := rfl

theorem stack_halves (x y : FVec Ideal S2x256x128x1024 .f32) (b : Fin 2) (k s : Fin 256) (n : Fin 1024) :
    concatenate S2x256x256x1024 2 [⟨S2x256x128x1024, x⟩, ⟨S2x256x128x1024, y⟩] concatenates_S2x256x128x1024_S2x256x128x1024_S2x256x256x1024_d2 (ix4 b k s n)
      = if s.val < 128 then x (ix4 b k (low s) n) else y (ix4 b k (low s) n) := by
  rw [concatenate_pair_apply]
  by_cases h : s.val < 128
  · rw [if_pos h]
    refine (dif_pos h).trans ?_
    refine congrArg x (funext fun a => Fin.ext ?_)
    match a with
    | ⟨0, _⟩ => rfl
    | ⟨1, _⟩ => rfl
    | ⟨2, _⟩ => show s.val = s.val % 128; omega
    | ⟨3, _⟩ => rfl
  · rw [if_neg h]
    refine (dif_neg h).trans ?_
    refine congrArg y (funext fun a => Fin.ext ?_)
    match a with
    | ⟨0, _⟩ => rfl
    | ⟨1, _⟩ => rfl
    | ⟨2, _⟩ => show s.val - 128 = s.val % 128; omega
    | ⟨3, _⟩ => rfl

theorem stack_parts (x y : FVec Ideal S1x256x128x1024 .f32) (q : Fin 2) (k : Fin 256) (i : Fin 128) (n : Fin 1024) :
    concatenate S2x256x128x1024 0 [⟨S1x256x128x1024, x⟩, ⟨S1x256x128x1024, y⟩] concatenates_S1x256x128x1024_S1x256x128x1024_S2x256x128x1024_d0 (ix4 q k i n)
      = if q.val < 1 then x (ix4 0 k i n) else y (ix4 0 k i n) := by
  rw [concatenate_pair_apply]
  by_cases h : q.val < 1
  · rw [if_pos h]
    refine (dif_pos h).trans ?_
    refine congrArg x (funext fun a => Fin.ext ?_)
    match a with
    | ⟨0, _⟩ => show q.val = 0; omega
    | ⟨1, _⟩ => rfl
    | ⟨2, _⟩ => rfl
    | ⟨3, _⟩ => rfl
  · rw [if_neg h]
    refine (dif_neg h).trans ?_
    refine congrArg y (funext fun a => Fin.ext ?_)
    match a with
    | ⟨0, _⟩ => show q.val - 1 = 0; omega
    | ⟨1, _⟩ => rfl
    | ⟨2, _⟩ => rfl
    | ⟨3, _⟩ => rfl

/-- The first stage at an index. -/
theorem stage_at (b : Fin 2) (k s : Fin 256) (n : Fin 1024) :
    val_main_v22 (F := Ideal) V T TR TI (ix4 b k s n) = Cert.First.entry V T TR TI b (half s) k (flat (low s) n) := by
  have hs : step (flat (low s) n) = low s := Fin.ext (by show (s.val % 128 * 1024 + n.val) / 1024 = s.val % 128; omega)
  have hc : chan (flat (low s) n) = n := Fin.ext (by show (s.val % 128 * 1024 + n.val) % 1024 = n.val; omega)
  have hp : ∀ u, Cert.FirstReferenceIdeal.Read.val_main_v2 (F := Ideal) V T (ix4 b u (low s) n)
      = ∑ i : Fin 128, T (ix2 u i) * V (ix3 b (token i (flat (low s) n)) (chan (flat (low s) n))) := fun u => by
    rw [← Cert.First.product_at, hs, hc]
  rw [val_main_v22_apply]
  refine (stack_halves (val_main_v13 (F := Ideal) V T TR TI) (val_main_v20 (F := Ideal) V T TR TI) b k s n).trans ?_
  rw [stage_re, stage_im, Cert.First.real_at, Cert.First.imag_at, hp, hp]
  unfold Cert.First.entry Cert.First.turned
  beta_reduce
  rw [hs]
  refine if_congr ?_ rfl rfl
  show s.val < 128 ↔ s.val / 128 < 1
  omega

/-- Its product with the second table. -/
theorem spread_at (b : Fin 2) (k u : Fin 256) (n : Fin 1024) :
    val_main_v24 (F := Ideal) V T TR TI C (ix4 b k u n)
      = spread (fun u s => C (ix2 u s)) (fun s => Cert.First.entry V T TR TI b (half s) k (flat (low s) n)) u := by
  have h24 : idx_main_v24 (ix4 b k u n) = ix4 b k n u := by ext a; fin_cases a <;> rfl
  have hl : ∀ s, lidx_main_v23 (ix4 b k n u) s = ix4 b k s n := fun s => by ext a; fin_cases a <;> rfl
  have hr : ∀ s, ridx_main_v23 (ix4 b k n u) s = ix2 u s := fun s => by ext a; fin_cases a <;> rfl
  rw [val_main_v24_apply, h24, val_main_v23_apply]
  refine Finset.sum_congr rfl fun s _ => ?_
  rw [hl, hr, stage_at]
  exact mul_comm _ _

variable (k : Fin 256) (i : Fin 128) (n : Fin 1024)

/-- Where a slice's entry lies before its first axis is dropped. -/
theorem unstack : idx_main_v26 (ix3 k i n) = ix4 0 k i n := by
  funext a
  refine Fin.ext ?_
  match a with
  | ⟨0, _⟩ => rfl
  | ⟨1, _⟩ => show ((k.val * 128 + i.val) * 1024 + n.val) / 131072 % 256 = k.val; omega
  | ⟨2, _⟩ => show ((k.val * 128 + i.val) * 1024 + n.val) / 1024 % 128 = i.val; omega
  | ⟨3, _⟩ => show ((k.val * 128 + i.val) * 1024 + n.val) % 1024 = n.val; omega

/-- The sum of the real parts. -/
theorem sum_at : val_main_v29 (F := Ideal) V T TR TI C (ix3 k i n)
    = val_main_v24 (F := Ideal) V T TR TI C (ix4 0 k (lo i) n) + val_main_v24 (F := Ideal) V T TR TI C (ix4 1 k (lo i) n) := by
  have h28 : idx_main_v28 (ix3 k i n) = ix4 0 k i n := unstack k i n
  have h25 : idx_main_v25 (ix4 0 k i n) = ix4 0 k (lo i) n := by ext a; fin_cases a <;> rfl
  have h27 : idx_main_v27 (ix4 0 k i n) = ix4 1 k (lo i) n := by ext a; fin_cases a <;> rfl
  rw [val_main_v29_apply, val_main_v26_apply, unstack, val_main_v25_apply, h25, val_main_v28_apply, h28, val_main_v27_apply, h27]
  rfl

/-- The difference of the imaginary parts. -/
theorem difference_at : val_main_v34 (F := Ideal) V T TR TI C (ix3 k i n)
    = val_main_v24 (F := Ideal) V T TR TI C (ix4 0 k (up i) n) - val_main_v24 (F := Ideal) V T TR TI C (ix4 1 k (up i) n) := by
  have h31 : idx_main_v31 (ix3 k i n) = ix4 0 k i n := unstack k i n
  have h33 : idx_main_v33 (ix3 k i n) = ix4 0 k i n := unstack k i n
  have h30 : idx_main_v30 (ix4 0 k i n) = ix4 0 k (up i) n := by ext a; fin_cases a <;> rfl
  have h32 : idx_main_v32 (ix4 0 k i n) = ix4 1 k (up i) n := by ext a; fin_cases a <;> rfl
  rw [val_main_v34_apply, val_main_v31_apply, h31, val_main_v30_apply, h30, val_main_v33_apply, h33, val_main_v32_apply, h32]
  rfl

theorem ref_apply : val_main_v38 (F := Ideal) V T TR TI C = spectrum V T TR TI C := by
  funext j
  obtain ⟨q, k, i, n, rfl⟩ : ∃ (q : Fin 2) (k : Fin 256) (i : Fin 128) (n : Fin 1024), j = ix4 q k i n :=
    ⟨j 0, j 1, j 2, j 3, by ext a; fin_cases a <;> rfl⟩
  have h35 : idx_main_v35 (ix4 0 k i n) = ix3 k i n := by ext a; fin_cases a <;> rfl
  have h36 : idx_main_v36 (ix4 0 k i n) = ix3 k i n := by ext a; fin_cases a <;> rfl
  rw [val_main_v38_apply]
  refine (stack_parts (val_main_v35 (F := Ideal) V T TR TI C) (val_main_v36 (F := Ideal) V T TR TI C) q k i n).trans ?_
  rw [val_main_v35_apply, h35, val_main_v36_apply, h36, sum_at, difference_at, spread_at, spread_at, spread_at, spread_at]
  rfl

end Cert.Spectrum

end
-- ==== Proof.lean ====
/- The certificate: `Cert.Proof.claim` puts together, for each of eleven calls, the frames of the three programs, the (empty)
   list of rewrites of the idealized kernel, and the equation between the arrays that the kernel and the reference end
   with. For the attention both are the neighbourhood attention `Cert.Natten.natten` of the two arguments
   (Proof/Spec.lean), for the experts both are the feed-forward `Cert.Ffn.ffn` of the five (Proof/Ffn/Spec.lean), for the
   input projection both are `Cert.Proj.project` of the seven (Proof/Proj/Spec.lean), for the output projection the three
   arrays are `Cert.Mix.tokens`, `Cert.Mix.hidden` and `Cert.Mix.affinities` of the eleven (Proof/Mix/Spec.lean), for the
   modulation both are `Cert.Ada.modulation` of the three (Proof/Ada/Spec.lean), for the short convolution the two arrays are
   `Cert.Short.product` and `Cert.Short.gate` of the three (Proof/Short/Spec.lean), for the long convolution's last stage both
   are `Cert.Gate.gated` of the five (Proof/Gate/Spec.lean), for its middle stage both are `Cert.Mid.middle` of the six
   (Proof/Mid/Spec.lean), for its first stage both are `Cert.First.first` of the four (Proof/First/Spec.lean), and for its filter's
   spectrum both are `Cert.Spectrum.spectrum` of the five (Proof/Spectrum/Spec.lean). The cast of the experts' weights is claimed
   bit by bit as well. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Own.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Own.KernelIdeal.Frame
public import proofs.«01_k».proof.Proof.Gen.ReferenceIdeal
public import proofs.«01_k».proof.Proof.Own.KernelIdeal.Value
public import proofs.«01_k».proof.Proof.Gen.ReferenceIdeal.Read
public import proofs.«01_k».proof.Proof.Gen.ReferenceIdeal.Run
public import proofs.«01_k».proof.Proof.Final
public import proofs.«01_k».proof.Proof.RefValue
public import proofs.«01_k».proof.Proof.Precond
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Own.Experts.Frame
public import proofs.«01_k».proof.Proof.Ffn.Final
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.Gen.Mix.Frame
public import proofs.«01_k».proof.Proof.Gen.MixIdeal.Value
public import proofs.«01_k».proof.Proof.Gen.MixReferenceIdeal.Run
public import proofs.«01_k».proof.Proof.Gen.MixReferenceIdeal.Read
public import proofs.«01_k».proof.Proof.Gen.Ada.Frame
public import proofs.«01_k».proof.Proof.Gen.AdaIdeal.Value
public import proofs.«01_k».proof.Proof.Gen.AdaReferenceIdeal.Run
public import proofs.«01_k».proof.Proof.Gen.AdaReferenceIdeal.Read
public import proofs.«01_k».proof.Proof.Gen.Short.Frame
public import proofs.«01_k».proof.Proof.Gen.ShortIdeal.Value
public import proofs.«01_k».proof.Proof.Gen.ShortReferenceIdeal.Run
public import proofs.«01_k».proof.Proof.Gen.ShortReferenceIdeal.Read
public import proofs.«01_k».proof.Proof.Gen.Gate.Frame
public import proofs.«01_k».proof.Proof.Gen.GateIdeal.Value
public import proofs.«01_k».proof.Proof.Gen.GateReferenceIdeal.Run
public import proofs.«01_k».proof.Proof.Gen.GateReferenceIdeal.Read
public import proofs.«01_k».proof.Proof.Gen.Cast.Value
public import proofs.«01_k».proof.Proof.Gen.CastIdeal.Value
public import proofs.«01_k».proof.Proof.Gen.CastReference.Run
public import proofs.«01_k».proof.Proof.Gen.CastReferenceIdeal.Run
public import proofs.«01_k».proof.Proof.Gen.Mid.Frame
public import proofs.«01_k».proof.Proof.Gen.MidIdeal.Value
public import proofs.«01_k».proof.Proof.Gen.MidReferenceIdeal.Run
public import proofs.«01_k».proof.Proof.Gen.MidReferenceIdeal.Read
public import proofs.«01_k».proof.Proof.Proj.Final
public import proofs.«01_k».proof.Proof.Proj.Ref
public import proofs.«01_k».proof.Proof.Proj.Precond
public import proofs.«01_k».proof.Proof.Mix.Final
public import proofs.«01_k».proof.Proof.Mix.Ref
public import proofs.«01_k».proof.Proof.Mix.Precond
public import proofs.«01_k».proof.Proof.Ada.Final
public import proofs.«01_k».proof.Proof.Ada.Ref
public import proofs.«01_k».proof.Proof.Short.Final
public import proofs.«01_k».proof.Proof.Short.Ref
public import proofs.«01_k».proof.Proof.Gate.Final
public import proofs.«01_k».proof.Proof.Gate.Ref
public import proofs.«01_k».proof.Proof.Gen.First.Frame
public import proofs.«01_k».proof.Proof.Gen.FirstIdeal.Value
public import proofs.«01_k».proof.Proof.Gen.FirstReferenceIdeal.Run
public import proofs.«01_k».proof.Proof.Gen.FirstReferenceIdeal.Read
public import proofs.«01_k».proof.Proof.Gen.Spectrum.Frame
public import proofs.«01_k».proof.Proof.Gen.SpectrumIdeal.Frame
public import proofs.«01_k».proof.Proof.Gen.SpectrumReferenceIdeal.Run
public import proofs.«01_k».proof.Proof.Gen.SpectrumReferenceIdeal.Read
public import proofs.«01_k».proof.Proof.Mid.Final
public import proofs.«01_k».proof.Proof.Mid.Ref
public import proofs.«01_k».proof.Proof.First.Final
public import proofs.«01_k».proof.Proof.First.Ref
public import proofs.«01_k».proof.Proof.Spectrum.Run
public import proofs.«01_k».proof.Proof.Spectrum.Ref
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts Cert.Natten.preFacts
  Cert.Experts.Gen.facts Cert.ExpertsIdeal.Gen.facts Cert.ExpertsReferenceIdeal.Gen.facts
  Cert.Project.Gen.facts Cert.ProjectIdeal.Gen.facts Cert.ProjectReferenceIdeal.Gen.facts Cert.Proj.preFacts
  Cert.Mix.Gen.facts Cert.MixIdeal.Gen.facts Cert.MixReferenceIdeal.Gen.facts Cert.Mix.preFacts
  Cert.Ada.Gen.facts Cert.AdaIdeal.Gen.facts Cert.AdaReferenceIdeal.Gen.facts
  Cert.Short.Gen.facts Cert.ShortIdeal.Gen.facts Cert.ShortReferenceIdeal.Gen.facts
  Cert.Gate.Gen.facts Cert.GateIdeal.Gen.facts Cert.GateReferenceIdeal.Gen.facts
  Cert.Cast.Gen.facts Cert.CastIdeal.Gen.facts Cert.CastReferenceIdeal.Gen.facts Cert.CastReference.Gen.facts
  Cert.Mid.Gen.facts Cert.MidIdeal.Gen.facts Cert.MidReferenceIdeal.Gen.facts
  Cert.First.Gen.facts Cert.FirstIdeal.Gen.facts Cert.FirstReferenceIdeal.Gen.facts
  Cert.Spectrum.Gen.facts Cert.SpectrumIdeal.Gen.facts Cert.SpectrumReferenceIdeal.Gen.facts

/-- The reference declares no semaphore, so its frame is its run read at the arguments. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m g)

/-- At finite arguments the array that the reference ends with is the neighbourhood attention of its arguments. -/
theorem reference_value (m' : (ℓ : Loc Cert.ReferenceIdeal.nD Cert.ReferenceIdeal.τ Cert.ReferenceIdeal.sig) → Buf (Elt Ideal) ℓ)
    (c : Dev Cert.ReferenceIdeal.nD) (P : FVec Ideal Cert.ReferenceIdeal.S2x16384x6144 .bf16) (R : FVec Ideal Cert.ReferenceIdeal.S16x15x31 .f32)
    (h0 : m' ((c.tc : Thread Cert.ReferenceIdeal.nD Cert.ReferenceIdeal.τ).loc Cert.ReferenceIdeal.main_arg0) = P)
    (h1 : m' ((c.tc : Thread Cert.ReferenceIdeal.nD Cert.ReferenceIdeal.τ).loc Cert.ReferenceIdeal.main_arg1) = R)
    (h : Cert.Pre_finite_inputs.fn (F := Ideal) P R = fun _ => 1#1) :
    Cert.ReferenceIdeal.Value.res_main_v105 m' c = Cert.Natten.natten P R := by
  obtain ⟨hP, hR⟩ := Cert.Natten.finite_apply P R h
  rw [Cert.ReferenceIdeal.Read.val_main_v105_eq m' c]
  rw [h0, h1]
  exact Cert.Natten.Ref.ref_apply P R hP hR

/-- Kernel and reference end with the same array, at finite arguments that agree. -/
theorem same_result : Cert.algebraic_KernelIdeal_ReferenceIdeal_pre_finite_inputs := by
  intro m g m' g' hpre hagree
  refine ⟨fun c => Cert.Natten.natten (Cert.Natten.proj m c) (Cert.Natten.rpb m c), ?_, ?_⟩
  · exact (θ_run Cert.KernelIdeal.defs _ _).mono
      (fun _ h c => ⟨(h c).1.trans (Cert.Natten.final m c), (h c).2⟩) (Cert.KernelIdeal.Value.run_blocks m g)
  · exact (θ_run Cert.ReferenceIdeal.defs _ _).mono
      (fun _ h c => ⟨(h c).1.trans (reference_value m' c _ _ (hagree c).1 (hagree c).2 (hpre c)), (h c).2⟩)
      (Cert.ReferenceIdeal.Value.run (F := Ideal) m' g')

/-- The experts' kernel ends with its arguments unchanged and every semaphore at zero. -/
theorem experts_frame : Cert.quiescent_ExpertsIdeal := fun m g _ =>
  (θ_run Cert.ExpertsIdeal.defs _ _).mono (fun r h => ⟨fun c => Cert.Ffn.args_kept m c r h.1, h.2⟩) (Cert.Ffn.run_main m g)

/-- The experts' reference declares no semaphore, so its frame is its run read at the arguments. -/
theorem experts_reference_frame : Cert.quiescent_ExpertsReferenceIdeal := fun m g _ =>
  (θ_run Cert.ExpertsReferenceIdeal.defs _ _).mono
    (fun r h => ⟨fun c => (h c).2, sem_eq_zero_of_no_sems (by decide) r.2⟩)
    (Cert.ExpertsReferenceIdeal.Value.run (F := Ideal) m g)

/-- The experts' kernel and reference end with the same array, at arguments that agree. -/
theorem experts_same_result : Cert.algebraic_ExpertsIdeal_ExpertsReferenceIdeal := by
  intro m g m' g' _ hagree
  refine ⟨fun c => Cert.Ffn.ffn (Cert.Ffn.xg m c) (Cert.Ffn.wg m c) (Cert.Ffn.wu m c) (Cert.Ffn.wd m c) (Cert.Ffn.gates m c), ?_, ?_⟩
  · exact (θ_run Cert.ExpertsIdeal.defs _ _).mono
      (fun r h c => ⟨Cert.Ffn.result m c r h.1, Cert.Ffn.args_kept m c r h.1⟩) (Cert.Ffn.run_main m g)
  · refine (θ_run Cert.ExpertsReferenceIdeal.defs _ _).mono (fun r h c => ⟨(h c).1.trans ?_, (h c).2⟩)
      (Cert.ExpertsReferenceIdeal.Value.run (F := Ideal) m' g')
    obtain ⟨h0, h1, h2, h3, h4⟩ := hagree c
    rw [h0, h1, h2, h3, h4, Cert.ExpertsReferenceIdeal.Read.val_main_v9_eq]
    exact Cert.Ffn.ref_apply _ _ _ _ _

/-- The input projection's reference declares no semaphore, so its frame is its run read at the arguments. -/
theorem project_reference_frame : Cert.quiescent_ProjectReferenceIdeal := fun m g _ =>
  (θ_run Cert.ProjectReferenceIdeal.defs _ _).mono
    (fun r h => ⟨fun c => (h c).2, sem_eq_zero_of_no_sems (by decide) r.2⟩)
    (Cert.ProjectReferenceIdeal.Value.run (F := Ideal) m g)

/-- The input projection's kernel and reference end with the same array, at finite weights and arguments that agree. -/
theorem project_same_result : Cert.algebraic_ProjectIdeal_ProjectReferenceIdeal_pre_finite_weights := by
  intro m g m' g' hpre hagree
  refine ⟨fun c => Cert.Proj.project (Cert.Proj.aX m c) (Cert.Proj.aG m c) (Cert.Proj.aC m c) (Cert.Proj.aH m c) (Cert.Proj.aW m c)
    (Cert.Proj.aQ m c) (Cert.Proj.aK m c), ?_, ?_⟩
  · exact (θ_run Cert.ProjectIdeal.defs _ _).mono
      (fun _ h c => ⟨(h c).1.trans (Cert.Proj.final m c (Cert.Proj.projections_real _ _ _ _ _ _ _ (hpre c))), (h c).2⟩)
      (Cert.ProjectIdeal.Value.run_blocks m g)
  · refine (θ_run Cert.ProjectReferenceIdeal.defs _ _).mono (fun r h c => ⟨(h c).1.trans ?_, (h c).2⟩)
      (Cert.ProjectReferenceIdeal.Value.run (F := Ideal) m' g')
    obtain ⟨h0, h1, h2, h3, h4, h5, h6⟩ := hagree c
    rw [Cert.ProjectReferenceIdeal.Read.val_main_v61_eq, h0, h1, h2, h3, h4, h5, h6]
    exact Cert.Proj.ref_apply _ _ _ _ _ _ _

/-- The output projection's reference declares no semaphore, so its frame is its run read at the arguments. -/
theorem mix_reference_frame : Cert.quiescent_MixReferenceIdeal := fun m g _ =>
  (θ_run Cert.MixReferenceIdeal.defs _ _).mono
    (fun r h => ⟨fun c => (h c).2.2.2, sem_eq_zero_of_no_sems (by decide) r.2⟩)
    (Cert.MixReferenceIdeal.Value.run (F := Ideal) m g)

/-- The output projection's kernel and reference end with the same three arrays, at arguments that agree, with the norm's
    gain and modulation and the router's weights finite. -/
theorem mix_same_result : Cert.algebraic_MixIdeal_MixReferenceIdeal_pre_finite_router := by
  intro m g m' g' hpre hagree
  refine ⟨fun c => Cert.Mix.tokens (Cert.Mix.aY m c) (Cert.Mix.aA m c) (Cert.Mix.aX m c) (Cert.Mix.aGY m c) (Cert.Mix.aGA m c) (Cert.Mix.aW m c) (Cert.Mix.aG m c),
    fun c => Cert.Mix.hidden (Cert.Mix.aY m c) (Cert.Mix.aA m c) (Cert.Mix.aX m c) (Cert.Mix.aGY m c) (Cert.Mix.aGA m c) (Cert.Mix.aW m c) (Cert.Mix.aG m c)
      (Cert.Mix.aN m c) (Cert.Mix.aC m c) (Cert.Mix.aH m c),
    fun c => Cert.Mix.affinities (Cert.Mix.aY m c) (Cert.Mix.aA m c) (Cert.Mix.aX m c) (Cert.Mix.aGY m c) (Cert.Mix.aGA m c) (Cert.Mix.aW m c) (Cert.Mix.aG m c)
      (Cert.Mix.aN m c) (Cert.Mix.aC m c) (Cert.Mix.aH m c) (Cert.Mix.aR m c), ?_, ?_⟩
  · refine (θ_run Cert.MixIdeal.defs _ _).mono (fun _ h c => ?_) (Cert.MixIdeal.Value.run_blocks m g)
    obtain ⟨hN, hC, hH, hR⟩ := Cert.Mix.router_real _ _ _ _ _ _ _ _ _ _ _ (hpre c)
    obtain ⟨h1, h2, h3, hk⟩ := h c
    exact ⟨h1.trans (Cert.Mix.tokens_final m c), h2.trans (Cert.Mix.hidden_final m c), h3.trans (Cert.Mix.affinities_final m c hN hC hH hR), hk⟩
  · refine (θ_run Cert.MixReferenceIdeal.defs _ _).mono (fun r h c => ?_) (Cert.MixReferenceIdeal.Value.run (F := Ideal) m' g')
    obtain ⟨r1, r2, r3, hk⟩ := h c
    obtain ⟨h0, h1, h2, h3, h4, h5, h6, h7, h8, h9, h10⟩ := hagree c
    refine ⟨r1.trans ?_, r2.trans ?_, r3.trans ?_, hk⟩
    · rw [h0, h1, h2, h3, h4, h5, h6, Cert.MixReferenceIdeal.Read.val_main_v34_eq]
      exact Cert.Mix.ref_tokens _ _ _ _ _ _ _
    · rw [Cert.MixReferenceIdeal.Read.val_main_v68_eq, h0, h1, h2, h3, h4, h5, h6, h7, h8, h9]
      exact Cert.Mix.ref_hidden _ _ _ _ _ _ _ _ _ _
    · rw [Cert.MixReferenceIdeal.Read.val_main_v67_eq, h0, h1, h2, h3, h4, h5, h6, h7, h8, h9, h10]
      exact Cert.Mix.ref_affinities _ _ _ _ _ _ _ _ _ _ _

/-- The modulation's reference declares no semaphore, so its frame is its run read at the arguments. -/
theorem ada_reference_frame : Cert.quiescent_AdaReferenceIdeal := fun m g _ =>
  (θ_run Cert.AdaReferenceIdeal.defs _ _).mono
    (fun r h => ⟨fun c => (h c).2, sem_eq_zero_of_no_sems (by decide) r.2⟩)
    (Cert.AdaReferenceIdeal.Value.run (F := Ideal) m g)

/-- The modulation's kernel and reference end with the same array, at arguments that agree. -/
theorem ada_same_result : Cert.algebraic_AdaIdeal_AdaReferenceIdeal := by
  intro m g m' g' _ hagree
  refine ⟨fun c => Cert.Ada.modulation (Cert.Ada.aC m c) (Cert.Ada.aW m c) (Cert.Ada.aB m c), ?_, ?_⟩
  · exact (θ_run Cert.AdaIdeal.defs _ _).mono
      (fun _ h c => ⟨(h c).1.trans (Cert.Ada.final m c), (h c).2⟩) (Cert.AdaIdeal.Value.run_blocks m g)
  · refine (θ_run Cert.AdaReferenceIdeal.defs _ _).mono (fun r h c => ⟨(h c).1.trans ?_, (h c).2⟩)
      (Cert.AdaReferenceIdeal.Value.run (F := Ideal) m' g')
    obtain ⟨h0, h1, h2⟩ := hagree c
    rw [h0, h1, h2, Cert.AdaReferenceIdeal.Read.val_main_v4_eq]
    exact Cert.Ada.ref_apply _ _ _

/-- The short convolution's reference declares no semaphore, so its frame is its run read at the arguments. -/
theorem short_reference_frame : Cert.quiescent_ShortReferenceIdeal := fun m g _ =>
  (θ_run Cert.ShortReferenceIdeal.defs _ _).mono
    (fun r h => ⟨fun c => (h c).2.2, sem_eq_zero_of_no_sems (by decide) r.2⟩)
    (Cert.ShortReferenceIdeal.Value.run (F := Ideal) m g)

/-- The short convolution's kernel and reference end with the same two arrays, at arguments that agree. -/
theorem short_same_result : Cert.algebraic_ShortIdeal_ShortReferenceIdeal := by
  intro m g m' g' _ hagree
  refine ⟨fun c => Cert.Short.product (Cert.Short.aP m c) (Cert.Short.aW m c) (Cert.Short.aB m c),
    fun c => Cert.Short.gate (Cert.Short.aP m c) (Cert.Short.aW m c) (Cert.Short.aB m c), ?_, ?_⟩
  · exact (θ_run Cert.ShortIdeal.defs _ _).mono
      (fun _ h c => ⟨(h c).1.trans (Cert.Short.product_final m c), (h c).2.1.trans (Cert.Short.gate_final m c), (h c).2.2⟩)
      (Cert.ShortIdeal.Value.run_blocks m g)
  · refine (θ_run Cert.ShortReferenceIdeal.defs _ _).mono (fun r h c => ?_) (Cert.ShortReferenceIdeal.Value.run (F := Ideal) m' g')
    obtain ⟨r1, r2, hk⟩ := h c
    obtain ⟨h0, h1, h2⟩ := hagree c
    refine ⟨r1.trans ?_, r2.trans ?_, hk⟩
    · rw [Cert.ShortReferenceIdeal.Read.val_main_v30_eq, h0, h1, h2]
      exact Cert.Short.ref_product _ _ _
    · rw [h0, h1, h2, Cert.ShortReferenceIdeal.Read.val_main_v31_eq]
      exact Cert.Short.ref_gate _ _ _

/-- The last stage's reference declares no semaphore, so its frame is its run read at the arguments. -/
theorem gate_reference_frame : Cert.quiescent_GateReferenceIdeal := fun m g _ =>
  (θ_run Cert.GateReferenceIdeal.defs _ _).mono
    (fun r h => ⟨fun c => (h c).2, sem_eq_zero_of_no_sems (by decide) r.2⟩)
    (Cert.GateReferenceIdeal.Value.run (F := Ideal) m g)

/-- The last stage's kernel and reference end with the same array, at arguments that agree. -/
theorem gate_same_result : Cert.algebraic_GateIdeal_GateReferenceIdeal := by
  intro m g m' g' _ hagree
  refine ⟨fun c => Cert.Gate.gated (Cert.Gate.aZ m c) (Cert.Gate.aT m c) (Cert.Gate.aV m c) (Cert.Gate.aX m c) (Cert.Gate.aS m c), ?_, ?_⟩
  · exact (θ_run Cert.GateIdeal.defs _ _).mono
      (fun _ h c => ⟨(h c).1.trans (Cert.Gate.final m c), (h c).2⟩) (Cert.GateIdeal.Value.run_blocks m g)
  · refine (θ_run Cert.GateReferenceIdeal.defs _ _).mono (fun r h c => ⟨(h c).1.trans ?_, (h c).2⟩)
      (Cert.GateReferenceIdeal.Value.run (F := Ideal) m' g')
    obtain ⟨h0, h1, h2, h3, h4⟩ := hagree c
    rw [h0, h1, h2, h3, h4, Cert.GateReferenceIdeal.Read.val_main_v12_eq]
    exact Cert.Gate.ref_apply _ _ _ _ _

theorem cast_ideal_reference_frame : Cert.quiescent_CastReferenceIdeal := fun m g _ =>
  (θ_run Cert.CastReferenceIdeal.defs _ _).mono
    (fun r h => ⟨fun c => (h c).2, sem_eq_zero_of_no_sems (by decide) r.2⟩)
    (Cert.CastReferenceIdeal.Value.run (F := Ideal) m g)

theorem cast_reference_frame : Cert.quiescent_CastReference := fun m g _ =>
  (θ_run Cert.CastReference.defs _ _).mono
    (fun r h => ⟨fun c => (h c).2, sem_eq_zero_of_no_sems (by decide) r.2⟩)
    (Cert.CastReference.Value.run (F := Bits) m g)

/-- The idealized cast of the weights and its reference end with the same array. -/
theorem cast_same_result : Cert.algebraic_CastIdeal_CastReferenceIdeal := by
  intro m g m' g' _ hagree
  refine ⟨_, Cert.CastIdeal.Value.run (F := Ideal) m g, ?_⟩
  refine (θ_run Cert.CastReferenceIdeal.defs _ _).mono (fun r h c => ⟨(h c).1.trans ?_, (h c).2⟩)
    (Cert.CastReferenceIdeal.Value.run (F := Ideal) m' g')
  rw [hagree c]
  rfl

/-- The cast of the weights and its reference end with the same bits. -/
theorem cast_same_bits : Cert.bitexact_Cast_CastReference := by
  intro m g m' g' _ hagree
  refine ⟨_, Cert.Cast.Value.run (F := Bits) m g, ?_⟩
  refine (θ_run Cert.CastReference.defs _ _).mono (fun r h c => ⟨(h c).1.trans ?_, (h c).2⟩)
    (Cert.CastReference.Value.run (F := Bits) m' g')
  rw [hagree c]
  rfl

theorem mid_reference_frame : Cert.quiescent_MidReferenceIdeal := fun m g _ =>
  (θ_run Cert.MidReferenceIdeal.defs _ _).mono
    (fun r h => ⟨fun c => (h c).2, sem_eq_zero_of_no_sems (by decide) r.2⟩)
    (Cert.MidReferenceIdeal.Value.run (F := Ideal) m g)

/-- The long convolution's middle stage and its reference end with the same array. -/
theorem mid_same_result : Cert.algebraic_MidIdeal_MidReferenceIdeal := by
  intro m g m' g' _ hagree
  refine ⟨fun c => Cert.Mid.middle (Cert.Mid.aA m c) (Cert.Mid.aH m c) (Cert.Mid.aC m c) (Cert.Mid.aI m c) (Cert.Mid.aR m c)
    (Cert.Mid.aJ m c), ?_, ?_⟩
  · exact (θ_run Cert.MidIdeal.defs _ _).mono
      (fun _ h c => ⟨(h c).1.trans (Cert.Mid.final m c), (h c).2⟩) (Cert.MidIdeal.Value.run_blocks m g)
  · refine (θ_run Cert.MidReferenceIdeal.defs _ _).mono (fun r h c => ⟨(h c).1.trans ?_, (h c).2⟩)
      (Cert.MidReferenceIdeal.Value.run (F := Ideal) m' g')
    obtain ⟨h0, h1, h2, h3, h4, h5⟩ := hagree c
    rw [Cert.MidReferenceIdeal.Read.val_main_v50_eq, h0, h1, h2, h3, h4, h5]
    exact Cert.Mid.ref_apply _ _ _ _ _ _

theorem first_reference_frame : Cert.quiescent_FirstReferenceIdeal := fun m g _ =>
  (θ_run Cert.FirstReferenceIdeal.defs _ _).mono
    (fun r h => ⟨fun c => (h c).2, sem_eq_zero_of_no_sems (by decide) r.2⟩)
    (Cert.FirstReferenceIdeal.Value.run (F := Ideal) m g)

/-- The long convolution's first stage and its reference end with the same array. -/
theorem first_same_result : Cert.algebraic_FirstIdeal_FirstReferenceIdeal := by
  intro m g m' g' _ hagree
  refine ⟨fun c => Cert.First.first (Cert.First.aV m c) (Cert.First.aT m c) (Cert.First.aR m c) (Cert.First.aJ m c), ?_, ?_⟩
  · exact (θ_run Cert.FirstIdeal.defs _ _).mono
      (fun _ h c => ⟨(h c).1.trans (Cert.First.final m c), (h c).2⟩) (Cert.FirstIdeal.Value.run_blocks m g)
  · refine (θ_run Cert.FirstReferenceIdeal.defs _ _).mono (fun r h c => ⟨(h c).1.trans ?_, (h c).2⟩)
      (Cert.FirstReferenceIdeal.Value.run (F := Ideal) m' g')
    obtain ⟨h0, h1, h2, h3⟩ := hagree c
    rw [h0, h1, h2, h3, Cert.FirstReferenceIdeal.Read.val_main_v25_eq]
    exact Cert.First.ref_apply _ _ _ _

theorem spectrum_reference_frame : Cert.quiescent_SpectrumReferenceIdeal := fun m g _ =>
  (θ_run Cert.SpectrumReferenceIdeal.defs _ _).mono
    (fun r h => ⟨fun c => (h c).2, sem_eq_zero_of_no_sems (by decide) r.2⟩)
    (Cert.SpectrumReferenceIdeal.Value.run (F := Ideal) m g)

/-- The spectrum's two launches and their reference end with the same array. -/
theorem spectrum_same_result : Cert.algebraic_SpectrumIdeal_SpectrumReferenceIdeal := by
  intro m g m' g' _ hagree
  refine ⟨fun c => Cert.Spectrum.spectrum (Cert.Spectrum.aV m c) (Cert.Spectrum.aT m c) (Cert.Spectrum.aR m c) (Cert.Spectrum.aJ m c) (Cert.Spectrum.aC m c),
    Cert.Spectrum.run_final m g, ?_⟩
  refine (θ_run Cert.SpectrumReferenceIdeal.defs _ _).mono (fun r h c => ⟨(h c).1.trans ?_, (h c).2⟩)
    (Cert.SpectrumReferenceIdeal.Value.run (F := Ideal) m' g')
  obtain ⟨h0, h1, h2, h3, h4⟩ := hagree c
  rw [Cert.SpectrumReferenceIdeal.Read.val_main_v38_eq, h0, h1, h2, h3, h4]
  exact Cert.Spectrum.ref_apply _ _ _ _ _

/-- Every claim of the certificate. -/
theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.Project.Gen.facts, Cert.ProjectIdeal.Gen.facts, Cert.ProjectReferenceIdeal.Gen.facts,
    Cert.Mix.Gen.facts, Cert.MixIdeal.Gen.facts, Cert.MixReferenceIdeal.Gen.facts,
    Cert.Ada.Gen.facts, Cert.AdaIdeal.Gen.facts, Cert.AdaReferenceIdeal.Gen.facts,
    Cert.Short.Gen.facts, Cert.ShortIdeal.Gen.facts, Cert.ShortReferenceIdeal.Gen.facts,
    Cert.Gate.Gen.facts, Cert.GateIdeal.Gen.facts, Cert.GateReferenceIdeal.Gen.facts,
    Cert.Cast.Gen.facts, Cert.CastIdeal.Gen.facts, Cert.CastReferenceIdeal.Gen.facts, Cert.CastReference.Gen.facts,
    Cert.Mid.Gen.facts, Cert.MidIdeal.Gen.facts, Cert.MidReferenceIdeal.Gen.facts,
    Cert.First.Gen.facts, Cert.FirstIdeal.Gen.facts, Cert.FirstReferenceIdeal.Gen.facts,
    Cert.Spectrum.Gen.facts, Cert.SpectrumIdeal.Gen.facts, Cert.SpectrumReferenceIdeal.Gen.facts,
    Cert.Natten.preFacts, Cert.Proj.preFacts, Cert.Mix.preFacts,
    fun m g _ => Cert.Kernel.Gen.frame m g, fun m g _ => Cert.KernelIdeal.Gen.frame m g,
    fun m g _ => Cert.KernelIdeal.Gen.frame m g, fun m g _ => reference_frame m g, fun m g _ => reference_frame m g,
    fun m g _ => Cert.Experts.Gen.frame m g, experts_frame, experts_reference_frame,
    fun m g _ => Cert.Project.Gen.frame m g, fun m g _ => Cert.ProjectIdeal.Gen.frame m g,
    fun m g _ => Cert.ProjectIdeal.Gen.frame m g, project_reference_frame, fun m g _ => project_reference_frame m g trivial,
    fun m g _ => Cert.Mix.Gen.frame m g, fun m g _ => Cert.MixIdeal.Gen.frame m g,
    fun m g _ => Cert.MixIdeal.Gen.frame m g, mix_reference_frame, fun m g _ => mix_reference_frame m g trivial,
    fun m g _ => Cert.Ada.Gen.frame m g, fun m g _ => Cert.AdaIdeal.Gen.frame m g, ada_reference_frame,
    fun m g _ => Cert.Short.Gen.frame m g, fun m g _ => Cert.ShortIdeal.Gen.frame m g, short_reference_frame,
    fun m g _ => Cert.Gate.Gen.frame m g, fun m g _ => Cert.GateIdeal.Gen.frame m g, gate_reference_frame,
    fun m g _ => Cert.Cast.Gen.frame m g, fun m g _ => Cert.CastIdeal.Gen.frame m g, cast_ideal_reference_frame, cast_reference_frame,
    fun m g _ => Cert.Mid.Gen.frame m g, fun m g _ => Cert.MidIdeal.Gen.frame m g, mid_reference_frame,
    fun m g _ => Cert.First.Gen.frame m g, fun m g _ => Cert.FirstIdeal.Gen.frame m g, first_reference_frame,
    fun m g _ => Cert.Spectrum.Gen.frame m g, fun m g _ => Cert.SpectrumIdeal.Gen.frame m g, spectrum_reference_frame,
    trivial, same_result, trivial, experts_same_result, trivial, project_same_result,
    trivial, mix_same_result, trivial, ada_same_result, trivial, short_same_result,
    trivial, gate_same_result, trivial, cast_same_result, cast_same_bits, trivial, mid_same_result,
    trivial, first_same_result, trivial, spectrum_same_result⟩

end Cert.Proof

end
